-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4)) (m ((c.tc : Thread Cert.Reference16Ideal.nD Cert.Reference16Ideal.τ).loc Cert.Reference16Ideal.main_arg5)) (m ((c.tc : Thread Cert.Reference16Ideal.nD Cert.Reference16Ideal.τ).loc Cert.Reference16Ideal.main_arg6))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic_slope" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)) (v3 : (c : Dev Cert.KernelIdeal.nD) → Buf (Elt Ideal) ((c.tc : Thread Cert.KernelIdeal.nD Cert.KernelIdeal.τ).loc Cert.KernelIdeal.main_v28_3)) (v4 : (c : Dev Cert.KernelIdeal.nD) → Buf (Elt Ideal) ((c.tc : Thread Cert.KernelIdeal.nD Cert.KernelIdeal.τ).loc Cert.KernelIdeal.main_v28_4)) (v5 : (c : Dev Cert.KernelIdeal.nD) → Buf (Elt Ideal) ((c.tc : Thread Cert.KernelIdeal.nD Cert.KernelIdeal.τ).loc Cert.KernelIdeal.main_v28_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_v28_3) = v3 c
          ∧ r.2.mem ((c.tc : Thread Cert.KernelIdeal.nD Cert.KernelIdeal.τ).loc Cert.KernelIdeal.main_v28_4) = v4 c
          ∧ r.2.mem ((c.tc : Thread Cert.KernelIdeal.nD Cert.KernelIdeal.τ).loc Cert.KernelIdeal.main_v28_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_v155) = v4 c
          ∧ r.2.mem ((c.tc : Thread Cert.ReferenceIdeal.nD Cert.ReferenceIdeal.τ).loc Cert.ReferenceIdeal.main_v132) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_v63) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v26_0)) (v1 : (c : Dev Cert.Kernel8Ideal.nD) → Buf (Elt Ideal) ((c.tc : Thread Cert.Kernel8Ideal.nD Cert.Kernel8Ideal.τ).loc Cert.Kernel8Ideal.main_v26_1)) (v2 : (c : Dev Cert.Kernel8Ideal.nD) → Buf (Elt Ideal) ((c.tc : Thread Cert.Kernel8Ideal.nD Cert.Kernel8Ideal.τ).loc Cert.Kernel8Ideal.main_v26_2)) (v3 : (c : Dev Cert.Kernel8Ideal.nD) → Buf (Elt Ideal) ((c.tc : Thread Cert.Kernel8Ideal.nD Cert.Kernel8Ideal.τ).loc Cert.Kernel8Ideal.main_v26_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v26_0) = v0 c
          ∧ r.2.mem ((c.tc : Thread Cert.Kernel8Ideal.nD Cert.Kernel8Ideal.τ).loc Cert.Kernel8Ideal.main_v26_1) = v1 c
          ∧ r.2.mem ((c.tc : Thread Cert.Kernel8Ideal.nD Cert.Kernel8Ideal.τ).loc Cert.Kernel8Ideal.main_v26_2) = v2 c
          ∧ r.2.mem ((c.tc : Thread Cert.Kernel8Ideal.nD Cert.Kernel8Ideal.τ).loc Cert.Kernel8Ideal.main_v26_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v61) = v0 c
          ∧ r.2.mem ((c.tc : Thread Cert.Reference8Ideal.nD Cert.Reference8Ideal.τ).loc Cert.Reference8Ideal.main_v63) = v1 c
          ∧ r.2.mem ((c.tc : Thread Cert.Reference8Ideal.nD Cert.Reference8Ideal.τ).loc Cert.Reference8Ideal.main_v65) = v2 c
          ∧ r.2.mem ((c.tc : Thread Cert.Reference8Ideal.nD Cert.Reference8Ideal.τ).loc Cert.Reference8Ideal.main_v60) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)) (v3 : (c : Dev Cert.Kernel9Ideal.nD) → Buf (Elt Ideal) ((c.tc : Thread Cert.Kernel9Ideal.nD Cert.Kernel9Ideal.τ).loc Cert.Kernel9Ideal.main_v6_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_v6_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_v28) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  IdealRules.named_const.Statement Cert.Kernel15Ideal.κ "gelu_cubic" .f32 0x3D372713#32 ((8943 / 200000 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v10_0)) (v1 : (c : Dev Cert.Kernel15Ideal.nD) → Buf (Elt Ideal) ((c.tc : Thread Cert.Kernel15Ideal.nD Cert.Kernel15Ideal.τ).loc Cert.Kernel15Ideal.main_v10_1)) (v2 : (c : Dev Cert.Kernel15Ideal.nD) → Buf (Elt Ideal) ((c.tc : Thread Cert.Kernel15Ideal.nD Cert.Kernel15Ideal.τ).loc Cert.Kernel15Ideal.main_v10_2)) (v3 : (c : Dev Cert.Kernel15Ideal.nD) → Buf (Elt Ideal) ((c.tc : Thread Cert.Kernel15Ideal.nD Cert.Kernel15Ideal.τ).loc Cert.Kernel15Ideal.main_v10_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v10_0) = v0 c
          ∧ r.2.mem ((c.tc : Thread Cert.Kernel15Ideal.nD Cert.Kernel15Ideal.τ).loc Cert.Kernel15Ideal.main_v10_1) = v1 c
          ∧ r.2.mem ((c.tc : Thread Cert.Kernel15Ideal.nD Cert.Kernel15Ideal.τ).loc Cert.Kernel15Ideal.main_v10_2) = v2 c
          ∧ r.2.mem ((c.tc : Thread Cert.Kernel15Ideal.nD Cert.Kernel15Ideal.τ).loc Cert.Kernel15Ideal.main_v10_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v65) = v0 c
          ∧ r.2.mem ((c.tc : Thread Cert.Reference15Ideal.nD Cert.Reference15Ideal.τ).loc Cert.Reference15Ideal.main_v66) = v1 c
          ∧ r.2.mem ((c.tc : Thread Cert.Reference15Ideal.nD Cert.Reference15Ideal.τ).loc Cert.Reference15Ideal.main_v68) = v2 c
          ∧ r.2.mem ((c.tc : Thread Cert.Reference15Ideal.nD Cert.Reference15Ideal.τ).loc Cert.Reference15Ideal.main_v70) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v14_0)) (v1 : (c : Dev Cert.Kernel16Ideal.nD) → Buf (Elt Ideal) ((c.tc : Thread Cert.Kernel16Ideal.nD Cert.Kernel16Ideal.τ).loc Cert.Kernel16Ideal.main_v14_1)) (v2 : (c : Dev Cert.Kernel16Ideal.nD) → Buf (Elt Ideal) ((c.tc : Thread Cert.Kernel16Ideal.nD Cert.Kernel16Ideal.τ).loc Cert.Kernel16Ideal.main_v14_2)) (v3 : (c : Dev Cert.Kernel16Ideal.nD) → Buf (Elt Ideal) ((c.tc : Thread Cert.Kernel16Ideal.nD Cert.Kernel16Ideal.τ).loc Cert.Kernel16Ideal.main_v14_3)) (v4 : (c : Dev Cert.Kernel16Ideal.nD) → Buf (Elt Ideal) ((c.tc : Thread Cert.Kernel16Ideal.nD Cert.Kernel16Ideal.τ).loc Cert.Kernel16Ideal.main_v14_4)) (v5 : (c : Dev Cert.Kernel16Ideal.nD) → Buf (Elt Ideal) ((c.tc : Thread Cert.Kernel16Ideal.nD Cert.Kernel16Ideal.τ).loc Cert.Kernel16Ideal.main_v14_5)) (v6 : (c : Dev Cert.Kernel16Ideal.nD) → Buf (Elt Ideal) ((c.tc : Thread Cert.Kernel16Ideal.nD Cert.Kernel16Ideal.τ).loc Cert.Kernel16Ideal.main_v14_6)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v14_0) = v0 c
          ∧ r.2.mem ((c.tc : Thread Cert.Kernel16Ideal.nD Cert.Kernel16Ideal.τ).loc Cert.Kernel16Ideal.main_v14_1) = v1 c
          ∧ r.2.mem ((c.tc : Thread Cert.Kernel16Ideal.nD Cert.Kernel16Ideal.τ).loc Cert.Kernel16Ideal.main_v14_2) = v2 c
          ∧ r.2.mem ((c.tc : Thread Cert.Kernel16Ideal.nD Cert.Kernel16Ideal.τ).loc Cert.Kernel16Ideal.main_v14_3) = v3 c
          ∧ r.2.mem ((c.tc : Thread Cert.Kernel16Ideal.nD Cert.Kernel16Ideal.τ).loc Cert.Kernel16Ideal.main_v14_4) = v4 c
          ∧ r.2.mem ((c.tc : Thread Cert.Kernel16Ideal.nD Cert.Kernel16Ideal.τ).loc Cert.Kernel16Ideal.main_v14_5) = v5 c
          ∧ r.2.mem ((c.tc : Thread Cert.Kernel16Ideal.nD Cert.Kernel16Ideal.τ).loc Cert.Kernel16Ideal.main_v14_6) = v6 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v64) = v0 c
          ∧ r.2.mem ((c.tc : Thread Cert.Reference16Ideal.nD Cert.Reference16Ideal.τ).loc Cert.Reference16Ideal.main_v66) = v1 c
          ∧ r.2.mem ((c.tc : Thread Cert.Reference16Ideal.nD Cert.Reference16Ideal.τ).loc Cert.Reference16Ideal.main_v68) = v2 c
          ∧ r.2.mem ((c.tc : Thread Cert.Reference16Ideal.nD Cert.Reference16Ideal.τ).loc Cert.Reference16Ideal.main_v69) = v3 c
          ∧ r.2.mem ((c.tc : Thread Cert.Reference16Ideal.nD Cert.Reference16Ideal.τ).loc Cert.Reference16Ideal.main_v70) = v4 c
          ∧ r.2.mem ((c.tc : Thread Cert.Reference16Ideal.nD Cert.Reference16Ideal.τ).loc Cert.Reference16Ideal.main_v72) = v5 c
          ∧ r.2.mem ((c.tc : Thread Cert.Reference16Ideal.nD Cert.Reference16Ideal.τ).loc Cert.Reference16Ideal.main_v74) = v6 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_v30) = v1 c
          ∧ r.2.mem ((c.tc : Thread Cert.Reference21Ideal.nD Cert.Reference21Ideal.τ).loc Cert.Reference21Ideal.main_v11) = v2 c
          ∧ r.2.mem ((c.tc : Thread Cert.Reference21Ideal.nD Cert.Reference21Ideal.τ).loc Cert.Reference21Ideal.main_v17) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_v30) = v1 c
          ∧ r.2.mem ((c.tc : Thread Cert.Reference22Ideal.nD Cert.Reference22Ideal.τ).loc Cert.Reference22Ideal.main_v11) = v2 c
          ∧ r.2.mem ((c.tc : Thread Cert.Reference22Ideal.nD Cert.Reference22Ideal.τ).loc Cert.Reference22Ideal.main_v17) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_v30) = v1 c
          ∧ r.2.mem ((c.tc : Thread Cert.Reference23Ideal.nD Cert.Reference23Ideal.τ).loc Cert.Reference23Ideal.main_v11) = v2 c
          ∧ r.2.mem ((c.tc : Thread Cert.Reference23Ideal.nD Cert.Reference23Ideal.τ).loc Cert.Reference23Ideal.main_v17) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_v30) = v1 c
          ∧ r.2.mem ((c.tc : Thread Cert.Reference24Ideal.nD Cert.Reference24Ideal.τ).loc Cert.Reference24Ideal.main_v11) = v2 c
          ∧ r.2.mem ((c.tc : Thread Cert.Reference24Ideal.nD Cert.Reference24Ideal.τ).loc Cert.Reference24Ideal.main_v17) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v15) = v0 c
          ∧ r.2.mem ((c.tc : Thread Cert.Reference25Ideal.nD Cert.Reference25Ideal.τ).loc Cert.Reference25Ideal.main_v16) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite2 : Cert.Pre_finite2.Facts) (hPre_finite8 : Cert.Pre_finite8.Facts) (hPre_finite16 : Cert.Pre_finite16.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S1x2048x1024 : Shape := ⟨3, ![1, 2048, 1024]⟩
abbrev S1x1024 : Shape := ⟨2, ![1, 1024]⟩
abbrev S1x1024x2048 : Shape := ⟨3, ![1, 1024, 2048]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part2 {F : FTy → Type} [FloatOps F] (main_arg7 : FVec F S1x2048x1024 .f32) (main_v33 : IVec S_ 1) : IVec S_ 1 :=
  let main_v34 : FVec F S1x2048x1024 .f32 := Host.absf main_arg7
  let main_cst_12 : FVec F S_ .f32 := constant S_ .f32 0x7F800000#32
  let main_v35 : FVec F S1x2048x1024 .f32 := broadcastInDim S1x2048x1024 ![] bcast_S_S1x2048x1024 main_cst_12
  let main_v36 : IVec S1x2048x1024 1 := cmpf .olt main_v34 main_v35
  let main_c_13 : IVec S_ 1 := constantI S_ 1 1#1
  let main_v37 : IVec S_ 1 := (fun x v => Host.reduce IntOp.andi x v reducesTo_S1x2048x1024_S_d0_1_2 h_S_) main_v36 main_c_13
  let main_v38 : IVec S_ 1 := andi main_v33 main_v37
  main_v38

def fn_part1 {F : FTy → Type} [FloatOps F] (main_arg4 : FVec F S1x8x128x128 .f32) (main_arg5 : FVec F S1x8x128 .f32) (main_arg6 : FVec F S1x1024x1024 .f32) (main_arg7 : FVec F S1x2048x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x8x128x128 .f32 := Host.absf main_arg4
  let main_cst_6 : FVec F S_ .f32 := constant S_ .f32 0x7F800000#32
  let main_v20 : FVec F S1x8x128x128 .f32 := broadcastInDim S1x8x128x128 ![] bcast_S_S1x8x128x128 main_cst_6
  let main_v21 : IVec S1x8x128x128 1 := cmpf .olt main_v19 main_v20
  let main_c_7 : IVec S_ 1 := constantI S_ 1 1#1
  let main_v22 : IVec S_ 1 := (fun x v => Host.reduce IntOp.andi x v reducesTo_S1x8x128x128_S_d0_1_2_3 h_S_) main_v21 main_c_7
  let main_v23 : IVec S_ 1 := andi main_v18 main_v22
  let main_v24 : FVec F S1x8x128 .f32 := Host.absf main_arg5
  let main_cst_8 : FVec F S_ .f32 := constant S_ .f32 0x7F800000#32
  let main_v25 : FVec F S1x8x128 .f32 := broadcastInDim S1x8x128 ![] bcast_S_S1x8x128 main_cst_8
  let main_v26 : IVec S1x8x128 1 := cmpf .olt main_v24 main_v25
  let main_c_9 : IVec S_ 1 := constantI S_ 1 1#1
  let main_v27 : IVec S_ 1 := (fun x v => Host.reduce IntOp.andi x v reducesTo_S1x8x128_S_d0_1_2 h_S_) main_v26 main_c_9
  let main_v28 : IVec S_ 1 := andi main_v23 main_v27
  let main_v29 : FVec F S1x1024x1024 .f32 := Host.absf main_arg6
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  fn_part2 (F := F) main_arg7 main_v33

def fn {F : FTy → Type} [FloatOps F] (main_arg0 : FVec F S1x2048x1024 .f32) (main_arg1 : FVec F S1x1024 .f32) (main_arg2 : FVec F S1x1024x2048 .f32) (main_arg3 : FVec F S1x1024 .f32) (main_arg4 : FVec F S1x8x128x128 .f32) (main_arg5 : FVec F S1x8x128 .f32) (main_arg6 : FVec F S1x1024x1024 .f32) (main_arg7 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2048 .f32 := Host.absf main_arg2
  let main_cst_2 : FVec F S_ .f32 := constant S_ .f32 0x7F800000#32
  let main_v10 : FVec F S1x1024x2048 .f32 := broadcastInDim S1x1024x2048 ![] bcast_S_S1x1024x2048 main_cst_2
  let main_v11 : IVec S1x1024x2048 1 := cmpf .olt main_v9 main_v10
  let main_c_3 : IVec S_ 1 := constantI S_ 1 1#1
  let main_v12 : IVec S_ 1 := (fun x v => Host.reduce IntOp.andi x v reducesTo_S1x1024x2048_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== Pre_finite16.lean ====
abbrev S1x2048x1024 : Shape := ⟨3, ![1, 2048, 1024]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S1x1024x1024 : Shape := ⟨3, ![1, 1024, 1024]⟩
abbrev S1024x2048 : Shape := ⟨2, ![1024, 2048]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  main_v18

def fn {F : FTy → Type} [FloatOps F] (main_arg0 : FVec F S1x2048x1024 .f32) (main_arg1 : FVec F S1x1024 .f32) (main_arg2 : FVec F S1024 .f32) (main_arg3 : FVec F S1x64 .f32) (main_arg4 : FVec F S64 .f32) (main_arg5 : FVec F S1x1024x1024 .f32) (main_arg6 : FVec F S1024x2048 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024x1024 .f32 := Host.absf main_arg5
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S1024x2048 .f32 := Host.absf main_arg6
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_v13 main_v16
-- ==== Pre_finite2.lean ====
abbrev S1x2048x1024 : Shape := ⟨3, ![1, 2048, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1x2048x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x2048x1024 .f32 := Host.absf main_arg4
  let main_cst_6 : FVec F S_ .f32 := constant S_ .f32 0x7F800000#32
  let main_v20 : FVec F S1x2048x1024 .f32 := broadcastInDim S1x2048x1024 ![] bcast_S_S1x2048x1024 main_cst_6
  let main_v21 : IVec S1x2048x1024 1 := cmpf .olt main_v19 main_v20
  let main_c_7 : IVec S_ 1 := constantI S_ 1 1#1
  let main_v22 : IVec S_ 1 := (fun x v => Host.reduce IntOp.andi x v reducesTo_S1x2048x1024_S_d0_1_2 h_S_) main_v21 main_c_7
  let main_v23 : IVec S_ 1 := andi main_v18 main_v22
  main_v23

def fn {F : FTy → Type} [FloatOps F] (main_arg0 : FVec F S1x2048x1024 .f32) (main_arg1 : FVec F S1x1024 .f32) (main_arg2 : FVec F S1024x4096 .f32) (main_arg3 : FVec F S4096x1024 .f32) (main_arg4 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_finite8.lean ====
abbrev S1x2048x1024 : Shape := ⟨3, ![1, 2048, 1024]⟩
abbrev S1x2048x256 : Shape := ⟨3, ![1, 2048, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1x2048x256 : S_.BroadcastsInDim S1x2048x256 (![] : Fin 0 → Fin S1x2048x256.rank)
  reducesTo_S1x2048x256_S_d0_1_2 : S1x2048x256.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_arg5 : FVec F S1x2048x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1x2048x1024 .f32 := Host.absf main_arg5
  let main_cst_8 : FVec F S_ .f32 := constant S_ .f32 0x7F800000#32
  let main_v25 : FVec F S1x2048x1024 .f32 := broadcastInDim S1x2048x1024 ![] bcast_S_S1x2048x1024 main_cst_8
  let main_v26 : IVec S1x2048x1024 1 := cmpf .olt main_v24 main_v25
  let main_c_9 : IVec S_ 1 := constantI S_ 1 1#1
  let main_v27 : IVec S_ 1 := (fun x v => Host.reduce IntOp.andi x v reducesTo_S1x2048x1024_S_d0_1_2 h_S_) main_v26 main_c_9
  let main_v28 : IVec S_ 1 := andi main_v23 main_v27
  main_v28

def fn {F : FTy → Type} [FloatOps F] (main_arg0 : FVec F S1x2048x1024 .f32) (main_arg1 : FVec F S1x2048x256 .f32) (main_arg2 : FVec F S1x1024 .f32) (main_arg3 : FVec F S1024x1024 .f32) (main_arg4 : FVec F S256x1024 .f32) (main_arg5 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1x2048x256 .f32 := Host.absf main_arg1
  let main_cst_0 : FVec F S_ .f32 := constant S_ .f32 0x7F800000#32
  let main_v5 : FVec F S1x2048x256 .f32 := broadcastInDim S1x2048x256 ![] bcast_S_S1x2048x256 main_cst_0
  let main_v6 : IVec S1x2048x256 1 := cmpf .olt main_v4 main_v5
  let main_c_1 : IVec S_ 1 := constantI S_ 1 1#1
  let main_v7 : IVec S_ 1 := (fun x v => Host.reduce IntOp.andi x v reducesTo_S1x2048x256_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S1x2048x1024 : Shape := ⟨3, ![1, 2048, 1024]⟩
abbrev S1x1024 : Shape := ⟨2, ![1, 1024]⟩
abbrev S1x1024x2048 : Shape := ⟨3, ![1, 1024, 2048]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2048x1024 : Shape := ⟨2, ![2048, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S8x128x128 : Shape := ⟨3, ![8, 128, 128]⟩
abbrev S8x128 : Shape := ⟨2, ![8, 128]⟩
abbrev S128x8 : Shape := ⟨2, ![128, 8]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S1024x1024 : Shape := ⟨2, ![1024, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 45
  | .vmem => 23
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x2048, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x1024x1024, .f32⟩
  | .hbm, ⟨7, _⟩ => ⟨S1x2048x1024, .f32⟩
  | .hbm, ⟨8, _⟩ => ⟨S2048x1024, .f32⟩
  | .hbm, ⟨9, _⟩ => ⟨S1024x2048, .f32⟩
  | .hbm, ⟨10, _⟩ => ⟨S1024x2048, .bf16⟩
  | .hbm, ⟨11, _⟩ => ⟨S1024x8x256, .bf16⟩
  | .hbm, ⟨12, _⟩ => ⟨S8x1024x256, .bf16⟩
  | .hbm, ⟨13, _⟩ => ⟨S8x128x128, .f32⟩
  | .hbm, ⟨14, _⟩ => ⟨S8x128x128, .f32⟩
  | .hbm, ⟨15, _⟩ => ⟨S8x128, .f32⟩
  | .hbm, ⟨16, _⟩ => ⟨S128x8, .f32⟩
  | .hbm, ⟨17, _⟩ => ⟨S1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S1024x2048, .f32⟩
  | .hbm, ⟨35, _⟩ => ⟨S2048x2048, .f32⟩
  | .hbm, ⟨36, _⟩ => ⟨S2048x1024, .f32⟩
  | .hbm, ⟨37, _⟩ => ⟨S1024x1024, .f32⟩
  | .hbm, ⟨38, _⟩ => ⟨S1024x1024, .bf16⟩
  | .hbm, ⟨39, _⟩ => ⟨S2048x1024, .f32⟩
  | .hbm, ⟨40, _⟩ => ⟨S2048x2048, .bf16⟩
  | .hbm, ⟨41, _⟩ => ⟨S8x128x128, .f32⟩
  | .hbm, ⟨42, _⟩ => ⟨S128x8, .f32⟩
  | .hbm, ⟨43, _⟩ => ⟨S1x1024, .f32⟩
  | .hbm, ⟨44, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S1x1024, .f32⟩
  | .local _ .vmem, ⟨7, _⟩ => ⟨S8x1024x256, .bf16⟩
  | .local _ .vmem, ⟨8, _⟩ => ⟨S1x1024, .f32⟩
  | .local _ .vmem, ⟨9, _⟩ => ⟨S8x128x128, .f32⟩
  | .local _ .vmem, ⟨10, _⟩ => ⟨S8x128x128, .f32⟩
  | .local _ .vmem, ⟨11, _⟩ => ⟨S128x8, .f32⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S256x2048, .bf16⟩
  | .local _ .vmem, ⟨16, _⟩ => ⟨S256x2048, .bf16⟩
  | .local _ .vmem, ⟨17, _⟩ => ⟨S8x128x128, .f32⟩
  | .local _ .vmem, ⟨18, _⟩ => ⟨S128x8, .f32⟩
  | .local _ .vmem, ⟨19, _⟩ => ⟨S1x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev main_v28_3 : Ref sig .tc := ⟨.hbm, 42, rfl⟩
abbrev main_v28_4 : Ref sig .tc := ⟨.hbm, 43, rfl⟩
abbrev main_v28_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "gelu_cubic" => some ((8943 / 200000 : ℝ) : EReal)
  | "gelu_cubic_slope" => some ((26829 / 200000 : ℝ) : EReal)
  | _ => none
-- ==== ReferenceIdeal.lean ====
abbrev S1x2048x1024 : Shape := ⟨3, ![1, 2048, 1024]⟩
abbrev S1x1024 : Shape := ⟨2, ![1, 1024]⟩
abbrev S1x1024x2048 : Shape := ⟨3, ![1, 1024, 2048]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S_ : Shape := ⟨0, ![]⟩
abbrev S1x2048x2048 : Shape := ⟨3, ![1, 2048, 2048]⟩
abbrev S8x128x128 : Shape := ⟨3, ![8, 128, 128]⟩
abbrev S8x128 : Shape := ⟨2, ![8, 128]⟩
abbrev S1024 : Shape := ⟨1, ![1024]⟩
abbrev S1x2048 : Shape := ⟨2, ![1, 2048]⟩
abbrev S1x2048x1 : Shape := ⟨3, ![1, 2048, 1]⟩
abbrev S1x1x1024 : Shape := ⟨3, ![1, 1, 1024]⟩
abbrev S1024x2048 : Shape := ⟨2, ![1024, 2048]⟩
abbrev S1024x1024 : Shape := ⟨2, ![1024, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S2048 : Shape := ⟨1, ![2048]⟩
abbrev S2048x1024 : Shape := ⟨2, ![2048, 1024]⟩
abbrev S2048x2048 : Shape := ⟨2, ![2048, 2048]⟩

abbrev nBuf : Space → Nat
  | .hbm => 208
  | .vmem => 0
  | .smem => 0
  | _ => 0

abbrev hbmTy0_0 (i : Nat) : BufTy := match i % 128 with
  | 0 => ⟨S1x2048x1024, .f32⟩
  | 1 => ⟨S1x1024, .f32⟩
  | 2 => ⟨S1x1024x2048, .f32⟩
  | 3 => ⟨S1x1024, .f32⟩
  | 4 => ⟨S1x8x128x128, .f32⟩
  | 5 => ⟨S1x8x128, .f32⟩
  | 6 => ⟨S1x1024x1024, .f32⟩
  | 7 => ⟨S1x2048x1024, .f32⟩
  | 8 => ⟨S_, .f32⟩
  | 9 => ⟨S1x2048x2048, .f32⟩
  | 10 => ⟨S8x128x128, .f32⟩
  | 11 => ⟨S8x128, .f32⟩
  | 12 => ⟨S1024, .f32⟩
  | 13 => ⟨S1x2048x1024, .f32⟩
  | 14 => ⟨S_, .f32⟩
  | 15 => ⟨S1x2048, .f32⟩
  | 16 => ⟨S1x2048x1, .f32⟩
  | 17 => ⟨S_, .f32⟩
  | 18 => ⟨S1x2048x1, .f32⟩
  | 19 => ⟨S1x2048x1, .f32⟩
  | 20 => ⟨S_, .f32⟩
  | 21 => ⟨S1x2048x1, .f32⟩
  | 22 => ⟨S1x2048x1, .f32⟩
  | 23 => ⟨S1x2048x1, .f32⟩
  | 24 => ⟨S1x2048x1, .f32⟩
  | 25 => ⟨S_, .f32⟩
  | 26 => ⟨S1x2048x1, .f32⟩
  | 27 => ⟨S1x2048x1, .f32⟩
  | 28 => ⟨S1x2048x1024, .f32⟩
  | 29 => ⟨S1x2048x1024, .f32⟩
  | 30 => ⟨S1x1x1024, .f32⟩
  | 31 => ⟨S1x2048x1024, .f32⟩
  | 32 => ⟨S1x2048x1024, .f32⟩
  | 33 => ⟨S1024x2048, .f32⟩
  | 34 => ⟨S1024, .f32⟩
  | 35 => ⟨S1024x1024, .f32⟩
  | 36 => ⟨S1x2048x2048, .f32⟩
  | 37 => ⟨S1x2048x2048, .f32⟩
  | 38 => ⟨S_, .f32⟩
  | 39 => ⟨S_, .f32⟩
  | 40 => ⟨S_, .f32⟩
  | 41 => ⟨S1x2048x2048, .f32⟩
  | 42 => ⟨S1x2048x2048, .f32⟩
  | 43 => ⟨S1x2048x2048, .f32⟩
  | 44 => ⟨S_, .f32⟩
  | 45 => ⟨S1x2048x2048, .f32⟩
  | 46 => ⟨S1x2048x2048, .f32⟩
  | 47 => ⟨S1x2048x2048, .f32⟩
  | 48 => ⟨S1x2048x2048, .f32⟩
  | 49 => ⟨S1x2048x2048, .f32⟩
  | 50 => ⟨S_, .f32⟩
  | 51 => ⟨S1x2048x2048, .f32⟩
  | 52 => ⟨S1x2048x2048, .f32⟩
  | 53 => ⟨S1x2048x2048, .f32⟩
  | 54 => ⟨S_, .f32⟩
  | 55 => ⟨S1x2048x2048, .f32⟩
  | 56 => ⟨S1x2048x2048, .f32⟩
  | 57 => ⟨S_, .f32⟩
  | 58 => ⟨S1x2048x2048, .f32⟩
  | 59 => ⟨S1x2048x2048, .f32⟩
  | 60 => ⟨S1x2048x2048, .f32⟩
  | 61 => ⟨S_, .f32⟩
  | 62 => ⟨S1x2048x2048, .f32⟩
  | 63 => ⟨S1x2048x2048, .f32⟩
  | 64 => ⟨S_, .f32⟩
  | 65 => ⟨S1x2048x2048, .f32⟩
  | 66 => ⟨S1x2048x2048, .f32⟩
  | 67 => ⟨S1x2048x2048, .f32⟩
  | 68 => ⟨S1x2048x1024, .f32⟩
  | 69 => ⟨S1x2048x1024, .f32⟩
  | 70 => ⟨S1x2048x1024, .f32⟩
  | 71 => ⟨S_, .f32⟩
  | 72 => ⟨S1x2048, .f32⟩
  | 73 => ⟨S1x2048x1, .f32⟩
  | 74 => ⟨S_, .f32⟩
  | 75 => ⟨S1x2048x1, .f32⟩
  | 76 => ⟨S1x2048x1, .f32⟩
  | 77 => ⟨S_, .f32⟩
  | 78 => ⟨S1x2048x1, .f32⟩
  | 79 => ⟨S1x2048x1, .f32⟩
  | 80 => ⟨S1x2048x1, .f32⟩
  | 81 => ⟨S1x2048x1, .f32⟩
  | 82 => ⟨S_, .f32⟩
  | 83 => ⟨S1x2048x1, .f32⟩
  | 84 => ⟨S1x2048x1, .f32⟩
  | 85 => ⟨S1x2048x1024, .f32⟩
  | 86 => ⟨S1x2048x1024, .f32⟩
  | 87 => ⟨S1x1x1024, .f32⟩
  | 88 => ⟨S1x2048x1024, .f32⟩
  | 89 => ⟨S1x2048x1024, .f32⟩
  | 90 => ⟨S1x16x128x8x128, .f32⟩
  | 91 => ⟨S_, .f32⟩
  | 92 => ⟨S128x128, .f32⟩
  | 93 => ⟨S128x128, .i32⟩
  | 94 => ⟨S_, .i32⟩
  | 95 => ⟨S128x128, .i32⟩
  | 96 => ⟨S128x128, .i32⟩
  | 97 => ⟨S128x128, .i32⟩
  | 98 => ⟨S128x128, .i1⟩
  | 99 => ⟨S_, .f32⟩
  | 100 => ⟨S128x128, .f32⟩
  | 101 => ⟨S128x128, .f32⟩
  | 102 => ⟨S1x128x128, .f32⟩
  | 103 => ⟨S8x128x128, .f32⟩
  | 104 => ⟨S8x128x128, .f32⟩
  | 105 => ⟨S8x1x16x128x128, .f32⟩
  | 106 => ⟨S1x16x128x8x128, .f32⟩
  | 107 => ⟨S128x8, .f32⟩
  | 108 => ⟨S1x1x128x8x1, .f32⟩
  | 109 => ⟨S1x16x128x8x128, .f32⟩
  | 110 => ⟨S1x16x128x8x128, .f32⟩
  | 111 => ⟨S1x2048x1024, .f32⟩
  | 112 => ⟨S1x2048x1024, .f32⟩
  | 113 => ⟨S1x2048x1024, .f32⟩
  | 114 => ⟨S1x2048x1024, .f32⟩
  | 115 => ⟨S1x2048x1024, .f32⟩
  | 116 => ⟨S1x2048x1024, .f32⟩
  | 117 => ⟨S1x2048x1024, .f32⟩
  | 118 => ⟨S1x2048x1024, .f32⟩
  | 119 => ⟨S1x16x128x8x128, .f32⟩
  | 120 => ⟨S_, .f32⟩
  | 121 => ⟨S1x128x8, .f32⟩
  | 122 => ⟨S1x1x128x8x1, .f32⟩
  | 123 => ⟨S_, .f32⟩
  | 124 => ⟨S128x8, .f32⟩
  | 125 => ⟨S8x128, .f32⟩
  | 126 => ⟨S8x1x16x128x128, .f32⟩
  | 127 => ⟨S8x128x128, .f32⟩
  | _ => ⟨S1x2048x1024, .f32⟩

abbrev hbmTy0_1 (i : Nat) : BufTy := match i % 128 with
  | 0 => ⟨S8x1x16x128x128, .f32⟩
  | 1 => ⟨S1x16x128x8x128, .f32⟩
  | 2 => ⟨S8x128x128, .f32⟩
  | 3 => ⟨S8x128x128, .f32⟩
  | 4 => ⟨S1x2048x1024, .f32⟩
  | 5 => ⟨S1x2048x1024, .f32⟩
  | 6 => ⟨S_, .f32⟩
  | 7 => ⟨S1x1024, .f32⟩
  | 8 => ⟨S1x1x1024, .f32⟩
  | 9 => ⟨S1x2048x1024, .f32⟩
  | 10 => ⟨S1x2048x1024, .f32⟩
  | 11 => ⟨S_, .f32⟩
  | 12 => ⟨S1024, .f32⟩
  | 13 => ⟨S1x2048x1024, .f32⟩
  | 14 => ⟨S_, .f32⟩
  | 15 => ⟨S1x2048, .f32⟩
  | 16 => ⟨S1x2048x1, .f32⟩
  | 17 => ⟨S1x2048x1024, .f32⟩
  | 18 => ⟨S1x2048x1024, .f32⟩
  | 19 => ⟨S1x2048x1, .f32⟩
  | 20 => ⟨S_, .f32⟩
  | 21 => ⟨S1x2048x1, .f32⟩
  | 22 => ⟨S1x2048x1, .f32⟩
  | 23 => ⟨S_, .f32⟩
  | 24 => ⟨S2048, .f32⟩
  | 25 => ⟨S1x2048, .f32⟩
  | 26 => ⟨S1x2048x1024, .f32⟩
  | 27 => ⟨S1x2048x1024, .f32⟩
  | 28 => ⟨S1x2048x1024, .f32⟩
  | 29 => ⟨S1x2048x1024, .f32⟩
  | 30 => ⟨S1x2048x1024, .f32⟩
  | 31 => ⟨S1x2048x2048, .f32⟩
  | 32 => ⟨S1x2048x2048, .f32⟩
  | 33 => ⟨S1x2048x2048, .f32⟩
  | 34 => ⟨S_, .f32⟩
  | 35 => ⟨S1x2048x2048, .f32⟩
  | 36 => ⟨S1x2048x2048, .f32⟩
  | 37 => ⟨S1x2048x2048, .f32⟩
  | 38 => ⟨S_, .f32⟩
  | 39 => ⟨S1x2048x2048, .f32⟩
  | 40 => ⟨S1x2048x2048, .f32⟩
  | 41 => ⟨S1x2048x2048, .f32⟩
  | 42 => ⟨S1x2048x2048, .f32⟩
  | 43 => ⟨S1x2048x2048, .f32⟩
  | 44 => ⟨S1x2048x2048, .f32⟩
  | 45 => ⟨S1x2048x2048, .f32⟩
  | 46 => ⟨S1x2048x1024, .f32⟩
  | 47 => ⟨S1x1024, .f32⟩
  | 48 => ⟨S1x2048x1024, .f32⟩
  | 49 => ⟨S_, .f32⟩
  | 50 => ⟨S1x1024, .f32⟩
  | 51 => ⟨S1x1x1024, .f32⟩
  | 52 => ⟨S1x2048x1024, .f32⟩
  | 53 => ⟨S1x2048x1024, .f32⟩
  | 54 => ⟨S_, .f32⟩
  | 55 => ⟨S1024, .f32⟩
  | 56 => ⟨S1x2048x1024, .f32⟩
  | 57 => ⟨S_, .f32⟩
  | 58 => ⟨S1x2048, .f32⟩
  | 59 => ⟨S1x2048x1, .f32⟩
  | 60 => ⟨S1x2048x1024, .f32⟩
  | 61 => ⟨S1x2048x1024, .f32⟩
  | 62 => ⟨S1x2048x1024, .f32⟩
  | 63 => ⟨S1x2048x1, .f32⟩
  | 64 => ⟨S_, .f32⟩
  | 65 => ⟨S1x2048x1, .f32⟩
  | 66 => ⟨S1x2048x1, .f32⟩
  | 67 => ⟨S_, .f32⟩
  | 68 => ⟨S2048, .f32⟩
  | 69 => ⟨S1x2048, .f32⟩
  | 70 => ⟨S1x2048x1024, .f32⟩
  | 71 => ⟨S1x2048x1024, .f32⟩
  | 72 => ⟨S1x2048x1024, .f32⟩
  | 73 => ⟨S1x2048x1024, .f32⟩
  | 74 => ⟨S1x2048x1024, .f32⟩
  | 75 => ⟨S1x1024, .f32⟩
  | 76 => ⟨S2048x1024, .f32⟩
  | 77 => ⟨S2048x2048, .f32⟩
  | 78 => ⟨S2048x2048, .bf16⟩
  | 79 => ⟨S128x8, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_call0_v0 : Ref sig .tc := ⟨.hbm, 93, rfl⟩
abbrev main_call0_c : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_cst : Ref sig .tc := ⟨.hbm, 99, rfl⟩
abbrev main_call0_v5 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_v87 : Ref sig .tc := ⟨.hbm, 122, rfl⟩
abbrev main_cst_18 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_19 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_20 : Ref sig .tc := ⟨.hbm, 139, rfl⟩
abbrev main_v102 : Ref sig .tc := ⟨.hbm, 140, rfl⟩
abbrev main_v103 : Ref sig .tc := ⟨.hbm, 141, rfl⟩
abbrev main_cst_21 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_22 : Ref sig .tc := ⟨.hbm, 148, rfl⟩
abbrev main_v109 : Ref sig .tc := ⟨.hbm, 149, rfl⟩
abbrev main_v110 : Ref sig .tc := ⟨.hbm, 150, rfl⟩
abbrev main_cst_23 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_24 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_25 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_26 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_27 : Ref sig .tc := ⟨.hbm, 182, rfl⟩
abbrev main_v138 : Ref sig .tc := ⟨.hbm, 183, rfl⟩
abbrev main_v139 : Ref sig .tc := ⟨.hbm, 184, rfl⟩
abbrev main_cst_28 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_29 : Ref sig .tc := ⟨.hbm, 192, rfl⟩
abbrev main_v146 : Ref sig .tc := ⟨.hbm, 193, rfl⟩
abbrev main_v147 : Ref sig .tc := ⟨.hbm, 194, rfl⟩
abbrev main_cst_30 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩

abbrev nD : Nat := 1
abbrev τ : Topo := Topo.v7x

variable {F : FTy → Type} [FloatOps F]
-- ==== Kernel2.lean ====
abbrev S1x2048x1024 : Shape := ⟨3, ![1, 2048, 1024]⟩
abbrev S1x1024 : Shape := ⟨2, ![1, 1024]⟩
abbrev S1024x4096 : Shape := ⟨2, ![1024, 4096]⟩
abbrev S4096x1024 : Shape := ⟨2, ![4096, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S1024x8x512 : Shape := ⟨3, ![1024, 8, 512]⟩
abbrev S8x1024x512 : Shape := ⟨3, ![8, 1024, 512]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 33
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x2048x1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x4096, .f32⟩
  | .hbm, ⟨24, _⟩ => ⟨S2048x1024, .f32⟩
  | .hbm, ⟨25, _⟩ => ⟨S1024x4096, .bf16⟩
  | .hbm, ⟨26, _⟩ => ⟨S1024x8x512, .bf16⟩
  | .hbm, ⟨27, _⟩ => ⟨S8x1024x512, .bf16⟩
  | .hbm, ⟨28, _⟩ => ⟨S4096x1024, .bf16⟩
  | .hbm, ⟨29, _⟩ => ⟨S2048x1024, .f32⟩
  | .hbm, ⟨30, _⟩ => ⟨S2048x4096, .bf16⟩
  | .hbm, ⟨31, _⟩ => ⟨S2048x4096, .bf16⟩
  | .hbm, ⟨32, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .f32⟩
  | .local _ .vmem, ⟨5, _⟩ => ⟨S256x4096, .f32⟩
  | .local _ .vmem, ⟨6, _⟩ => ⟨S1x1024, .f32⟩
  | .local _ .vmem, ⟨7, _⟩ => ⟨S8x1024x512, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S1x2048x1024 : Shape := ⟨3, ![1, 2048, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S1x2048x4096 : Shape := ⟨3, ![1, 2048, 4096]⟩
abbrev S1024 : Shape := ⟨1, ![1024]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S2048x1024 : Shape := ⟨2, ![2048, 1024]⟩
abbrev S2048x4096 : Shape := ⟨2, ![2048, 4096]⟩

abbrev nBuf : Space → Nat
  | .hbm => 84
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x2048x1024, .f32⟩
  | .hbm, ⟨5, _⟩ => ⟨S_, .f32⟩
  | .hbm, ⟨6, _⟩ => ⟨S1x2048x4096, .f32⟩
  | .hbm, ⟨7, _⟩ => ⟨S1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S_, .f32⟩
  | .hbm, ⟨21, _⟩ => ⟨S1x2048x1, .f32⟩
  | .hbm, ⟨22, _⟩ => ⟨S1x2048x1, .f32⟩
  | .hbm, ⟨23, _⟩ => ⟨S1x2048x1024, .f32⟩
  | .hbm, ⟨24, _⟩ => ⟨S1x2048x1024, .f32⟩
  | .hbm, ⟨25, _⟩ => ⟨S1x1x1024, .f32⟩
  | .hbm, ⟨26, _⟩ => ⟨S1x2048x1024, .f32⟩
  | .hbm, ⟨27, _⟩ => ⟨S1x2048x1024, .f32⟩
  | .hbm, ⟨28, _⟩ => ⟨S1x2048x4096, .f32⟩
  | .hbm, ⟨29, _⟩ => ⟨S1x2048x4096, .f32⟩
  | .hbm, ⟨30, _⟩ => ⟨S_, .f32⟩
  | .hbm, ⟨31, _⟩ => ⟨S1x2048x4096, .f32⟩
  | .hbm, ⟨32, _⟩ => ⟨S1x2048x4096, .f32⟩
  | .hbm, ⟨33, _⟩ => ⟨S_, .f32⟩
  | .hbm, ⟨34, _⟩ => ⟨S1x2048x4096, .f32⟩
  | .hbm, ⟨35, _⟩ => ⟨S1x2048x4096, .i1⟩
  | .hbm, ⟨36, _⟩ => ⟨S_, .f32⟩
  | .hbm, ⟨37, _⟩ => ⟨S1x2048x4096, .f32⟩
  | .hbm, ⟨38, _⟩ => ⟨S1x2048x4096, .f32⟩
  | .hbm, ⟨39, _⟩ => ⟨S1x2048x1024, .f32⟩
  | .hbm, ⟨40, _⟩ => ⟨S1x2048x4096, .f32⟩
  | .hbm, ⟨41, _⟩ => ⟨S1x2048x1024, .f32⟩
  | .hbm, ⟨42, _⟩ => ⟨S1x2048x1024, .f32⟩
  | .hbm, ⟨43, _⟩ => ⟨S1x2048x4096, .f32⟩
  | .hbm, ⟨44, _⟩ => ⟨S1x2048x4096, .f32⟩
  | .hbm, ⟨45, _⟩ => ⟨S1x2048x4096, .f32⟩
  | .hbm, ⟨46, _⟩ => ⟨S1x2048x4096, .f32⟩
  | .hbm, ⟨47, _⟩ => ⟨S_, .f32⟩
  | .hbm, ⟨48, _⟩ => ⟨S1x2048x4096, .f32⟩
  | .hbm, ⟨49, _⟩ => ⟨S1x2048x4096, .f32⟩
  | .hbm, ⟨50, _⟩ => ⟨S1x2048x1024, .f32⟩
  | .hbm, ⟨51, _⟩ => ⟨S1x2048x1024, .f32⟩
  | .hbm, ⟨52, _⟩ => ⟨S_, .f32⟩
  | .hbm, ⟨53, _⟩ => ⟨S1x1024, .f32⟩
  | .hbm, ⟨54, _⟩ => ⟨S1x1x1024, .f32⟩
  | .hbm, ⟨55, _⟩ => ⟨S1x2048x1024, .f32⟩
  | .hbm, ⟨56, _⟩ => ⟨S1x2048x1024, .f32⟩
  | .hbm, ⟨57, _⟩ => ⟨S_, .f32⟩
  | .hbm, ⟨58, _⟩ => ⟨S1024, .f32⟩
  | .hbm, ⟨59, _⟩ => ⟨S1x2048x1024, .f32⟩
  | .hbm, ⟨60, _⟩ => ⟨S_, .f32⟩
  | .hbm, ⟨61, _⟩ => ⟨S1x2048, .f32⟩
  | .hbm, ⟨62, _⟩ => ⟨S1x2048x1, .f32⟩
  | .hbm, ⟨63, _⟩ => ⟨S1x2048x1024, .f32⟩
  | .hbm, ⟨64, _⟩ => ⟨S1x2048x1024, .f32⟩
  | .hbm, ⟨65, _⟩ => ⟨S1x2048x1024, .f32⟩
  | .hbm, ⟨66, _⟩ => ⟨S1x2048x1, .f32⟩
  | .hbm, ⟨67, _⟩ => ⟨S_, .f32⟩
  | .hbm, ⟨68, _⟩ => ⟨S1x2048x1, .f32⟩
  | .hbm, ⟨69, _⟩ => ⟨S1x2048x1, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S1x2048x1024, .f32⟩
  | .hbm, ⟨74, _⟩ => ⟨S1x2048x1024, .f32⟩
  | .hbm, ⟨75, _⟩ => ⟨S1x2048x1024, .f32⟩
  | .hbm, ⟨76, _⟩ => ⟨S1x2048x1024, .f32⟩
  | .hbm, ⟨77, _⟩ => ⟨S1x2048x1024, .f32⟩
  | .hbm, ⟨78, _⟩ => ⟨S1x1024, .f32⟩
  | .hbm, ⟨79, _⟩ => ⟨S2048x1024, .f32⟩
  | .hbm, ⟨80, _⟩ => ⟨S2048x4096, .f32⟩
  | .hbm, ⟨81, _⟩ => ⟨S2048x4096, .bf16⟩
  | .hbm, ⟨82, _⟩ => ⟨S2048x4096, .f32⟩
  | .hbm, ⟨83, _⟩ => ⟨S2048x4096, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel3.lean ====
abbrev S1x2048x1024 : Shape := ⟨3, ![1, 2048, 1024]⟩
abbrev S1x1024 : Shape := ⟨2, ![1, 1024]⟩
abbrev S1024x4096 : Shape := ⟨2, ![1024, 4096]⟩
abbrev S4096x1024 : Shape := ⟨2, ![4096, 1024]⟩
abbrev S2048x1024 : Shape := ⟨2, ![2048, 1024]⟩
abbrev S1024x8x512 : Shape := ⟨3, ![1024, 8, 512]⟩
abbrev S8x1024x512 : Shape := ⟨3, ![8, 1024, 512]⟩
abbrev S2048x4096 : Shape := ⟨2, ![2048, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩

abbrev nBuf : Space → Nat
  | .hbm => 12
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S4096x1024, .bf16⟩
  | .hbm, ⟨9, _⟩ => ⟨S2048x1024, .f32⟩
  | .hbm, ⟨10, _⟩ => ⟨S2048x4096, .f32⟩
  | .hbm, ⟨11, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024x512, .bf16⟩
  | .local _ .vmem, ⟨4, _⟩ => ⟨S4096x1024, .bf16⟩
  | .local _ .vmem, ⟨5, _⟩ => ⟨S256x1024, .f32⟩
  | .local _ .vmem, ⟨6, _⟩ => ⟨S256x1024, .f32⟩
  | .local _ .vmem, ⟨7, _⟩ => ⟨S256x4096, .f32⟩
  | .local _ .vmem, ⟨8, _⟩ => ⟨S256x4096, .f32⟩
  | .local _ .vmem, ⟨9, _⟩ => ⟨S256x1024, .bf16⟩
  | .local _ .vmem, ⟨10, _⟩ => ⟨S256x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S1x2048x1024 : Shape := ⟨3, ![1, 2048, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x4096 : Shape := ⟨3, ![1, 2048, 4096]⟩
abbrev S2048x1024 : Shape := ⟨2, ![2048, 1024]⟩
abbrev S2048x4096 : Shape := ⟨2, ![2048, 4096]⟩

abbrev nBuf : Space → Nat
  | .hbm => 32
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x2048x1024, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1024, .f32⟩
  | .hbm, ⟨17, _⟩ => ⟨S1x2048x1024, .f32⟩
  | .hbm, ⟨18, _⟩ => ⟨S1x1x1024, .f32⟩
  | .hbm, ⟨19, _⟩ => ⟨S1x2048x1024, .f32⟩
  | .hbm, ⟨20, _⟩ => ⟨S1x2048x1024, .f32⟩
  | .hbm, ⟨21, _⟩ => ⟨S1x2048x4096, .f32⟩
  | .hbm, ⟨22, _⟩ => ⟨S_, .f32⟩
  | .hbm, ⟨23, _⟩ => ⟨S1x2048x4096, .f32⟩
  | .hbm, ⟨24, _⟩ => ⟨S1x2048x4096, .f32⟩
  | .hbm, ⟨25, _⟩ => ⟨S1x2048x4096, .f32⟩
  | .hbm, ⟨26, _⟩ => ⟨S1x2048x1024, .f32⟩
  | .hbm, ⟨27, _⟩ => ⟨S1x2048x1024, .f32⟩
  | .hbm, ⟨28, _⟩ => ⟨S2048x1024, .f32⟩
  | .hbm, ⟨29, _⟩ => ⟨S2048x4096, .f32⟩
  | .hbm, ⟨30, _⟩ => ⟨S2048x1024, .f32⟩
  | .hbm, ⟨31, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel4.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x4096 : Shape := ⟨2, ![2048, 4096]⟩
abbrev S2048x1024 : Shape := ⟨2, ![2048, 1024]⟩
abbrev S4096x1024 : Shape := ⟨2, ![4096, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S512x1024, .bf16⟩
  | .local _ .vmem, ⟨4, _⟩ => ⟨S512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩
abbrev S2048x128 : Shape := ⟨2, ![2048, 128]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S128x1024, .bf16⟩
  | .local _ .vmem, ⟨4, _⟩ => ⟨S128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x1024 : Shape := ⟨2, ![2048, 1024]⟩
abbrev S2048x2048 : Shape := ⟨2, ![2048, 2048]⟩
abbrev S8x1024x256 : Shape := ⟨3, ![8, 1024, 256]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S8x1024x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S1x2048x1024 : Shape := ⟨3, ![1, 2048, 1024]⟩
abbrev S1x2048x256 : Shape := ⟨3, ![1, 2048, 256]⟩
abbrev S1x1024 : Shape := ⟨2, ![1, 1024]⟩
abbrev S1024x1024 : Shape := ⟨2, ![1024, 1024]⟩
abbrev S256x1024 : Shape := ⟨2, ![256, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x256 : Shape := ⟨2, ![2048, 256]⟩
abbrev S256 : Shape := ⟨1, ![256]⟩
abbrev S256x1 : Shape := ⟨2, ![256, 1]⟩

abbrev nBuf : Space → Nat
  | .hbm => 41
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1x2048x256, .f32⟩
  | .hbm, ⟨2, _⟩ => ⟨S1x1024, .f32⟩
  | .hbm, ⟨3, _⟩ => ⟨S1024x1024, .f32⟩
  | .hbm, ⟨4, _⟩ => ⟨S256x1024, .f32⟩
  | .hbm, ⟨5, _⟩ => ⟨S1x2048x1024, .f32⟩
  | .hbm, ⟨6, _⟩ => ⟨S2048x1024, .f32⟩
  | .hbm, ⟨7, _⟩ => ⟨S1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x256, .f32⟩
  | .hbm, ⟨34, _⟩ => ⟨S2048x1024, .f32⟩
  | .hbm, ⟨35, _⟩ => ⟨S2048x1024, .f32⟩
  | .hbm, ⟨36, _⟩ => ⟨S1024x1024, .bf16⟩
  | .hbm, ⟨37, _⟩ => ⟨S2048x1024, .f32⟩
  | .hbm, ⟨38, _⟩ => ⟨S2048x1024, .bf16⟩
  | .hbm, ⟨39, _⟩ => ⟨S2048x1024, .bf16⟩
  | .hbm, ⟨40, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_v26_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S1x2048x1024 : Shape := ⟨3, ![1, 2048, 1024]⟩
abbrev S1x2048x256 : Shape := ⟨3, ![1, 2048, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S1024 : Shape := ⟨1, ![1024]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S2048x1024 : Shape := ⟨2, ![2048, 1024]⟩

abbrev nBuf : Space → Nat
  | .hbm => 85
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x256, .f32⟩
  | .hbm, ⟨2, _⟩ => ⟨S1x1024, .f32⟩
  | .hbm, ⟨3, _⟩ => ⟨S1024x1024, .f32⟩
  | .hbm, ⟨4, _⟩ => ⟨S256x1024, .f32⟩
  | .hbm, ⟨5, _⟩ => ⟨S1x2048x1024, .f32⟩
  | .hbm, ⟨6, _⟩ => ⟨S_, .f32⟩
  | .hbm, ⟨7, _⟩ => ⟨S1x2048x1024, .f32⟩
  | .hbm, ⟨8, _⟩ => ⟨S1024, .f32⟩
  | .hbm, ⟨9, _⟩ => ⟨S1x2048x1024, .f32⟩
  | .hbm, ⟨10, _⟩ => ⟨S_, .f32⟩
  | .hbm, ⟨11, _⟩ => ⟨S1x2048, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S_, .f32⟩
  | .hbm, ⟨22, _⟩ => ⟨S1x2048x1, .f32⟩
  | .hbm, ⟨23, _⟩ => ⟨S1x2048x1, .f32⟩
  | .hbm, ⟨24, _⟩ => ⟨S1x2048x1024, .f32⟩
  | .hbm, ⟨25, _⟩ => ⟨S1x2048x1024, .f32⟩
  | .hbm, ⟨26, _⟩ => ⟨S1x1x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S1x2048x1024, .f32⟩
  | .hbm, ⟨32, _⟩ => ⟨S1x2048x1024, .f32⟩
  | .hbm, ⟨33, _⟩ => ⟨S_, .f32⟩
  | .hbm, ⟨34, _⟩ => ⟨S1x2048x1024, .f32⟩
  | .hbm, ⟨35, _⟩ => ⟨S1x2048x1024, .f32⟩
  | .hbm, ⟨36, _⟩ => ⟨S_, .f32⟩
  | .hbm, ⟨37, _⟩ => ⟨S1x2048x1024, .f32⟩
  | .hbm, ⟨38, _⟩ => ⟨S1x2048x1024, .f32⟩
  | .hbm, ⟨39, _⟩ => ⟨S_, .f32⟩
  | .hbm, ⟨40, _⟩ => ⟨S1x2048x1024, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S1x2048x1024, .f32⟩
  | .hbm, ⟨51, _⟩ => ⟨S1x2048x1024, .f32⟩
  | .hbm, ⟨52, _⟩ => ⟨S1x2048x1024, .f32⟩
  | .hbm, ⟨53, _⟩ => ⟨S_, .f32⟩
  | .hbm, ⟨54, _⟩ => ⟨S1x1024, .f32⟩
  | .hbm, ⟨55, _⟩ => ⟨S1x1x1024, .f32⟩
  | .hbm, ⟨56, _⟩ => ⟨S1x2048x1024, .f32⟩
  | .hbm, ⟨57, _⟩ => ⟨S1x2048x1024, .f32⟩
  | .hbm, ⟨58, _⟩ => ⟨S_, .f32⟩
  | .hbm, ⟨59, _⟩ => ⟨S1024, .f32⟩
  | .hbm, ⟨60, _⟩ => ⟨S1x2048x1024, .f32⟩
  | .hbm, ⟨61, _⟩ => ⟨S_, .f32⟩
  | .hbm, ⟨62, _⟩ => ⟨S1x2048, .f32⟩
  | .hbm, ⟨63, _⟩ => ⟨S1x2048x1, .f32⟩
  | .hbm, ⟨64, _⟩ => ⟨S1x2048x1024, .f32⟩
  | .hbm, ⟨65, _⟩ => ⟨S1x2048x1024, .f32⟩
  | .hbm, ⟨66, _⟩ => ⟨S1x2048x1024, .f32⟩
  | .hbm, ⟨67, _⟩ => ⟨S1x2048x1, .f32⟩
  | .hbm, ⟨68, _⟩ => ⟨S_, .f32⟩
  | .hbm, ⟨69, _⟩ => ⟨S1x2048x1, .f32⟩
  | .hbm, ⟨70, _⟩ => ⟨S1x2048x1, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S1x2048x1024, .f32⟩
  | .hbm, ⟨75, _⟩ => ⟨S1x2048x1024, .f32⟩
  | .hbm, ⟨76, _⟩ => ⟨S1x2048x1024, .f32⟩
  | .hbm, ⟨77, _⟩ => ⟨S1x2048x1024, .f32⟩
  | .hbm, ⟨78, _⟩ => ⟨S1x2048x1024, .f32⟩
  | .hbm, ⟨79, _⟩ => ⟨S1x1024, .f32⟩
  | .hbm, ⟨80, _⟩ => ⟨S2048x1024, .f32⟩
  | .hbm, ⟨81, _⟩ => ⟨S2048x1024, .f32⟩
  | .hbm, ⟨82, _⟩ => ⟨S2048x1024, .bf16⟩
  | .hbm, ⟨83, _⟩ => ⟨S2048x1024, .f32⟩
  | .hbm, ⟨84, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Kernel9.lean ====
abbrev S1x2048x1024 : Shape := ⟨3, ![1, 2048, 1024]⟩
abbrev S1x2048x256 : Shape := ⟨3, ![1, 2048, 256]⟩
abbrev S1x1024 : Shape := ⟨2, ![1, 1024]⟩
abbrev S1024x1024 : Shape := ⟨2, ![1024, 1024]⟩
abbrev S256x1024 : Shape := ⟨2, ![256, 1024]⟩
abbrev S2048x1024 : Shape := ⟨2, ![2048, 1024]⟩
abbrev S2048x256 : Shape := ⟨2, ![2048, 256]⟩
abbrev S256x8x128 : Shape := ⟨3, ![256, 8, 128]⟩
abbrev S8x256x128 : Shape := ⟨3, ![8, 256, 128]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩

abbrev nBuf : Space → Nat
  | .hbm => 15
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S1x2048x256, .f32⟩
  | .hbm, ⟨2, _⟩ => ⟨S1x1024, .f32⟩
  | .hbm, ⟨3, _⟩ => ⟨S1024x1024, .f32⟩
  | .hbm, ⟨4, _⟩ => ⟨S256x1024, .f32⟩
  | .hbm, ⟨5, _⟩ => ⟨S2048x1024, .f32⟩
  | .hbm, ⟨6, _⟩ => ⟨S2048x256, .f32⟩
  | .hbm, ⟨7, _⟩ => ⟨S1024x1024, .bf16⟩
  | .hbm, ⟨8, _⟩ => ⟨S256x1024, .bf16⟩
  | .hbm, ⟨9, _⟩ => ⟨S256x8x128, .bf16⟩
  | .hbm, ⟨10, _⟩ => ⟨S8x256x128, .bf16⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S1x1024, .f32⟩
  | .local _ .vmem, ⟨5, _⟩ => ⟨S1024x1024, .bf16⟩
  | .local _ .vmem, ⟨6, _⟩ => ⟨S8x256x128, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S1x2048x1024 : Shape := ⟨3, ![1, 2048, 1024]⟩
abbrev S1x2048x256 : Shape := ⟨3, ![1, 2048, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048x1024 : Shape := ⟨2, ![2048, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x256, .f32⟩
  | .hbm, ⟨2, _⟩ => ⟨S1x1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1024, .f32⟩
  | .hbm, ⟨18, _⟩ => ⟨S1x2048x1024, .f32⟩
  | .hbm, ⟨19, _⟩ => ⟨S1x1x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x2048x1024, .f32⟩
  | .hbm, ⟨30, _⟩ => ⟨S1x2048x1024, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel10.lean ====
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1024x1024, .bf16⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S1x2048x1024 : Shape := ⟨3, ![1, 2048, 1024]⟩
abbrev S1x1024x1024 : Shape := ⟨3, ![1, 1024, 1024]⟩
abbrev S1024x1024 : Shape := ⟨2, ![1024, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024x1024, .f32⟩
  | .hbm, ⟨3, _⟩ => ⟨S1024x1024, .f32⟩
  | .hbm, ⟨4, _⟩ => ⟨S1x2048x1024, .f32⟩
  | .hbm, ⟨5, _⟩ => ⟨S1x2048x1024, .f32⟩
  | .hbm, ⟨6, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S1x1024x1024 : Shape := ⟨3, ![1, 1024, 1024]⟩
abbrev S1x2048x1024 : Shape := ⟨3, ![1, 2048, 1024]⟩
abbrev S2048x1024 : Shape := ⟨2, ![2048, 1024]⟩
abbrev S1024x1024 : Shape := ⟨2, ![1024, 1024]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S1x2048x1024, .f32⟩
  | .hbm, ⟨2, _⟩ => ⟨S2048x1024, .f32⟩
  | .hbm, ⟨3, _⟩ => ⟨S1024x1024, .f32⟩
  | .hbm, ⟨4, _⟩ => ⟨S1024x1024, .bf16⟩
  | .hbm, ⟨5, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S1x1024x1024 : Shape := ⟨3, ![1, 1024, 1024]⟩
abbrev S1x2048x1024 : Shape := ⟨3, ![1, 2048, 1024]⟩
abbrev S_ : Shape := ⟨0, ![]⟩
abbrev S1024x1024 : Shape := ⟨2, ![1024, 1024]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x2048x1024, .f32⟩
  | .hbm, ⟨2, _⟩ => ⟨S_, .f32⟩
  | .hbm, ⟨3, _⟩ => ⟨S1x2048x1024, .f32⟩
  | .hbm, ⟨4, _⟩ => ⟨S1024x1024, .f32⟩
  | .hbm, ⟨5, _⟩ => ⟨S1x2048x1024, .f32⟩
  | .hbm, ⟨6, _⟩ => ⟨S1x2048x1024, .f32⟩
  | .hbm, ⟨7, _⟩ => ⟨S2048x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩
abbrev S2048x128 : Shape := ⟨2, ![2048, 128]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .f32⟩
  | .local _ .vmem, ⟨3, _⟩ => ⟨S128x1024, .bf16⟩
  | .local _ .vmem, ⟨4, _⟩ => ⟨S128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩
abbrev S2048x128 : Shape := ⟨2, ![2048, 128]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .bf16⟩
  | .local _ .vmem, ⟨0, _⟩ => ⟨S2048x128, .f32⟩
  | .local _ .vmem, ⟨1, _⟩ => ⟨S2048x128, .f32⟩
  | .local _ .vmem, ⟨2, _⟩ => ⟨S2048x1024, .f32⟩
  | .local _ .vmem, ⟨3, _⟩ => ⟨S128x1024, .bf16⟩
  | .local _ .vmem, ⟨4, _⟩ => ⟨S128x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S1x2048x256 : Shape := ⟨3, ![1, 2048, 256]⟩
abbrev S2048x1024 : Shape := ⟨2, ![2048, 1024]⟩
abbrev S2048x256 : Shape := ⟨2, ![2048, 256]⟩
abbrev S8x256x128 : Shape := ⟨3, ![8, 256, 128]⟩
abbrev S2048x128 : Shape := ⟨2, ![2048, 128]⟩
abbrev S1x256x128 : Shape := ⟨3, ![1, 256, 128]⟩
abbrev S256x128 : Shape := ⟨2, ![256, 128]⟩

abbrev nBuf : Space → Nat
  | .hbm => 5
  | .vmem => 5
  | .smem => 0
  | _ => 0

abbrev bufTy : (tb : Table) → Fin (tcTables nBuf tb) → BufTy
  | .hbm, ⟨0, _⟩ => ⟨S1x2048x256, .f32⟩
  | .hbm, ⟨1, _⟩ => ⟨S2048x1024, .bf16⟩
  | .hbm, ⟨2, _⟩ => ⟨S2048x256, .f32⟩
  | .hbm, ⟨3, _⟩ => ⟨S2048x256, .bf16⟩
  | .hbm, ⟨4, _⟩ => ⟨S8x256x128, .bf16⟩
  | .local _ .vmem, ⟨0, _⟩ => ⟨S2048x256, .bf16⟩
  | .local _ .vmem, ⟨1, _⟩ => ⟨S2048x128, .bf16⟩
  | .local _ .vmem, ⟨2, _⟩ => ⟨S2048x128, .bf16⟩
  | .local _ .vmem, ⟨3, _⟩ => ⟨S1x256x128, .bf16⟩
  | .local _ .vmem, ⟨4, _⟩ => ⟨S1x256x128, .bf16⟩
  | _, _ => ⟨S1x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S1x2048x256 : Shape := ⟨3, ![1, 2048, 256]⟩
abbrev S2048x1024 : Shape := ⟨2, ![2048, 1024]⟩
abbrev S2048x256 : Shape := ⟨2, ![2048, 256]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x256, .f32⟩
  | .hbm, ⟨1, _⟩ => ⟨S2048x1024, .bf16⟩
  | .hbm, ⟨2, _⟩ => ⟨S2048x256, .f32⟩
  | .hbm, ⟨3, _⟩ => ⟨S_, .f32⟩
  | .hbm, ⟨4, _⟩ => ⟨S256x1024, .f32⟩
  | .hbm, ⟨5, _⟩ => ⟨S2048x1024, .f32⟩
  | .hbm, ⟨6, _⟩ => ⟨S2048x1024, .f32⟩
  | .hbm, ⟨7, _⟩ => ⟨S1024x256, .f32⟩
  | .hbm, ⟨8, _⟩ => ⟨S256x1024, .f32⟩
  | .hbm, ⟨9, _⟩ => ⟨S256x8x128, .f32⟩
  | .hbm, ⟨10, _⟩ => ⟨S8x256x128, .f32⟩
  | .hbm, ⟨11, _⟩ => ⟨S8x256x128, .bf16⟩
  | _, _ => ⟨S1x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S1x2048x1024 : Shape := ⟨3, ![1, 2048, 1024]⟩
abbrev S1x1024 : Shape := ⟨2, ![1, 1024]⟩
abbrev S1x1024x2048 : Shape := ⟨3, ![1, 1024, 2048]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S2048x1024 : Shape := ⟨2, ![2048, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S8x128x128 : Shape := ⟨3, ![8, 128, 128]⟩
abbrev S8x128 : Shape := ⟨2, ![8, 128]⟩
abbrev S128x8 : Shape := ⟨2, ![128, 8]⟩
abbrev S1024x1024 : Shape := ⟨2, ![1024, 1024]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 21
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x2048, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x1024x1024, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | .hbm, ⟨12, _⟩ => ⟨S8x128x128, .f32⟩
  | .hbm, ⟨13, _⟩ => ⟨S8x128, .f32⟩
  | .hbm, ⟨14, _⟩ => ⟨S128x8, .f32⟩
  | .hbm, ⟨15, _⟩ => ⟨S1024x1024, .f32⟩
  | .hbm, ⟨16, _⟩ => ⟨S1024x1024, .bf16⟩
  | .hbm, ⟨17, _⟩ => ⟨S2048x1024, .f32⟩
  | .hbm, ⟨18, _⟩ => ⟨S2048x2048, .f32⟩
  | .hbm, ⟨19, _⟩ => ⟨S2048x1024, .bf16⟩
  | .hbm, ⟨20, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024x256, .bf16⟩
  | .local _ .vmem, ⟨4, _⟩ => ⟨S1x1024, .f32⟩
  | .local _ .vmem, ⟨5, _⟩ => ⟨S8x128x128, .f32⟩
  | .local _ .vmem, ⟨6, _⟩ => ⟨S128x8, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel15Ideal.lean ====
variable {F : FTy → Type} [FloatOps F] [Named F]
def κ : String → Option EReal := fun
  | "gelu_cubic" => some ((8943 / 200000 : ℝ) : EReal)
  | "gelu_cubic_slope" => some ((26829 / 200000 : ℝ) : EReal)
  | _ => none
-- ==== Reference15Ideal.lean ====
abbrev S1x2048x1024 : Shape := ⟨3, ![1, 2048, 1024]⟩
abbrev S1x1024 : Shape := ⟨2, ![1, 1024]⟩
abbrev S1x1024x2048 : Shape := ⟨3, ![1, 1024, 2048]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x2048 : Shape := ⟨2, ![1024, 2048]⟩
abbrev S1x2048x2048 : Shape := ⟨3, ![1, 2048, 2048]⟩
abbrev S8x128x128 : Shape := ⟨3, ![8, 128, 128]⟩
abbrev S8x128 : Shape := ⟨2, ![8, 128]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1024x1024 : Shape := ⟨2, ![1024, 1024]⟩
abbrev S2048x1024 : Shape := ⟨2, ![2048, 1024]⟩
abbrev S2048x2048 : Shape := ⟨2, ![2048, 2048]⟩

abbrev nBuf : Space → Nat
  | .hbm => 98
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x2048, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x1024x1024, .f32⟩
  | .hbm, ⟨7, _⟩ => ⟨S1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1024, .f32⟩
  | .hbm, ⟨20, _⟩ => ⟨S1x2048x1024, .f32⟩
  | .hbm, ⟨21, _⟩ => ⟨S1x1x1024, .f32⟩
  | .hbm, ⟨22, _⟩ => ⟨S1x2048x1024, .f32⟩
  | .hbm, ⟨23, _⟩ => ⟨S1x2048x1024, .f32⟩
  | .hbm, ⟨24, _⟩ => ⟨S1024x2048, .f32⟩
  | .hbm, ⟨25, _⟩ => ⟨S1x2048x2048, .f32⟩
  | .hbm, ⟨26, _⟩ => ⟨S1024, .f32⟩
  | .hbm, ⟨27, _⟩ => ⟨S8x128x128, .f32⟩
  | .hbm, ⟨28, _⟩ => ⟨S8x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x2048x2048, .f32⟩
  | .hbm, ⟨33, _⟩ => ⟨S1x2048x2048, .f32⟩
  | .hbm, ⟨34, _⟩ => ⟨S1x2048x2048, .f32⟩
  | .hbm, ⟨35, _⟩ => ⟨S1x2048x2048, .f32⟩
  | .hbm, ⟨36, _⟩ => ⟨S1x2048x2048, .f32⟩
  | .hbm, ⟨37, _⟩ => ⟨S_, .f32⟩
  | .hbm, ⟨38, _⟩ => ⟨S1x2048x2048, .f32⟩
  | .hbm, ⟨39, _⟩ => ⟨S1x2048x2048, .f32⟩
  | .hbm, ⟨40, _⟩ => ⟨S1x2048x2048, .f32⟩
  | .hbm, ⟨41, _⟩ => ⟨S_, .f32⟩
  | .hbm, ⟨42, _⟩ => ⟨S1x2048x2048, .f32⟩
  | .hbm, ⟨43, _⟩ => ⟨S1x2048x2048, .f32⟩
  | .hbm, ⟨44, _⟩ => ⟨S_, .f32⟩
  | .hbm, ⟨45, _⟩ => ⟨S1x2048x2048, .f32⟩
  | .hbm, ⟨46, _⟩ => ⟨S1x2048x2048, .f32⟩
  | .hbm, ⟨47, _⟩ => ⟨S1x2048x2048, .f32⟩
  | .hbm, ⟨48, _⟩ => ⟨S1x2048x1024, .f32⟩
  | .hbm, ⟨49, _⟩ => ⟨S1x2048x1024, .f32⟩
  | .hbm, ⟨50, _⟩ => ⟨S1x2048x1024, .f32⟩
  | .hbm, ⟨51, _⟩ => ⟨S_, .f32⟩
  | .hbm, ⟨52, _⟩ => ⟨S1x2048, .f32⟩
  | .hbm, ⟨53, _⟩ => ⟨S1x2048x1, .f32⟩
  | .hbm, ⟨54, _⟩ => ⟨S_, .f32⟩
  | .hbm, ⟨55, _⟩ => ⟨S1x2048x1, .f32⟩
  | .hbm, ⟨56, _⟩ => ⟨S1x2048x1, .f32⟩
  | .hbm, ⟨57, _⟩ => ⟨S_, .f32⟩
  | .hbm, ⟨58, _⟩ => ⟨S1x2048x1, .f32⟩
  | .hbm, ⟨59, _⟩ => ⟨S1x2048x1, .f32⟩
  | .hbm, ⟨60, _⟩ => ⟨S1x2048x1, .f32⟩
  | .hbm, ⟨61, _⟩ => ⟨S1x2048x1024, .f32⟩
  | .hbm, ⟨62, _⟩ => ⟨S1x2048x1024, .f32⟩
  | .hbm, ⟨63, _⟩ => ⟨S1x1x1024, .f32⟩
  | .hbm, ⟨64, _⟩ => ⟨S1x2048x1024, .f32⟩
  | .hbm, ⟨65, _⟩ => ⟨S1x2048x1024, .f32⟩
  | .hbm, ⟨66, _⟩ => ⟨S1x16x128x8x128, .f32⟩
  | .hbm, ⟨67, _⟩ => ⟨S_, .f32⟩
  | .hbm, ⟨68, _⟩ => ⟨S128x128, .f32⟩
  | .hbm, ⟨69, _⟩ => ⟨S128x128, .i32⟩
  | .hbm, ⟨70, _⟩ => ⟨S_, .i32⟩
  | .hbm, ⟨71, _⟩ => ⟨S128x128, .i32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S_, .f32⟩
  | .hbm, ⟨76, _⟩ => ⟨S128x128, .f32⟩
  | .hbm, ⟨77, _⟩ => ⟨S128x128, .f32⟩
  | .hbm, ⟨78, _⟩ => ⟨S1x128x128, .f32⟩
  | .hbm, ⟨79, _⟩ => ⟨S8x128x128, .f32⟩
  | .hbm, ⟨80, _⟩ => ⟨S8x128x128, .f32⟩
  | .hbm, ⟨81, _⟩ => ⟨S8x1x16x128x128, .f32⟩
  | .hbm, ⟨82, _⟩ => ⟨S1x16x128x8x128, .f32⟩
  | .hbm, ⟨83, _⟩ => ⟨S128x8, .f32⟩
  | .hbm, ⟨84, _⟩ => ⟨S1x1x128x8x1, .f32⟩
  | .hbm, ⟨85, _⟩ => ⟨S1x16x128x8x128, .f32⟩
  | .hbm, ⟨86, _⟩ => ⟨S1x16x128x8x128, .f32⟩
  | .hbm, ⟨87, _⟩ => ⟨S1x2048x1024, .f32⟩
  | .hbm, ⟨88, _⟩ => ⟨S1x2048x1024, .f32⟩
  | .hbm, ⟨89, _⟩ => ⟨S1024x1024, .f32⟩
  | .hbm, ⟨90, _⟩ => ⟨S1x2048x1024, .f32⟩
  | .hbm, ⟨91, _⟩ => ⟨S1x2048x1024, .f32⟩
  | .hbm, ⟨92, _⟩ => ⟨S2048x1024, .f32⟩
  | .hbm, ⟨93, _⟩ => ⟨S2048x2048, .f32⟩
  | .hbm, ⟨94, _⟩ => ⟨S2048x1024, .f32⟩
  | .hbm, ⟨95, _⟩ => ⟨S2048x1024, .bf16⟩
  | .hbm, ⟨96, _⟩ => ⟨S2048x1024, .f32⟩
  | .hbm, ⟨97, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_cst : Ref sig .tc := ⟨.hbm, 75, rfl⟩
abbrev main_call0_v5 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== Kernel16.lean ====
abbrev S1x2048x1024 : Shape := ⟨3, ![1, 2048, 1024]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S1x1024x1024 : Shape := ⟨3, ![1, 1024, 1024]⟩
abbrev S1024x2048 : Shape := ⟨2, ![1024, 2048]⟩
abbrev S1x1x1x64 : Shape := ⟨4, ![1, 1, 1, 64]⟩
abbrev S1x1x16x64 : Shape := ⟨4, ![1, 1, 16, 64]⟩
abbrev S2048x1024 : Shape := ⟨2, ![2048, 1024]⟩
abbrev S1024x1024 : Shape := ⟨2, ![1024, 1024]⟩
abbrev S1024x8x256 : Shape := ⟨3, ![1024, 8, 256]⟩
abbrev S8x1024x256 : Shape := ⟨3, ![8, 1024, 256]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S128x128 : Shape := ⟨2, ![128, 128]⟩
abbrev S256x128 : Shape := ⟨2, ![256, 128]⟩
abbrev S1x128 : Shape := ⟨2, ![1, 128]⟩

abbrev nBuf : Space → Nat
  | .hbm => 28
  | .vmem => 22
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1024, .f32⟩
  | .hbm, ⟨3, _⟩ => ⟨S1x64, .f32⟩
  | .hbm, ⟨4, _⟩ => ⟨S64, .f32⟩
  | .hbm, ⟨5, _⟩ => ⟨S1x1024x1024, .f32⟩
  | .hbm, ⟨6, _⟩ => ⟨S1024x2048, .f32⟩
  | .hbm, ⟨7, _⟩ => ⟨S1x64, .f32⟩
  | .hbm, ⟨8, _⟩ => ⟨S1x1x1x64, .f32⟩
  | .hbm, ⟨9, _⟩ => ⟨S1x1x16x64, .f32⟩
  | .hbm, ⟨10, _⟩ => ⟨S1x1024, .f32⟩
  | .hbm, ⟨11, _⟩ => ⟨S1x1x1x64, .f32⟩
  | .hbm, ⟨12, _⟩ => ⟨S1x1x16x64, .f32⟩
  | .hbm, ⟨13, _⟩ => ⟨S1x1024, .f32⟩
  | .hbm, ⟨14, _⟩ => ⟨S2048x1024, .f32⟩
  | .hbm, ⟨15, _⟩ => ⟨S1x1024, .f32⟩
  | .hbm, ⟨16, _⟩ => ⟨S1024x1024, .f32⟩
  | .hbm, ⟨17, _⟩ => ⟨S1024x1024, .bf16⟩
  | .hbm, ⟨18, _⟩ => ⟨S1024x2048, .bf16⟩
  | .hbm, ⟨19, _⟩ => ⟨S1024x8x256, .bf16⟩
  | .hbm, ⟨20, _⟩ => ⟨S8x1024x256, .bf16⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .f32⟩
  | .hbm, ⟨25, _⟩ => ⟨S2048x1024, .f32⟩
  | .hbm, ⟨26, _⟩ => ⟨S2048x1024, .bf16⟩
  | .hbm, ⟨27, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S8x1024x256, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev main_v14_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference16Ideal.lean ====
abbrev S1x2048x1024 : Shape := ⟨3, ![1, 2048, 1024]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S1x1024x1024 : Shape := ⟨3, ![1, 1024, 1024]⟩
abbrev S1024x2048 : Shape := ⟨2, ![1024, 2048]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x1024 : Shape := ⟨2, ![1024, 1024]⟩
abbrev S1x2048x16x64 : Shape := ⟨4, ![1, 2048, 16, 64]⟩
abbrev S1x2048x16 : Shape := ⟨3, ![1, 2048, 16]⟩
abbrev S1x2048x16x1 : Shape := ⟨4, ![1, 2048, 16, 1]⟩
abbrev S1x1x1x64 : Shape := ⟨4, ![1, 1, 1, 64]⟩
abbrev S1x2048x2048 : Shape := ⟨3, ![1, 2048, 2048]⟩
abbrev S2048x1024 : Shape := ⟨2, ![2048, 1024]⟩

abbrev nBuf : Space → Nat
  | .hbm => 95
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1024, .f32⟩
  | .hbm, ⟨3, _⟩ => ⟨S1x64, .f32⟩
  | .hbm, ⟨4, _⟩ => ⟨S64, .f32⟩
  | .hbm, ⟨5, _⟩ => ⟨S1x1024x1024, .f32⟩
  | .hbm, ⟨6, _⟩ => ⟨S1024x2048, .f32⟩
  | .hbm, ⟨7, _⟩ => ⟨S1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1024, .f32⟩
  | .hbm, ⟨20, _⟩ => ⟨S1x2048x1024, .f32⟩
  | .hbm, ⟨21, _⟩ => ⟨S1x1x1024, .f32⟩
  | .hbm, ⟨22, _⟩ => ⟨S1x2048x1024, .f32⟩
  | .hbm, ⟨23, _⟩ => ⟨S1x2048x1024, .f32⟩
  | .hbm, ⟨24, _⟩ => ⟨S1024x1024, .f32⟩
  | .hbm, ⟨25, _⟩ => ⟨S1x2048x1024, .f32⟩
  | .hbm, ⟨26, _⟩ => ⟨S1x2048x16x64, .f32⟩
  | .hbm, ⟨27, _⟩ => ⟨S64, .f32⟩
  | .hbm, ⟨28, _⟩ => ⟨S1x2048x16x64, .f32⟩
  | .hbm, ⟨29, _⟩ => ⟨S_, .f32⟩
  | .hbm, ⟨30, _⟩ => ⟨S1x2048x16, .f32⟩
  | .hbm, ⟨31, _⟩ => ⟨S1x2048x16x1, .f32⟩
  | .hbm, ⟨32, _⟩ => ⟨S_, .f32⟩
  | .hbm, ⟨33, _⟩ => ⟨S1x2048x16x1, .f32⟩
  | .hbm, ⟨34, _⟩ => ⟨S1x2048x16x1, .f32⟩
  | .hbm, ⟨35, _⟩ => ⟨S_, .f32⟩
  | .hbm, ⟨36, _⟩ => ⟨S1x2048x16x1, .f32⟩
  | .hbm, ⟨37, _⟩ => ⟨S1x2048x16x1, .f32⟩
  | .hbm, ⟨38, _⟩ => ⟨S1x2048x16x1, .f32⟩
  | .hbm, ⟨39, _⟩ => ⟨S1x2048x16x64, .f32⟩
  | .hbm, ⟨40, _⟩ => ⟨S1x2048x16x64, .f32⟩
  | .hbm, ⟨41, _⟩ => ⟨S1x1x1x64, .f32⟩
  | .hbm, ⟨42, _⟩ => ⟨S1x2048x16x64, .f32⟩
  | .hbm, ⟨43, _⟩ => ⟨S1x2048x16x64, .f32⟩
  | .hbm, ⟨44, _⟩ => ⟨S_, .f32⟩
  | .hbm, ⟨45, _⟩ => ⟨S1x2048x16x64, .f32⟩
  | .hbm, ⟨46, _⟩ => ⟨S1x2048x16x64, .f32⟩
  | .hbm, ⟨47, _⟩ => ⟨S1x2048x1024, .f32⟩
  | .hbm, ⟨48, _⟩ => ⟨S_, .f32⟩
  | .hbm, ⟨49, _⟩ => ⟨S1x2048, .f32⟩
  | .hbm, ⟨50, _⟩ => ⟨S1x2048x1, .f32⟩
  | .hbm, ⟨51, _⟩ => ⟨S_, .f32⟩
  | .hbm, ⟨52, _⟩ => ⟨S1x2048x1, .f32⟩
  | .hbm, ⟨53, _⟩ => ⟨S1x2048x1, .f32⟩
  | .hbm, ⟨54, _⟩ => ⟨S_, .f32⟩
  | .hbm, ⟨55, _⟩ => ⟨S1x2048x1, .f32⟩
  | .hbm, ⟨56, _⟩ => ⟨S1x2048x1, .f32⟩
  | .hbm, ⟨57, _⟩ => ⟨S1x2048x1, .f32⟩
  | .hbm, ⟨58, _⟩ => ⟨S1x2048x1024, .f32⟩
  | .hbm, ⟨59, _⟩ => ⟨S1x2048x1024, .f32⟩
  | .hbm, ⟨60, _⟩ => ⟨S1x1x1024, .f32⟩
  | .hbm, ⟨61, _⟩ => ⟨S1x2048x1024, .f32⟩
  | .hbm, ⟨62, _⟩ => ⟨S1x2048x1024, .f32⟩
  | .hbm, ⟨63, _⟩ => ⟨S1x2048x2048, .f32⟩
  | .hbm, ⟨64, _⟩ => ⟨S1x2048x1024, .f32⟩
  | .hbm, ⟨65, _⟩ => ⟨S1x2048x1024, .f32⟩
  | .hbm, ⟨66, _⟩ => ⟨S1x2048x16x64, .f32⟩
  | .hbm, ⟨67, _⟩ => ⟨S1x2048x16x64, .f32⟩
  | .hbm, ⟨68, _⟩ => ⟨S_, .f32⟩
  | .hbm, ⟨69, _⟩ => ⟨S1x2048x16, .f32⟩
  | .hbm, ⟨70, _⟩ => ⟨S1x2048x16x1, .f32⟩
  | .hbm, ⟨71, _⟩ => ⟨S_, .f32⟩
  | .hbm, ⟨72, _⟩ => ⟨S1x2048x16x1, .f32⟩
  | .hbm, ⟨73, _⟩ => ⟨S1x2048x16x1, .f32⟩
  | .hbm, ⟨74, _⟩ => ⟨S_, .f32⟩
  | .hbm, ⟨75, _⟩ => ⟨S1x2048x16x1, .f32⟩
  | .hbm, ⟨76, _⟩ => ⟨S1x2048x16x1, .f32⟩
  | .hbm, ⟨77, _⟩ => ⟨S1x2048x16x1, .f32⟩
  | .hbm, ⟨78, _⟩ => ⟨S1x2048x16x64, .f32⟩
  | .hbm, ⟨79, _⟩ => ⟨S1x2048x16x64, .f32⟩
  | .hbm, ⟨80, _⟩ => ⟨S1x1x1x64, .f32⟩
  | .hbm, ⟨81, _⟩ => ⟨S1x2048x16x64, .f32⟩
  | .hbm, ⟨82, _⟩ => ⟨S1x2048x16x64, .f32⟩
  | .hbm, ⟨83, _⟩ => ⟨S2048x1024, .f32⟩
  | .hbm, ⟨84, _⟩ => ⟨S2048x1024, .bf16⟩
  | .hbm, ⟨85, _⟩ => ⟨S2048x1024, .f32⟩
  | .hbm, ⟨86, _⟩ => ⟨S2048x1024, .bf16⟩
  | .hbm, ⟨87, _⟩ => ⟨S2048x1024, .f32⟩
  | .hbm, ⟨88, _⟩ => ⟨S2048x1024, .bf16⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .bf16⟩
  | .hbm, ⟨93, _⟩ => ⟨S2048x1024, .f32⟩
  | .hbm, ⟨94, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Kernel17.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel17Ideal.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S1024x256 : Shape := ⟨2, ![1024, 256]⟩
abbrev S8x1024x256 : Shape := ⟨3, ![8, 1024, 256]⟩
abbrev S512x256 : Shape := ⟨2, ![512, 256]⟩
abbrev S8x512x256 : Shape := ⟨3, ![8, 512, 256]⟩
abbrev S1x512x256 : Shape := ⟨3, ![1, 512, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x512x256, .bf16⟩
  | .local _ .vmem, ⟨7, _⟩ => ⟨S8x512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel18Ideal.lean ====
abbrev S1024x256 : Shape := ⟨2, ![1024, 256]⟩
abbrev S8x1024x256 : Shape := ⟨3, ![8, 1024, 256]⟩
abbrev S512x256 : Shape := ⟨2, ![512, 256]⟩
abbrev S8x512x256 : Shape := ⟨3, ![8, 512, 256]⟩
abbrev S1x512x256 : Shape := ⟨3, ![1, 512, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x512x256, .bf16⟩
  | .local _ .vmem, ⟨7, _⟩ => ⟨S8x512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S1024x256 : Shape := ⟨2, ![1024, 256]⟩
abbrev S8x1024x256 : Shape := ⟨3, ![8, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S1024x128 : Shape := ⟨2, ![1024, 128]⟩
abbrev S8x1024x128 : Shape := ⟨3, ![8, 1024, 128]⟩
abbrev S1x1024x128 : Shape := ⟨3, ![1, 1024, 128]⟩

abbrev nBuf : Space → Nat
  | .hbm => 8
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S8x1024x128, .bf16⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S8x1024x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel19Ideal.lean ====
abbrev S1024x128 : Shape := ⟨2, ![1024, 128]⟩
abbrev S8x1024x128 : Shape := ⟨3, ![8, 1024, 128]⟩
abbrev S1x1024x128 : Shape := ⟨3, ![1, 1024, 128]⟩

abbrev nBuf : Space → Nat
  | .hbm => 8
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S8x1024x128, .bf16⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S8x1024x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S1024x128 : Shape := ⟨2, ![1024, 128]⟩
abbrev S8x1024x128 : Shape := ⟨3, ![8, 1024, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S8x1024x128, .bf16⟩
  | .hbm, ⟨4, _⟩ => ⟨S8x1024x128, .f32⟩
  | .hbm, ⟨5, _⟩ => ⟨S_, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S_, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S_, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S_, .f32⟩
  | .hbm, ⟨26, _⟩ => ⟨S1024x128, .f32⟩
  | .hbm, ⟨27, _⟩ => ⟨S1024x128, .f32⟩
  | .hbm, ⟨28, _⟩ => ⟨S1024x128, .f32⟩
  | .hbm, ⟨29, _⟩ => ⟨S_, .f32⟩
  | .hbm, ⟨30, _⟩ => ⟨S1024x128, .f32⟩
  | .hbm, ⟨31, _⟩ => ⟨S1024x128, .f32⟩
  | .hbm, ⟨32, _⟩ => ⟨S1024x128, .f32⟩
  | .hbm, ⟨33, _⟩ => ⟨S_, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S_, .f32⟩
  | .hbm, ⟨38, _⟩ => ⟨S1024x128, .f32⟩
  | .hbm, ⟨39, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S96x128 : Shape := ⟨2, ![96, 128]⟩
abbrev S8x96x128 : Shape := ⟨3, ![8, 96, 128]⟩
abbrev S1x96x128 : Shape := ⟨3, ![1, 96, 128]⟩

abbrev nBuf : Space → Nat
  | .hbm => 8
  | .vmem => 8
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S8x96x128, .f32⟩
  | .hbm, ⟨4, _⟩ => ⟨S96x128, .f32⟩
  | .hbm, ⟨5, _⟩ => ⟨S96x128, .f32⟩
  | .hbm, ⟨6, _⟩ => ⟨S96x128, .f32⟩
  | .hbm, ⟨7, _⟩ => ⟨S96x128, .f32⟩
  | .local _ .vmem, ⟨0, _⟩ => ⟨S96x128, .f32⟩
  | .local _ .vmem, ⟨1, _⟩ => ⟨S96x128, .f32⟩
  | .local _ .vmem, ⟨2, _⟩ => ⟨S96x128, .f32⟩
  | .local _ .vmem, ⟨3, _⟩ => ⟨S8x96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | .local _ .vmem, ⟨7, _⟩ => ⟨S96x128, .f32⟩
  | _, _ => ⟨S96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel20Ideal.lean ====
abbrev S96x128 : Shape := ⟨2, ![96, 128]⟩
abbrev S8x96x128 : Shape := ⟨3, ![8, 96, 128]⟩
abbrev S1x96x128 : Shape := ⟨3, ![1, 96, 128]⟩

abbrev nBuf : Space → Nat
  | .hbm => 8
  | .vmem => 8
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S8x96x128, .f32⟩
  | .hbm, ⟨4, _⟩ => ⟨S96x128, .f32⟩
  | .hbm, ⟨5, _⟩ => ⟨S96x128, .f32⟩
  | .hbm, ⟨6, _⟩ => ⟨S96x128, .f32⟩
  | .hbm, ⟨7, _⟩ => ⟨S96x128, .f32⟩
  | .local _ .vmem, ⟨0, _⟩ => ⟨S96x128, .f32⟩
  | .local _ .vmem, ⟨1, _⟩ => ⟨S96x128, .f32⟩
  | .local _ .vmem, ⟨2, _⟩ => ⟨S96x128, .f32⟩
  | .local _ .vmem, ⟨3, _⟩ => ⟨S8x96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | .local _ .vmem, ⟨7, _⟩ => ⟨S96x128, .f32⟩
  | _, _ => ⟨S96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S96x128 : Shape := ⟨2, ![96, 128]⟩
abbrev S8x96x128 : Shape := ⟨3, ![8, 96, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S8x96x128, .f32⟩
  | .hbm, ⟨4, _⟩ => ⟨S_, .f32⟩
  | .hbm, ⟨5, _⟩ => ⟨S96x128, .f32⟩
  | .hbm, ⟨6, _⟩ => ⟨S_, .f32⟩
  | .hbm, ⟨7, _⟩ => ⟨S96x128, .f32⟩
  | .hbm, ⟨8, _⟩ => ⟨S96x128, .f32⟩
  | .hbm, ⟨9, _⟩ => ⟨S_, .f32⟩
  | .hbm, ⟨10, _⟩ => ⟨S96x128, .f32⟩
  | .hbm, ⟨11, _⟩ => ⟨S96x128, .f32⟩
  | .hbm, ⟨12, _⟩ => ⟨S96x128, .f32⟩
  | .hbm, ⟨13, _⟩ => ⟨S_, .f32⟩
  | .hbm, ⟨14, _⟩ => ⟨S96x128, .f32⟩
  | .hbm, ⟨15, _⟩ => ⟨S96x128, .f32⟩
  | .hbm, ⟨16, _⟩ => ⟨S96x128, .f32⟩
  | .hbm, ⟨17, _⟩ => ⟨S_, .f32⟩
  | .hbm, ⟨18, _⟩ => ⟨S96x128, .f32⟩
  | .hbm, ⟨19, _⟩ => ⟨S96x128, .f32⟩
  | .hbm, ⟨20, _⟩ => ⟨S96x128, .f32⟩
  | .hbm, ⟨21, _⟩ => ⟨S_, .f32⟩
  | .hbm, ⟨22, _⟩ => ⟨S96x128, .f32⟩
  | .hbm, ⟨23, _⟩ => ⟨S96x128, .f32⟩
  | .hbm, ⟨24, _⟩ => ⟨S_, .f32⟩
  | .hbm, ⟨25, _⟩ => ⟨S96x128, .f32⟩
  | .hbm, ⟨26, _⟩ => ⟨S96x128, .f32⟩
  | .hbm, ⟨27, _⟩ => ⟨S96x128, .f32⟩
  | .hbm, ⟨28, _⟩ => ⟨S_, .f32⟩
  | .hbm, ⟨29, _⟩ => ⟨S96x128, .f32⟩
  | .hbm, ⟨30, _⟩ => ⟨S96x128, .f32⟩
  | .hbm, ⟨31, _⟩ => ⟨S96x128, .f32⟩
  | .hbm, ⟨32, _⟩ => ⟨S_, .f32⟩
  | .hbm, ⟨33, _⟩ => ⟨S96x128, .f32⟩
  | .hbm, ⟨34, _⟩ => ⟨S96x128, .f32⟩
  | .hbm, ⟨35, _⟩ => ⟨S96x128, .f32⟩
  | .hbm, ⟨36, _⟩ => ⟨S_, .f32⟩
  | .hbm, ⟨37, _⟩ => ⟨S96x128, .f32⟩
  | .hbm, ⟨38, _⟩ => ⟨S96x128, .f32⟩
  | _, _ => ⟨S96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S2x1024x512 : Shape := ⟨3, ![2, 1024, 512]⟩
abbrev S4x1024x512 : Shape := ⟨3, ![4, 1024, 512]⟩
abbrev S8x1024x512 : Shape := ⟨3, ![8, 1024, 512]⟩
abbrev S1x256x512 : Shape := ⟨3, ![1, 256, 512]⟩
abbrev S4x256x512 : Shape := ⟨3, ![4, 256, 512]⟩
abbrev S8x256x512 : Shape := ⟨3, ![8, 256, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S4x1024x512, .bf16⟩
  | .hbm, ⟨4, _⟩ => ⟨S8x1024x512, .bf16⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S4x256x512, .bf16⟩
  | .local _ .vmem, ⟨7, _⟩ => ⟨S4x256x512, .bf16⟩
  | .local _ .vmem, ⟨8, _⟩ => ⟨S8x256x512, .bf16⟩
  | .local _ .vmem, ⟨9, _⟩ => ⟨S8x256x512, .bf16⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel21Ideal.lean ====
abbrev S2x1024x512 : Shape := ⟨3, ![2, 1024, 512]⟩
abbrev S4x1024x512 : Shape := ⟨3, ![4, 1024, 512]⟩
abbrev S8x1024x512 : Shape := ⟨3, ![8, 1024, 512]⟩
abbrev S1x256x512 : Shape := ⟨3, ![1, 256, 512]⟩
abbrev S4x256x512 : Shape := ⟨3, ![4, 256, 512]⟩
abbrev S8x256x512 : Shape := ⟨3, ![8, 256, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S4x1024x512, .bf16⟩
  | .hbm, ⟨4, _⟩ => ⟨S8x1024x512, .bf16⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S4x256x512, .bf16⟩
  | .local _ .vmem, ⟨7, _⟩ => ⟨S4x256x512, .bf16⟩
  | .local _ .vmem, ⟨8, _⟩ => ⟨S8x256x512, .bf16⟩
  | .local _ .vmem, ⟨9, _⟩ => ⟨S8x256x512, .bf16⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference21Ideal.lean ====
abbrev S2x1024x512 : Shape := ⟨3, ![2, 1024, 512]⟩
abbrev S4x1024x512 : Shape := ⟨3, ![4, 1024, 512]⟩
abbrev S8x1024x512 : Shape := ⟨3, ![8, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S4x1024x512, .bf16⟩
  | .hbm, ⟨4, _⟩ => ⟨S8x1024x512, .bf16⟩
  | .hbm, ⟨5, _⟩ => ⟨S4x1024x512, .f32⟩
  | .hbm, ⟨6, _⟩ => ⟨S_, .f32⟩
  | .hbm, ⟨7, _⟩ => ⟨S1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel22.lean ====
abbrev S2x512x1024 : Shape := ⟨3, ![2, 512, 1024]⟩
abbrev S4x512x1024 : Shape := ⟨3, ![4, 512, 1024]⟩
abbrev S8x512x1024 : Shape := ⟨3, ![8, 512, 1024]⟩
abbrev S1x128x1024 : Shape := ⟨3, ![1, 128, 1024]⟩
abbrev S4x128x1024 : Shape := ⟨3, ![4, 128, 1024]⟩
abbrev S8x128x1024 : Shape := ⟨3, ![8, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S4x512x1024, .bf16⟩
  | .hbm, ⟨4, _⟩ => ⟨S8x512x1024, .bf16⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S4x128x1024, .bf16⟩
  | .local _ .vmem, ⟨7, _⟩ => ⟨S4x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel22Ideal.lean ====
abbrev S2x512x1024 : Shape := ⟨3, ![2, 512, 1024]⟩
abbrev S4x512x1024 : Shape := ⟨3, ![4, 512, 1024]⟩
abbrev S8x512x1024 : Shape := ⟨3, ![8, 512, 1024]⟩
abbrev S1x128x1024 : Shape := ⟨3, ![1, 128, 1024]⟩
abbrev S4x128x1024 : Shape := ⟨3, ![4, 128, 1024]⟩
abbrev S8x128x1024 : Shape := ⟨3, ![8, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S4x512x1024, .bf16⟩
  | .hbm, ⟨4, _⟩ => ⟨S8x512x1024, .bf16⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S4x128x1024, .bf16⟩
  | .local _ .vmem, ⟨7, _⟩ => ⟨S4x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference22Ideal.lean ====
abbrev S2x512x1024 : Shape := ⟨3, ![2, 512, 1024]⟩
abbrev S4x512x1024 : Shape := ⟨3, ![4, 512, 1024]⟩
abbrev S8x512x1024 : Shape := ⟨3, ![8, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S4x512x1024, .bf16⟩
  | .hbm, ⟨4, _⟩ => ⟨S8x512x1024, .bf16⟩
  | .hbm, ⟨5, _⟩ => ⟨S4x512x1024, .f32⟩
  | .hbm, ⟨6, _⟩ => ⟨S_, .f32⟩
  | .hbm, ⟨7, _⟩ => ⟨S512x1024, .f32⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S1x512x1024, .f32⟩
  | .hbm, ⟨12, _⟩ => ⟨S1x512x1024, .f32⟩
  | .hbm, ⟨13, _⟩ => ⟨S2x512x1024, .f32⟩
  | .hbm, ⟨14, _⟩ => ⟨S_, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | .hbm, ⟨43, _⟩ => ⟨S2x512x1024, .f32⟩
  | .hbm, ⟨44, _⟩ => ⟨S_, .f32⟩
  | .hbm, ⟨45, _⟩ => ⟨S2x512x1024, .f32⟩
  | .hbm, ⟨46, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel23.lean ====
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel23Ideal.lean ====
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference23Ideal.lean ====
abbrev S2x128x1024 : Shape := ⟨3, ![2, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S8x128x1024, .bf16⟩
  | .hbm, ⟨4, _⟩ => ⟨S8x128x1024, .bf16⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel24.lean ====
abbrev S2x256x128 : Shape := ⟨3, ![2, 256, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S2x256x128, .f32⟩
  | .hbm, ⟨1, _⟩ => ⟨S2x256x128, .f32⟩
  | .hbm, ⟨2, _⟩ => ⟨S2x256x128, .f32⟩
  | .hbm, ⟨3, _⟩ => ⟨S8x256x128, .bf16⟩
  | .hbm, ⟨4, _⟩ => ⟨S8x256x128, .bf16⟩
  | .hbm, ⟨5, _⟩ => ⟨S2x256x128, .f32⟩
  | .hbm, ⟨6, _⟩ => ⟨S2x256x128, .f32⟩
  | .hbm, ⟨7, _⟩ => ⟨S2x256x128, .f32⟩
  | .hbm, ⟨8, _⟩ => ⟨S2x256x128, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S2x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference24Ideal.lean ====
abbrev S2x256x128 : Shape := ⟨3, ![2, 256, 128]⟩
abbrev S8x256x128 : Shape := ⟨3, ![8, 256, 128]⟩
abbrev S_ : Shape := ⟨0, ![]⟩
abbrev S256x128 : Shape := ⟨2, ![256, 128]⟩
abbrev S1x256x128 : Shape := ⟨3, ![1, 256, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x256x128, .f32⟩
  | .hbm, ⟨1, _⟩ => ⟨S2x256x128, .f32⟩
  | .hbm, ⟨2, _⟩ => ⟨S2x256x128, .f32⟩
  | .hbm, ⟨3, _⟩ => ⟨S8x256x128, .bf16⟩
  | .hbm, ⟨4, _⟩ => ⟨S8x256x128, .bf16⟩
  | .hbm, ⟨5, _⟩ => ⟨S8x256x128, .f32⟩
  | .hbm, ⟨6, _⟩ => ⟨S_, .f32⟩
  | .hbm, ⟨7, _⟩ => ⟨S256x128, .f32⟩
  | .hbm, ⟨8, _⟩ => ⟨S8x256x128, .f32⟩
  | .hbm, ⟨9, _⟩ => ⟨S_, .f32⟩
  | .hbm, ⟨10, _⟩ => ⟨S256x128, .f32⟩
  | .hbm, ⟨11, _⟩ => ⟨S1x256x128, .f32⟩
  | .hbm, ⟨12, _⟩ => ⟨S1x256x128, .f32⟩
  | .hbm, ⟨13, _⟩ => ⟨S2x256x128, .f32⟩
  | .hbm, ⟨14, _⟩ => ⟨S_, .f32⟩
  | .hbm, ⟨15, _⟩ => ⟨S2x256x128, .f32⟩
  | .hbm, ⟨16, _⟩ => ⟨S2x256x128, .f32⟩
  | .hbm, ⟨17, _⟩ => ⟨S_, .f32⟩
  | .hbm, ⟨18, _⟩ => ⟨S2x256x128, .f32⟩
  | .hbm, ⟨19, _⟩ => ⟨S2x256x128, .f32⟩
  | .hbm, ⟨20, _⟩ => ⟨S2x256x128, .f32⟩
  | .hbm, ⟨21, _⟩ => ⟨S_, .f32⟩
  | .hbm, ⟨22, _⟩ => ⟨S2x256x128, .f32⟩
  | .hbm, ⟨23, _⟩ => ⟨S2x256x128, .f32⟩
  | .hbm, ⟨24, _⟩ => ⟨S2x256x128, .f32⟩
  | .hbm, ⟨25, _⟩ => ⟨S_, .f32⟩
  | .hbm, ⟨26, _⟩ => ⟨S2x256x128, .f32⟩
  | .hbm, ⟨27, _⟩ => ⟨S2x256x128, .f32⟩
  | .hbm, ⟨28, _⟩ => ⟨S2x256x128, .f32⟩
  | .hbm, ⟨29, _⟩ => ⟨S_, .f32⟩
  | .hbm, ⟨30, _⟩ => ⟨S2x256x128, .f32⟩
  | .hbm, ⟨31, _⟩ => ⟨S2x256x128, .f32⟩
  | .hbm, ⟨32, _⟩ => ⟨S_, .f32⟩
  | .hbm, ⟨33, _⟩ => ⟨S2x256x128, .f32⟩
  | .hbm, ⟨34, _⟩ => ⟨S2x256x128, .f32⟩
  | .hbm, ⟨35, _⟩ => ⟨S2x256x128, .f32⟩
  | .hbm, ⟨36, _⟩ => ⟨S_, .f32⟩
  | .hbm, ⟨37, _⟩ => ⟨S2x256x128, .f32⟩
  | .hbm, ⟨38, _⟩ => ⟨S2x256x128, .f32⟩
  | .hbm, ⟨39, _⟩ => ⟨S2x256x128, .f32⟩
  | .hbm, ⟨40, _⟩ => ⟨S_, .f32⟩
  | .hbm, ⟨41, _⟩ => ⟨S2x256x128, .f32⟩
  | .hbm, ⟨42, _⟩ => ⟨S2x256x128, .f32⟩
  | .hbm, ⟨43, _⟩ => ⟨S2x256x128, .f32⟩
  | .hbm, ⟨44, _⟩ => ⟨S_, .f32⟩
  | .hbm, ⟨45, _⟩ => ⟨S2x256x128, .f32⟩
  | .hbm, ⟨46, _⟩ => ⟨S2x256x128, .f32⟩
  | _, _ => ⟨S2x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel25.lean ====
abbrev S2048x1024 : Shape := ⟨2, ![2048, 1024]⟩
abbrev S1x2048x1024 : Shape := ⟨3, ![1, 2048, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x2048x1024, .f32⟩
  | .hbm, ⟨2, _⟩ => ⟨S2048x1024, .f32⟩
  | .hbm, ⟨3, _⟩ => ⟨S2048x1024, .f32⟩
  | .hbm, ⟨4, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference25Ideal.lean ====
abbrev S2048x1024 : Shape := ⟨2, ![2048, 1024]⟩
abbrev S1x2048x1024 : Shape := ⟨3, ![1, 2048, 1024]⟩
abbrev S_ : Shape := ⟨0, ![]⟩
abbrev S2048 : Shape := ⟨1, ![2048]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S2048x1024, .f32⟩
  | .hbm, ⟨25, _⟩ => ⟨S2048x1024, .f32⟩
  | .hbm, ⟨26, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel26.lean ====
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S4x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S4x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel26Ideal.lean ====
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S4x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S4x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S128x1024 : Shape := ⟨2, ![128, 1024]⟩
abbrev S4x128x1024 : Shape := ⟨3, ![4, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S4x128x1024, .bf16⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S1024x256 : Shape := ⟨2, ![1024, 256]⟩
abbrev S4x1024x256 : Shape := ⟨3, ![4, 1024, 256]⟩
abbrev S512x256 : Shape := ⟨2, ![512, 256]⟩
abbrev S4x512x256 : Shape := ⟨3, ![4, 512, 256]⟩
abbrev S1x512x256 : Shape := ⟨3, ![1, 512, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S4x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S4x512x256, .bf16⟩
  | .local _ .vmem, ⟨7, _⟩ => ⟨S4x512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S1024x256 : Shape := ⟨2, ![1024, 256]⟩
abbrev S4x1024x256 : Shape := ⟨3, ![4, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S4x1024x256, .bf16⟩
  | .hbm, ⟨4, _⟩ => ⟨S4x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Runs.lean ====
/-
  From a program's run to its claims: a reference that has no semaphores ends quiet, and two runs with the same result
  compute the same.
-/
module

public import Idealize.ShloMosaic.Lib.Quiescent
public import Idealize.ShloMosaic.Lib.StableHlo.RunHlo

@[expose] public section

namespace Cert.Runs

open Idealize.ShloMosaic Idealize.SL.Sem

variable {nD : Nat} {τ τ' : Topo} {sig sig' : RefSig} {Val : EltTy → Type} {Λ Λ' : Labels}

/-- Of a program without semaphores a run's post leaves the kept arguments, and every counter is zero. -/
theorem quiet {defs : Defs nD τ sig Val Λ} {p : (c : Thread nD τ) → Prog (TpuEff nD τ sig Val Λ c.2) PUnit}
    {s : MemSt nD τ sig Val} {Q K : PUnit × MemSt nD τ sig Val → Dev nD → Prop} (h : sig.nSem + sig.nDmaSem = 0)
    (hK : ∀ r c, Q r c → K r c) (run : θ_run defs p s fun r => ∀ c, Q r c) :
    θ_run defs p s fun r => (∀ c, K r c) ∧ r.2.sem = fun _ => 0 :=
  θ_run_mono run fun r q => ⟨fun c => hK r c (q c), sem_eq_zero_of_no_sems h r.2⟩

/-- Two programs with one result each, whose runs leave the same value `v` there, compute the same. -/
theorem same {X : Dev nD → Type} {defs : Defs nD τ sig Val Λ} {defs' : Defs nD τ' sig' Val Λ'}
    {p : (c : Thread nD τ) → Prog (TpuEff nD τ sig Val Λ c.2) PUnit}
    {p' : (c : Thread nD τ') → Prog (TpuEff nD τ' sig' Val Λ' c.2) PUnit} {s : MemSt nD τ sig Val} {s' : MemSt nD τ' sig' Val}
    {f : PUnit × MemSt nD τ sig Val → (c : Dev nD) → X c} {f' : PUnit × MemSt nD τ' sig' Val → (c : Dev nD) → X c}
    {K : PUnit × MemSt nD τ sig Val → Dev nD → Prop} {K' : PUnit × MemSt nD τ' sig' Val → Dev nD → Prop} {a b : (c : Dev nD) → X c}
    (v : (c : Dev nD) → X c) (ha : ∀ c, a c = v c) (hb : ∀ c, b c = v c)
    (run : θ_run defs p s fun r => ∀ c, f r c = a c ∧ K r c) (run' : θ_run defs' p' s' fun r => ∀ c, f' r c = b c ∧ K' r c) :
    ∃ v : (c : Dev nD) → X c, θ_run defs p s (fun r => ∀ c, f r c = v c ∧ K r c)
      ∧ θ_run defs' p' s' fun r => ∀ c, f' r c = v c ∧ K' r c :=
  ⟨v, θ_run_mono run fun _ q c => ⟨(q c).1.trans (ha c), (q c).2⟩, θ_run_mono run' fun _ q c => ⟨(q c).1.trans (hb c), (q c).2⟩⟩

end Cert.Runs

end
-- ==== Proof.Frames.lean ====
/-
  The claims that say nothing of values: the kernel programs and the references run, keep their arguments and end
  quiet (the generated runs), the ledger's two named constants, and the stated shape facts of the precondition.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Runs
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal.Run
public import Idealize.ShloMosaic.Lib.Quiescent

@[expose] public section

set_option maxRecDepth 16384

noncomputable section

open Idealize.ShloMosaic Idealize.ShloMosaic.TcCoe Idealize.SL.Sem

/-- The shape facts the precondition's operations take. -/
instance Cert.Pre_finite.facts : Cert.Pre_finite.Facts where
  bcast_S_S1x2048x1024 := by decide
  reducesTo_S1x2048x1024_S_d0_1_2 := by decide
  h_S_ := by decide
  bcast_S_S1x1024 := by decide
  reducesTo_S1x1024_S_d0_1 := by decide
  bcast_S_S1x1024x2048 := by decide
  reducesTo_S1x1024x2048_S_d0_1_2 := by decide
  bcast_S_S1x8x128x128 := by decide
  reducesTo_S1x8x128x128_S_d0_1_2_3 := by decide
  bcast_S_S1x8x128 := by decide
  reducesTo_S1x8x128_S_d0_1_2 := by decide
  bcast_S_S1x1024x1024 := by decide
  reducesTo_S1x1024x1024_S_d0_1_2 := by decide

/-- The shape facts the second precondition's operations take. -/
instance Cert.Pre_finite2.facts : Cert.Pre_finite2.Facts where
  bcast_S_S1x2048x1024 := by decide
  reducesTo_S1x2048x1024_S_d0_1_2 := by decide
  h_S_ := by decide
  bcast_S_S1x1024 := by decide
  reducesTo_S1x1024_S_d0_1 := by decide
  bcast_S_S1024x4096 := by decide
  reducesTo_S1024x4096_S_d0_1 := by decide
  bcast_S_S4096x1024 := by decide
  reducesTo_S4096x1024_S_d0_1 := by decide

/-- The shape facts the third precondition's operations take. -/
instance Cert.Pre_finite8.facts : Cert.Pre_finite8.Facts where
  bcast_S_S1x2048x1024 := by decide
  reducesTo_S1x2048x1024_S_d0_1_2 := by decide
  h_S_ := by decide
  bcast_S_S1x2048x256 := by decide
  reducesTo_S1x2048x256_S_d0_1_2 := by decide
  bcast_S_S1x1024 := by decide
  reducesTo_S1x1024_S_d0_1 := by decide
  bcast_S_S1024x1024 := by decide
  reducesTo_S1024x1024_S_d0_1 := by decide
  bcast_S_S256x1024 := by decide
  reducesTo_S256x1024_S_d0_1 := by decide

/-- The shape facts the fourth precondition's operations take. -/
instance Cert.Pre_finite16.facts : Cert.Pre_finite16.Facts where
  bcast_S_S1x1024 := by decide
  reducesTo_S1x1024_S_d0_1 := by decide
  h_S_ := by decide
  bcast_S_S1024 := by decide
  reducesTo_S1024_S_d0 := by decide
  bcast_S_S1x1024x1024 := by decide
  reducesTo_S1x1024x1024_S_d0_1_2 := by decide
  bcast_S_S1024x2048 := by decide
  reducesTo_S1024x2048_S_d0_1 := by decide

namespace Cert.Proof

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  Cert.Runs.quiet (by decide) (fun _ _ q => q.2.2.2.2.2.2) (Cert.ReferenceIdeal.Value.run (F := Ideal) m ρ)
theorem frame_ri_pre : Cert.quiescent_ReferenceIdeal_pre_finite := fun m ρ _ => frame_ri m ρ trivial

theorem frame_r2 : Cert.quiescent_Reference2Ideal := fun m ρ _ =>
  Cert.Runs.quiet (by decide) (fun _ _ q => q.2.2.2.2) (Cert.Reference2Ideal.Value.run (F := Ideal) m ρ)
theorem frame_r3 : Cert.quiescent_Reference3Ideal := fun m ρ _ =>
  Cert.Runs.quiet (by decide) (fun _ _ q => q.2.2.2) (Cert.Reference3Ideal.Value.run (F := Ideal) m ρ)
theorem frame_r4 : Cert.quiescent_Reference4Ideal := fun m ρ _ =>
  Cert.Runs.quiet (by decide) (fun _ _ q => q.2) (Cert.Reference4Ideal.Value.run (F := Ideal) m ρ)
theorem frame_r5 : Cert.quiescent_Reference5Ideal := fun m ρ _ =>
  Cert.Runs.quiet (by decide) (fun _ _ q => q.2) (Cert.Reference5Ideal.Value.run (F := Ideal) m ρ)
theorem frame_r6 : Cert.quiescent_Reference6Ideal := fun m ρ _ =>
  Cert.Runs.quiet (by decide) (fun _ _ q => q.2) (Cert.Reference6Ideal.Value.run (F := Ideal) m ρ)
theorem frame_r7 : Cert.quiescent_Reference7Ideal := fun m ρ _ =>
  Cert.Runs.quiet (by decide) (fun _ _ q => q.2) (Cert.Reference7Ideal.Value.run (F := Ideal) m ρ)
theorem frame_r8 : Cert.quiescent_Reference8Ideal := fun m ρ _ =>
  Cert.Runs.quiet (by decide) (fun _ _ q => q.2.2.2.2) (Cert.Reference8Ideal.Value.run (F := Ideal) m ρ)
theorem frame_r9 : Cert.quiescent_Reference9Ideal := fun m ρ _ =>
  Cert.Runs.quiet (by decide) (fun _ _ q => q.2.2.2.2) (Cert.Reference9Ideal.Value.run (F := Ideal) m ρ)
theorem frame_r10 : Cert.quiescent_Reference10Ideal := fun m ρ _ =>
  Cert.Runs.quiet (by decide) (fun _ _ q => q.2) (Cert.Reference10Ideal.Value.run (F := Ideal) m ρ)
theorem frame_r11 : Cert.quiescent_Reference11Ideal := fun m ρ _ =>
  Cert.Runs.quiet (by decide) (fun _ _ q => q.2) (Cert.Reference11Ideal.Value.run (F := Ideal) m ρ)
theorem frame_r12 : Cert.quiescent_Reference12Ideal := fun m ρ _ =>
  Cert.Runs.quiet (by decide) (fun _ _ q => q.2) (Cert.Reference12Ideal.Value.run (F := Ideal) m ρ)
theorem frame_r13 : Cert.quiescent_Reference13Ideal := fun m ρ _ =>
  Cert.Runs.quiet (by decide) (fun _ _ q => q.2) (Cert.Reference13Ideal.Value.run (F := Ideal) m ρ)
theorem frame_r14 : Cert.quiescent_Reference14Ideal := fun m ρ _ =>
  Cert.Runs.quiet (by decide) (fun _ _ q => q.2) (Cert.Reference14Ideal.Value.run (F := Ideal) m ρ)
theorem frame_r15 : Cert.quiescent_Reference15Ideal := fun m ρ _ =>
  Cert.Runs.quiet (by decide) (fun _ _ q => q.2.2.2.2) (Cert.Reference15Ideal.Value.run (F := Ideal) m ρ)
theorem frame_r16 : Cert.quiescent_Reference16Ideal := fun m ρ _ =>
  Cert.Runs.quiet (by decide) (fun _ _ q => q.2.2.2.2.2.2.2) (Cert.Reference16Ideal.Value.run (F := Ideal) m ρ)
theorem frame_r17 : Cert.quiescent_Reference17Ideal := fun m ρ _ =>
  Cert.Runs.quiet (by decide) (fun _ _ q => q.2.2.2.2) (Cert.Reference17Ideal.Value.run (F := Ideal) m ρ)
theorem frame_r18 : Cert.quiescent_Reference18Ideal := fun m ρ _ =>
  Cert.Runs.quiet (by decide) (fun _ _ q => q.2.2.2.2) (Cert.Reference18Ideal.Value.run (F := Ideal) m ρ)
theorem frame_r19 : Cert.quiescent_Reference19Ideal := fun m ρ _ =>
  Cert.Runs.quiet (by decide) (fun _ _ q => q.2.2.2.2) (Cert.Reference19Ideal.Value.run (F := Ideal) m ρ)
theorem frame_r20 : Cert.quiescent_Reference20Ideal := fun m ρ _ =>
  Cert.Runs.quiet (by decide) (fun _ _ q => q.2.2.2.2) (Cert.Reference20Ideal.Value.run (F := Ideal) m ρ)
theorem frame_r21 : Cert.quiescent_Reference21Ideal := fun m ρ _ =>
  Cert.Runs.quiet (by decide) (fun _ _ q => q.2.2.2.2) (Cert.Reference21Ideal.Value.run (F := Ideal) m ρ)
theorem frame_r22 : Cert.quiescent_Reference22Ideal := fun m ρ _ =>
  Cert.Runs.quiet (by decide) (fun _ _ q => q.2.2.2.2) (Cert.Reference22Ideal.Value.run (F := Ideal) m ρ)
theorem frame_r23 : Cert.quiescent_Reference23Ideal := fun m ρ _ =>
  Cert.Runs.quiet (by decide) (fun _ _ q => q.2.2.2.2) (Cert.Reference23Ideal.Value.run (F := Ideal) m ρ)
theorem frame_r24 : Cert.quiescent_Reference24Ideal := fun m ρ _ =>
  Cert.Runs.quiet (by decide) (fun _ _ q => q.2.2.2.2) (Cert.Reference24Ideal.Value.run (F := Ideal) m ρ)
theorem frame_r25 : Cert.quiescent_Reference25Ideal := fun m ρ _ =>
  Cert.Runs.quiet (by decide) (fun _ _ q => q.2.2) (Cert.Reference25Ideal.Value.run (F := Ideal) m ρ)
theorem frame_r26 : Cert.quiescent_Reference26Ideal := fun m ρ _ =>
  Cert.Runs.quiet (by decide) (fun _ _ q => q.2.2.2.2) (Cert.Reference26Ideal.Value.run (F := Ideal) m ρ)
theorem frame_r27 : Cert.quiescent_Reference27Ideal := fun m ρ _ =>
  Cert.Runs.quiet (by decide) (fun _ _ q => q.2.2.2.2) (Cert.Reference27Ideal.Value.run (F := Ideal) m ρ)

theorem preserves15 : Cert.preserves_Kernel15_Kernel15Ideal :=
  IdealRules.named_const.statement Cert.Kernel15Ideal.κ "gelu_cubic" .f32 0x3D372713#32 ((8943 / 200000 : ℝ) : EReal) rfl

theorem preserves : Cert.preserves_Kernel_KernelIdeal :=
  ⟨IdealRules.named_const.statement Cert.KernelIdeal.κ "gelu_cubic" .f32 0x3D372713#32 ((8943 / 200000 : ℝ) : EReal) rfl,
   IdealRules.named_const.statement Cert.KernelIdeal.κ "gelu_cubic_slope" .f32 0x3E095D4F#32 ((26829 / 200000 : ℝ) : EReal) rfl⟩

end Cert.Proof

end
-- ==== Proof.Spec.lean ====
/-
  The mathematics both programs compute, over the reals: the backward pass of one residual gated mixing block,
    y = x + (u · mix(v)) W_out,   (u | v) = gelu(h W_in),   h = rmsnorm(x) · ln,   mix in chunks of 128 rows.
  Tensors are functions of natural numbers (rows and columns), so no bound has to be carried along; a sum over an
  axis of length `n` is a sum over `Fin n` or over `Finset.range n`.
-/
module

public import Mathlib.Analysis.SpecialFunctions.Trigonometric.Basic
public import Mathlib.Analysis.SpecialFunctions.Pow.Real
public import Mathlib.Data.EReal.Operations

@[expose] public section

noncomputable section

namespace Cert.Sgu

/-- The arguments as real tensors: activations `x`, the norm weight `ln`, the input projection `w`, the gate norm's
    weight `gv`, the mixing matrices `ws` and biases `bs`, the output projection `wo`, the incoming gradient `e`. -/
structure In where
  x : ℕ → ℕ → ℝ
  ln : ℕ → ℝ
  w : ℕ → ℕ → ℝ
  gv : ℕ → ℝ
  ws : ℕ → ℕ → ℕ → ℝ
  bs : ℕ → ℕ → ℝ
  wo : ℕ → ℕ → ℝ
  e : ℕ → ℕ → ℝ

/-- The norm's epsilon, the value of its f32 pattern. -/
def eps : ℝ := 8796093 / 8796093022208
/-- The tanh form's outer constant, the value of its f32 pattern. -/
def gc : ℝ := 13386282 / 16777216
/-- The tanh form's cubic coefficient. -/
def kap : ℝ := 8943 / 200000

/-- Mean square of a row plus epsilon. -/
def ms (f : ℕ → ℕ → ℝ) (t : ℕ) : ℝ := (∑ k : Fin 1024, f t k * f t k) / 1024 + eps
/-- Reciprocal root mean square of a row. -/
def rs (f : ℕ → ℕ → ℝ) (t : ℕ) : ℝ := (Real.sqrt (ms f t))⁻¹
/-- A row scaled to unit mean square. -/
def hat (f : ℕ → ℕ → ℝ) (t d : ℕ) : ℝ := f t d * rs f t
/-- The tanh of the tanh form of gelu. -/
def th (a : ℝ) : ℝ := Real.tanh (gc * (a + kap * (a * a * a)))
/-- Gelu in its tanh form. -/
def gelu (a : ℝ) : ℝ := a * (1 / 2 * (1 + th a))
/-- The derivative of `gelu`. -/
def dgelu (a : ℝ) : ℝ := 1 / 2 * (1 + th a) + 1 / 2 * a * (1 - th a * th a) * (gc * (1 + 3 * kap * (a * a)))
/-- The norm's gradient with respect to its operand, of the gradient `dh` of the weighted result with weight `g`. -/
def rmsb (dh f : ℕ → ℕ → ℝ) (g : ℕ → ℝ) (t d : ℕ) : ℝ :=
  rs f t * (dh t d * g d - hat f t d * ((∑ k : Fin 1024, dh t k * g k * hat f t k) / 1024))
/-- The norm's gradient with respect to its weight, over the first `n` rows. -/
def dgam (dh f : ℕ → ℕ → ℝ) (n d : ℕ) : ℝ := ∑ t ∈ Finset.range n, dh t d * hat f t d

theorem eps_pos : 0 < eps := by unfold eps; norm_num
theorem ms_pos (f : ℕ → ℕ → ℝ) (t : ℕ) : 0 < ms f t :=
  add_pos_of_nonneg_of_pos (div_nonneg (Finset.sum_nonneg fun _ _ => mul_self_nonneg _) (by norm_num)) eps_pos
theorem rs_sq (f : ℕ → ℕ → ℝ) (t : ℕ) : rs f t * rs f t = (ms f t)⁻¹ := by
  unfold rs; rw [← mul_inv, Real.mul_self_sqrt (ms_pos f t).le]

namespace In
variable (S : In)

def h (t d : ℕ) : ℝ := hat S.x t d * S.ln d
def z (t n : ℕ) : ℝ := ∑ k : Fin 1024, S.h t k * S.w k n
def u (t d : ℕ) : ℝ := gelu (S.z t d)
def v (t d : ℕ) : ℝ := gelu (S.z t (1024 + d))
def vn (t d : ℕ) : ℝ := hat S.v t d * S.gv d
/-- The lower triangle (diagonal included) of a mixing matrix. -/
def tri (g i j : ℕ) : ℝ := if j ≤ i then S.ws g i j else 0
def mix (t d : ℕ) : ℝ :=
  (∑ j : Fin 128, S.tri (d / 128) (t % 128) j * S.vn (t / 128 * 128 + j) d) + S.bs (d / 128) (t % 128)
def dy (t d : ℕ) : ℝ := ∑ k : Fin 1024, S.e t k * S.wo d k
def du (t d : ℕ) : ℝ := S.dy t d * S.mix t d
def dm (t d : ℕ) : ℝ := S.dy t d * S.u t d
def dvn (t d : ℕ) : ℝ := ∑ i : Fin 128, S.tri (d / 128) i (t % 128) * S.dm (t / 128 * 128 + i) d
/-- The mixing matrix's gradient over the first `n` chunks. -/
def dws (n g i j : ℕ) : ℝ :=
  ∑ c ∈ Finset.range n, if j ≤ i then ∑ k : Fin 128, S.dm (c * 128 + i) (g * 128 + k) * S.vn (c * 128 + j) (g * 128 + k) else 0
/-- The mixing bias's gradient over the first `n` chunks. -/
def db (n i g : ℕ) : ℝ := ∑ c ∈ Finset.range n, ∑ k : Fin 128, S.dm (c * 128 + i) (g * 128 + k)
def dv : ℕ → ℕ → ℝ := rmsb S.dvn S.v S.gv
def dgv (n d : ℕ) : ℝ := dgam S.dvn S.v n d
def dz (t n : ℕ) : ℝ := (if n < 1024 then S.du t n else S.dv t (n - 1024)) * dgelu (S.z t n)
def dh (t d : ℕ) : ℝ := ∑ n : Fin 2048, S.dz t n * S.w d n
def dx (t d : ℕ) : ℝ := rmsb S.dh S.x S.ln t d + S.e t d
def dln (n d : ℕ) : ℝ := dgam S.dh S.x n d

end In

end Cert.Sgu

end
-- ==== Proof.Ops.lean ====
/-
  The programs' scalar operations at the extended reals, on values that are reals: each is the real operation. The
  programs' float patterns as reals, and a finite sum of reals.
-/
module

public import Idealize.ShloMosaic.PureOps.Ideal.Laws
public import Idealize.ShloMosaic.Lib.Pipeline.Value
public import Idealize.ShloMosaic.Lib.WordCmp
public import proofs.«01_k».proof.Proof.Spec

@[expose] public section

noncomputable section

namespace Cert.Sgu

open Idealize.ShloMosaic

variable {φ : FTy}

theorem mulf_coe (a b : ℝ) : FloatOps.mulf (F := Ideal) (φ := φ) (a : EReal) (b : EReal) = ((a * b : ℝ) : EReal) := by
  rw [Ideal.mulf_def, EReal.coe_mul]
theorem addf_coe (a b : ℝ) : FloatOps.addf (F := Ideal) (φ := φ) (a : EReal) (b : EReal) = ((a + b : ℝ) : EReal) := by
  rw [Ideal.addf_def, EReal.coe_add]
theorem subf_coe (a b : ℝ) : FloatOps.subf (F := Ideal) (φ := φ) (a : EReal) (b : EReal) = ((a - b : ℝ) : EReal) := by
  rw [Ideal.subf_def, EReal.coe_sub]
theorem negf_coe (a : ℝ) : FloatOps.negf (F := Ideal) (φ := φ) (a : EReal) = ((-a : ℝ) : EReal) := by
  rw [Ideal.negf_def, EReal.coe_neg]
theorem div_coe' (a : ℝ) {b : ℝ} (hb : b ≠ 0) : Ideal.div (a : EReal) (b : EReal) = ((a / b : ℝ) : EReal) := by
  rw [Ideal.div_coe hb, ← EReal.coe_mul, mul_one_div]
theorem divf_coe (a : ℝ) {b : ℝ} (hb : b ≠ 0) :
    FloatOps.divf (F := Ideal) (φ := φ) (a : EReal) (b : EReal) = ((a / b : ℝ) : EReal) := div_coe' a hb
theorem hostDivf_coe (a : ℝ) {b : ℝ} (hb : b ≠ 0) :
    FloatOps.hostDivf (F := Ideal) (φ := φ) (a : EReal) (b : EReal) = ((a / b : ℝ) : EReal) := div_coe' a hb
theorem rsqrt_coe' {a : ℝ} (ha : 0 < a) : Ideal.rsqrt (a : EReal) = (((Real.sqrt a)⁻¹ : ℝ) : EReal) := by
  rw [Ideal.rsqrt_coe, if_neg (not_lt.mpr ha.le), if_neg ha.ne']
theorem rsqrt_coe {a : ℝ} (ha : 0 < a) :
    FloatOps.rsqrt (F := Ideal) (φ := φ) (a : EReal) = (((Real.sqrt a)⁻¹ : ℝ) : EReal) := rsqrt_coe' ha
theorem hostRsqrt_coe {a : ℝ} (ha : 0 < a) :
    FloatOps.hostUnary (F := Ideal) (φ := φ) .rsqrt (a : EReal) = (((Real.sqrt a)⁻¹ : ℝ) : EReal) := rsqrt_coe' ha
theorem tanh_coe (a : ℝ) : FloatOps.tanh (F := Ideal) (φ := φ) (a : EReal) = ((Real.tanh a : ℝ) : EReal) := rfl
theorem hostTanh_coe (a : ℝ) :
    FloatOps.hostUnary (F := Ideal) (φ := φ) .tanh (a : EReal) = ((Real.tanh a : ℝ) : EReal) := rfl

theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The signed comparison of two small row numbers, then the choice by it. -/
theorem select_sge {α : Type} {a b : ℕ} (ha : a < 2 ^ 31) (hb : b < 2 ^ 31) (p q : α) :
    Scalar.select (IntOp.cmpi .sge (BitVec.ofNat 32 a) (BitVec.ofNat 32 b)) p q = if b ≤ a then p else q := by
  unfold Scalar.select
  by_cases h : b ≤ a
  · exact (if_pos ((WordCmp.cmpi_sge_ofNat_eq_one_iff (w := 32) ha hb).mpr h)).trans (if_pos h).symm
  · exact (if_neg (fun e => h ((WordCmp.cmpi_sge_ofNat_eq_one_iff (w := 32) ha hb).mp e))).trans (if_neg h).symm
/-- The other way round. -/
theorem select_sle {α : Type} {a b : ℕ} (ha : a < 2 ^ 31) (hb : b < 2 ^ 31) (p q : α) :
    Scalar.select (IntOp.cmpi .sle (BitVec.ofNat 32 a) (BitVec.ofNat 32 b)) p q = if a ≤ b then p else q := by
  unfold Scalar.select
  by_cases h : a ≤ b
  · exact (if_pos ((WordCmp.cmpi_sle_ofNat_eq_one_iff (w := 32) ha hb).mpr h)).trans (if_pos h).symm
  · exact (if_neg (fun e => h ((WordCmp.cmpi_sle_ofNat_eq_one_iff (w := 32) ha hb).mp e))).trans (if_neg h).symm

theorem bits_zero : FloatOps.ofBits (F := Ideal) .f32 0x00000000#32 = ((0 : ℝ) : EReal) := by
  rw [Ideal.ofBits_def, Ideal.ofBits_zero_f32, EReal.coe_zero]
theorem bits_one : FloatOps.ofBits (F := Ideal) .f32 0x3F800000#32 = ((1 : ℝ) : EReal) := by
  rw [Ideal.ofBits_def]; simp [Ideal.ofBits, Ideal.ieee, -EReal.coe_mul]; norm_num
theorem bits_half : FloatOps.ofBits (F := Ideal) .f32 0x3F000000#32 = ((1 / 2 : ℝ) : EReal) := by
  rw [Ideal.ofBits_def]; simp [Ideal.ofBits, Ideal.ieee, -EReal.coe_mul]; norm_num
theorem bits_nhalf : FloatOps.ofBits (F := Ideal) .f32 0xBF000000#32 = ((-(1 / 2) : ℝ) : EReal) := by
  rw [Ideal.ofBits_def]; simp [Ideal.ofBits, Ideal.ieee, -EReal.coe_mul]; norm_num
theorem bits_three : FloatOps.ofBits (F := Ideal) .f32 0x40400000#32 = ((3 : ℝ) : EReal) := by
  rw [Ideal.ofBits_def]; simp [Ideal.ofBits, Ideal.ieee, -EReal.coe_mul]; norm_num
theorem bits_two : FloatOps.ofBits (F := Ideal) .f32 0x40000000#32 = ((2 : ℝ) : EReal) := by
  rw [Ideal.ofBits_def]; simp [Ideal.ofBits, Ideal.ieee, -EReal.coe_mul]; norm_num
theorem bits_1024 : FloatOps.ofBits (F := Ideal) .f32 0x44800000#32 = ((1024 : ℝ) : EReal) := by
  rw [Ideal.ofBits_def]; simp [Ideal.ofBits, Ideal.ieee, -EReal.coe_mul]; norm_num
theorem bits_eps : FloatOps.ofBits (F := Ideal) .f32 0x358637BD#32 = ((eps : ℝ) : EReal) := by
  rw [Ideal.ofBits_def]; simp [Ideal.ofBits, Ideal.ieee, eps, -EReal.coe_mul]; norm_num
theorem bits_gc : FloatOps.ofBits (F := Ideal) .f32 0x3F4C422A#32 = ((gc : ℝ) : EReal) := by
  rw [Ideal.ofBits_def]; simp [Ideal.ofBits, Ideal.ieee, gc, -EReal.coe_mul]; norm_num

theorem bits_44715 : FloatOps.ofBits (F := Ideal) .f32 0x472EAB00#32 = ((44715 : ℝ) : EReal) := by
  rw [Ideal.ofBits_def]; simp [Ideal.ofBits, Ideal.ieee, -EReal.coe_mul]; norm_num
theorem bits_million : FloatOps.ofBits (F := Ideal) .f32 0x49742400#32 = ((1000000 : ℝ) : EReal) := by
  rw [Ideal.ofBits_def]; simp [Ideal.ofBits, Ideal.ieee, -EReal.coe_mul]; norm_num

end Cert.Sgu

end
-- ==== Proof.Tile.lean ====
/-
  The kernel's vector operations over the reals. A tile of 256 rows is a vector whose entries are the values of a real
  function of its indices; each of the kernel's operations on such vectors is read at an index.
-/
module

public import proofs.«01_k».proof.Proof.Ops
public import proofs.«01_k».proof.Proof.Gen.KernelIdeal.Value
public import Idealize.ShloMosaic.Lib.MatmulPlain
public import Idealize.ShloMosaic.Lib.Pointwise.Index

@[expose] public section

set_option maxRecDepth 16384

noncomputable section

namespace Cert.Sgu.Tile

open Idealize.ShloMosaic Idealize.ShloMosaic.TcCoe Cert.KernelIdeal Cert.KernelIdeal.Gen

/-- A vector whose entries are real: `f` of the index. -/
abbrev Is {s : Shape} {φ : FTy} (X : FVec Ideal s φ) (f : s.Idx → ℝ) : Prop := ∀ i, X i = ((f i : ℝ) : EReal)

/-! ## Layout -/

theorem bcol {φ : FTy} (X : FVec Ideal S256x1 φ) (i : S256x1024.Idx) :
    broadcastTo S256x1024 X broadcasts_S256x1_S256x1024 i = X (ix2 (i 0) 0) :=
  broadcastTo_apply _ _ _ _ fun a => match a with
    | ⟨0, _⟩ => rfl
    | ⟨1, _⟩ => rfl
theorem brow {φ : FTy} (X : FVec Ideal S1x1024 φ) (i : S256x1024.Idx) :
    broadcastTo S256x1024 X broadcasts_S1x1024_S256x1024 i = X (ix2 0 (i 1)) :=
  broadcastTo_apply _ _ _ _ fun a => match a with
    | ⟨0, _⟩ => rfl
    | ⟨1, _⟩ => rfl
theorem bcol128 {φ : FTy} (X : FVec Ideal S128x1 φ) (i : S128x128.Idx) :
    broadcastTo S128x128 X broadcasts_S128x1_S128x128 i = X (ix2 (i 0) 0) :=
  broadcastTo_apply _ _ _ _ fun a => match a with
    | ⟨0, _⟩ => rfl
    | ⟨1, _⟩ => rfl

theorem castSelf {s : Shape} {α : Type} (X : s.Idx → α) (h : s.ShapeCasts s) : shapeCast s X h = X :=
  funext fun i => shapeCast_apply X h i i rfl
theorem castCol (X : FVec Ideal S256 .f32) (i : S256x1.Idx) :
    shapeCast S256x1 X shapeCasts_S256_S256x1 i = X (ix1 (i 0)) :=
  shapeCast_apply _ _ _ _ (by
    have h1 : (i 1).val < 1 := (i 1).isLt
    refine (Shape.rowMajor_val_one _).trans (Eq.trans ?_ (Shape.rowMajor_val_two _).symm)
    show (i 0).val = (i 0).val * 1 + (i 1).val; omega)
theorem castRow (X : FVec Ideal S1024 .f32) (i : S1x1024.Idx) :
    shapeCast S1x1024 X shapeCasts_S1024_S1x1024 i = X (ix1 (i 1)) :=
  shapeCast_apply _ _ _ _ (by
    have h0 : (i 0).val < 1 := (i 0).isLt
    refine (Shape.rowMajor_val_one _).trans (Eq.trans ?_ (Shape.rowMajor_val_two _).symm)
    show (i 1).val = (i 0).val * 1024 + (i 1).val; omega)
theorem castCol128 (X : FVec Ideal S128 .f32) (i : S128x1.Idx) :
    shapeCast S128x1 X shapeCasts_S128_S128x1 i = X (ix1 (i 0)) :=
  shapeCast_apply _ _ _ _ (by
    have h1 : (i 1).val < 1 := (i 1).isLt
    refine (Shape.rowMajor_val_one _).trans (Eq.trans ?_ (Shape.rowMajor_val_two _).symm)
    show (i 0).val = (i 0).val * 1 + (i 1).val; omega)
theorem cast3 {φ : FTy} (X : FVec Ideal S1x128x128 φ) (i : S128x128.Idx) :
    shapeCast S128x128 X shapeCasts_S1x128x128_S128x128 i = X (ix3 0 (i 0) (i 1)) :=
  shapeCast_apply _ _ _ _ (by
    refine (Shape.rowMajor_val_three _).trans (Eq.trans ?_ (Shape.rowMajor_val_two _).symm)
    show (0 * 128 + (i 0).val) * 128 + (i 1).val = (i 0).val * 128 + (i 1).val; omega)
theorem cast3' {φ : FTy} (X : FVec Ideal S128x128 φ) (i : S1x128x128.Idx) :
    shapeCast S1x128x128 X shapeCasts_S128x128_S1x128x128 i = X (ix2 (i 1) (i 2)) :=
  shapeCast_apply _ _ _ _ (by
    have h0 : (i 0).val < 1 := (i 0).isLt
    refine (Shape.rowMajor_val_two _).trans (Eq.trans ?_ (Shape.rowMajor_val_three _).symm)
    show (i 1).val * 128 + (i 2).val = ((i 0).val * 128 + (i 1).val) * 128 + (i 2).val; omega)
theorem castW (X : FVec Ideal S1x1024x256 .bf16) (i : S1024x256.Idx) :
    shapeCast S1024x256 X shapeCasts_S1x1024x256_S1024x256 i = X (ix3 0 (i 0) (i 1)) :=
  shapeCast_apply _ _ _ _ (by
    refine (Shape.rowMajor_val_three _).trans (Eq.trans ?_ (Shape.rowMajor_val_two _).symm)
    show (0 * 1024 + (i 0).val) * 256 + (i 1).val = (i 0).val * 256 + (i 1).val; omega)

/-! ## Sums -/

theorem sumRow {X : FVec Ideal S256x1024 .f32} {f : S256x1024.Idx → ℝ} (hX : Is X f) (i : S256.Idx) :
    multiReduction .add [1] S256 X 0x00000000#32 reduces_S256x1024_S256 (.inl rfl) rfl i
      = ((∑ k : Fin 1024, f (ix2 (i 0) k) : ℝ) : EReal) := by
  refine (Ideal.multiReduction_add_single _ _ _ _ _ i).trans ?_
  rw [← sum_coe]
  refine Finset.sum_congr rfl fun k _ => ?_
  have e : reduces_S256x1024_S256.lift i k = ix2 (i 0) k := funext fun a => match a with
    | ⟨0, _⟩ => rfl
    | ⟨1, _⟩ => rfl
  exact (congrArg X e).trans (hX _)
theorem sumCol {X : FVec Ideal S256x1024 .f32} {f : S256x1024.Idx → ℝ} (hX : Is X f) (i : S1024.Idx) :
    multiReduction .add [0] S1024 X 0x00000000#32 reduces_S256x1024_S1024 (.inl rfl) rfl i
      = ((∑ k : Fin 256, f (ix2 k (i 0)) : ℝ) : EReal) := by
  refine (Ideal.multiReduction_add_single _ _ _ _ _ i).trans ?_
  rw [← sum_coe]
  refine Finset.sum_congr rfl fun k _ => ?_
  have e : reduces_S256x1024_S1024.lift i k = ix2 k (i 0) := funext fun a => match a with
    | ⟨0, _⟩ => rfl
    | ⟨1, _⟩ => rfl
  exact (congrArg X e).trans (hX _)
theorem sumRow128 {X : FVec Ideal S128x128 .f32} {f : S128x128.Idx → ℝ} (hX : Is X f) (i : S128.Idx) :
    multiReduction .add [1] S128 X 0x00000000#32 reduces_S128x128_S128 (.inl rfl) rfl i
      = ((∑ k : Fin 128, f (ix2 (i 0) k) : ℝ) : EReal) := by
  refine (Ideal.multiReduction_add_single _ _ _ _ _ i).trans ?_
  rw [← sum_coe]
  refine Finset.sum_congr rfl fun k _ => ?_
  have e : reduces_S128x128_S128.lift i k = ix2 (i 0) k := funext fun a => match a with
    | ⟨0, _⟩ => rfl
    | ⟨1, _⟩ => rfl
  exact (congrArg X e).trans (hX _)

/-! ## Products -/

theorem eta2 {n m : ℕ} (i : (⟨2, ![n, m]⟩ : Shape).Idx) : i = ix2 (i 0) (i 1) :=
  funext fun a => match a with
    | ⟨0, _⟩ => rfl
    | ⟨1, _⟩ => rfl

theorem mm {M K N : ℕ} {φ₁ φ₂ : FTy} {X : FVec Ideal ⟨2, ![M, K]⟩ φ₁} {Y : FVec Ideal ⟨2, ![K, N]⟩ φ₂}
    {f : (⟨2, ![M, K]⟩ : Shape).Idx → ℝ} {g : (⟨2, ![K, N]⟩ : Shape).Idx → ℝ} (hX : Is X f) (hY : Is Y g)
    (i : (⟨2, ![M, N]⟩ : Shape).Idx) :
    matmul (DotDims.plain M K N) none X Y (constant ⟨2, ![M, N]⟩ .f32 0x00000000#32) i
      = ((∑ k : Fin K, f (ix2 (i 0) k) * g (ix2 k (i 1)) : ℝ) : EReal) := by
  rw [eta2 i]
  refine (Ideal.matmul_plain_apply none X Y _ (i 0) (i 1)).trans ?_
  simp only [hX _, hY _, ← EReal.coe_mul, sum_coe]
  show Ideal.ofBits .f32 0x00000000#32 + _ = _
  rw [Ideal.ofBits_zero_f32, zero_add]; rfl
theorem mmT {M K N : ℕ} {φ₁ φ₂ : FTy} {X : FVec Ideal ⟨2, ![M, K]⟩ φ₁} {Y : FVec Ideal ⟨2, ![N, K]⟩ φ₂}
    {f : (⟨2, ![M, K]⟩ : Shape).Idx → ℝ} {g : (⟨2, ![N, K]⟩ : Shape).Idx → ℝ} (hX : Is X f) (hY : Is Y g)
    (i : (⟨2, ![M, N]⟩ : Shape).Idx) :
    matmul (DotDims.transposedRhs M K N) none X Y (constant ⟨2, ![M, N]⟩ .f32 0x00000000#32) i
      = ((∑ k : Fin K, f (ix2 (i 0) k) * g (ix2 (i 1) k) : ℝ) : EReal) := by
  rw [eta2 i]
  refine (Ideal.matmul_transposedRhs_apply none X Y _ (i 0) (i 1)).trans ?_
  simp only [hX _, hY _, ← EReal.coe_mul, sum_coe]
  show Ideal.ofBits .f32 0x00000000#32 + _ = _
  rw [Ideal.ofBits_zero_f32, zero_add]; rfl

/-! ## Pointwise operations -/

section Pointwise
variable {s : Shape} {φ : FTy} {X Y : FVec Ideal s φ} {f g : s.Idx → ℝ}

theorem iof (hX : Is X f) (e : ∀ i, f i = g i) : Is X g := fun i => (hX i).trans (congrArg _ (e i))
theorem imul (hX : Is X f) (hY : Is Y g) : Is (mulf X Y) (fun i => f i * g i) := fun i =>
  (congrArg₂ (fun a b => FloatOps.mulf (F := Ideal) (φ := φ) a b) (hX i) (hY i)).trans (mulf_coe _ _)
theorem iadd (hX : Is X f) (hY : Is Y g) : Is (addf X Y) (fun i => f i + g i) := fun i =>
  (congrArg₂ (fun a b => FloatOps.addf (F := Ideal) (φ := φ) a b) (hX i) (hY i)).trans (addf_coe _ _)
theorem isub (hX : Is X f) (hY : Is Y g) : Is (subf X Y) (fun i => f i - g i) := fun i =>
  (congrArg₂ (fun a b => FloatOps.subf (F := Ideal) (φ := φ) a b) (hX i) (hY i)).trans (subf_coe _ _)
theorem idiv (hX : Is X f) (hY : Is Y g) (h0 : ∀ i, g i ≠ 0) : Is (divf X Y) (fun i => f i / g i) := fun i =>
  (congrArg₂ (fun a b => FloatOps.divf (F := Ideal) (φ := φ) a b) (hX i) (hY i)).trans (divf_coe _ (h0 i))
theorem irsqrt (hX : Is X f) (h0 : ∀ i, 0 < f i) : Is (rsqrt X) (fun i => (Real.sqrt (f i))⁻¹) := fun i =>
  (congrArg (fun a => FloatOps.rsqrt (F := Ideal) (φ := φ) a) (hX i)).trans (rsqrt_coe (h0 i))
theorem itanh (hX : Is X f) : Is (tanh X) (fun i => Real.tanh (f i)) := fun i =>
  (congrArg (fun a => FloatOps.tanh (F := Ideal) (φ := φ) a) (hX i)).trans (tanh_coe _)
theorem iconst {c : Ideal φ} {r : ℝ} (h : c = ((r : ℝ) : EReal)) : Is (broadcast s c) (fun _ => r) := fun _ => h
theorem icast (hX : Is X f) (h : s.ShapeCasts s) : Is (shapeCast s X h) f := by rw [castSelf]; exact hX
end Pointwise
theorem itrunc {s : Shape} {X : FVec Ideal s .f32} {f : s.Idx → ℝ} (hX : Is X f) :
    Is (truncf .bf16 X bitsLt_bf16_f32) f := fun i => hX i

/-! ## Gelu -/

theorem named_cubic : Named.named (F := Ideal) (φ := .f32) κ "gelu_cubic" 0x3D372713#32 = ((kap : ℝ) : EReal) :=
  IdealRules.named_const.ideal_named_scalar _ _ _ _ rfl
theorem named_slope :
    Named.named (F := Ideal) (φ := .f32) κ "gelu_cubic_slope" 0x3E095D4F#32 = ((3 * kap : ℝ) : EReal) :=
  (IdealRules.named_const.ideal_named_scalar _ _ _ _ rfl).trans
    (congrArg (fun a : ℝ => (a : EReal)) (by unfold kap; norm_num : (26829 / 200000 : ℝ) = 3 * kap))

section Gelu
variable {X : FVec Ideal S256x1024 .f32} {f : S256x1024.Idx → ℝ}

theorem i_th (hX : Is X f) : Is (k0_pay13 X) (fun i => th (f i)) :=
  have h := icast hX shapeCasts_S256x1024_S256x1024
  iof (itanh (imul (iconst bits_gc) (iadd h (imul (iconst named_cubic) (imul (imul h h) h))))) fun _ => rfl
theorem i_gelu (hX : Is X f) : Is (k0_pay14 X) (fun i => gelu (f i)) :=
  have h := icast hX shapeCasts_S256x1024_S256x1024
  iof (imul (imul (iconst bits_half) h) (iadd (iconst bits_one) (i_th hX))) fun _ => by unfold gelu; ring
theorem i_dgelu (hX : Is X f) : Is (k0_pay18 (k0_pay12 X) (k0_pay15 X) (k0_pay16 X) (k0_pay17 X)
    (Scalar.ofBits (F := Ideal) .f32 0x3F800000#32)) (fun i => dgelu (f i)) :=
  have h := icast hX shapeCasts_S256x1024_S256x1024
  have t := i_th hX
  iof (iadd (imul (iconst bits_half) (iadd (iconst bits_one) t))
    (imul (imul (imul (iconst bits_half) h) (isub (iconst bits_one) (imul t t)))
      (imul (iconst bits_gc) (iadd (iconst bits_one) (imul (iconst named_slope) (imul h h)))))) fun _ => rfl
theorem i_gelu' (hX : Is X f) : Is (k0_pay22 X) (fun i => gelu (f i)) := i_gelu hX
theorem i_dgelu' (hX : Is X f) : Is (k0_pay23 X) (fun i => dgelu (f i)) := i_dgelu hX
end Gelu

/-! ## The norm and its gradient. Row `r` of a tile is row `o + r` of the whole. -/

section Norm
variable {X D : FVec Ideal S256x1024 .f32} {G : FVec Ideal S1x1024 .f32} {f d : ℕ → ℕ → ℝ} {γ : ℕ → ℝ} {o : ℕ}

theorem i_rs (hX : Is X fun i => f (o + (i 0).val) (i 1).val) : Is (k0_pay24 X) (fun i => rs f (o + (i 0).val)) :=
  irsqrt (f := fun i => ms f (o + (i 0).val))
    (iadd (idiv (fun i => (castCol _ i).trans (sumRow (imul hX hX) _)) (iconst bits_1024) fun _ => by norm_num)
      (iconst bits_eps)) fun _ => ms_pos _ _
theorem i_hat (hX : Is X fun i => f (o + (i 0).val) (i 1).val) :
    Is (k0_pay25 X) (fun i => hat f (o + (i 0).val) (i 1).val) :=
  imul hX fun i => (bcol _ i).trans (i_rs hX _)
theorem i_rs' (hX : Is X fun i => f (o + (i 0).val) (i 1).val) : Is (k0_pay9 X) (fun i => rs f (o + (i 0).val)) :=
  i_rs (icast hX shapeCasts_S256x1024_S256x1024)
theorem i_hat' (hX : Is X fun i => f (o + (i 0).val) (i 1).val) :
    Is (k0_pay10 X) (fun i => hat f (o + (i 0).val) (i 1).val) :=
  i_hat (icast hX shapeCasts_S256x1024_S256x1024)
theorem i_scaled (hX : Is X fun i => f (o + (i 0).val) (i 1).val) (hG : Is G fun i => γ (i 1).val) :
    Is (k0_pay26 X G) (fun i => hat f (o + (i 0).val) (i 1).val * γ (i 1).val) :=
  itrunc (imul (i_hat hX) fun i => (brow _ i).trans (hG _))

/-- The norm's gradient with respect to its operand, of the reciprocal root mean square, the scaled row, the incoming
    gradient and the weight. -/
def back (R : FVec Ideal S256x1 .f32) (H D : FVec Ideal S256x1024 .f32) (G : FVec Ideal S1x1024 .f32) :
    FVec Ideal S256x1024 .f32 :=
  mulf (broadcastTo S256x1024 R broadcasts_S256x1_S256x1024)
    (subf (mulf D (broadcastTo S256x1024 G broadcasts_S1x1024_S256x1024))
      (mulf H (broadcastTo S256x1024
        (divf (shapeCast S256x1 (multiReduction .add [1] S256
            (mulf (mulf D (broadcastTo S256x1024 G broadcasts_S1x1024_S256x1024)) H) 0x00000000#32
            reduces_S256x1024_S256 (.inl rfl) rfl) shapeCasts_S256_S256x1)
          (broadcast S256x1 (Scalar.ofBits (F := Ideal) .f32 0x44800000#32))) broadcasts_S256x1_S256x1024)))

theorem i_back {R : FVec Ideal S256x1 .f32} {H : FVec Ideal S256x1024 .f32}
    (hR : Is R fun i => rs f (o + (i 0).val)) (hH : Is H fun i => hat f (o + (i 0).val) (i 1).val)
    (hD : Is D fun i => d (o + (i 0).val) (i 1).val) (hG : Is G fun i => γ (i 1).val) :
    Is (back R H D G) fun i => rmsb d f γ (o + (i 0).val) (i 1).val :=
  have hg : Is (mulf D (broadcastTo S256x1024 G broadcasts_S1x1024_S256x1024))
      fun i => d (o + (i 0).val) (i 1).val * γ (i 1).val := imul hD fun i => (brow _ i).trans (hG _)
  imul (fun i => (bcol _ i).trans (hR _)) (isub hg (imul hH fun i => (bcol _ i).trans
    (idiv (fun i => (castCol _ i).trans (sumRow (imul hg hH) _)) (iconst bits_1024) (fun _ => by norm_num) _)))

/-- The norm's gradient with respect to its weight over one tile. -/
theorem i_gam {H : FVec Ideal S256x1024 .f32} (hH : Is H fun i => hat f (o + (i 0).val) (i 1).val)
    (hD : Is D fun i => d (o + (i 0).val) (i 1).val) :
    Is (shapeCast S1x1024 (multiReduction .add [0] S1024 (mulf D H) 0x00000000#32 reduces_S256x1024_S1024 (.inl rfl) rfl)
      shapeCasts_S1024_S1x1024) fun i => ∑ k : Fin 256, d (o + k) (i 1).val * hat f (o + k) (i 1).val :=
  fun i => (castRow _ i).trans (sumCol (imul hD hH) _)
end Norm

/-! ## The triangles -/

theorem i_lower {s : FVec Ideal S128x128 .f32} {f : S128x128.Idx → ℝ} (hs : Is s f) :
    Is (select k0_pay27 s (broadcast S128x128 (Scalar.ofBits (F := Ideal) .f32 0x00000000#32)))
      fun i => if (i 1).val ≤ (i 0).val then f i else 0 := by
  intro i
  have h0 : (i 0).val < 128 := (i 0).isLt
  have h1 : (i 1).val < 128 := (i 1).isLt
  show Scalar.select (IntOp.cmpi .sge (iota .tc S128x128 32 [0] iota_S128x128_d0_w32 i)
    (iota .tc S128x128 32 [1] iota_S128x128_d1_w32 i)) (s i) (Scalar.ofBits (F := Ideal) .f32 0x00000000#32) = _
  rw [iota_single_apply, iota_single_apply, select_sge (by omega) (by omega), hs i]
  split
  · next h => exact congrArg (fun a : ℝ => (a : EReal)) (if_pos h).symm
  · next h => exact bits_zero.trans (congrArg (fun a : ℝ => (a : EReal)) (if_neg h).symm)
theorem i_upper {s : FVec Ideal S128x128 .f32} {f : S128x128.Idx → ℝ} (hs : Is s f) :
    Is (select (cmpi .sle (iota .tc S128x128 32 [0] iota_S128x128_d0_w32) (iota .tc S128x128 32 [1] iota_S128x128_d1_w32))
      s (broadcast S128x128 (Scalar.ofBits (F := Ideal) .f32 0x00000000#32)))
      fun i => if (i 0).val ≤ (i 1).val then f i else 0 := by
  intro i
  have h0 : (i 0).val < 128 := (i 0).isLt
  have h1 : (i 1).val < 128 := (i 1).isLt
  show Scalar.select (IntOp.cmpi .sle (iota .tc S128x128 32 [0] iota_S128x128_d0_w32 i)
    (iota .tc S128x128 32 [1] iota_S128x128_d1_w32 i)) (s i) (Scalar.ofBits (F := Ideal) .f32 0x00000000#32) = _
  rw [iota_single_apply, iota_single_apply, select_sle (by omega) (by omega), hs i]
  split
  · next h => exact congrArg (fun a : ℝ => (a : EReal)) (if_pos h).symm
  · next h => exact bits_zero.trans (congrArg (fun a : ℝ => (a : EReal)) (if_neg h).symm)

end Cert.Sgu.Tile

end
-- ==== Proof.Block.lean ====
/-
  One grid point of the kernel, as a function of the blocks it loads: the gate's mix, the gradients through it, the
  gradient of the projection's result and the norm's gradient, each read over the reals as the specification's function
  of the row and the column. The eight groups of 128 columns and the two chunks of 128 rows are parameters.
-/
module

public import proofs.«01_k».proof.Proof.Tile

@[expose] public section

set_option maxRecDepth 16384

noncomputable section

namespace Cert.Sgu.Tile

open Idealize.ShloMosaic Idealize.ShloMosaic.TcCoe Cert.KernelIdeal Cert.KernelIdeal.Gen

/-- The blocks a grid point loads. -/
structure Blk where
  e : FVec Ideal S256x1024 .f32
  x : FVec Ideal S256x1024 .f32
  z0 : FVec Ideal S256x1024 .f32
  z1 : FVec Ideal S256x1024 .f32
  ln : FVec Ideal S1x1024 .f32
  gv : FVec Ideal S1x1024 .f32
  win : Fin 8 → FVec Ideal S1x1024x256 .bf16
  ws : Fin 8 → FVec Ideal S1x128x128 .f32
  wsT : Fin 8 → FVec Ideal S1x128x128 .f32
  b : Fin 8 → FVec Ideal S128x1 .f32
  wo : FVec Ideal S1024x1024 .bf16

/-- The blocks hold the specification's tensors, the tile's first row being row `o`. -/
structure Blk.Fits (S : In) (o : ℕ) (B : Blk) : Prop where
  e : Is B.e fun i => S.e (o + (i 0).val) (i 1).val
  x : Is B.x fun i => S.x (o + (i 0).val) (i 1).val
  z0 : Is B.z0 fun i => S.z (o + (i 0).val) (i 1).val
  z1 : Is B.z1 fun i => S.z (o + (i 0).val) (1024 + (i 1).val)
  ln : Is B.ln fun i => S.ln (i 1).val
  gv : Is B.gv fun i => S.gv (i 1).val
  win : ∀ j, Is (B.win j) fun i => S.w (i 1).val (256 * j.val + (i 2).val)
  ws : ∀ g, Is (B.ws g) fun i => S.ws g.val (i 1).val (i 2).val
  wsT : ∀ g, Is (B.wsT g) fun i => S.ws g.val (i 2).val (i 1).val
  b : ∀ g, Is (B.b g) fun i => S.bs g.val (i 0).val
  wo : Is B.wo fun i => S.wo (i 0).val (i 1).val

theorem slices (g : Fin 8) (c : Fin 2) : S256x1024.Slices ![128 * c.val, 128 * g.val] S128x128 :=
  (by decide +kernel : ∀ (g : Fin 8) (c : Fin 2), S256x1024.Slices ![128 * c.val, 128 * g.val] S128x128) g c
theorem inbMix (g : Fin 8) (c : Fin 2) : ∀ a, (![128 * c.val, 128 * g.val] : Fin 2 → ℕ) a + S128x128.size a ≤ S256x1024.size a :=
  (by decide +kernel : ∀ (g : Fin 8) (c : Fin 2),
    ∀ a, (![128 * c.val, 128 * g.val] : Fin 2 → ℕ) a + S128x128.size a ≤ S256x1024.size a) g c
theorem inbZ (j : Fin 8) : ∀ a, (![0, 256 * j.val] : Fin 2 → ℕ) a + S256x256.size a ≤ S256x2048.size a :=
  (by decide +kernel : ∀ (j : Fin 8), ∀ a, (![0, 256 * j.val] : Fin 2 → ℕ) a + S256x256.size a ≤ S256x2048.size a) j

/-- Membership in a unit-stride box, axis by axis. -/
theorem mem_unit {s : Shape} {off size : Fin s.rank → ℕ} (inb : ∀ a, off a + size a ≤ s.size a) {y : s.Idx}
    (h : ∀ a, off a ≤ (y a).val ∧ (y a).val < off a + size a) : y ∈ (Rect.unit off size inb).set :=
  Rect.mem_set_unit.mpr h

namespace Blk
variable (B : Blk) (g : Fin 8) (c : Fin 2)

/-- A group's columns and a chunk's rows of a tile. -/
def part {φ : FTy} (X : FVec Ideal S256x1024 φ) : FVec Ideal S128x128 φ :=
  extractStridedSlice S128x128 ![128 * c.val, 128 * g.val] X (slices g c)

def v : FVec Ideal S256x1024 .f32 := k0_pay22 B.z1
def vnb : FVec Ideal S256x1024 .bf16 := k0_pay26 B.v B.gv
/-- A square of the gate's mix, of the normed gate. -/
def mixOf (vnb : FVec Ideal S256x1024 .bf16) : FVec Ideal S128x128 .f32 :=
  shapeCast S128x128 (addf
    (matmul dot_S128x128_S128x128_S128x128_1_0_0_1_n_n none (k0_pay28 (B.ws g)) (part g c vnb)
      (constant S128x128 .f32 0x00000000#32))
    (broadcastTo S128x128 (shapeCast S128x1 (B.b g) shapeCasts_S128x1_S128x1) broadcasts_S128x1_S128x128))
    shapeCasts_S128x128_S128x128
def mixP : FVec Ideal S128x128 .f32 := B.mixOf g c B.vnb
def dy : FVec Ideal S256x1024 .f32 :=
  matmul dot_S256x1024_S1024x1024_S256x1024_1_1_0_0_n_n none (truncf .bf16 (k0_pay7 B.e) bitsLt_bf16_f32)
    (shapeCast S1024x1024 B.wo shapeCasts_S1024x1024_S1024x1024) (constant S256x1024 .f32 0x00000000#32)
def dm : FVec Ideal S256x1024 .f32 := mulf B.dy (k0_pay14 B.z0)
def dmb : FVec Ideal S256x1024 .bf16 := truncf .bf16 B.dm bitsLt_bf16_f32
/-- The mixing matrix transposed, its upper triangle. -/
def up : FVec Ideal S128x128 .bf16 :=
  truncf .bf16 (select (cmpi .sle (iota .tc S128x128 32 [0] iota_S128x128_d0_w32) (iota .tc S128x128 32 [1] iota_S128x128_d1_w32))
    (shapeCast S128x128 (B.wsT g) shapeCasts_S1x128x128_S128x128)
    (broadcast S128x128 (Scalar.ofBits (F := Ideal) .f32 0x00000000#32))) bitsLt_bf16_f32
/-- A square of the normed gate's gradient, of the mix's gradient. -/
def dvnOf (dmb : FVec Ideal S256x1024 .bf16) : FVec Ideal S128x128 .f32 :=
  shapeCast S128x128 (matmul dot_S128x128_S128x128_S128x128_1_0_0_1_n_n none (B.up g) (part g c dmb)
    (constant S128x128 .f32 0x00000000#32)) shapeCasts_S128x128_S128x128
def dvnP : FVec Ideal S128x128 .f32 := B.dvnOf g c B.dmb
/-- What a chunk adds to a group's mixing matrix's gradient. -/
def dwsOf (dmb vnb : FVec Ideal S256x1024 .bf16) : FVec Ideal S128x128 .f32 :=
  select k0_pay27 (matmul dot_S128x128_S128x128_S128x128_1_1_0_0_n_n none (part g c dmb) (part g c vnb)
    (constant S128x128 .f32 0x00000000#32)) (broadcast S128x128 (Scalar.ofBits (F := Ideal) .f32 0x00000000#32))
def dwsD : FVec Ideal S128x128 .f32 := dwsOf g c B.dmb B.vnb
/-- What a chunk adds to a group's mixing bias's gradient. -/
def dbOf (dm : FVec Ideal S256x1024 .f32) : FVec Ideal S128x1 .f32 :=
  shapeCast S128x1 (multiReduction .add [1] S128 (part g c dm) 0x00000000#32 reduces_S128x128_S128 (.inl rfl) rfl)
    shapeCasts_S128_S128x1
def dbD : FVec Ideal S128x1 .f32 := dbOf g c B.dm

/-- The sixteen squares of a tile, the last stored first. -/
def squares (w : Fin 8 → Fin 2 → FVec Ideal S128x128 .f32) : List (View.Piece (Elt Ideal) S256x1024 .f32) :=
  (List.finRange 8).reverse.flatMap fun g =>
    [⟨Rect.unit ![128 * (1 : Fin 2).val, 128 * g.val] S128x128.size (inbMix g 1), w g 1⟩,
     ⟨Rect.unit ![128 * (0 : Fin 2).val, 128 * g.val] S128x128.size (inbMix g 0), w g 0⟩]
/-- A tile read back through a scratch buffer's view after the sixteen squares were stored. -/
def readBack (a : View sig .tc .vmem S256x1024 .f32) (w : Fin 8 → Fin 2 → FVec Ideal S128x128 .f32) :
    FVec Ideal S256x1024 .f32 :=
  a.readCov (squares w) (Rect.unit ![0, 0] S256x1024.size inb_S256x1024_S256x1024_0_0).toLoadRect

variable (va vb : View sig .tc .vmem S256x1024 .f32) (vz : View sig .tc .vmem S256x2048 .bf16)

/-- What the tile adds to a norm's weight's gradient, of the incoming gradient and the scaled row. -/
def gamOf (D H : FVec Ideal S256x1024 .f32) : FVec Ideal S1x1024 .f32 :=
  shapeCast S1x1024 (multiReduction .add [0] S1024 (mulf D H) 0x00000000#32 reduces_S256x1024_S1024 (.inl rfl) rfl)
    shapeCasts_S1024_S1x1024
def du : FVec Ideal S256x1024 .f32 := mulf B.dy (readBack va B.mixP)
def dvn : FVec Ideal S256x1024 .f32 := readBack vb B.dvnP
def dv : FVec Ideal S256x1024 .f32 := back (k0_pay24 B.v) (k0_pay25 B.v) (B.dvn vb) B.gv
def dgvD : FVec Ideal S1x1024 .f32 := gamOf (B.dvn vb) (k0_pay25 B.v)
/-- The gradient of the projection's result's first half, of the gated value's. -/
def dz0Of (du : FVec Ideal S256x1024 .f32) : FVec Ideal S256x1024 .bf16 :=
  truncf .bf16 (mulf du (k0_pay18 (k0_pay12 B.z0) (k0_pay15 B.z0) (k0_pay16 B.z0) (k0_pay17 B.z0)
    (Scalar.ofBits (F := Ideal) .f32 0x3F800000#32))) bitsLt_bf16_f32
def dz0 : FVec Ideal S256x1024 .bf16 := B.dz0Of (B.du va)
/-- The gradient of the projection's result's second half, of the gate's. -/
def dz1Of (dv : FVec Ideal S256x1024 .f32) : FVec Ideal S256x1024 .bf16 :=
  truncf .bf16 (mulf dv (k0_pay23 B.z1)) bitsLt_bf16_f32
def dz1 : FVec Ideal S256x1024 .bf16 := B.dz1Of (B.dv vb)
/-- The two stores of the projection's result's gradient, the last first. -/
def halves (d1 d0 : FVec Ideal S256x1024 .bf16) : List (View.Piece (Elt Ideal) S256x2048 .bf16) :=
  [⟨Rect.unit ![0, 1024] S256x1024.size inb_S256x2048_S256x1024_0_1024, d1⟩,
   ⟨Rect.unit ![0, 0] S256x1024.size inb_S256x2048_S256x1024_0_0, d0⟩]
def dzL : List (View.Piece (Elt Ideal) S256x2048 .bf16) := halves (B.dz1 vb) (B.dz0 va)
/-- 256 columns of the projection's result's gradient, read back through the output's view, times their rows of the
    projection's transpose. -/
def dhPart (L : List (View.Piece (Elt Ideal) S256x2048 .bf16)) (j : Fin 8) : FVec Ideal S256x1024 .f32 :=
  matmul dot_S256x256_S1024x256_S256x1024_1_1_0_0_n_n none
    (φ₁ := .bf16) (shapeCast (α := Ideal .bf16) S256x256 (vz.readCov L (Rect.unit ![0, 256 * j.val] S256x256.size (inbZ j) : Rect S256x2048).toLoadRect)
      shapeCasts_S256x256_S256x256)
    (shapeCast S1024x256 (B.win j) shapeCasts_S1x1024x256_S1024x256) (constant S256x1024 .f32 0x00000000#32)
/-- The first norm's result's gradient, of the stores of the projection's result's. -/
def dhOf (L : List (View.Piece (Elt Ideal) S256x2048 .bf16)) : FVec Ideal S256x1024 .f32 :=
  addf (addf (addf (addf (addf (addf (addf (B.dhPart vz L 0) (B.dhPart vz L 1)) (B.dhPart vz L 2)) (B.dhPart vz L 3))
    (B.dhPart vz L 4)) (B.dhPart vz L 5)) (B.dhPart vz L 6)) (B.dhPart vz L 7)
def dh : FVec Ideal S256x1024 .f32 := B.dhOf vz (B.dzL va vb)
def dx : FVec Ideal S256x1024 .f32 :=
  addf (back (k0_pay9 B.x) (k0_pay10 B.x) (B.dh va vb vz) B.ln) (k0_pay7 B.e)
def dlnD : FVec Ideal S1x1024 .f32 := gamOf (B.dh va vb vz) (k0_pay10 B.x)

/-! ## Values -/

variable {B} {S : In} {o : ℕ} (H : Fits S o B) (ho : o % 128 = 0)

theorem i_part {φ : FTy} {X : FVec Ideal S256x1024 φ} {f : ℕ → ℕ → ℝ} (hX : Is X fun i => f (o + (i 0).val) (i 1).val) :
    Is (part g c X) fun i => f (o + (128 * c.val + (i 0).val)) (128 * g.val + (i 1).val) := fun _ => hX _

include H
theorem i_v : Is B.v fun i => S.v (o + (i 0).val) (i 1).val := i_gelu' H.z1
theorem i_vnb : Is B.vnb fun i => S.vn (o + (i 0).val) (i 1).val := i_scaled (i_v H) H.gv
theorem i_low : Is (k0_pay28 (B.ws g)) fun i => S.tri g.val (i 0).val (i 1).val :=
  itrunc (i_lower fun i => (cast3 _ i).trans (H.ws g _))
theorem i_up : Is (B.up g) fun i => S.tri g.val (i 1).val (i 0).val :=
  itrunc (i_upper fun i => (cast3 _ i).trans (H.wsT g _))
theorem i_dy : Is B.dy fun i => S.dy (o + (i 0).val) (i 1).val :=
  mmT (itrunc (icast H.e shapeCasts_S256x1024_S256x1024)) (icast H.wo shapeCasts_S1024x1024_S1024x1024)
theorem i_dm : Is B.dm fun i => S.dm (o + (i 0).val) (i 1).val := imul (i_dy H) (i_gelu H.z0)
theorem i_dmb : Is B.dmb fun i => S.dm (o + (i 0).val) (i 1).val := itrunc (i_dm H)
theorem i_dbD : Is (B.dbD g c) fun i => ∑ k : Fin 128, S.dm (o + (128 * c.val + (i 0).val)) (128 * g.val + k) :=
  fun i => (castCol128 _ i).trans (sumRow128 (i_part g c (i_dm H)) _)
theorem i_dwsD : Is (B.dwsD g c) fun i => if (i 1).val ≤ (i 0).val then
    ∑ k : Fin 128, S.dm (o + (128 * c.val + (i 0).val)) (128 * g.val + k) * S.vn (o + (128 * c.val + (i 1).val)) (128 * g.val + k)
    else 0 :=
  i_lower (mmT (i_part g c (i_dmb H)) (i_part g c (i_vnb H)))

include ho
omit H in
/-- The row and the column of a square's entry: its group, its row inside the chunk, the chunk's first row. -/
theorem square_idx (i : S128x128.Idx) : (128 * g.val + (i 1).val) / 128 = g.val
    ∧ (o + (128 * c.val + (i 0).val)) % 128 = (i 0).val
    ∧ (o + (128 * c.val + (i 0).val)) / 128 * 128 = o + 128 * c.val := by
  have h0 : (i 0).val < 128 := (i 0).isLt
  have h1 : (i 1).val < 128 := (i 1).isLt
  omega
theorem i_mixP : Is (B.mixP g c) fun i => S.mix (o + (128 * c.val + (i 0).val)) (128 * g.val + (i 1).val) :=
  iof (icast (iadd (mm (i_low g H) (i_part g c (i_vnb H)))
    fun i => (bcol128 _ i).trans (icast (H.b g) shapeCasts_S128x1_S128x1 _)) shapeCasts_S128x128_S128x128) fun i => by
    obtain ⟨e1, e2, e3⟩ := square_idx g c ho i
    unfold In.mix
    rw [e1, e2, e3]
    simp only [add_assoc]
    rfl
theorem i_dvnP : Is (B.dvnP g c) fun i => S.dvn (o + (128 * c.val + (i 0).val)) (128 * g.val + (i 1).val) :=
  iof (icast (mm (i_up g H) (i_part g c (i_dmb H))) shapeCasts_S128x128_S128x128) fun i => by
    obtain ⟨e1, e2, e3⟩ := square_idx g c ho i
    unfold In.dvn
    rw [e1, e2, e3]
    simp only [add_assoc]
    rfl
omit H ho
/-- A tile stored by squares and read back. -/
theorem i_readBack (a : View sig .tc .vmem S256x1024 .f32) {w : Fin 8 → Fin 2 → FVec Ideal S128x128 .f32} {f : ℕ → ℕ → ℝ}
    (hw : ∀ g c, Is (w g c) fun i => f (128 * c.val + (i 0).val) (128 * g.val + (i 1).val)) :
    Is (readBack a w) fun i => f (i 0).val (i 1).val := by
  intro i
  unfold readBack
  rw [View.readCov_eq_canon']
  have hi0 : (i 0).val < 256 := (i 0).isLt
  have hi1 : (i 1).val < 1024 := (i 1).isLt
  refine (View.canon_apply_of_pieces (fun y : S256x1024.Idx => ((f (y 0).val (y 1).val : ℝ) : EReal)) (squares w) ?_ _ ?_).trans ?_
  · intro p hp x
    obtain ⟨g, -, hp⟩ := List.mem_flatMap.mp hp
    rcases List.mem_cons.mp hp with rfl | hp
    · refine (hw g 1 x).trans (congrArg₂ (fun a b => ((f a b : ℝ) : EReal)) ?_ ?_)
      · show 128 * 1 + (x 0).val = 128 * 1 + 1 * (x 0).val; omega
      · show 128 * g.val + (x 1).val = 128 * g.val + 1 * (x 1).val; omega
    · rcases List.mem_cons.mp hp with rfl | hp
      · refine (hw g 0 x).trans (congrArg₂ (fun a b => ((f a b : ℝ) : EReal)) ?_ ?_)
        · show 128 * 0 + (x 0).val = 128 * 0 + 1 * (x 0).val; omega
        · show 128 * g.val + (x 1).val = 128 * g.val + 1 * (x 1).val; omega
      · exact absurd hp (List.not_mem_nil)
  · have key : ∀ y : S256x1024.Idx, ∃ p ∈ squares w, y ∈ p.1.set := fun y => by
      have h0 : (y 0).val < 256 := (y 0).isLt
      have h1 : (y 1).val < 1024 := (y 1).isLt
      have hg : (y 1).val / 128 < 8 := by omega
      by_cases hc : (y 0).val < 128
      · refine ⟨⟨Rect.unit ![128 * (0 : Fin 2).val, 128 * ((y 1).val / 128)] S128x128.size (inbMix ⟨_, hg⟩ 0), w ⟨_, hg⟩ 0⟩,
          List.mem_flatMap.mpr ⟨⟨(y 1).val / 128, hg⟩, List.mem_reverse.mpr (List.mem_finRange _),
          List.mem_cons_of_mem _ (List.mem_cons_self ..)⟩, ?_⟩
        refine mem_unit (inbMix ⟨(y 1).val / 128, hg⟩ 0) fun a => ?_
        match a with
        | ⟨0, _⟩ => show 128 * 0 ≤ (y 0).val ∧ (y 0).val < 128 * 0 + 128; omega
        | ⟨1, _⟩ => show 128 * ((y 1).val / 128) ≤ (y 1).val ∧ (y 1).val < 128 * ((y 1).val / 128) + 128; omega
      · refine ⟨_, List.mem_flatMap.mpr ⟨⟨(y 1).val / 128, hg⟩, List.mem_reverse.mpr (List.mem_finRange _),
          List.mem_cons_self ..⟩, ?_⟩
        refine mem_unit (inbMix ⟨(y 1).val / 128, hg⟩ 1) fun a => ?_
        match a with
        | ⟨0, _⟩ => show 128 * 1 ≤ (y 0).val ∧ (y 0).val < 128 * 1 + 128; omega
        | ⟨1, _⟩ => show 128 * ((y 1).val / 128) ≤ (y 1).val ∧ (y 1).val < 128 * ((y 1).val / 128) + 128; omega
    exact key _
  · refine congrArg₂ (fun a b => ((f a b : ℝ) : EReal)) ?_ ?_
    · show 0 + 1 * (i 0).val = (i 0).val; omega
    · show 0 + 1 * (i 1).val = (i 1).val; omega

include H ho
theorem i_du : Is (B.du va) fun i => S.du (o + (i 0).val) (i 1).val :=
  imul (i_dy H) (i_readBack va (f := fun a b => S.mix (o + a) b) fun g c => i_mixP g c H ho)
theorem i_dvn : Is (B.dvn vb) fun i => S.dvn (o + (i 0).val) (i 1).val :=
  i_readBack vb (f := fun a b => S.dvn (o + a) b) fun g c => i_dvnP g c H ho
theorem i_dv : Is (B.dv vb) fun i => S.dv (o + (i 0).val) (i 1).val :=
  i_back (i_rs (i_v H)) (i_hat (i_v H)) (i_dvn vb H ho) H.gv
theorem i_dgvD : Is (B.dgvD vb) fun i => ∑ k : Fin 256, S.dvn (o + k) (i 1).val * hat S.v (o + k) (i 1).val :=
  i_gam (i_hat (i_v H)) (i_dvn vb H ho)
theorem i_dz0 : Is (B.dz0 va) fun i => S.dz (o + (i 0).val) (i 1).val :=
  iof (itrunc (imul (i_du va H ho) (i_dgelu H.z0))) fun i => by
    have h1 : (i 1).val < 1024 := (i 1).isLt
    unfold In.dz
    rw [if_pos h1]
theorem i_dz1 : Is (B.dz1 vb) fun i => S.dz (o + (i 0).val) (1024 + (i 1).val) :=
  iof (itrunc (imul (i_dv vb H ho) (i_dgelu' H.z1))) fun i => by
    unfold In.dz
    rw [if_neg (by omega), show 1024 + (i 1).val - 1024 = (i 1).val by omega]
/-- The projection's result's gradient as the two stores leave it. -/
theorem canon_dz (y : S256x2048.Idx) : View.canon (B.dzL va vb) y = ((S.dz (o + (y 0).val) (y 1).val : ℝ) : EReal) := by
  have h0 : (y 0).val < 256 := (y 0).isLt
  have h1 : (y 1).val < 2048 := (y 1).isLt
  refine View.canon_apply_of_pieces (Val := Elt Ideal) (e := .bf16) (fun y : S256x2048.Idx => ((S.dz (o + (y 0).val) (y 1).val : ℝ) : EReal)) _ ?_ y ?_
  · intro p hp x
    rcases List.mem_cons.mp hp with rfl | hp
    · refine (i_dz1 vb H ho x).trans (congrArg₂ (fun a b => ((S.dz (o + a) b : ℝ) : EReal)) ?_ ?_)
      · show (x 0).val = 0 + 1 * (x 0).val; omega
      · show 1024 + (x 1).val = 1024 + 1 * (x 1).val; omega
    · rcases List.mem_cons.mp hp with rfl | hp
      · refine (i_dz0 va H ho x).trans (congrArg₂ (fun a b => ((S.dz (o + a) b : ℝ) : EReal)) ?_ ?_)
        · show (x 0).val = 0 + 1 * (x 0).val; omega
        · show (x 1).val = 0 + 1 * (x 1).val; omega
      · exact absurd hp (List.not_mem_nil)
  · by_cases hc : (y 1).val < 1024
    · refine ⟨⟨Rect.unit ![0, 0] S256x1024.size inb_S256x2048_S256x1024_0_0, B.dz0 va⟩, List.mem_cons_of_mem _ (List.mem_cons_self ..), ?_⟩
      refine mem_unit inb_S256x2048_S256x1024_0_0 fun a => ?_
      match a with
      | ⟨0, _⟩ => show 0 ≤ (y 0).val ∧ (y 0).val < 0 + 256; omega
      | ⟨1, _⟩ => show 0 ≤ (y 1).val ∧ (y 1).val < 0 + 1024; omega
    · refine ⟨_, List.mem_cons_self .., ?_⟩
      refine mem_unit inb_S256x2048_S256x1024_0_1024 fun a => ?_
      match a with
      | ⟨0, _⟩ => show 0 ≤ (y 0).val ∧ (y 0).val < 0 + 256; omega
      | ⟨1, _⟩ => show 1024 ≤ (y 1).val ∧ (y 1).val < 1024 + 1024; omega
theorem i_dhPart (j : Fin 8) : Is (B.dhPart vz (B.dzL va vb) j) fun i =>
    ∑ k : Fin 256, S.dz (o + (i 0).val) (256 * j.val + k) * S.w (i 1).val (256 * j.val + k) :=
  mmT (f := fun i => S.dz (o + (i 0).val) (256 * j.val + (i 1).val)) (icast (fun i => by
    rw [View.readCov_eq_canon']
    refine (canon_dz va vb H ho _).trans (congrArg₂ (fun a b => ((S.dz (o + a) b : ℝ) : EReal)) ?_ ?_)
    · show 0 + 1 * (i 0).val = (i 0).val; omega
    · show 256 * j.val + 1 * (i 1).val = _; omega) shapeCasts_S256x256_S256x256) fun i => (castW _ i).trans (H.win j _)
omit H ho in
/-- A sum over 2048 columns by eight stretches of 256. -/
theorem sum_2048 (f : ℕ → ℝ) : ∑ n : Fin 2048, f n = ∑ j : Fin 8, ∑ k : Fin 256, f (256 * j.val + k.val) := by
  rw [← Fintype.sum_prod_type', ← Equiv.sum_comp (finProdFinEquiv (m := 8) (n := 256))]
  exact Finset.sum_congr rfl fun x _ => congrArg f (by show x.2.val + 256 * x.1.val = _; omega)
theorem i_dh : Is (B.dh va vb vz) fun i => S.dh (o + (i 0).val) (i 1).val :=
  have h := fun j => i_dhPart va vb vz H ho j
  iof (iadd (iadd (iadd (iadd (iadd (iadd (iadd (h 0) (h 1)) (h 2)) (h 3)) (h 4)) (h 5)) (h 6)) (h 7)) fun i => by
    unfold In.dh
    rw [sum_2048 (fun n => S.dz (o + (i 0).val) n * S.w (i 1).val n), Fin.sum_univ_eight]
theorem i_dx : Is (B.dx va vb vz) fun i => S.dx (o + (i 0).val) (i 1).val :=
  iadd (i_back (i_rs' H.x) (i_hat' H.x) (i_dh va vb vz H ho) H.ln) (icast H.e shapeCasts_S256x1024_S256x1024)
theorem i_dlnD : Is (B.dlnD va vb vz) fun i => ∑ k : Fin 256, S.dh (o + k) (i 1).val * hat S.x (o + k) (i 1).val :=
  i_gam (i_hat' H.x) (i_dh va vb vz H ho)

end Blk

end Cert.Sgu.Tile

end
-- ==== Proof.Acc.lean ====
/-
  An output the body adds to in place, slice by slice: each slice is loaded, added to, stored, then loaded back, added to
  and stored again. What the buffer then holds.
-/
module

public import proofs.«01_k».proof.Proof.Block

@[expose] public section

set_option maxRecDepth 16384

noncomputable section

namespace Cert.Sgu.Tile

open Idealize.ShloMosaic Idealize.ShloMosaic.TcCoe Cert.KernelIdeal Cert.KernelIdeal.Gen Idealize.SL.Sem

section Generic

theorem emb_mem {s : Shape} (r : Rect s) (x : r.shape.Idx) : r.emb x ∈ r.set :=
  r.mem_set.mpr fun a => ⟨(x a).val, (x a).isLt, rfl⟩

variable {s : Shape} {e : EltTy} {ι : Type} (R : ι → Rect s) (bot : List (View.Piece (Elt Ideal) s e))
  (w0 w1 : (g : ι) → List (View.Piece (Elt Ideal) s e) → (R g).shape.Idx → Elt Ideal e)

theorem canon_skip {r : Rect s} {w : r.shape.Idx → Elt Ideal e} {L : List (View.Piece (Elt Ideal) s e)} {y : s.Idx}
    (h : y ∉ r.set) : View.canon (⟨r, w⟩ :: L) y = View.canon L y :=
  View.canon_cons_of_not_mem (⟨r, w⟩ : View.Piece (Elt Ideal) s e) L h

/-- The stores of an output's slices, two to a slice, the last first, after the stores `bot`. -/
def accL : List ι → List (View.Piece (Elt Ideal) s e)
  | [] => bot
  | g :: gs => ⟨R g, w1 g (⟨R g, w0 g (accL gs)⟩ :: accL gs)⟩ :: ⟨R g, w0 g (accL gs)⟩ :: accL gs

variable {R bot w0 w1}

theorem canon_accL (T : s.Idx → Elt Ideal e)
    (hd : ∀ g g', g ≠ g' → ∀ y, y ∈ (R g).set → y ∉ (R g').set)
    (hT : ∀ g L, (∀ x, View.canon L ((R g).emb x) = View.canon bot ((R g).emb x)) →
      ∀ x, w1 g (⟨R g, w0 g L⟩ :: L) x = T ((R g).emb x)) :
    ∀ gs : List ι, gs.Nodup →
      (∀ y, (∀ g ∈ gs, y ∉ (R g).set) → View.canon (accL R bot w0 w1 gs) y = View.canon bot y) ∧
      (∀ g ∈ gs, ∀ x, View.canon (accL R bot w0 w1 gs) ((R g).emb x) = T ((R g).emb x))
  | [], _ => ⟨fun _ _ => rfl, fun _ h => absurd h (List.not_mem_nil)⟩
  | g :: gs, hn => by
    obtain ⟨hg, hn⟩ := List.nodup_cons.mp hn
    obtain ⟨ih0, ih1⟩ := canon_accL T hd hT gs hn
    constructor
    · intro y hy
      have hyg := hy g (List.mem_cons_self)
      rw [accL]
      refine (canon_skip hyg).trans ((canon_skip hyg).trans ?_)
      exact ih0 y fun g' h => hy g' (List.mem_cons_of_mem _ h)
    · intro g' hg' x
      rw [accL]
      by_cases h : g' = g
      · subst h
        rw [View.canon_cons_emb]
        have h0 : ∀ x, View.canon (accL R bot w0 w1 gs) ((R g').emb x) = View.canon bot ((R g').emb x) := fun x =>
          ih0 _ fun k hk => hd g' k (fun hh => hg (by rw [hh]; exact hk)) _ (emb_mem (R g') x)
        exact hT g' (accL R bot w0 w1 gs) h0 x
      · have hx := hd g' g h _ (emb_mem (R g') x)
        refine (canon_skip hx).trans ((canon_skip hx).trans ?_)
        exact ih1 g' ((List.mem_cons.mp hg').resolve_left h) x

end Generic

theorem inb3 (g : Fin 8) : ∀ a, (![g.val, 0, 0] : Fin 3 → ℕ) a + S1x128x128.size a ≤ S8x128x128.size a :=
  (by decide +kernel : ∀ g : Fin 8, ∀ a, (![g.val, 0, 0] : Fin 3 → ℕ) a + S1x128x128.size a ≤ S8x128x128.size a) g
theorem inbW (g : Fin 8) : ∀ a, (![g.val, 0, 0] : Fin 3 → ℕ) a + S1x1024x256.size a ≤ S8x1024x256.size a :=
  (by decide +kernel : ∀ g : Fin 8, ∀ a, (![g.val, 0, 0] : Fin 3 → ℕ) a + S1x1024x256.size a ≤ S8x1024x256.size a) g
theorem inbB (g : Fin 8) : ∀ a, (![0, g.val] : Fin 2 → ℕ) a + S128x1.size a ≤ S128x8.size a :=
  (by decide +kernel : ∀ g : Fin 8, ∀ a, (![0, g.val] : Fin 2 → ℕ) a + S128x1.size a ≤ S128x8.size a) g

/-- A group's slice of the mixing matrices' gradient, and of the biases'. -/
abbrev rW (g : Fin 8) : Rect S8x128x128 := Rect.unit ![g.val, 0, 0] S1x128x128.size (inb3 g)
abbrev rB (g : Fin 8) : Rect S128x8 := Rect.unit ![0, g.val] S128x1.size (inbB g)

/-- The groups in the order their stores are listed, the last first. -/
def groups : List (Fin 8) := (List.finRange 8).reverse

/-- A slice of the mixing matrices' gradient with a chunk's part added. -/
def addW (D : FVec Ideal S128x128 .f32) (L : FVec Ideal S1x128x128 .f32) : FVec Ideal S1x128x128 .f32 :=
  shapeCast S1x128x128 (addf (shapeCast S128x128 L shapeCasts_S1x128x128_S128x128) D) shapeCasts_S128x128_S1x128x128
/-- A slice of the biases' gradient with a chunk's part added. -/
def addB (D : FVec Ideal S128x1 .f32) (L : FVec Ideal S128x1 .f32) : FVec Ideal S128x1 .f32 :=
  addf (shapeCast S128x1 L shapeCasts_S128x1_S128x1) D

/-- The whole of a norm weight's gradient, and a tile's part added to it. -/
abbrev rRow : Rect S1x1024 := Rect.unit ![0, 0] S1x1024.size inb_S1x1024_S1x1024_0_0
def addRow (D L : FVec Ideal S1x1024 .f32) : FVec Ideal S1x1024 .f32 :=
  addf (shapeCast S1x1024 L shapeCasts_S1x1024_S1x1024) D

section Stores
variable (vw : View sig .tc .vmem S8x128x128 .f32) (vb : View sig .tc .vmem S128x8 .f32)
  (DW : Fin 8 → Fin 2 → FVec Ideal S128x128 .f32) (DB : Fin 8 → Fin 2 → FVec Ideal S128x1 .f32)
  (bw : List (View.Piece (Elt Ideal) S8x128x128 .f32)) (bb : List (View.Piece (Elt Ideal) S128x8 .f32))
  (ldw : Fin 8 → List (View.Piece (Elt Ideal) S8x128x128 .f32) → FVec Ideal S1x128x128 .f32)
  (ldb : Fin 8 → List (View.Piece (Elt Ideal) S128x8 .f32) → FVec Ideal S128x1 .f32)

/-- The stores of the mixing matrices' gradient: `ldw` is what a group's first load finds. -/
def accW (gs : List (Fin 8)) : List (View.Piece (Elt Ideal) S8x128x128 .f32) :=
  accL rW bw (fun g L => addW (DW g 0) (ldw g L)) (fun g L => addW (DW g 1) (vw.readCov L (rW g).toLoadRect)) gs
/-- The stores of the biases' gradient. -/
def accB (gs : List (Fin 8)) : List (View.Piece (Elt Ideal) S128x8 .f32) :=
  accL rB bb (fun g L => addB (DB g 0) (ldb g L)) (fun g L => addB (DB g 1) (vb.readCov L (rB g).toLoadRect)) gs

theorem rW_emb (g : Fin 8) (x : S1x128x128.Idx) : (rW g).emb x = (ix3 g (x 1) (x 2) : S8x128x128.Idx) :=
  funext fun a => match a with
    | ⟨0, _⟩ => Fin.ext (by have h : (x 0).val < 1 := (x 0).isLt; show g.val + 1 * (x 0).val = g.val; omega)
    | ⟨1, _⟩ => Fin.ext (by show 0 + 1 * (x 1).val = (x 1).val; omega)
    | ⟨2, _⟩ => Fin.ext (by show 0 + 1 * (x 2).val = (x 2).val; omega)
theorem rB_emb (g : Fin 8) (x : S128x1.Idx) : (rB g).emb x = (ix2 (x 0) g : S128x8.Idx) :=
  funext fun a => match a with
    | ⟨0, _⟩ => Fin.ext (by show 0 + 1 * (x 0).val = (x 0).val; omega)
    | ⟨1, _⟩ => Fin.ext (by have h : (x 1).val < 1 := (x 1).isLt; show g.val + 1 * (x 1).val = g.val; omega)
theorem rW_disj (g k : Fin 8) (h : g ≠ k) (y : S8x128x128.Idx) (hy : y ∈ (rW g).set) : y ∉ (rW k).set := fun hk => by
  have h0 : (g : ℕ) ≤ (y 0).val ∧ (y 0).val < g + 1 := Rect.mem_set_unit.mp hy 0
  have h1 : (k : ℕ) ≤ (y 0).val ∧ (y 0).val < k + 1 := Rect.mem_set_unit.mp hk 0
  exact h (Fin.ext (by omega))
theorem rB_disj (g k : Fin 8) (h : g ≠ k) (y : S128x8.Idx) (hy : y ∈ (rB g).set) : y ∉ (rB k).set := fun hk => by
  have h0 : (g : ℕ) ≤ (y 1).val ∧ (y 1).val < g + 1 := Rect.mem_set_unit.mp hy 1
  have h1 : (k : ℕ) ≤ (y 1).val ∧ (y 1).val < k + 1 := Rect.mem_set_unit.mp hk 1
  exact h (Fin.ext (by omega))
theorem groups_nodup : groups.Nodup := by decide
theorem mem_groups (g : Fin 8) : g ∈ groups := List.mem_reverse.mpr (List.mem_finRange g)

variable {vw vb DW DB bw bb ldw ldb}

theorem i_addW {D : FVec Ideal S128x128 .f32} {L : FVec Ideal S1x128x128 .f32} {d : S128x128.Idx → ℝ} {l : S1x128x128.Idx → ℝ}
    (hD : Is D d) (hL : Is L l) : Is (addW D L) fun x => l (ix3 0 (x 1) (x 2)) + d (ix2 (x 1) (x 2)) := fun x =>
  (cast3' _ x).trans (iadd (fun i => (cast3 L i).trans (hL _)) hD (ix2 (x 1) (x 2)))
theorem i_addB {D : FVec Ideal S128x1 .f32} {L : FVec Ideal S128x1 .f32} {d l : S128x1.Idx → ℝ}
    (hD : Is D d) (hL : Is L l) : Is (addB D L) fun x => l x + d x :=
  iadd (fun i => (congrFun (castSelf L _) i).trans (hL i)) hD

/-- What the mixing matrices' gradient's buffer holds: what the first loads find, and both chunks' parts. -/
theorem canon_accW {b : S8x128x128.Idx → ℝ} {d : Fin 8 → Fin 2 → S128x128.Idx → ℝ} (hD : ∀ g c, Is (DW g c) (d g c))
    (hL : ∀ g L, (∀ x, View.canon L ((rW g).emb x) = View.canon bw ((rW g).emb x)) →
      ∀ x, ldw g L x = ((b ((rW g).emb x) : ℝ) : EReal)) (y : S8x128x128.Idx) :
    View.canon (accW vw DW bw ldw groups) y
      = ((b y + d (y 0) 0 (ix2 (y 1) (y 2)) + d (y 0) 1 (ix2 (y 1) (y 2)) : ℝ) : EReal) := by
  have h := (canon_accL (R := rW) (bot := bw) (w0 := fun g L => addW (DW g 0) (ldw g L))
    (w1 := fun g L => addW (DW g 1) (vw.readCov L (rW g).toLoadRect))
    (fun y => ((b y + d (y 0) 0 (ix2 (y 1) (y 2)) + d (y 0) 1 (ix2 (y 1) (y 2)) : ℝ) : EReal)) rW_disj
    (fun g L hL' x => by
      have e0 : Is (addW (DW g 0) (ldw g L)) _ := i_addW (hD g 0) (hL g L hL')
      have e1 : Is (s := S1x128x128) (φ := .f32) (vw.readCov (⟨rW g, addW (DW g 0) (ldw g L)⟩ :: L) (rW g).toLoadRect) _ := fun x => by
        rw [View.readCov_eq_canon']
        exact (View.canon_cons_emb (rW g) (addW (DW g 0) (ldw g L)) L x).trans (e0 x)
      refine (i_addW (hD g 1) e1 x).trans (congrArg (fun r : ℝ => (r : EReal)) ?_)
      show b ((rW g).emb (ix3 0 (x 1) (x 2) : S1x128x128.Idx)) + d g 0 (ix2 (x 1) (x 2)) + d g 1 (ix2 (x 1) (x 2)) = _
      rw [rW_emb g x, rW_emb g (ix3 0 (x 1) (x 2))]; rfl) groups groups_nodup).2 (y 0) (mem_groups _) (ix3 0 (y 1) (y 2))
  have e : (rW (y 0)).emb (ix3 0 (y 1) (y 2) : S1x128x128.Idx) = y := (rW_emb _ _).trans (funext fun a => match a with
    | ⟨0, _⟩ => rfl
    | ⟨1, _⟩ => rfl
    | ⟨2, _⟩ => rfl)
  rw [e] at h
  exact h

/-- What the biases' gradient's buffer holds. -/
theorem canon_accB {b : S128x8.Idx → ℝ} {d : Fin 8 → Fin 2 → S128x1.Idx → ℝ} (hD : ∀ g c, Is (DB g c) (d g c))
    (hL : ∀ g L, (∀ x, View.canon L ((rB g).emb x) = View.canon bb ((rB g).emb x)) →
      ∀ x, ldb g L x = ((b ((rB g).emb x) : ℝ) : EReal)) (y : S128x8.Idx) :
    View.canon (accB vb DB bb ldb groups) y
      = ((b y + d (y 1) 0 (ix2 (y 0) 0) + d (y 1) 1 (ix2 (y 0) 0) : ℝ) : EReal) := by
  have hx : ∀ x : S128x1.Idx, x = ix2 (x 0) 0 := fun x => funext fun a => match a with
    | ⟨0, _⟩ => rfl
    | ⟨1, _⟩ => Fin.ext (by have h : (x 1).val < 1 := (x 1).isLt; show (x 1).val = 0; omega)
  have h := (canon_accL (R := rB) (bot := bb) (w0 := fun g L => addB (DB g 0) (ldb g L))
    (w1 := fun g L => addB (DB g 1) (vb.readCov L (rB g).toLoadRect))
    (fun y => ((b y + d (y 1) 0 (ix2 (y 0) 0) + d (y 1) 1 (ix2 (y 0) 0) : ℝ) : EReal)) rB_disj
    (fun g L hL' x => by
      have e0 : Is (addB (DB g 0) (ldb g L)) _ := i_addB (hD g 0) (hL g L hL')
      have e1 : Is (s := S128x1) (φ := .f32) (vb.readCov (⟨rB g, addB (DB g 0) (ldb g L)⟩ :: L) (rB g).toLoadRect) _ := fun x => by
        rw [View.readCov_eq_canon']
        exact (View.canon_cons_emb (rB g) (addB (DB g 0) (ldb g L)) L x).trans (e0 x)
      refine (i_addB (hD g 1) e1 x).trans (congrArg (fun r : ℝ => (r : EReal)) ?_)
      show b ((rB g).emb x) + d g 0 x + d g 1 x = _
      rw [rB_emb g x]
      exact congrArg (fun z => b (ix2 (x 0) g) + d g 0 z + d g 1 z) (hx x)) groups groups_nodup).2 (y 1) (mem_groups _) (ix2 (y 0) 0)
  have e : (rB (y 1)).emb (ix2 (y 0) 0 : S128x1.Idx) = y := (rB_emb _ _).trans (funext fun a => match a with
    | ⟨0, _⟩ => rfl
    | ⟨1, _⟩ => rfl)
  rw [e] at h
  exact h

end Stores

end Cert.Sgu.Tile

end
-- ==== Proof.Conn.lean ====
/-
  The generated runs of the kernel's body on given blocks, bundled: the buffers a grid point runs on and the blocks its
  loads find there. Each generated list of stores is the one `Block.lean` writes down, for the blocks these loads give.
-/
module

public import proofs.«01_k».proof.Proof.Acc

@[expose] public section

set_option maxRecDepth 16384

noncomputable section

namespace Cert.Sgu.Tile

open Idealize.ShloMosaic Idealize.ShloMosaic.TcCoe Cert.KernelIdeal Cert.KernelIdeal.Gen Idealize.SL.Sem

/-- The buffers a grid point runs on. -/
structure Bufs where
  m1 : Memref sig .tc .vmem S256x1024 .f32
  h1 : m1.IsWhole
  m2 : Memref sig .tc .vmem S256x1024 .f32
  h2 : m2.IsWhole
  m3 : Memref sig .tc .vmem S256x2048 .f32
  h3 : m3.IsWhole
  m4 : Memref sig .tc .vmem S1x1024 .f32
  h4 : m4.IsWhole
  m5 : Memref sig .tc .vmem S8x1024x256 .bf16
  h5 : m5.IsWhole
  m6 : Memref sig .tc .vmem S1x1024 .f32
  h6 : m6.IsWhole
  m7 : Memref sig .tc .vmem S8x128x128 .f32
  h7 : m7.IsWhole
  m8 : Memref sig .tc .vmem S8x128x128 .f32
  h8 : m8.IsWhole
  m9 : Memref sig .tc .vmem S128x8 .f32
  h9 : m9.IsWhole
  m10 : Memref sig .tc .vmem S1024x1024 .bf16
  h10 : m10.IsWhole
  m11 : Memref sig .tc .vmem S256x1024 .f32
  h11 : m11.IsWhole
  m12 : Memref sig .tc .vmem S256x2048 .bf16
  h12 : m12.IsWhole
  m13 : Memref sig .tc .vmem S8x128x128 .f32
  h13 : m13.IsWhole
  m14 : Memref sig .tc .vmem S128x8 .f32
  h14 : m14.IsWhole
  m15 : Memref sig .tc .vmem S1x1024 .f32
  h15 : m15.IsWhole
  m16 : Memref sig .tc .vmem S1x1024 .f32
  h16 : m16.IsWhole
  m17 : Memref sig .tc .vmem S256x1024 .f32
  h17 : m17.IsWhole
  m18 : Memref sig .tc .vmem S256x1024 .f32
  h18 : m18.IsWhole

/-- The contents of the buffers it only loads. -/
structure Ins where
  x0 : Vec Ideal S256x1024 .f32
  x1 : Vec Ideal S256x1024 .f32
  x2 : Vec Ideal S256x2048 .f32
  x3 : Vec Ideal S1x1024 .f32
  x4 : Vec Ideal S8x1024x256 .bf16
  x5 : Vec Ideal S1x1024 .f32
  x6 : Vec Ideal S8x128x128 .f32
  x7 : Vec Ideal S8x128x128 .f32
  x8 : Vec Ideal S128x8 .f32
  x9 : Vec Ideal S1024x1024 .bf16

/-- The blocks the loads give. -/
def blk (a : Bufs) (x : Ins) : Blk where
  e := View.readAt (Elt Ideal) a.m1.view (Rect.unit ![0, 0] S256x1024.size inb_S256x1024_S256x1024_0_0).toLoadRect (a.h1.unread x.x0)
  x := View.readAt (Elt Ideal) a.m2.view (Rect.unit ![0, 0] S256x1024.size inb_S256x1024_S256x1024_0_0).toLoadRect (a.h2.unread x.x1)
  z0 := View.readAt (Elt Ideal) a.m3.view (Rect.unit ![0, 0] S256x1024.size inb_S256x2048_S256x1024_0_0 : Rect S256x2048).toLoadRect (a.h3.unread x.x2)
  z1 := View.readAt (Elt Ideal) a.m3.view (Rect.unit ![0, 1024] S256x1024.size inb_S256x2048_S256x1024_0_1024 : Rect S256x2048).toLoadRect (a.h3.unread x.x2)
  ln := View.readAt (Elt Ideal) a.m4.view (Rect.unit ![0, 0] S1x1024.size inb_S1x1024_S1x1024_0_0).toLoadRect (a.h4.unread x.x3)
  win := fun j => View.readAt (Elt Ideal) a.m5.view (Rect.unit ![j.val, 0, 0] S1x1024x256.size (inbW j) : Rect S8x1024x256).toLoadRect (a.h5.unread x.x4)
  gv := View.readAt (Elt Ideal) a.m6.view (Rect.unit ![0, 0] S1x1024.size inb_S1x1024_S1x1024_0_0).toLoadRect (a.h6.unread x.x5)
  ws := fun g => View.readAt (Elt Ideal) a.m7.view (Rect.unit ![g.val, 0, 0] S1x128x128.size (inb3 g) : Rect S8x128x128).toLoadRect (a.h7.unread x.x6)
  wsT := fun g => View.readAt (Elt Ideal) a.m8.view (Rect.unit ![g.val, 0, 0] S1x128x128.size (inb3 g) : Rect S8x128x128).toLoadRect (a.h8.unread x.x7)
  b := fun g => View.readAt (Elt Ideal) a.m9.view (Rect.unit ![0, g.val] S128x1.size (inbB g) : Rect S128x8).toLoadRect (a.h9.unread x.x8)
  wo := View.readAt (Elt Ideal) a.m10.view (Rect.unit ![0, 0] S1024x1024.size inb_S1024x1024_S1024x1024_0_0).toLoadRect (a.h10.unread x.x9)

variable (c : Dev nD) (i : grid0.Coords) (a : Bufs) (x : Ins)

/-- The run at a grid point after the first. -/
abbrev runB (hc : ¬cond0_0 i) (xo12 : Vec Ideal S8x128x128 .f32) (xo13 : Vec Ideal S128x8 .f32)
    (xo14 : Vec Ideal S1x1024 .f32) (xo15 : Vec Ideal S1x1024 .f32) :=
  kernelRun0_B (F := Ideal) c i a.m1 a.h1 a.m2 a.h2 a.m3 a.h3 a.m4 a.h4 a.m5 a.h5 a.m6 a.h6 a.m7 a.h7 a.m8 a.h8 a.m9 a.h9 a.m10 a.h10 a.m11
    a.h11 a.m12 a.h12 a.m13 a.h13 a.m14 a.h14 a.m15 a.h15 a.m16 a.h16 a.m17 a.h17 a.m18 a.h18
    hc x.x0 x.x1 x.x2 x.x3 x.x4 x.x5 x.x6 x.x7 x.x8 x.x9 xo12 xo13 xo14 xo15
/-- The run at the first grid point. -/
abbrev runA (hc : cond0_0 i) :=
  kernelRun0_A (F := Ideal) c i a.m1 a.h1 a.m2 a.h2 a.m3 a.h3 a.m4 a.h4 a.m5 a.h5 a.m6 a.h6 a.m7 a.h7 a.m8 a.h8 a.m9 a.h9 a.m10 a.h10 a.m11
    a.h11 a.m12 a.h12 a.m13 a.h13 a.m14 a.h14 a.m15 a.h15 a.m16 a.h16 a.m17 a.h17 a.m18 a.h18
    hc x.x0 x.x1 x.x2 x.x3 x.x4 x.x5 x.x6 x.x7 x.x8 x.x9

section B
variable (hc : ¬cond0_0 i) (xo12 : Vec Ideal S8x128x128 .f32) (xo13 : Vec Ideal S128x8 .f32)
  (xo14 : Vec Ideal S1x1024 .f32) (xo15 : Vec Ideal S1x1024 .f32)

set_option maxHeartbeats 4000000

namespace B

theorem vnb : kernelRun0_B.sl.v96 (F := Ideal) c a.m3 a.h3 a.m6 a.h6 x.x2 x.x5 = (blk a x).vnb :=
  by exact rfl

theorem mix0 : kernelRun0_B.sl.HS0_16 (F := Ideal) c a.m3 a.h3 a.m6 a.h6 a.m7 a.h7 a.m9 a.h9 x.x2 x.x5 x.x6 x.x8 =
    Blk.squares fun g k => (blk a x).mixOf g k (kernelRun0_B.sl.v96 (F := Ideal) c a.m3 a.h3 a.m6 a.h6 x.x2 x.x5)
    :=
  by exact rfl

theorem dm : kernelRun0_B.sl.v290 (F := Ideal) c a.m1 a.h1 a.m3 a.h3 a.m10 a.h10 x.x0 x.x2 x.x9 = (blk a x).dm :=
  by exact rfl

theorem dvn0 : kernelRun0_B.sl.HS1_16 (F := Ideal) c a.m1 a.h1 a.m3 a.h3 a.m8 a.h8 a.m10 a.h10 x.x0 x.x2 x.x7 x.x9
    = Blk.squares fun g k => (blk a x).dvnOf g k (kernelRun0_B.sl.v291 (F := Ideal) c a.m1 a.h1 a.m3 a.h3 a.m10
    a.h10 x.x0 x.x2 x.x9) :=
  by exact rfl

theorem v688 : kernelRun0_B.sl.v688 (F := Ideal) c a.m1 a.h1 a.m3 a.h3 a.m8 a.h8 a.m10 a.h10 a.m18 x.x0 x.x2 x.x7
    x.x9 = a.m18.view.readCov (kernelRun0_B.sl.HS1_16 (F := Ideal) c a.m1 a.h1 a.m3 a.h3 a.m8 a.h8 a.m10 a.h10 x.x0
    x.x2 x.x7 x.x9) (Rect.unit ![0, 0] S256x1024.size inb_S256x1024_S256x1024_0_0).toLoadRect :=
  by exact rfl

theorem v288 : kernelRun0_B.sl.v288 (F := Ideal) c a.m3 a.h3 a.m6 a.h6 a.m7 a.h7 a.m9 a.h9 a.m17 x.x2 x.x5 x.x6
    x.x8 = a.m17.view.readCov (kernelRun0_B.sl.HS0_16 (F := Ideal) c a.m3 a.h3 a.m6 a.h6 a.m7 a.h7 a.m9 a.h9 x.x2
    x.x5 x.x6 x.x8) (Rect.unit ![0, 0] S256x1024.size inb_S256x1024_S256x1024_0_0).toLoadRect :=
  by exact rfl

theorem dz : kernelRun0_B.sl.H11_2 (F := Ideal) c a.m1 a.h1 a.m3 a.h3 a.m6 a.h6 a.m7 a.h7 a.m8 a.h8 a.m9 a.h9 a.m10
    a.h10 a.m17 a.m18 x.x0 x.x2 x.x5 x.x6 x.x7 x.x8 x.x9 = Blk.halves ((blk a x).dz1Of (back (k0_pay24 (blk a x).v)
    (k0_pay25 (blk a x).v) (kernelRun0_B.sl.v688 (F := Ideal) c a.m1 a.h1 a.m3 a.h3 a.m8 a.h8 a.m10 a.h10 a.m18
    x.x0 x.x2 x.x7 x.x9) (blk a x).gv)) ((blk a x).dz0Of (mulf (blk a x).dy (kernelRun0_B.sl.v288 (F := Ideal) c
    a.m3 a.h3 a.m6 a.h6 a.m7 a.h7 a.m9 a.h9 a.m17 x.x2 x.x5 x.x6 x.x8))) :=
  by exact rfl

theorem dx0 : kernelRun0_B.sl.r_11 (F := Ideal) c a.m1 a.h1 a.m2 a.h2 a.m3 a.h3 a.m4 a.h4 a.m5 a.h5 a.m6 a.h6 a.m7
    a.h7 a.m8 a.h8 a.m9 a.h9 a.m10 a.h10 a.m12 a.m17 a.m18 x.x0 x.x1 x.x2 x.x3 x.x4 x.x5 x.x6 x.x7 x.x8 x.x9 = back
    (k0_pay9 (blk a x).x) (k0_pay10 (blk a x).x) ((blk a x).dhOf a.m12.view (kernelRun0_B.sl.H11_2 (F := Ideal) c
    a.m1 a.h1 a.m3 a.h3 a.m6 a.h6 a.m7 a.h7 a.m8 a.h8 a.m9 a.h9 a.m10 a.h10 a.m17 a.m18 x.x0 x.x2 x.x5 x.x6 x.x7
    x.x8 x.x9)) (blk a x).ln :=
  by exact rfl

theorem dln0 : kernelRun0_B.sl.r_12 (F := Ideal) c a.m1 a.h1 a.m2 a.h2 a.m3 a.h3 a.m5 a.h5 a.m6 a.h6 a.m7 a.h7 a.m8
    a.h8 a.m9 a.h9 a.m10 a.h10 a.m12 a.m17 a.m18 x.x0 x.x1 x.x2 x.x4 x.x5 x.x6 x.x7 x.x8 x.x9 = mulf ((blk a
    x).dhOf a.m12.view (kernelRun0_B.sl.H11_2 (F := Ideal) c a.m1 a.h1 a.m3 a.h3 a.m6 a.h6 a.m7 a.h7 a.m8 a.h8 a.m9
    a.h9 a.m10 a.h10 a.m17 a.m18 x.x0 x.x2 x.x5 x.x6 x.x7 x.x8 x.x9)) (k0_pay10 (blk a x).x) :=
  by exact rfl

theorem dgv0 : kernelRun0_B.sl.v704 (F := Ideal) c a.m1 a.h1 a.m3 a.h3 a.m8 a.h8 a.m10 a.h10 a.m18 x.x0 x.x2 x.x7
    x.x9 = Blk.gamOf (kernelRun0_B.sl.v688 (F := Ideal) c a.m1 a.h1 a.m3 a.h3 a.m8 a.h8 a.m10 a.h10 a.m18 x.x0 x.x2
    x.x7 x.x9) (k0_pay25 (blk a x).v) :=
  by exact rfl

theorem dws0 : (⟨Rect.unit ![7, 0, 0] S1x128x128.size (inb3 7), (kernelRun0_B.sl.v676 (F := Ideal) c a.m1 a.h1 a.m3
    a.h3 a.m6 a.h6 a.m10 a.h10 a.m13 a.h13 x.x0 x.x2 x.x5 x.x9 xo12)⟩ :: (kernelRun0_B.sl.H12_15 (F := Ideal) c
    a.m1 a.h1 a.m3 a.h3 a.m6 a.h6 a.m10 a.h10 a.m13 a.h13 x.x0 x.x2 x.x5 x.x9 xo12) : List (View.Piece (Elt Ideal)
    S8x128x128 .f32)) = accW a.m13.view (fun g k => Blk.dwsOf g k (kernelRun0_B.sl.v291 (F := Ideal) c a.m1 a.h1
    a.m3 a.h3 a.m10 a.h10 x.x0 x.x2 x.x9) (kernelRun0_B.sl.v96 (F := Ideal) c a.m3 a.h3 a.m6 a.h6 x.x2 x.x5)) []
    (fun g _ => View.readAt (Elt Ideal) a.m13.view (rW g).toLoadRect (a.h13.unread xo12)) groups :=
  by exact rfl

theorem db0 : (⟨Rect.unit ![0, 7] S128x1.size (inbB 7), (kernelRun0_B.sl.v682 (F := Ideal) c a.m1 a.h1 a.m3 a.h3
    a.m10 a.h10 a.m14 a.h14 x.x0 x.x2 x.x9 xo13)⟩ :: (kernelRun0_B.sl.H13_15 (F := Ideal) c a.m1 a.h1 a.m3 a.h3
    a.m10 a.h10 a.m14 a.h14 x.x0 x.x2 x.x9 xo13) : List (View.Piece (Elt Ideal) S128x8 .f32)) = accB a.m14.view
    (fun g k => Blk.dbOf g k (kernelRun0_B.sl.v290 (F := Ideal) c a.m1 a.h1 a.m3 a.h3 a.m10 a.h10 x.x0 x.x2 x.x9))
    [] (fun g _ => View.readAt (Elt Ideal) a.m14.view (rB g).toLoadRect (a.h14.unread xo13)) groups :=
  by exact rfl

theorem dmb : kernelRun0_B.sl.v291 (F := Ideal) c a.m1 a.h1 a.m3 a.h3 a.m10 a.h10 x.x0 x.x2 x.x9 = (blk a x).dmb :=
  by exact rfl

theorem dzL : kernelRun0_B.sl.H11_2 (F := Ideal) c a.m1 a.h1 a.m3 a.h3 a.m6 a.h6 a.m7 a.h7 a.m8 a.h8 a.m9 a.h9
    a.m10 a.h10 a.m17 a.m18 x.x0 x.x2 x.x5 x.x6 x.x7 x.x8 x.x9 = (blk a x).dzL a.m17.view a.m18.view :=
  by
  rw [dz, v688, v288, dvn0, mix0, vnb, dmb]; rfl

theorem w10 : (runB c i a x hc xo12 xo13 xo14 xo15).1 = [⟨Rect.unit ![0, 0] S256x1024.size
    inb_S256x1024_S256x1024_0_0, (blk a x).dx a.m17.view a.m18.view a.m12.view⟩] :=
  (rfl : _ = ([⟨Rect.unit ![0, 0] S256x1024.size inb_S256x1024_S256x1024_0_0, addf (kernelRun0_B.sl.r_11 (F := Ideal) c a.m1 a.h1 a.m2 a.h2 a.m3 a.h3 a.m4 a.h4 a.m5 a.h5 a.m6 a.h6 a.m7 a.h7 a.m8 a.h8 a.m9 a.h9 a.m10 a.h10 a.m12 a.m17 a.m18 x.x0 x.x1 x.x2 x.x3 x.x4 x.x5 x.x6 x.x7 x.x8 x.x9) (k0_pay7 (blk a x).e)⟩] : List (View.Piece (Elt Ideal) S256x1024 .f32))).trans (by
    rw [dx0, dzL]; rfl)

theorem w11 : (runB c i a x hc xo12 xo13 xo14 xo15).2.1 = (blk a x).dzL a.m17.view a.m18.view :=
  (rfl : _ = kernelRun0_B.sl.H11_2 (F := Ideal) c a.m1 a.h1 a.m3 a.h3 a.m6 a.h6 a.m7 a.h7 a.m8 a.h8 a.m9 a.h9 a.m10 a.h10 a.m17 a.m18 x.x0 x.x2 x.x5 x.x6 x.x7 x.x8 x.x9).trans (dzL c a x)

theorem w12 : (runB c i a x hc xo12 xo13 xo14 xo15).2.2.1 = accW a.m13.view (blk a x).dwsD [] (fun g _ =>
    View.readAt (Elt Ideal) a.m13.view (rW g).toLoadRect (a.h13.unread xo12)) groups :=
  (rfl : _ = (⟨Rect.unit ![7, 0, 0] S1x128x128.size (inb3 7), (kernelRun0_B.sl.v676 (F := Ideal) c a.m1 a.h1 a.m3 a.h3 a.m6 a.h6 a.m10 a.h10 a.m13 a.h13 x.x0 x.x2 x.x5 x.x9 xo12)⟩ :: (kernelRun0_B.sl.H12_15 (F := Ideal) c a.m1 a.h1 a.m3 a.h3 a.m6 a.h6 a.m10 a.h10 a.m13 a.h13 x.x0 x.x2 x.x5 x.x9 xo12) : List (View.Piece (Elt Ideal) S8x128x128 .f32))).trans (by
    rw [dws0, dmb, vnb]; rfl)

theorem w13 : (runB c i a x hc xo12 xo13 xo14 xo15).2.2.2.1 = accB a.m14.view (blk a x).dbD [] (fun g _ =>
    View.readAt (Elt Ideal) a.m14.view (rB g).toLoadRect (a.h14.unread xo13)) groups :=
  (rfl : _ = (⟨Rect.unit ![0, 7] S128x1.size (inbB 7), (kernelRun0_B.sl.v682 (F := Ideal) c a.m1 a.h1 a.m3 a.h3 a.m10 a.h10 a.m14 a.h14 x.x0 x.x2 x.x9 xo13)⟩ :: (kernelRun0_B.sl.H13_15 (F := Ideal) c a.m1 a.h1 a.m3 a.h3 a.m10 a.h10 a.m14 a.h14 x.x0 x.x2 x.x9 xo13) : List (View.Piece (Elt Ideal) S128x8 .f32))).trans (by
    rw [db0, dm]; rfl)

theorem w14 : (runB c i a x hc xo12 xo13 xo14 xo15).2.2.2.2.1 = ⟨rRow, addRow (Blk.dlnD (blk a x) a.m17.view
    a.m18.view a.m12.view) (View.readAt (Elt Ideal) a.m15.view rRow.toLoadRect (a.h15.unread xo14))⟩ :: [] :=
  (rfl : _ = (⟨rRow, k0_pay1 (kernelRun0_B.sl.r_12 (F := Ideal) c a.m1 a.h1 a.m2 a.h2 a.m3 a.h3 a.m5 a.h5 a.m6 a.h6 a.m7 a.h7 a.m8 a.h8 a.m9 a.h9 a.m10 a.h10 a.m12 a.m17 a.m18 x.x0 x.x1 x.x2 x.x4 x.x5 x.x6 x.x7 x.x8 x.x9) (View.readAt (Elt Ideal) a.m15.view rRow.toLoadRect (a.h15.unread xo14))⟩ :: [] : List (View.Piece (Elt Ideal) S1x1024 .f32))).trans (by
    rw [dln0, dzL]; rfl)

theorem w15 : (runB c i a x hc xo12 xo13 xo14 xo15).2.2.2.2.2.1 = ⟨rRow, addRow ((blk a x).dgvD a.m18.view)
    (View.readAt (Elt Ideal) a.m16.view rRow.toLoadRect (a.h16.unread xo15))⟩ :: [] :=
  (rfl : _ = (⟨rRow, addRow (kernelRun0_B.sl.v704 (F := Ideal) c a.m1 a.h1 a.m3 a.h3 a.m8 a.h8 a.m10 a.h10 a.m18 x.x0 x.x2 x.x7 x.x9) (View.readAt (Elt Ideal) a.m16.view rRow.toLoadRect (a.h16.unread xo15))⟩ :: [] : List (View.Piece (Elt Ideal) S1x1024 .f32))).trans (by
    rw [dgv0, v688, dvn0, dmb]; rfl)

end B
end B

section A
variable (hc : cond0_0 i)

set_option maxHeartbeats 4000000

namespace A

theorem vnb : kernelRun0_A.sl.v96 (F := Ideal) c a.m3 a.h3 a.m6 a.h6 x.x2 x.x5 = (blk a x).vnb :=
  by exact rfl

theorem mix0 : kernelRun0_A.sl.HS0_16 (F := Ideal) c a.m3 a.h3 a.m6 a.h6 a.m7 a.h7 a.m9 a.h9 x.x2 x.x5 x.x6 x.x8 =
    Blk.squares fun g k => (blk a x).mixOf g k (kernelRun0_A.sl.v96 (F := Ideal) c a.m3 a.h3 a.m6 a.h6 x.x2 x.x5)
    :=
  by exact rfl

theorem dm : kernelRun0_A.sl.v290 (F := Ideal) c a.m1 a.h1 a.m3 a.h3 a.m10 a.h10 x.x0 x.x2 x.x9 = (blk a x).dm :=
  by exact rfl

theorem dvn0 : kernelRun0_A.sl.HS1_16 (F := Ideal) c a.m1 a.h1 a.m3 a.h3 a.m8 a.h8 a.m10 a.h10 x.x0 x.x2 x.x7 x.x9
    = Blk.squares fun g k => (blk a x).dvnOf g k (kernelRun0_A.sl.v291 (F := Ideal) c a.m1 a.h1 a.m3 a.h3 a.m10
    a.h10 x.x0 x.x2 x.x9) :=
  by exact rfl

theorem v688 : kernelRun0_A.sl.v688 (F := Ideal) c a.m1 a.h1 a.m3 a.h3 a.m8 a.h8 a.m10 a.h10 a.m18 x.x0 x.x2 x.x7
    x.x9 = a.m18.view.readCov (kernelRun0_A.sl.HS1_16 (F := Ideal) c a.m1 a.h1 a.m3 a.h3 a.m8 a.h8 a.m10 a.h10 x.x0
    x.x2 x.x7 x.x9) (Rect.unit ![0, 0] S256x1024.size inb_S256x1024_S256x1024_0_0).toLoadRect :=
  by exact rfl

theorem v288 : kernelRun0_A.sl.v288 (F := Ideal) c a.m3 a.h3 a.m6 a.h6 a.m7 a.h7 a.m9 a.h9 a.m17 x.x2 x.x5 x.x6
    x.x8 = a.m17.view.readCov (kernelRun0_A.sl.HS0_16 (F := Ideal) c a.m3 a.h3 a.m6 a.h6 a.m7 a.h7 a.m9 a.h9 x.x2
    x.x5 x.x6 x.x8) (Rect.unit ![0, 0] S256x1024.size inb_S256x1024_S256x1024_0_0).toLoadRect :=
  by exact rfl

theorem dz : kernelRun0_A.sl.H11_2 (F := Ideal) c a.m1 a.h1 a.m3 a.h3 a.m6 a.h6 a.m7 a.h7 a.m8 a.h8 a.m9 a.h9 a.m10
    a.h10 a.m17 a.m18 x.x0 x.x2 x.x5 x.x6 x.x7 x.x8 x.x9 = Blk.halves ((blk a x).dz1Of (back (k0_pay24 (blk a x).v)
    (k0_pay25 (blk a x).v) (kernelRun0_A.sl.v688 (F := Ideal) c a.m1 a.h1 a.m3 a.h3 a.m8 a.h8 a.m10 a.h10 a.m18
    x.x0 x.x2 x.x7 x.x9) (blk a x).gv)) ((blk a x).dz0Of (mulf (blk a x).dy (kernelRun0_A.sl.v288 (F := Ideal) c
    a.m3 a.h3 a.m6 a.h6 a.m7 a.h7 a.m9 a.h9 a.m17 x.x2 x.x5 x.x6 x.x8))) :=
  by exact rfl

theorem dx0 : kernelRun0_A.sl.r_11 (F := Ideal) c a.m1 a.h1 a.m2 a.h2 a.m3 a.h3 a.m4 a.h4 a.m5 a.h5 a.m6 a.h6 a.m7
    a.h7 a.m8 a.h8 a.m9 a.h9 a.m10 a.h10 a.m12 a.m17 a.m18 x.x0 x.x1 x.x2 x.x3 x.x4 x.x5 x.x6 x.x7 x.x8 x.x9 = back
    (k0_pay9 (blk a x).x) (k0_pay10 (blk a x).x) ((blk a x).dhOf a.m12.view (kernelRun0_A.sl.H11_2 (F := Ideal) c
    a.m1 a.h1 a.m3 a.h3 a.m6 a.h6 a.m7 a.h7 a.m8 a.h8 a.m9 a.h9 a.m10 a.h10 a.m17 a.m18 x.x0 x.x2 x.x5 x.x6 x.x7
    x.x8 x.x9)) (blk a x).ln :=
  by exact rfl

theorem dln0 : kernelRun0_A.sl.r_12 (F := Ideal) c a.m1 a.h1 a.m2 a.h2 a.m3 a.h3 a.m5 a.h5 a.m6 a.h6 a.m7 a.h7 a.m8
    a.h8 a.m9 a.h9 a.m10 a.h10 a.m12 a.m17 a.m18 x.x0 x.x1 x.x2 x.x4 x.x5 x.x6 x.x7 x.x8 x.x9 = mulf ((blk a
    x).dhOf a.m12.view (kernelRun0_A.sl.H11_2 (F := Ideal) c a.m1 a.h1 a.m3 a.h3 a.m6 a.h6 a.m7 a.h7 a.m8 a.h8 a.m9
    a.h9 a.m10 a.h10 a.m17 a.m18 x.x0 x.x2 x.x5 x.x6 x.x7 x.x8 x.x9)) (k0_pay10 (blk a x).x) :=
  by exact rfl

theorem dgv0 : kernelRun0_A.sl.v704 (F := Ideal) c a.m1 a.h1 a.m3 a.h3 a.m8 a.h8 a.m10 a.h10 a.m18 x.x0 x.x2 x.x7
    x.x9 = Blk.gamOf (kernelRun0_A.sl.v688 (F := Ideal) c a.m1 a.h1 a.m3 a.h3 a.m8 a.h8 a.m10 a.h10 a.m18 x.x0 x.x2
    x.x7 x.x9) (k0_pay25 (blk a x).v) :=
  by exact rfl

theorem dws0 : (⟨Rect.unit ![7, 0, 0] S1x128x128.size (inb3 7), (kernelRun0_A.sl.v676 (F := Ideal) c a.m1 a.h1 a.m3
    a.h3 a.m6 a.h6 a.m10 a.h10 a.m13 x.x0 x.x2 x.x5 x.x9)⟩ :: (kernelRun0_A.sl.H12_16 (F := Ideal) c a.m1 a.h1 a.m3
    a.h3 a.m6 a.h6 a.m10 a.h10 a.m13 x.x0 x.x2 x.x5 x.x9) : List (View.Piece (Elt Ideal) S8x128x128 .f32)) = accW
    a.m13.view (fun g k => Blk.dwsOf g k (kernelRun0_A.sl.v291 (F := Ideal) c a.m1 a.h1 a.m3 a.h3 a.m10 a.h10 x.x0
    x.x2 x.x9) (kernelRun0_A.sl.v96 (F := Ideal) c a.m3 a.h3 a.m6 a.h6 x.x2 x.x5)) kernelRun0_A.sl.H12_1 (fun g L
    => a.m13.view.readCov L (rW g).toLoadRect) groups :=
  by exact rfl

theorem db0 : (⟨Rect.unit ![0, 7] S128x1.size (inbB 7), (kernelRun0_A.sl.v682 (F := Ideal) c a.m1 a.h1 a.m3 a.h3
    a.m10 a.h10 a.m14 x.x0 x.x2 x.x9)⟩ :: (kernelRun0_A.sl.H13_16 (F := Ideal) c a.m1 a.h1 a.m3 a.h3 a.m10 a.h10
    a.m14 x.x0 x.x2 x.x9) : List (View.Piece (Elt Ideal) S128x8 .f32)) = accB a.m14.view (fun g k => Blk.dbOf g k
    (kernelRun0_A.sl.v290 (F := Ideal) c a.m1 a.h1 a.m3 a.h3 a.m10 a.h10 x.x0 x.x2 x.x9)) kernelRun0_A.sl.H13_1
    (fun g L => a.m14.view.readCov L (rB g).toLoadRect) groups :=
  by exact rfl

theorem dmb : kernelRun0_A.sl.v291 (F := Ideal) c a.m1 a.h1 a.m3 a.h3 a.m10 a.h10 x.x0 x.x2 x.x9 = (blk a x).dmb :=
  by exact rfl

theorem dzL : kernelRun0_A.sl.H11_2 (F := Ideal) c a.m1 a.h1 a.m3 a.h3 a.m6 a.h6 a.m7 a.h7 a.m8 a.h8 a.m9 a.h9
    a.m10 a.h10 a.m17 a.m18 x.x0 x.x2 x.x5 x.x6 x.x7 x.x8 x.x9 = (blk a x).dzL a.m17.view a.m18.view :=
  by
  rw [dz, v688, v288, dvn0, mix0, vnb, dmb]; rfl

theorem w10 : (runA c i a x hc).1 = [⟨Rect.unit ![0, 0] S256x1024.size inb_S256x1024_S256x1024_0_0, (blk a x).dx
    a.m17.view a.m18.view a.m12.view⟩] :=
  (rfl : _ = ([⟨Rect.unit ![0, 0] S256x1024.size inb_S256x1024_S256x1024_0_0, addf (kernelRun0_A.sl.r_11 (F := Ideal) c a.m1 a.h1 a.m2 a.h2 a.m3 a.h3 a.m4 a.h4 a.m5 a.h5 a.m6 a.h6 a.m7 a.h7 a.m8 a.h8 a.m9 a.h9 a.m10 a.h10 a.m12 a.m17 a.m18 x.x0 x.x1 x.x2 x.x3 x.x4 x.x5 x.x6 x.x7 x.x8 x.x9) (k0_pay7 (blk a x).e)⟩] : List (View.Piece (Elt Ideal) S256x1024 .f32))).trans (by
    rw [dx0, dzL]; rfl)

theorem w11 : (runA c i a x hc).2.1 = (blk a x).dzL a.m17.view a.m18.view :=
  (rfl : _ = kernelRun0_A.sl.H11_2 (F := Ideal) c a.m1 a.h1 a.m3 a.h3 a.m6 a.h6 a.m7 a.h7 a.m8 a.h8 a.m9 a.h9 a.m10 a.h10 a.m17 a.m18 x.x0 x.x2 x.x5 x.x6 x.x7 x.x8 x.x9).trans (dzL c a x)

theorem w12 : (runA c i a x hc).2.2.1 = accW a.m13.view (blk a x).dwsD kernelRun0_A.sl.H12_1 (fun g L =>
    a.m13.view.readCov L (rW g).toLoadRect) groups :=
  (rfl : _ = (⟨Rect.unit ![7, 0, 0] S1x128x128.size (inb3 7), (kernelRun0_A.sl.v676 (F := Ideal) c a.m1 a.h1 a.m3 a.h3 a.m6 a.h6 a.m10 a.h10 a.m13 x.x0 x.x2 x.x5 x.x9)⟩ :: (kernelRun0_A.sl.H12_16 (F := Ideal) c a.m1 a.h1 a.m3 a.h3 a.m6 a.h6 a.m10 a.h10 a.m13 x.x0 x.x2 x.x5 x.x9) : List (View.Piece (Elt Ideal) S8x128x128 .f32))).trans (by
    rw [dws0, dmb, vnb]; rfl)

theorem w13 : (runA c i a x hc).2.2.2.1 = accB a.m14.view (blk a x).dbD kernelRun0_A.sl.H13_1 (fun g L =>
    a.m14.view.readCov L (rB g).toLoadRect) groups :=
  (rfl : _ = (⟨Rect.unit ![0, 7] S128x1.size (inbB 7), (kernelRun0_A.sl.v682 (F := Ideal) c a.m1 a.h1 a.m3 a.h3 a.m10 a.h10 a.m14 x.x0 x.x2 x.x9)⟩ :: (kernelRun0_A.sl.H13_16 (F := Ideal) c a.m1 a.h1 a.m3 a.h3 a.m10 a.h10 a.m14 x.x0 x.x2 x.x9) : List (View.Piece (Elt Ideal) S128x8 .f32))).trans (by
    rw [db0, dm]; rfl)

theorem w14 : (runA c i a x hc).2.2.2.2.1 = ⟨rRow, addRow (Blk.dlnD (blk a x) a.m17.view a.m18.view a.m12.view)
    (a.m15.view.readCov (Val := Elt Ideal) kernelRun0_A.sl.H14_1 rRow.toLoadRect)⟩ :: kernelRun0_A.sl.H14_1 :=
  (rfl : _ = (⟨rRow, k0_pay1 (kernelRun0_A.sl.r_12 (F := Ideal) c a.m1 a.h1 a.m2 a.h2 a.m3 a.h3 a.m5 a.h5 a.m6 a.h6 a.m7 a.h7 a.m8 a.h8 a.m9 a.h9 a.m10 a.h10 a.m12 a.m17 a.m18 x.x0 x.x1 x.x2 x.x4 x.x5 x.x6 x.x7 x.x8 x.x9) (a.m15.view.readCov (Val := Elt Ideal) kernelRun0_A.sl.H14_1 rRow.toLoadRect)⟩ :: kernelRun0_A.sl.H14_1 : List (View.Piece (Elt Ideal) S1x1024 .f32))).trans (by
    rw [dln0, dzL]; rfl)

theorem w15 : (runA c i a x hc).2.2.2.2.2.1 = ⟨rRow, addRow ((blk a x).dgvD a.m18.view) (a.m16.view.readCov (Val :=
    Elt Ideal) kernelRun0_A.sl.H15_1 rRow.toLoadRect)⟩ :: kernelRun0_A.sl.H15_1 :=
  (rfl : _ = (⟨rRow, addRow (kernelRun0_A.sl.v704 (F := Ideal) c a.m1 a.h1 a.m3 a.h3 a.m8 a.h8 a.m10 a.h10 a.m18 x.x0 x.x2 x.x7 x.x9) (a.m16.view.readCov (Val := Elt Ideal) kernelRun0_A.sl.H15_1 rRow.toLoadRect)⟩ :: kernelRun0_A.sl.H15_1 : List (View.Piece (Elt Ideal) S1x1024 .f32))).trans (by
    rw [dgv0, v688, dvn0, dmb]; rfl)

end A
end A

end Cert.Sgu.Tile

end
-- ==== Proof.Out.lean ====
/-
  What a grid point leaves in the output buffers, in reals: the tile's rows of the two gradients of its own rows, and the
  gradients of the weights summed over the tiles so far.
-/
module

public import proofs.«01_k».proof.Proof.Conn
public import Idealize.ShloMosaic.Lib.WholeRead

@[expose] public section

set_option maxRecDepth 16384

noncomputable section

namespace Cert.Sgu.Tile

open Idealize.ShloMosaic Idealize.ShloMosaic.TcCoe Cert.KernelIdeal Cert.KernelIdeal.Gen Idealize.SL.Sem

/-- The six output buffers. -/
abbrev Outs := Vec Ideal S256x1024 .f32 × Vec Ideal S256x2048 .bf16 × Vec Ideal S8x128x128 .f32 × Vec Ideal S128x8 .f32
  × Vec Ideal S1x1024 .f32 × Vec Ideal S1x1024 .f32

/-- What they hold after tile `p`. -/
structure Holds (S : In) (p : ℕ) (X : Outs) : Prop where
  dx : ∀ y, X.1 y = ((S.dx (256 * p + (y 0).val) (y 1).val : ℝ) : EReal)
  dz : ∀ y, X.2.1 y = ((S.dz (256 * p + (y 0).val) (y 1).val : ℝ) : EReal)
  dws : ∀ y, X.2.2.1 y = ((S.dws (2 * (p + 1)) (y 0).val (y 1).val (y 2).val : ℝ) : EReal)
  db : ∀ y, X.2.2.2.1 y = ((S.db (2 * (p + 1)) (y 0).val (y 1).val : ℝ) : EReal)
  dln : ∀ y, X.2.2.2.2.1 y = ((S.dln (256 * (p + 1)) (y 1).val : ℝ) : EReal)
  dgv : ∀ y, X.2.2.2.2.2 y = ((S.dgv (256 * (p + 1)) (y 1).val : ℝ) : EReal)

/-- The blocks of tile `p`. -/
structure Ins.Fits (S : In) (p : ℕ) (x : Ins) : Prop where
  f0 : ∀ y, x.x0 y = ((S.e (256 * p + (y 0).val) (y 1).val : ℝ) : EReal)
  f1 : ∀ y, x.x1 y = ((S.x (256 * p + (y 0).val) (y 1).val : ℝ) : EReal)
  f2 : ∀ y, x.x2 y = ((S.z (256 * p + (y 0).val) (y 1).val : ℝ) : EReal)
  f3 : ∀ y, x.x3 y = ((S.ln (y 1).val : ℝ) : EReal)
  f4 : ∀ y, x.x4 y = ((S.w (y 1).val (256 * (y 0).val + (y 2).val) : ℝ) : EReal)
  f5 : ∀ y, x.x5 y = ((S.gv (y 1).val : ℝ) : EReal)
  f6 : ∀ y, x.x6 y = ((S.ws (y 0).val (y 1).val (y 2).val : ℝ) : EReal)
  f7 : ∀ y, x.x7 y = ((S.ws (y 0).val (y 2).val (y 1).val : ℝ) : EReal)
  f8 : ∀ y, x.x8 y = ((S.bs (y 1).val (y 0).val : ℝ) : EReal)
  f9 : ∀ y, x.x9 y = ((S.wo (y 0).val (y 1).val : ℝ) : EReal)

variable {S : In} {p : ℕ}

/-- The blocks the loads give are the tile's. -/
theorem blk_fits {a : Bufs} {x : Ins} (F : x.Fits S p) : (blk a x).Fits S (256 * p) where
  e i := by
    refine Eq.trans (Memref.IsWhole.readAt_unread a.h1 x.x0 _ _) ((F.f0 _).trans ?_)
    show ((S.e (256 * p + (0 + 1 * (i 0).val)) (0 + 1 * (i 1).val) : ℝ) : EReal) = _
    simp only [Nat.zero_add, Nat.one_mul]
  x i := by
    refine Eq.trans (Memref.IsWhole.readAt_unread a.h2 x.x1 _ _) ((F.f1 _).trans ?_)
    show ((S.x (256 * p + (0 + 1 * (i 0).val)) (0 + 1 * (i 1).val) : ℝ) : EReal) = _
    simp only [Nat.zero_add, Nat.one_mul]
  z0 i := by
    refine Eq.trans (Memref.IsWhole.readAt_unread a.h3 x.x2 _ _) ((F.f2 _).trans ?_)
    show ((S.z (256 * p + (0 + 1 * (i 0).val)) (0 + 1 * (i 1).val) : ℝ) : EReal) = _
    simp only [Nat.zero_add, Nat.one_mul]
  z1 i := by
    refine Eq.trans (Memref.IsWhole.readAt_unread a.h3 x.x2 _ _) ((F.f2 _).trans ?_)
    show ((S.z (256 * p + (0 + 1 * (i 0).val)) (1024 + 1 * (i 1).val) : ℝ) : EReal) = _
    simp only [Nat.zero_add, Nat.one_mul]
  ln i := by
    refine Eq.trans (Memref.IsWhole.readAt_unread a.h4 x.x3 _ _) ((F.f3 _).trans ?_)
    show ((S.ln (0 + 1 * (i 1).val) : ℝ) : EReal) = _
    simp only [Nat.zero_add, Nat.one_mul]
  gv i := by
    refine Eq.trans (Memref.IsWhole.readAt_unread a.h6 x.x5 _ _) ((F.f5 _).trans ?_)
    show ((S.gv (0 + 1 * (i 1).val) : ℝ) : EReal) = _
    simp only [Nat.zero_add, Nat.one_mul]
  win j i := by
    refine Eq.trans (Memref.IsWhole.readAt_unread a.h5 x.x4 _ _) ((F.f4 _).trans ?_)
    have h : (i 0).val = 0 := by have h : (i 0).val < 1 := (i 0).isLt; omega
    show ((S.w (0 + 1 * (i 1).val) (256 * (j.val + 1 * (i 0).val) + (0 + 1 * (i 2).val)) : ℝ) : EReal) = _
    simp only [Nat.zero_add, Nat.one_mul, Nat.add_zero, h]
  ws g i := by
    refine Eq.trans (Memref.IsWhole.readAt_unread a.h7 x.x6 _ _) ((F.f6 _).trans ?_)
    have h : (i 0).val = 0 := by have h : (i 0).val < 1 := (i 0).isLt; omega
    show ((S.ws (g.val + 1 * (i 0).val) (0 + 1 * (i 1).val) (0 + 1 * (i 2).val) : ℝ) : EReal) = _
    simp only [Nat.zero_add, Nat.one_mul, Nat.add_zero, h]
  wsT g i := by
    refine Eq.trans (Memref.IsWhole.readAt_unread a.h8 x.x7 _ _) ((F.f7 _).trans ?_)
    have h : (i 0).val = 0 := by have h : (i 0).val < 1 := (i 0).isLt; omega
    show ((S.ws (g.val + 1 * (i 0).val) (0 + 1 * (i 2).val) (0 + 1 * (i 1).val) : ℝ) : EReal) = _
    simp only [Nat.zero_add, Nat.one_mul, Nat.add_zero, h]
  b g i := by
    refine Eq.trans (Memref.IsWhole.readAt_unread a.h9 x.x8 _ _) ((F.f8 _).trans ?_)
    have h : (i 1).val = 0 := by have h : (i 1).val < 1 := (i 1).isLt; omega
    show ((S.bs (g.val + 1 * (i 1).val) (0 + 1 * (i 0).val) : ℝ) : EReal) = _
    simp only [Nat.zero_add, Nat.one_mul, Nat.add_zero, h]
  wo i := by
    refine Eq.trans (Memref.IsWhole.readAt_unread a.h10 x.x9 _ _) ((F.f9 _).trans ?_)
    show ((S.wo (0 + 1 * (i 0).val) (0 + 1 * (i 1).val) : ℝ) : EReal) = _
    simp only [Nat.zero_add, Nat.one_mul]

/-! ## The sums over the tiles, one tile more -/

theorem dws_step (g i j : ℕ) : S.dws (2 * (p + 1)) g i j = S.dws (2 * p) g i j
    + (if j ≤ i then ∑ k : Fin 128, S.dm (256 * p + (128 * 0 + i)) (128 * g + k) * S.vn (256 * p + (128 * 0 + j)) (128 * g + k) else 0)
    + (if j ≤ i then ∑ k : Fin 128, S.dm (256 * p + (128 * 1 + i)) (128 * g + k) * S.vn (256 * p + (128 * 1 + j)) (128 * g + k) else 0) := by
  unfold In.dws
  rw [show 2 * (p + 1) = 2 * p + 1 + 1 by omega, Finset.sum_range_succ, Finset.sum_range_succ]
  rw [show 2 * p * 128 + i = 256 * p + (128 * 0 + i) by omega, show 2 * p * 128 + j = 256 * p + (128 * 0 + j) by omega,
    show (2 * p + 1) * 128 + i = 256 * p + (128 * 1 + i) by omega, show (2 * p + 1) * 128 + j = 256 * p + (128 * 1 + j) by omega,
    Nat.mul_comm g 128]
theorem db_step (i g : ℕ) : S.db (2 * (p + 1)) i g = S.db (2 * p) i g
    + (∑ k : Fin 128, S.dm (256 * p + (128 * 0 + i)) (128 * g + k)) + ∑ k : Fin 128, S.dm (256 * p + (128 * 1 + i)) (128 * g + k) := by
  unfold In.db
  rw [show 2 * (p + 1) = 2 * p + 1 + 1 by omega, Finset.sum_range_succ, Finset.sum_range_succ]
  rw [show 2 * p * 128 + i = 256 * p + (128 * 0 + i) by omega,
    show (2 * p + 1) * 128 + i = 256 * p + (128 * 1 + i) by omega, Nat.mul_comm g 128]
theorem dgam_step (dh f : ℕ → ℕ → ℝ) (d : ℕ) : dgam dh f (256 * (p + 1)) d
    = dgam dh f (256 * p) d + ∑ k : Fin 256, dh (256 * p + k) d * hat f (256 * p + k) d := by
  unfold dgam
  rw [show 256 * (p + 1) = 256 * p + 256 by omega, Finset.sum_range_add, ← Fin.sum_univ_eq_sum_range
    (fun k => dh (256 * p + k) d * hat f (256 * p + k) d)]

theorem i_addRow {D L : FVec Ideal S1x1024 .f32} {d l : S1x1024.Idx → ℝ} (hD : Is D d) (hL : Is L l) :
    Is (addRow D L) fun x => l x + d x :=
  iadd (icast hL shapeCasts_S1x1024_S1x1024) hD

theorem canon_row (w : FVec Ideal S1x1024 .f32) (t : List (View.Piece (Elt Ideal) S1x1024 .f32)) (y : S1x1024.Idx) :
    View.canon (⟨rRow, w⟩ :: t) y = w y := by
  have e : (rRow.emb y : S1x1024.Idx) = y := funext fun a => match a with
    | ⟨0, _⟩ => Fin.ext (by show 0 + 1 * (y 0).val = (y 0).val; omega)
    | ⟨1, _⟩ => Fin.ext (by show 0 + 1 * (y 1).val = (y 1).val; omega)
  have h := View.canon_cons_emb rRow w t y
  rw [e] at h
  exact h
theorem canon_tile (w : FVec Ideal S256x1024 .f32) (y : S256x1024.Idx) :
    View.canon ([⟨Rect.unit ![0, 0] S256x1024.size inb_S256x1024_S256x1024_0_0, w⟩] : List (View.Piece (Elt Ideal) S256x1024 .f32)) y = w y := by
  have e : ((Rect.unit ![0, 0] S256x1024.size inb_S256x1024_S256x1024_0_0 : Rect S256x1024).emb y : S256x1024.Idx) = y := funext fun a => match a with
    | ⟨0, _⟩ => Fin.ext (by show 0 + 1 * (y 0).val = (y 0).val; omega)
    | ⟨1, _⟩ => Fin.ext (by show 0 + 1 * (y 1).val = (y 1).val; omega)
  have h := View.canon_cons_emb (Val := Elt Ideal) (e := .f32) (Rect.unit ![0, 0] S256x1024.size inb_S256x1024_S256x1024_0_0 : Rect S256x1024) w [] y
  rw [e] at h
  exact h

/-- The stores of a tile, over what the loads of the accumulated gradients find. -/
theorem holds {B : Blk} (H : B.Fits S (256 * p)) {va vb : View sig .tc .vmem S256x1024 .f32} {vz : View sig .tc .vmem S256x2048 .bf16}
    {vw : View sig .tc .vmem S8x128x128 .f32} {vd : View sig .tc .vmem S128x8 .f32}
    {bw : List (View.Piece (Elt Ideal) S8x128x128 .f32)} {bb : List (View.Piece (Elt Ideal) S128x8 .f32)}
    {ldw : Fin 8 → List (View.Piece (Elt Ideal) S8x128x128 .f32) → FVec Ideal S1x128x128 .f32}
    {ldb : Fin 8 → List (View.Piece (Elt Ideal) S128x8 .f32) → FVec Ideal S128x1 .f32}
    {l14 l15 : FVec Ideal S1x1024 .f32} {t14 t15 : List (View.Piece (Elt Ideal) S1x1024 .f32)}
    (hw : ∀ g L, (∀ x, View.canon L ((rW g).emb x) = View.canon bw ((rW g).emb x)) → ∀ x, ldw g L x
      = (((fun y : S8x128x128.Idx => S.dws (2 * p) (y 0).val (y 1).val (y 2).val) ((rW g).emb x) : ℝ) : EReal))
    (hb : ∀ g L, (∀ x, View.canon L ((rB g).emb x) = View.canon bb ((rB g).emb x)) → ∀ x, ldb g L x
      = (((fun y : S128x8.Idx => S.db (2 * p) (y 0).val (y 1).val) ((rB g).emb x) : ℝ) : EReal))
    (h14 : Is l14 fun i => S.dln (256 * p) (i 1).val) (h15 : Is l15 fun i => S.dgv (256 * p) (i 1).val) :
    Holds S p (View.canon ([⟨Rect.unit ![0, 0] S256x1024.size inb_S256x1024_S256x1024_0_0, B.dx va vb vz⟩] : List (View.Piece (Elt Ideal) S256x1024 .f32)),
      View.canon (B.dzL va vb), View.canon (accW vw B.dwsD bw ldw groups), View.canon (accB vd B.dbD bb ldb groups),
      View.canon (⟨rRow, addRow (B.dlnD va vb vz) l14⟩ :: t14), View.canon (⟨rRow, addRow (B.dgvD vb) l15⟩ :: t15)) := by
  have ho : 256 * p % 128 = 0 := by omega
  have hdx := Blk.i_dx va vb vz H ho
  have hdz := Blk.canon_dz va vb H ho
  have hdws := canon_accW (b := fun y : S8x128x128.Idx => S.dws (2 * p) (y 0).val (y 1).val (y 2).val) (vw := vw) (bw := bw) (ldw := ldw) (fun g c => Blk.i_dwsD g c H) hw
  have hdb := canon_accB (b := fun y : S128x8.Idx => S.db (2 * p) (y 0).val (y 1).val) (vb := vd) (bb := bb) (ldb := ldb) (fun g c => Blk.i_dbD g c H) hb
  have hdln := i_addRow (Blk.i_dlnD va vb vz H ho) h14
  have hdgv := i_addRow (Blk.i_dgvD vb H ho) h15
  constructor <;> dsimp only
  · exact fun y => (canon_tile _ y).trans (hdx y)
  · exact fun y => hdz y
  · exact fun y => (hdws y).trans (congrArg (fun r : ℝ => (r : EReal)) (dws_step _ _ _).symm)
  · exact fun y => (hdb y).trans (congrArg (fun r : ℝ => (r : EReal)) (db_step _ _).symm)
  · exact fun y => (canon_row _ _ y).trans ((hdln y).trans (congrArg (fun r : ℝ => (r : EReal)) (dgam_step _ _ _).symm))
  · exact fun y => (canon_row _ _ y).trans ((hdgv y).trans (congrArg (fun r : ℝ => (r : EReal)) (dgam_step _ _ _).symm))

theorem Holds.of_eq {L0 M0 : List (View.Piece (Elt Ideal) S256x1024 .f32)} {L1 M1 : List (View.Piece (Elt Ideal) S256x2048 .bf16)}
    {L2 M2 : List (View.Piece (Elt Ideal) S8x128x128 .f32)} {L3 M3 : List (View.Piece (Elt Ideal) S128x8 .f32)}
    {L4 M4 L5 M5 : List (View.Piece (Elt Ideal) S1x1024 .f32)}
    (e0 : L0 = M0) (e1 : L1 = M1) (e2 : L2 = M2) (e3 : L3 = M3) (e4 : L4 = M4) (e5 : L5 = M5)
    (h : Holds S p (View.canon M0, View.canon M1, View.canon M2, View.canon M3, View.canon M4, View.canon M5)) :
    Holds S p (View.canon L0, View.canon L1, View.canon L2, View.canon L3, View.canon L4, View.canon L5) := by
  subst e0 e1 e2 e3 e4 e5; exact h

variable (c : Dev nD) (i : grid0.Coords) (a : Bufs) (x : Ins)

/-- What the body leaves at a grid point after the first. -/
theorem B.holds (F : x.Fits S p) (hc : ¬cond0_0 i) {xo12 : Vec Ideal S8x128x128 .f32} {xo13 : Vec Ideal S128x8 .f32}
    {xo14 : Vec Ideal S1x1024 .f32} {xo15 : Vec Ideal S1x1024 .f32}
    (h12 : ∀ y, xo12 y = ((S.dws (2 * p) (y 0).val (y 1).val (y 2).val : ℝ) : EReal))
    (h13 : ∀ y, xo13 y = ((S.db (2 * p) (y 0).val (y 1).val : ℝ) : EReal))
    (h14 : ∀ y, xo14 y = ((S.dln (256 * p) (y 1).val : ℝ) : EReal))
    (h15 : ∀ y, xo15 y = ((S.dgv (256 * p) (y 1).val : ℝ) : EReal)) :
    Holds S p (View.canon (runB c i a x hc xo12 xo13 xo14 xo15).1, View.canon (runB c i a x hc xo12 xo13 xo14 xo15).2.1,
      View.canon (runB c i a x hc xo12 xo13 xo14 xo15).2.2.1, View.canon (runB c i a x hc xo12 xo13 xo14 xo15).2.2.2.1,
      View.canon (runB c i a x hc xo12 xo13 xo14 xo15).2.2.2.2.1, View.canon (runB c i a x hc xo12 xo13 xo14 xo15).2.2.2.2.2.1) := by
  refine Holds.of_eq (B.w10 ..) (B.w11 ..) (B.w12 ..) (B.w13 ..) (B.w14 ..) (B.w15 ..) ?_
  refine Tile.holds (blk_fits F) (fun g L _ y => ?_) (fun g L _ y => ?_) (fun y => ?_) (fun y => ?_)
  · exact (Memref.IsWhole.readAt_unread a.h13 xo12 _ _).trans (h12 _)
  · exact (Memref.IsWhole.readAt_unread a.h14 xo13 _ _).trans (h13 _)
  · refine (Memref.IsWhole.readAt_unread a.h15 xo14 _ _).trans ((h14 _).trans ?_)
    show ((S.dln (256 * p) (0 + 1 * (y 1).val) : ℝ) : EReal) = _
    simp only [Nat.zero_add, Nat.one_mul]
  · refine (Memref.IsWhole.readAt_unread a.h16 xo15 _ _).trans ((h15 _).trans ?_)
    show ((S.dgv (256 * p) (0 + 1 * (y 1).val) : ℝ) : EReal) = _
    simp only [Nat.zero_add, Nat.one_mul]

theorem canon_zero3 (y : S8x128x128.Idx) : View.canon (kernelRun0_A.sl.H12_1 (F := Ideal)) y = ((0 : ℝ) : EReal) := by
  have e : ((Rect.unit ![0, 0, 0] S8x128x128.size inb_S8x128x128_S8x128x128_0_0_0 : Rect S8x128x128).emb y : S8x128x128.Idx) = y :=
    funext fun a => match a with
    | ⟨0, _⟩ => Fin.ext (by show 0 + 1 * (y 0).val = (y 0).val; omega)
    | ⟨1, _⟩ => Fin.ext (by show 0 + 1 * (y 1).val = (y 1).val; omega)
    | ⟨2, _⟩ => Fin.ext (by show 0 + 1 * (y 2).val = (y 2).val; omega)
  have h := View.canon_cons_emb (Val := Elt Ideal) (e := .f32)
    (Rect.unit ![0, 0, 0] S8x128x128.size inb_S8x128x128_S8x128x128_0_0_0 : Rect S8x128x128) (k0_pay3 (F := Ideal)) [] y
  rw [e] at h
  exact h.trans bits_zero
theorem canon_zero2 (y : S128x8.Idx) : View.canon (kernelRun0_A.sl.H13_1 (F := Ideal)) y = ((0 : ℝ) : EReal) := by
  have e : ((Rect.unit ![0, 0] S128x8.size inb_S128x8_S128x8_0_0 : Rect S128x8).emb y : S128x8.Idx) = y :=
    funext fun a => match a with
    | ⟨0, _⟩ => Fin.ext (by show 0 + 1 * (y 0).val = (y 0).val; omega)
    | ⟨1, _⟩ => Fin.ext (by show 0 + 1 * (y 1).val = (y 1).val; omega)
  have h := View.canon_cons_emb (Val := Elt Ideal) (e := .f32)
    (Rect.unit ![0, 0] S128x8.size inb_S128x8_S128x8_0_0 : Rect S128x8) (k0_pay4 (F := Ideal)) [] y
  rw [e] at h
  exact h.trans bits_zero

/-- What it leaves at the first. -/
theorem A.holds (F : x.Fits S 0) (hc : cond0_0 i) :
    Holds S 0 (View.canon (runA c i a x hc).1, View.canon (runA c i a x hc).2.1,
      View.canon (runA c i a x hc).2.2.1, View.canon (runA c i a x hc).2.2.2.1,
      View.canon (runA c i a x hc).2.2.2.2.1, View.canon (runA c i a x hc).2.2.2.2.2.1) := by
  refine Holds.of_eq (A.w10 ..) (A.w11 ..) (A.w12 ..) (A.w13 ..) (A.w14 ..) (A.w15 ..) ?_
  refine Tile.holds (blk_fits F) (fun g L hL y => ?_) (fun g L hL y => ?_) (fun y => ?_) (fun y => ?_)
  · rw [View.readCov_eq_canon']
    exact (hL y).trans (canon_zero3 _)
  · rw [View.readCov_eq_canon']
    exact (hL y).trans (canon_zero2 _)
  · rw [View.readCov_eq_canon']
    exact (canon_row (k0_pay5 (F := Ideal)) [] _).trans bits_zero
  · rw [View.readCov_eq_canon']
    exact (canon_row (k0_pay6 (F := Ideal)) [] _).trans bits_zero

end Cert.Sgu.Tile

end
-- ==== Proof.Points.lean ====
/-
  What the output buffers hold after each grid point, in reals, where the blocks are the tiles of real arrays.
-/
module

public import proofs.«01_k».proof.Proof.Out

@[expose] public section

set_option maxRecDepth 16384

noncomputable section

namespace Cert.Sgu.Tile

open Idealize.ShloMosaic Idealize.ShloMosaic.TcCoe Cert.KernelIdeal Cert.KernelIdeal.Gen Idealize.SL.Sem

variable (m : (ℓ : Loc nD τ sig) → Buf (Elt Ideal) ℓ) (c : Dev nD)

/-- The buffers of a grid point, and its blocks. -/
def bufs (t : Fin cfg0.N) : Bufs :=
  ⟨ms0_0 t, hs0_0 t, ms0_1 t, hs0_1 t, ms0_2 t, hs0_2 t, ms0_3 t, hs0_3 t, ms0_4 t, hs0_4 t, ms0_5 t, hs0_5 t,
   ms0_6 t, hs0_6 t, ms0_7 t, hs0_7 t, ms0_8 t, hs0_8 t, ms0_9 t, hs0_9 t, ms0_10 t, hs0_10 t, ms0_11 t, hs0_11 t,
   ms0_12 t, hs0_12 t, ms0_13 t, hs0_13 t, ms0_14 t, hs0_14 t, ms0_15 t, hs0_15 t,
   scM0_0, Memref.isWhole_whole _, scM0_1, Memref.isWhole_whole _⟩
def ins (t : Fin cfg0.N) : Ins :=
  ⟨iblk m c 0 t, iblk m c 1 t, iblk m c 2 t, iblk m c 3 t, iblk m c 4 t, iblk m c 5 t, iblk m c 6 t, iblk m c 7 t, iblk m c 8 t, iblk m c 9 t⟩

variable {S : In} {p : ℕ}

/-- What a run of the body leaves, by the names its frame gives. -/
theorem A.outs (i : grid0.Coords) (a : Bufs) (x : Ins) (F : x.Fits S 0) (hc : cond0_0 i) :
    Holds S 0 (out0_A_10 c i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 hc x.x0 x.x1 x.x2 x.x3 x.x4 x.x5 x.x6 x.x7 x.x8 x.x9,
     out0_A_11 c i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 hc x.x0 x.x1 x.x2 x.x3 x.x4 x.x5 x.x6 x.x7 x.x8 x.x9,
     out0_A_12 c i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 hc x.x0 x.x1 x.x2 x.x3 x.x4 x.x5 x.x6 x.x7 x.x8 x.x9,
     out0_A_13 c i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 hc x.x0 x.x1 x.x2 x.x3 x.x4 x.x5 x.x6 x.x7 x.x8 x.x9,
     out0_A_14 c i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 hc x.x0 x.x1 x.x2 x.x3 x.x4 x.x5 x.x6 x.x7 x.x8 x.x9,
     out0_A_15 c i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 hc x.x0 x.x1 x.x2 x.x3 x.x4 x.x5 x.x6 x.x7 x.x8 x.x9) := by
  have h := A.holds c i a x F hc
  unfold out0_A_10 out0_A_11 out0_A_12 out0_A_13 out0_A_14 out0_A_15
  simp only [View.read_writes_junk_eq_canon]
  exact h
theorem B.outs (i : grid0.Coords) (a : Bufs) (x : Ins) (F : x.Fits S p) (hc : ¬cond0_0 i) {xo12 : Vec Ideal S8x128x128 .f32}
    {xo13 : Vec Ideal S128x8 .f32} {xo14 xo15 : Vec Ideal S1x1024 .f32}
    (h12 : ∀ y, xo12 y = ((S.dws (2 * p) (y 0).val (y 1).val (y 2).val : ℝ) : EReal))
    (h13 : ∀ y, xo13 y = ((S.db (2 * p) (y 0).val (y 1).val : ℝ) : EReal))
    (h14 : ∀ y, xo14 y = ((S.dln (256 * p) (y 1).val : ℝ) : EReal))
    (h15 : ∀ y, xo15 y = ((S.dgv (256 * p) (y 1).val : ℝ) : EReal)) :
    Holds S p (out0_B_10 c i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 hc x.x0 x.x1 x.x2 x.x3 x.x4 x.x5 x.x6 x.x7 x.x8 x.x9 xo12 xo13 xo14 xo15,
     out0_B_11 c i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 hc x.x0 x.x1 x.x2 x.x3 x.x4 x.x5 x.x6 x.x7 x.x8 x.x9 xo12 xo13 xo14 xo15,
     out0_B_12 c i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 hc x.x0 x.x1 x.x2 x.x3 x.x4 x.x5 x.x6 x.x7 x.x8 x.x9 xo12 xo13 xo14 xo15,
     out0_B_13 c i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 hc x.x0 x.x1 x.x2 x.x3 x.x4 x.x5 x.x6 x.x7 x.x8 x.x9 xo12 xo13 xo14 xo15,
     out0_B_14 c i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 hc x.x0 x.x1 x.x2 x.x3 x.x4 x.x5 x.x6 x.x7 x.x8 x.x9 xo12 xo13 xo14 xo15,
     out0_B_15 c i a.m1 a.h1 a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 hc x.x0 x.x1 x.x2 x.x3 x.x4 x.x5 x.x6 x.x7 x.x8 x.x9 xo12 xo13 xo14 xo15) := by
  have h := B.holds c i a x F hc h12 h13 h14 h15
  unfold out0_B_10 out0_B_11 out0_B_12 out0_B_13 out0_B_14 out0_B_15
  simp only [View.read_writes_junk_eq_canon]
  exact h

theorem point_A (t : Fin cfg0.N) (h0 : t.val % 8 = 0) (hf : (ins m c t).Fits S 0) : Holds S 0 (outsAt0 m c t.val t.isLt) := by
  have h := A.outs c (grid0.coords t) (bufs t) (ins m c t) hf ((hcond0_0 t).mpr h0)
  rw [outsAt0_A m c t h0]
  dsimp only [bufs, ins] at h
  exact h
theorem point_B (t : Fin cfg0.N) (h0 : ¬t.val % 8 = 0) (hf : (ins m c t).Fits S p) {q : ℕ} (hq : p = q + 1)
    (ih : Holds S q (outsAt0 m c (t.val - 1) (Nat.lt_of_le_of_lt (Nat.sub_le _ _) t.isLt))) :
    Holds S p (outsAt0 m c t.val t.isLt) := by
  subst hq
  have h := B.outs c (grid0.coords t) (bufs t) (ins m c t) hf (fun h => h0 ((hcond0_0 t).mp h)) ih.dws ih.db ih.dln ih.dgv
  rw [outsAt0_B m c t h0]
  dsimp only [bufs, ins] at h
  exact h

/-- After every grid point the buffers hold the tile's rows and the sums so far. -/
theorem points (hf : ∀ t : Fin cfg0.N, (ins m c t).Fits S t.val) : ∀ (n : ℕ) (hn : n < cfg0.N), Holds S n (outsAt0 m c n hn)
  | 0, hn => point_A m c ⟨0, hn⟩ rfl (hf ⟨0, hn⟩)
  | n + 1, hn => by
    have h8 : cfg0.N = 8 := rfl
    exact point_B m c ⟨n + 1, hn⟩ (by show ¬(n + 1) % 8 = 0; omega) (hf ⟨n + 1, hn⟩) rfl (points hf n (by omega))

end Cert.Sgu.Tile

end
-- ==== Proof.Host.lean ====
module

public import proofs.«01_k».proof.Proof.Points
public import Idealize.ShloMosaic.Lib.Claim
public import Idealize.ShloMosaic.Lib.Pipeline.ValueKit
public import Idealize.ShloMosaic.Lib.Pointwise

/-! The arrays that the kernel's windows read, as the host's operations leave them, and each grid point's blocks of
them. -/

@[expose] public section

set_option maxRecDepth 16384

noncomputable section

namespace Cert.Sgu.Tile

open Idealize.ShloMosaic Idealize.ShloMosaic.TcCoe Cert.KernelIdeal Cert.KernelIdeal.Gen Idealize.SL.Sem

/-- The kernel's arguments hold the values `S`. -/
structure Args (S : In) (m : (ℓ : Loc nD τ sig) → Buf (Elt Ideal) ℓ) (c : Dev nD) : Prop where
  h0 : ∀ i, m (c, Proc.tc.devRef main_arg0) i = ((S.x (i 1).val (i 2).val : ℝ) : EReal)
  h1 : ∀ i, m (c, Proc.tc.devRef main_arg1) i = ((S.ln (i 1).val : ℝ) : EReal)
  h2 : ∀ i, m (c, Proc.tc.devRef main_arg2) i = ((S.w (i 1).val (i 2).val : ℝ) : EReal)
  h3 : ∀ i, m (c, Proc.tc.devRef main_arg3) i = ((S.gv (i 1).val : ℝ) : EReal)
  h4 : ∀ i, m (c, Proc.tc.devRef main_arg4) i = ((S.ws (i 1).val (i 2).val (i 3).val : ℝ) : EReal)
  h5 : ∀ i, m (c, Proc.tc.devRef main_arg5) i = ((S.bs (i 1).val (i 2).val : ℝ) : EReal)
  h6 : ∀ i, m (c, Proc.tc.devRef main_arg6) i = ((S.wo (i 1).val (i 2).val : ℝ) : EReal)
  h7 : ∀ i, m (c, Proc.tc.devRef main_arg7) i = ((S.e (i 1).val (i 2).val : ℝ) : EReal)

/-- One entry of the normed rows' product with the weights. -/
theorem row_norm_dot (X L W : Fin 1024 → EReal) (x : ℕ → ℕ → ℝ) (t : ℕ) (l w : Fin 1024 → ℝ)
    (hX : ∀ k, X k = ((x t k : ℝ) : EReal)) (hL : ∀ k, L k = ((l k : ℝ) : EReal)) (hW : ∀ k, W k = ((w k : ℝ) : EReal)) :
    ∑ k, X k * Ideal.rsqrt (Ideal.div (∑ k, X k * X k) (Ideal.ofBits FTy.f32 1149239296#32)
      + Ideal.ofBits FTy.f32 897988541#32) * L k * W k = ((∑ k : Fin 1024, hat x t k * l k * w k : ℝ) : EReal) := by
  have h1 : Ideal.ofBits FTy.f32 1149239296#32 = ((1024 : ℝ) : EReal) := bits_1024
  have h2 : Ideal.ofBits FTy.f32 897988541#32 = ((eps : ℝ) : EReal) := bits_eps
  have h3 : Ideal.rsqrt ((((∑ k : Fin 1024, x t k * x t k) / 1024 + eps : ℝ)) : EReal) = ((rs x t : ℝ) : EReal) :=
    rsqrt_coe' (ms_pos x t)
  simp only [hX, hL, hW, ← EReal.coe_mul, sum_coe, h1, h2, div_coe' _ (by norm_num : (1024 : ℝ) ≠ 0), ← EReal.coe_add, h3]
  rfl

variable {S : In} {m : (ℓ : Loc nD τ sig) → Buf (Elt Ideal) ℓ} {c : Dev nD} (H : Args S m c)
include H

/-! ## The windows' arrays -/

theorem a25 (i : S2048x1024.Idx) : V m c main_v25 i = ((S.e (i 0).val (i 1).val : ℝ) : EReal) := by
  entry_read; pointwise; exact H.h7 _
theorem a0 (i : S2048x1024.Idx) : V m c main_v0 i = ((S.x (i 0).val (i 1).val : ℝ) : EReal) := by
  entry_read; pointwise; exact H.h0 _
theorem a24 (i : S2048x2048.Idx) : V m c main_v24 i = ((S.z (i 0).val (i 1).val : ℝ) : EReal) := by
  entry_read; pointwise
  exact row_norm_dot _ _ _ S.x (i 0).val (fun k => S.ln k) (fun k => S.w k (i 1).val) (fun k => H.h0 _) (fun k => H.h1 _)
    fun k => H.h2 _
theorem a1 (i : S1x1024.Idx) : V m c main_arg1 i = ((S.ln (i 1).val : ℝ) : EReal) := by
  rw [V_main_arg1]; exact H.h1 _
theorem a4 (i : S8x1024x256.Idx) : V m c main_v4 i = ((S.w (i 1).val (256 * (i 0).val + (i 2).val) : ℝ) : EReal) := by
  entry_read; pointwise; rw [Nat.mul_comm 256]; exact H.h2 _
theorem a3 (i : S1x1024.Idx) : V m c main_arg3 i = ((S.gv (i 1).val : ℝ) : EReal) := by
  rw [V_main_arg3]; exact H.h3 _
theorem a5 (i : S8x128x128.Idx) : V m c main_v5 i = ((S.ws (i 0).val (i 1).val (i 2).val : ℝ) : EReal) := by
  entry_read; pointwise; exact H.h4 _
theorem a6 (i : S8x128x128.Idx) : V m c main_v6 i = ((S.ws (i 0).val (i 2).val (i 1).val : ℝ) : EReal) := by
  entry_read; pointwise; exact H.h4 _
theorem a8 (i : S128x8.Idx) : V m c main_v8 i = ((S.bs (i 1).val (i 0).val : ℝ) : EReal) := by
  entry_read; pointwise; exact H.h5 _
theorem a27 (i : S1024x1024.Idx) : V m c main_v27 i = ((S.wo (i 0).val (i 1).val : ℝ) : EReal) := by
  entry_read; pointwise; exact H.h6 _

/-! ## A grid point's blocks -/

set_option maxHeartbeats 2000000 in
/-- Every grid point's blocks hold the tile's values. -/
theorem ins_fits (t : Fin cfg0.N) : (ins m c t).Fits S t.val := by
  have i0 : ∀ t : Fin cfg0.N, win0_0.index t 0 = t.val ∧ win0_0.index t 1 = 0 := by decide +kernel
  have i1 : ∀ t : Fin cfg0.N, win0_1.index t 0 = t.val ∧ win0_1.index t 1 = 0 := by decide +kernel
  have i2 : ∀ t : Fin cfg0.N, win0_2.index t 0 = t.val ∧ win0_2.index t 1 = 0 := by decide +kernel
  have i3 : ∀ t : Fin cfg0.N, win0_3.index t 0 = 0 ∧ win0_3.index t 1 = 0 := by decide +kernel
  have i4 : ∀ t : Fin cfg0.N, win0_4.index t 0 = 0 ∧ win0_4.index t 1 = 0 ∧ win0_4.index t 2 = 0 := by decide +kernel
  have i5 : ∀ t : Fin cfg0.N, win0_5.index t 0 = 0 ∧ win0_5.index t 1 = 0 := by decide +kernel
  have i6 : ∀ t : Fin cfg0.N, win0_6.index t 0 = 0 ∧ win0_6.index t 1 = 0 ∧ win0_6.index t 2 = 0 := by decide +kernel
  have i7 : ∀ t : Fin cfg0.N, win0_7.index t 0 = 0 ∧ win0_7.index t 1 = 0 ∧ win0_7.index t 2 = 0 := by decide +kernel
  have i8 : ∀ t : Fin cfg0.N, win0_8.index t 0 = 0 ∧ win0_8.index t 1 = 0 := by decide +kernel
  have i9 : ∀ t : Fin cfg0.N, win0_9.index t 0 = 0 ∧ win0_9.index t 1 = 0 := by decide +kernel
  constructor
  · intro y; refine (a25 H ((win0_0.blk t).view.emb y)).trans ?_; blk_simp [i0 t]; rw [Nat.mul_comm 256]
  · intro y; refine (a0 H ((win0_1.blk t).view.emb y)).trans ?_; blk_simp [i1 t]; rw [Nat.mul_comm 256]
  · intro y; refine (a24 H ((win0_2.blk t).view.emb y)).trans ?_; blk_simp [i2 t]; rw [Nat.mul_comm 256]
  · intro y; refine (a1 H ((win0_3.blk t).view.emb y)).trans ?_; blk_simp [i3 t]
  · intro y; refine (a4 H ((win0_4.blk t).view.emb y)).trans ?_; blk_simp [i4 t]
  · intro y; refine (a3 H ((win0_5.blk t).view.emb y)).trans ?_; blk_simp [i5 t]
  · intro y; refine (a5 H ((win0_6.blk t).view.emb y)).trans ?_; blk_simp [i6 t]
  · intro y; refine (a6 H ((win0_7.blk t).view.emb y)).trans ?_; blk_simp [i7 t]
  · intro y; refine (a8 H ((win0_8.blk t).view.emb y)).trans ?_; blk_simp [i8 t]
  · intro y; refine (a27 H ((win0_9.blk t).view.emb y)).trans ?_; blk_simp [i9 t]

end Cert.Sgu.Tile
-- ==== Proof.Final.lean ====
module

public import proofs.«01_k».proof.Proof.Host
public import proofs.«01_k».proof.Proof.Gen.KernelIdeal.Value

/-! The kernel's results: what the grid leaves in each output array. -/

@[expose] public section

set_option maxRecDepth 16384

noncomputable section

namespace Cert.Sgu.Tile

open Idealize.ShloMosaic Idealize.ShloMosaic.TcCoe Cert.KernelIdeal Cert.KernelIdeal.Gen Idealize.SL.Sem
open Idealize.ShloMosaic.Pipeline (Dat)

variable {S : In} {m : (ℓ : Loc nD τ sig) → Buf (Elt Ideal) ℓ} {c : Dev nD} (H : Args S m c)
include H

theorem arr10 : (dats m 0 c).arrAt 10 cfg0.N = (fun i : S2048x1024.Idx => ((S.dx (i 0).val (i 1).val : ℝ) : EReal)) := by
  have hi : ∀ t : Fin cfg0.N, win0_10.index t 0 = t.val ∧ win0_10.index t 1 = 0 := by decide +kernel
  refine (dats m 0 c).arrAt_eq_of_covers 10 _ (by decide +kernel) fun t hf y => ?_
  have h := (points m c (ins_fits H) t.val t.isLt).dx
  blk_simp [hi t]
  refine (h _).trans ?_
  rw [Nat.mul_comm 256]
theorem arr11 : (dats m 0 c).arrAt 11 cfg0.N = (fun i : S2048x2048.Idx => ((S.dz (i 0).val (i 1).val : ℝ) : EReal)) := by
  have hi : ∀ t : Fin cfg0.N, win0_11.index t 0 = t.val ∧ win0_11.index t 1 = 0 := by decide +kernel
  refine (dats m 0 c).arrAt_eq_of_covers 11 _ (by decide +kernel) fun t hf y => ?_
  have h := (points m c (ins_fits H) t.val t.isLt).dz
  blk_simp [hi t]
  refine (h _).trans ?_
  rw [Nat.mul_comm 256]
theorem arr12 : (dats m 0 c).arrAt 12 cfg0.N = (fun i : S8x128x128.Idx => ((S.dws 16 (i 0).val (i 1).val (i 2).val : ℝ) : EReal)) := by
  have hi : ∀ t : Fin cfg0.N, win0_12.index t 0 = 0 ∧ win0_12.index t 1 = 0 ∧ win0_12.index t 2 = 0 := by decide +kernel
  have ht : ∀ t : Fin cfg0.N, (cfg0.win 12).flush t = true → t.val = 7 := by decide +kernel
  refine (dats m 0 c).arrAt_eq_of_covers 12 _ (by decide +kernel) fun t hf y => ?_
  have h := (points m c (ins_fits H) t.val t.isLt).dws
  have h7 := ht t hf
  blk_simp [hi t]
  refine (h _).trans ?_
  rw [h7]
theorem arr13 : (dats m 0 c).arrAt 13 cfg0.N = (fun i : S128x8.Idx => ((S.db 16 (i 0).val (i 1).val : ℝ) : EReal)) := by
  have hi : ∀ t : Fin cfg0.N, win0_13.index t 0 = 0 ∧ win0_13.index t 1 = 0 := by decide +kernel
  have ht : ∀ t : Fin cfg0.N, (cfg0.win 13).flush t = true → t.val = 7 := by decide +kernel
  refine (dats m 0 c).arrAt_eq_of_covers 13 _ (by decide +kernel) fun t hf y => ?_
  have h := (points m c (ins_fits H) t.val t.isLt).db
  have h7 := ht t hf
  blk_simp [hi t]
  refine (h _).trans ?_
  rw [h7]
theorem arr14 : (dats m 0 c).arrAt 14 cfg0.N = (fun i : S1x1024.Idx => ((S.dln 2048 (i 1).val : ℝ) : EReal)) := by
  have hi : ∀ t : Fin cfg0.N, win0_14.index t 0 = 0 ∧ win0_14.index t 1 = 0 := by decide +kernel
  have ht : ∀ t : Fin cfg0.N, (cfg0.win 14).flush t = true → t.val = 7 := by decide +kernel
  refine (dats m 0 c).arrAt_eq_of_covers 14 _ (by decide +kernel) fun t hf y => ?_
  have h := (points m c (ins_fits H) t.val t.isLt).dln
  have h7 := ht t hf
  blk_simp [hi t]
  refine (h _).trans ?_
  rw [h7]
theorem arr15 : (dats m 0 c).arrAt 15 cfg0.N = (fun i : S1x1024.Idx => ((S.dgv 2048 (i 1).val : ℝ) : EReal)) := by
  have hi : ∀ t : Fin cfg0.N, win0_15.index t 0 = 0 ∧ win0_15.index t 1 = 0 := by decide +kernel
  have ht : ∀ t : Fin cfg0.N, (cfg0.win 15).flush t = true → t.val = 7 := by decide +kernel
  refine (dats m 0 c).arrAt_eq_of_covers 15 _ (by decide +kernel) fun t hf y => ?_
  have h := (points m c (ins_fits H) t.val t.isLt).dgv
  have h7 := ht t hf
  blk_simp [hi t]
  refine (h _).trans ?_
  rw [h7]

end Cert.Sgu.Tile
-- ==== Proof.RefA.lean ====
/-
  The reference's stages read over the reals: the forward values it keeps (norm, projection, gelu, gate norm, mix) and
  the gradients up to the gated value's. Every stage is the specification's function of its own indices.
-/
module

public import proofs.«01_k».proof.Proof.Ops
public import proofs.«01_k».proof.Proof.Gen.ReferenceIdeal.Read

@[expose] public section

set_option maxRecDepth 16384

noncomputable section

namespace Cert.Sgu.Ref

open Idealize.ShloMosaic Cert.ReferenceIdeal Cert.ReferenceIdeal.Gen Cert.ReferenceIdeal.Read

/-- The eight argument arrays hold the specification's real tensors. -/
structure Fits (S : In) (x0 : (⟨S1x2048x1024, .f32⟩ : BufTy).Contents (Elt Ideal))
    (x1 : (⟨S1x1024, .f32⟩ : BufTy).Contents (Elt Ideal)) (x2 : (⟨S1x1024x2048, .f32⟩ : BufTy).Contents (Elt Ideal))
    (x3 : (⟨S1x1024, .f32⟩ : BufTy).Contents (Elt Ideal)) (x4 : (⟨S1x8x128x128, .f32⟩ : BufTy).Contents (Elt Ideal))
    (x5 : (⟨S1x8x128, .f32⟩ : BufTy).Contents (Elt Ideal)) (x6 : (⟨S1x1024x1024, .f32⟩ : BufTy).Contents (Elt Ideal))
    (x7 : (⟨S1x2048x1024, .f32⟩ : BufTy).Contents (Elt Ideal)) : Prop where
  h0 : ∀ i, x0 i = ((S.x (i 1).val (i 2).val : ℝ) : EReal)
  h1 : ∀ i, x1 i = ((S.ln (i 1).val : ℝ) : EReal)
  h2 : ∀ i, x2 i = ((S.w (i 1).val (i 2).val : ℝ) : EReal)
  h3 : ∀ i, x3 i = ((S.gv (i 1).val : ℝ) : EReal)
  h4 : ∀ i, x4 i = ((S.ws (i 1).val (i 2).val (i 3).val : ℝ) : EReal)
  h5 : ∀ i, x5 i = ((S.bs (i 1).val (i 2).val : ℝ) : EReal)
  h6 : ∀ i, x6 i = ((S.wo (i 1).val (i 2).val : ℝ) : EReal)
  h7 : ∀ i, x7 i = ((S.e (i 1).val (i 2).val : ℝ) : EReal)

variable {S : In} {x0 : (⟨S1x2048x1024, .f32⟩ : BufTy).Contents (Elt Ideal)}
  {x1 : (⟨S1x1024, .f32⟩ : BufTy).Contents (Elt Ideal)} {x2 : (⟨S1x1024x2048, .f32⟩ : BufTy).Contents (Elt Ideal)}
  {x3 : (⟨S1x1024, .f32⟩ : BufTy).Contents (Elt Ideal)} {x4 : (⟨S1x8x128x128, .f32⟩ : BufTy).Contents (Elt Ideal)}
  {x5 : (⟨S1x8x128, .f32⟩ : BufTy).Contents (Elt Ideal)} {x6 : (⟨S1x1024x1024, .f32⟩ : BufTy).Contents (Elt Ideal)}
  {x7 : (⟨S1x2048x1024, .f32⟩ : BufTy).Contents (Elt Ideal)} (H : Fits S x0 x1 x2 x3 x4 x5 x6 x7)
include H

/-! ## Arguments reshaped -/

theorem s3 (i : S1024.Idx) : val_main_v3 x1 i = ((S.ln (i 0).val : ℝ) : EReal) := by
  have h := (i 0).isLt
  rw [val_main_v3_apply, H.h1]
  exact congrArg (fun a => ((S.ln a : ℝ) : EReal)) (by show (i 0).val % 1024 = _; exact Nat.mod_eq_of_lt h)
theorem s21 (i : S1024.Idx) : val_main_v21 x3 i = ((S.gv (i 0).val : ℝ) : EReal) := by
  have h := (i 0).isLt
  rw [val_main_v21_apply, H.h3]
  exact congrArg (fun a => ((S.gv a : ℝ) : EReal)) (by show (i 0).val % 1024 = _; exact Nat.mod_eq_of_lt h)
theorem s20 (i : S1024x2048.Idx) : val_main_v20 x2 i = ((S.w (i 0).val (i 1).val : ℝ) : EReal) := by
  have h0 : (i 0).val < 1024 := (i 0).isLt
  have h1 : (i 1).val < 2048 := (i 1).isLt
  rw [val_main_v20_apply, H.h2]
  exact congrArg₂ (fun a b => ((S.w a b : ℝ) : EReal)) (by show _ / 2048 % 1024 = _; omega) (by show _ % 2048 = _; omega)
theorem s22 (i : S1024x1024.Idx) : val_main_v22 x6 i = ((S.wo (i 0).val (i 1).val : ℝ) : EReal) := by
  have h0 : (i 0).val < 1024 := (i 0).isLt
  have h1 : (i 1).val < 1024 := (i 1).isLt
  rw [val_main_v22_apply, H.h6]
  exact congrArg₂ (fun a b => ((S.wo a b : ℝ) : EReal)) (by show _ / 1024 % 1024 = _; omega) (by show _ % 1024 = _; omega)
theorem s1 (i : S8x128x128.Idx) : val_main_v1 x4 i = ((S.ws (i 0).val (i 1).val (i 2).val : ℝ) : EReal) := by
  have h0 : (i 0).val < 8 := (i 0).isLt
  have h1 : (i 1).val < 128 := (i 1).isLt
  have h2 : (i 2).val < 128 := (i 2).isLt
  rw [val_main_v1_apply, H.h4]
  have e1 : (idx_main_v1 i 1).val = (i 0).val := by show _ / 16384 % 8 = _; omega
  have e2 : (idx_main_v1 i 2).val = (i 1).val := by show _ / 128 % 128 = _; omega
  have e3 : (idx_main_v1 i 3).val = (i 2).val := by show _ % 128 = _; omega
  rw [e1, e2, e3]
theorem s2 (i : S8x128.Idx) : val_main_v2 x5 i = ((S.bs (i 0).val (i 1).val : ℝ) : EReal) := by
  have h0 : (i 0).val < 8 := (i 0).isLt
  have h1 : (i 1).val < 128 := (i 1).isLt
  rw [val_main_v2_apply, H.h5]
  exact congrArg₂ (fun a b => ((S.bs a b : ℝ) : EReal)) (by show _ / 128 % 8 = _; omega) (by show _ % 128 = _; omega)

/-! ## The first norm and the projection -/

theorem s10 (i : S1x2048x1.Idx) : val_main_v10 x0 i = ((ms S.x (i 1).val : ℝ) : EReal) := by
  rw [val_main_v10_apply, val_main_v8_apply, val_main_v6_apply, val_main_v5_apply, val_main_v7_apply, val_main_v9_apply]
  simp only [val_main_cst_0_apply, val_main_cst_1_apply, val_main_cst_2_apply, val_main_v4_apply, H.h0, mulf_coe,
    bits_zero, bits_1024, bits_eps, sum_coe, ← EReal.coe_add, zero_add,
    hostDivf_coe _ (by norm_num : (1024 : ℝ) ≠ 0), addf_coe]
  rfl
theorem s11 (i : S1x2048x1.Idx) : val_main_v11 x0 i = ((rs S.x (i 1).val : ℝ) : EReal) := by
  rw [val_main_v11_apply, s10 H, hostRsqrt_coe (ms_pos _ _)]; rfl
theorem s14 (i : S1x2048x1.Idx) :
    val_main_v14 x0 i = ((-(1 / 2) * (rs S.x (i 1).val / ms S.x (i 1).val) : ℝ) : EReal) := by
  rw [val_main_v14_apply, val_main_v13_apply, val_main_cst_3_apply, val_main_v12_apply, s11 H, s10 H,
    hostDivf_coe _ (ms_pos _ _).ne', bits_nhalf, mulf_coe]
theorem s16 (i : S1x2048x1024.Idx) : val_main_v16 x0 i = ((hat S.x (i 1).val (i 2).val : ℝ) : EReal) := by
  rw [val_main_v16_apply, val_main_v15_apply, s11 H, H.h0, mulf_coe]; rfl
theorem s17 (i : S1x1x1024.Idx) : val_main_v17 x1 i = ((S.ln (i 2).val : ℝ) : EReal) := by
  rw [val_main_v17_apply, s3 H]
theorem s19 (i : S1x2048x1024.Idx) : val_main_v19 x0 x1 i = ((S.h (i 1).val (i 2).val : ℝ) : EReal) := by
  rw [val_main_v19_apply, val_main_v18_apply, s17 H, s16 H, mulf_coe]; rfl
theorem s24 (i : S1x2048x2048.Idx) : val_main_v24 x0 x1 x2 i = ((S.z (i 1).val (i 2).val : ℝ) : EReal) := by
  rw [val_main_v24_apply, val_main_v23_apply, val_main_v0_apply, val_main_cst_apply]
  simp only [s19 H, s20 H, ← EReal.coe_mul, sum_coe, bits_zero, addf_coe, add_zero]
  rfl

/-! ## Gelu and its pieces -/

theorem s25 (i : S_.Idx) : val_main_v25 (F := Ideal) i = ((kap : ℝ) : EReal) := by
  rw [val_main_v25_apply, val_main_cst_4_apply, val_main_cst_5_apply, bits_44715, bits_million,
    hostDivf_coe _ (by norm_num : (1000000 : ℝ) ≠ 0)]
  exact congrArg _ (by unfold kap; norm_num)
theorem s36 (i : S1x2048x2048.Idx) : val_main_v36 x0 x1 x2 i = ((th (S.z (i 1).val (i 2).val) : ℝ) : EReal) := by
  simp only [val_main_v36_apply, val_main_v35_apply, val_main_v34_apply, val_main_v33_apply, val_main_v32_apply,
    val_main_v31_apply, val_main_v27_apply, val_main_v26_apply, val_main_cst_7_apply, s24 H, s25 H, bits_gc, mulf_coe,
    addf_coe, hostTanh_coe]
  rfl
theorem s45 (i : S1x2048x2048.Idx) :
    val_main_v45 x0 x1 x2 i = ((1 / 2 * (1 + th (S.z (i 1).val (i 2).val)) : ℝ) : EReal) := by
  simp only [val_main_v45_apply, val_main_v44_apply, val_main_v43_apply, val_main_v42_apply, val_main_cst_10_apply,
    val_main_cst_11_apply, s36 H, bits_one, bits_half, mulf_coe, addf_coe]
theorem s41 (i : S1x2048x2048.Idx) : val_main_v41 x0 x1 x2 i
    = (((1 + th (S.z (i 1).val (i 2).val)) * (1 - th (S.z (i 1).val (i 2).val)) : ℝ) : EReal) := by
  simp only [val_main_v41_apply, val_main_v40_apply, val_main_v39_apply, val_main_v38_apply, val_main_v37_apply,
    val_main_cst_8_apply, val_main_cst_9_apply, s36 H, bits_one, mulf_coe, addf_coe, subf_coe]
theorem s30 (i : S1x2048x2048.Idx) :
    val_main_v30 x0 x1 x2 i = ((3 * (S.z (i 1).val (i 2).val * S.z (i 1).val (i 2).val) : ℝ) : EReal) := by
  simp only [val_main_v30_apply, val_main_v29_apply, val_main_v28_apply, val_main_cst_6_apply, s24 H, bits_three, mulf_coe]
theorem s46 (i : S1x2048x2048.Idx) : val_main_v46 x0 x1 x2 i = ((gelu (S.z (i 1).val (i 2).val) : ℝ) : EReal) := by
  rw [val_main_v46_apply, s24 H, s45 H, mulf_coe]; rfl
theorem s47 (i : S1x2048x1024.Idx) : val_main_v47 x0 x1 x2 i = ((S.u (i 1).val (i 2).val : ℝ) : EReal) := by
  rw [val_main_v47_apply, s46 H]; rfl
theorem s48 (i : S1x2048x1024.Idx) : val_main_v48 x0 x1 x2 i = ((S.v (i 1).val (i 2).val : ℝ) : EReal) := by
  rw [val_main_v48_apply, s46 H]; rfl

/-! ## The gate's norm -/

theorem s55 (i : S1x2048x1.Idx) : val_main_v55 x0 x1 x2 i = ((ms S.v (i 1).val : ℝ) : EReal) := by
  rw [val_main_v55_apply, val_main_v53_apply, val_main_v51_apply, val_main_v50_apply, val_main_v52_apply, val_main_v54_apply]
  simp only [val_main_cst_12_apply, val_main_cst_13_apply, val_main_cst_14_apply, val_main_v49_apply, s48 H, mulf_coe,
    bits_zero, bits_1024, bits_eps, sum_coe, ← EReal.coe_add, zero_add,
    hostDivf_coe _ (by norm_num : (1024 : ℝ) ≠ 0), addf_coe]
  rfl
theorem s56 (i : S1x2048x1.Idx) : val_main_v56 x0 x1 x2 i = ((rs S.v (i 1).val : ℝ) : EReal) := by
  rw [val_main_v56_apply, s55 H, hostRsqrt_coe (ms_pos _ _)]; rfl
theorem s59 (i : S1x2048x1.Idx) :
    val_main_v59 x0 x1 x2 i = ((-(1 / 2) * (rs S.v (i 1).val / ms S.v (i 1).val) : ℝ) : EReal) := by
  rw [val_main_v59_apply, val_main_v58_apply, val_main_cst_15_apply, val_main_v57_apply, s56 H, s55 H,
    hostDivf_coe _ (ms_pos _ _).ne', bits_nhalf, mulf_coe]
theorem s61 (i : S1x2048x1024.Idx) : val_main_v61 x0 x1 x2 i = ((hat S.v (i 1).val (i 2).val : ℝ) : EReal) := by
  rw [val_main_v61_apply, val_main_v60_apply, s56 H, s48 H, mulf_coe]; rfl
theorem s62 (i : S1x1x1024.Idx) : val_main_v62 x3 i = ((S.gv (i 2).val : ℝ) : EReal) := by
  rw [val_main_v62_apply, s21 H]
theorem s64 (i : S1x2048x1024.Idx) : val_main_v64 x0 x1 x2 x3 i = ((S.vn (i 1).val (i 2).val : ℝ) : EReal) := by
  rw [val_main_v64_apply, val_main_v63_apply, s62 H, s61 H, mulf_coe]; rfl

/-! ## The mix -/

theorem s65 (i : S1x16x128x8x128.Idx) : val_main_v65 x0 x1 x2 x3 i
    = ((S.vn ((i 1).val * 128 + (i 2).val) ((i 3).val * 128 + (i 4).val) : ℝ) : EReal) := by
  have h0 : (i 0).val < 1 := (i 0).isLt
  have h1 : (i 1).val < 16 := (i 1).isLt
  have h2 : (i 2).val < 128 := (i 2).isLt
  have h3 : (i 3).val < 8 := (i 3).isLt
  have h4 : (i 4).val < 128 := (i 4).isLt
  rw [val_main_v65_apply, s64 H]
  have e1 : (idx_main_v65 i 1).val = (i 1).val * 128 + (i 2).val := by show _ / 1024 % 2048 = _; omega
  have e2 : (idx_main_v65 i 2).val = (i 3).val * 128 + (i 4).val := by show _ % 1024 = _; omega
  rw [e1, e2]
omit H in
/-- The lower triangle of ones. -/
theorem s67 (i : S128x128.Idx) :
    val_main_v67 (F := Ideal) i = ((if (i 1).val ≤ (i 0).val then 1 else 0 : ℝ) : EReal) := by
  have h0 : (i 0).val < 128 := (i 0).isLt
  have h1 : (i 1).val < 128 := (i 1).isLt
  rw [val_main_v67_apply, val_main_v66_apply, val_main_cst_16_apply, bits_one, val_main_call0_v5_apply,
    val_main_call0_cst_apply, bits_zero, val_main_call0_v4_apply, val_main_call0_v2_apply, val_main_call0_v3_apply,
    val_main_call0_v0_apply, val_main_call0_v1_apply, val_main_call0_c_apply]
  have e : IntOp.addi (BitVec.ofNat 32 (i 0).val) 0#32 = BitVec.ofNat 32 (i 0).val := by simp [IntOp.addi]
  rw [e, select_sge (by omega) (by omega)]
  split <;> rfl
theorem s70 (i : S8x128x128.Idx) : val_main_v70 x4 i = ((S.tri (i 0).val (i 1).val (i 2).val : ℝ) : EReal) := by
  rw [val_main_v70_apply, val_main_v69_apply, val_main_v68_apply, s67, s1 H, mulf_coe]
  show ((_ * (if (i 2).val ≤ (i 1).val then 1 else 0 : ℝ) : ℝ) : EReal) = _
  rw [mul_ite, mul_one, mul_zero]; rfl
theorem s76 (i : S1x16x128x8x128.Idx) : val_main_v76 x0 x1 x2 x3 x4 x5 i
    = (((∑ j : Fin 128, S.tri (i 3).val (i 2).val j * S.vn ((i 1).val * 128 + j) ((i 3).val * 128 + (i 4).val))
        + S.bs (i 3).val (i 2).val : ℝ) : EReal) := by
  rw [val_main_v76_apply, val_main_v72_apply, val_main_v71_apply, val_main_v75_apply, val_main_v74_apply, val_main_v73_apply,
    s2 H]
  simp only [s65 H, s70 H, ← EReal.coe_mul, sum_coe, addf_coe]
  refine congrArg (fun a : ℝ => ((a + _ : ℝ) : EReal)) (Finset.sum_congr rfl fun j _ => mul_comm _ _)
theorem s77 (i : S1x2048x1024.Idx) : val_main_v77 x0 x1 x2 x3 x4 x5 i = ((S.mix (i 1).val (i 2).val : ℝ) : EReal) := by
  have h0 : (i 0).val < 1 := (i 0).isLt
  have h1 : (i 1).val < 2048 := (i 1).isLt
  have h2 : (i 2).val < 1024 := (i 2).isLt
  rw [val_main_v77_apply, s76 H]
  have e1 : (idx_main_v77 i 1).val = (i 1).val / 128 := by show _ / 131072 % 16 = _; omega
  have e2 : (idx_main_v77 i 2).val = (i 1).val % 128 := by show _ / 1024 % 128 = _; omega
  have e3 : (idx_main_v77 i 3).val = (i 2).val / 128 := by show _ / 128 % 8 = _; omega
  have e4 : (i 2).val / 128 * 128 + (idx_main_v77 i 4).val = (i 2).val := by
    have : (idx_main_v77 i 4).val = (i 2).val % 128 := by show _ % 128 = _; omega
    omega
  rw [e1, e2, e3, e4]; rfl

/-! ## Back through the output projection and the gate -/

theorem s82 (i : S1x2048x1024.Idx) : val_main_v82 x6 x7 i = ((S.dy (i 1).val (i 2).val : ℝ) : EReal) := by
  have e81 : ∀ j : S1x2048x1024.Idx, val_main_v81 x7 j = ((S.e (j 1).val (j 2).val : ℝ) : EReal) := fun j => by
    have h0 : (j 0).val < 1 := (j 0).isLt
    have h1 : (j 1).val < 2048 := (j 1).isLt
    have h2 : (j 2).val < 1024 := (j 2).isLt
    rw [val_main_v81_apply, H.h7]
    exact congrArg₂ (fun a b => ((S.e a b : ℝ) : EReal)) (by show _ / 1024 % 2048 = _; omega) (by show _ % 1024 = _; omega)
  rw [val_main_v82_apply]
  simp only [e81, s22 H, ← EReal.coe_mul, sum_coe]
  rfl
theorem s83 (i : S1x2048x1024.Idx) : val_main_v83 x0 x1 x2 x6 x7 i = ((S.dm (i 1).val (i 2).val : ℝ) : EReal) := by
  rw [val_main_v83_apply, s47 H, s82 H, mulf_coe, mul_comm]; rfl
theorem s84 (i : S1x2048x1024.Idx) : val_main_v84 x0 x1 x2 x3 x4 x5 x6 x7 i = ((S.du (i 1).val (i 2).val : ℝ) : EReal) := by
  rw [val_main_v84_apply, s82 H, s77 H, mulf_coe]; rfl
theorem s85 (i : S1x16x128x8x128.Idx) : val_main_v85 x0 x1 x2 x6 x7 i
    = ((S.dm ((i 1).val * 128 + (i 2).val) ((i 3).val * 128 + (i 4).val) : ℝ) : EReal) := by
  have h0 : (i 0).val < 1 := (i 0).isLt
  have h1 : (i 1).val < 16 := (i 1).isLt
  have h2 : (i 2).val < 128 := (i 2).isLt
  have h3 : (i 3).val < 8 := (i 3).isLt
  have h4 : (i 4).val < 128 := (i 4).isLt
  rw [val_main_v85_apply, s83 H]
  have e1 : (idx_main_v85 i 1).val = (i 1).val * 128 + (i 2).val := by show _ / 1024 % 2048 = _; omega
  have e2 : (idx_main_v85 i 2).val = (i 3).val * 128 + (i 4).val := by show _ % 1024 = _; omega
  rw [e1, e2]
theorem s93 (i : S1x16x128x8x128.Idx) : val_main_v93 x0 x1 x2 x4 x6 x7 i
    = ((∑ k : Fin 128, S.tri (i 3).val k (i 2).val * S.dm ((i 1).val * 128 + k) ((i 3).val * 128 + (i 4).val) : ℝ) : EReal) := by
  rw [val_main_v93_apply, val_main_v92_apply]
  simp only [val_main_v90_apply, s85 H, s70 H, ← EReal.coe_mul, sum_coe]
  exact congrArg (fun a : ℝ => (a : EReal)) (Finset.sum_congr rfl fun j _ => mul_comm _ _)
theorem s96 (i : S1x2048x1024.Idx) : val_main_v96 x0 x1 x2 x4 x6 x7 i = ((S.dvn (i 1).val (i 2).val : ℝ) : EReal) := by
  have h0 : (i 0).val < 1 := (i 0).isLt
  have h1 : (i 1).val < 2048 := (i 1).isLt
  have h2 : (i 2).val < 1024 := (i 2).isLt
  rw [val_main_v96_apply, s93 H]
  have e1 : (idx_main_v96 i 1).val = (i 1).val / 128 := by show _ / 131072 % 16 = _; omega
  have e2 : (idx_main_v96 i 2).val = (i 1).val % 128 := by show _ / 1024 % 128 = _; omega
  have e3 : (idx_main_v96 i 3).val = (i 2).val / 128 := by show _ / 128 % 8 = _; omega
  have e4 : (i 2).val / 128 * 128 + (idx_main_v96 i 4).val = (i 2).val := by
    have : (idx_main_v96 i 4).val = (i 2).val % 128 := by show _ % 128 = _; omega
    omega
  rw [e1, e2, e3, e4]; rfl

end Cert.Sgu.Ref

end
-- ==== Proof.RefB.lean ====
/-
  The reference's stages read over the reals, second half: the mixing gradients, back through the gate's norm, gelu, the
  projection and the first norm. The norm's gradient arrives in the form the chain rule gives (the derivative of the
  reciprocal root as `-1/2 · rs / ms`); `rmsb_vjp` puts it into the closed form of the specification.
-/
module

public import proofs.«01_k».proof.Proof.RefA
public import Idealize.ShloMosaic.Lib.Pointwise.Index

@[expose] public section

set_option maxRecDepth 16384

noncomputable section

namespace Cert.Sgu

open Idealize.ShloMosaic

/-- A host sum over several axes, its slots enumerated without repetition by `e`. -/
theorem reduce_of {ι : Type} [Fintype ι] {s t : Shape} {axes : List (Fin s.rank)} (h : s.ReducesTo axes t)
    (x : s.Idx → EReal) (init : EReal) (j : t.Idx) (e : ι → s.Idx) (he : Function.Injective e)
    (hd : ∀ k, h.drop (e k) = j) (hc : ∀ i, h.drop i = j → ∃ k, e k = i) :
    Ideal.hostReduceAdd h x init j = init + ∑ k, x (e k) := by
  classical
  unfold Ideal.hostReduceAdd
  refine congrArg (init + ·) ?_
  have : (Finset.univ.filter fun i => h.drop i = j) = Finset.univ.image e := by
    ext i
    simp only [Finset.mem_filter, Finset.mem_univ, true_and, Finset.mem_image]
    exact ⟨fun hi => hc i hi, fun ⟨k, hk⟩ => hk ▸ hd k⟩
  rw [this, Finset.sum_image fun a _ b _ hab => he hab]

/-- The chain rule's form of the norm's gradient is the closed form. -/
theorem rmsb_vjp (dh f : ℕ → ℕ → ℝ) (g : ℕ → ℝ) (t d : ℕ) (A : ℝ) (hA : A = ∑ k : Fin 1024, f t k * (dh t k * g k)) :
    dh t d * g d * rs f t + f t d * (A * (-(1 / 2) * (rs f t / ms f t)) / 1024)
      + A * (-(1 / 2) * (rs f t / ms f t)) / 1024 * f t d = rmsb dh f g t d := by
  have hs : ∑ k : Fin 1024, dh t k * g k * hat f t k = A * rs f t := by
    rw [hA, Finset.sum_mul]; exact Finset.sum_congr rfl fun k _ => by unfold hat; ring
  unfold rmsb
  rw [hs, div_eq_mul_inv (rs f t), ← rs_sq]
  unfold hat
  ring

end Cert.Sgu

namespace Cert.Sgu.Ref

open Idealize.ShloMosaic Cert.ReferenceIdeal Cert.ReferenceIdeal.Gen Cert.ReferenceIdeal.Read

variable {S : In} {x0 : (⟨S1x2048x1024, .f32⟩ : BufTy).Contents (Elt Ideal)}
  {x1 : (⟨S1x1024, .f32⟩ : BufTy).Contents (Elt Ideal)} {x2 : (⟨S1x1024x2048, .f32⟩ : BufTy).Contents (Elt Ideal)}
  {x3 : (⟨S1x1024, .f32⟩ : BufTy).Contents (Elt Ideal)} {x4 : (⟨S1x8x128x128, .f32⟩ : BufTy).Contents (Elt Ideal)}
  {x5 : (⟨S1x8x128, .f32⟩ : BufTy).Contents (Elt Ideal)} {x6 : (⟨S1x1024x1024, .f32⟩ : BufTy).Contents (Elt Ideal)}
  {x7 : (⟨S1x2048x1024, .f32⟩ : BufTy).Contents (Elt Ideal)} (H : Fits S x0 x1 x2 x3 x4 x5 x6 x7)

/-! ## Sums over unit axes -/

/-- A sum over two unit axes of a [1,1,1024] array. -/
theorem sum_unit_a (x : S1x1x1024.Idx → EReal) (init : EReal) (j : S1024.Idx) :
    Ideal.hostReduceAdd reducesTo_S1x1x1024_S1024_d0_1 x init j = init + x (ix3 0 0 (j 0)) := by
  have := reduce_of reducesTo_S1x1x1024_S1024_d0_1 x init j (ι := Unit) (fun _ => ix3 0 0 (j 0))
    (fun _ _ _ => rfl) (fun _ => funext fun a => by fin_cases a; rfl)
    (fun i hi => ⟨(), funext fun a => by
      have h0 := (i 0).isLt; have h1 := (i 1).isLt
      fin_cases a
      · exact Fin.ext (Nat.lt_one_iff.mp h0).symm
      · exact Fin.ext (Nat.lt_one_iff.mp h1).symm
      · exact (congrFun hi 0).symm⟩)
  rw [this, Fintype.sum_unique]
/-- A sum over the unit axes of a [1,2048,1] array. -/
theorem sum_unit_b (x : S1x2048x1.Idx → EReal) (init : EReal) (j : S2048.Idx) :
    Ideal.hostReduceAdd reducesTo_S1x2048x1_S2048_d0_2 x init j = init + x (ix3 0 (j 0) 0) := by
  have := reduce_of reducesTo_S1x2048x1_S2048_d0_2 x init j (ι := Unit) (fun _ => ix3 0 (j 0) 0)
    (fun _ _ _ => rfl) (fun _ => funext fun a => by fin_cases a; rfl)
    (fun i hi => ⟨(), funext fun a => by
      have h0 := (i 0).isLt; have h2 := (i 2).isLt
      fin_cases a
      · exact Fin.ext (Nat.lt_one_iff.mp h0).symm
      · exact (congrFun hi 0).symm
      · exact Fin.ext (Nat.lt_one_iff.mp h2).symm⟩)
  rw [this, Fintype.sum_unique]

/-- The chunk and the row of a [1,16,128,8,128] array summed over chunks and lanes. -/
theorem sum_chunks (x : S1x16x128x8x128.Idx → EReal) (init : EReal) (j : S1x128x8.Idx) :
    Ideal.hostReduceAdd reducesTo_S1x16x128x8x128_S1x128x8_d1_4 x init j
      = init + ∑ k : Fin 16 × Fin 128, x (ix5 (j 0) k.1 (j 1) (j 2) k.2) :=
  reduce_of reducesTo_S1x16x128x8x128_S1x128x8_d1_4 x init j (fun k : Fin 16 × Fin 128 => ix5 (j 0) k.1 (j 1) (j 2) k.2)
    (fun a b h => Prod.ext (congrFun h 1) (congrFun h 4)) (fun _ => funext fun a => by fin_cases a <;> rfl)
    (fun i hi => ⟨(i 1, i 4), funext fun a => by
      fin_cases a
      · exact (congrFun hi 0).symm
      · rfl
      · exact (congrFun hi 1).symm
      · exact (congrFun hi 2).symm
      · rfl⟩)
/-- A sum over the three unit axes of a [1,1,128,8,1] array. -/
theorem sum_unit_c (x : S1x1x128x8x1.Idx → EReal) (init : EReal) (j : S128x8.Idx) :
    Ideal.hostReduceAdd reducesTo_S1x1x128x8x1_S128x8_d0_1_4 x init j = init + x (ix5 0 0 (j 0) (j 1) 0) := by
  have := reduce_of reducesTo_S1x1x128x8x1_S128x8_d0_1_4 x init j (ι := Unit) (fun _ => ix5 0 0 (j 0) (j 1) 0)
    (fun _ _ _ => rfl) (fun _ => funext fun a => by fin_cases a <;> rfl)
    (fun i hi => ⟨(), funext fun a => by
      have h0 := (i 0).isLt; have h1 := (i 1).isLt; have h4 := (i 4).isLt
      fin_cases a
      · exact Fin.ext (Nat.lt_one_iff.mp h0).symm
      · exact Fin.ext (Nat.lt_one_iff.mp h1).symm
      · exact (congrFun hi 0).symm
      · exact (congrFun hi 1).symm
      · exact Fin.ext (Nat.lt_one_iff.mp h4).symm⟩)
  rw [this, Fintype.sum_unique]

/-- The mixing matrix's product contracts the chunk and the lane. -/
theorem dot_chunks (l : (⟨S8x1x16x128x128, .f32⟩ : BufTy).Contents (Elt Ideal))
    (r : (⟨S1x16x128x8x128, .f32⟩ : BufTy).Contents (Elt Ideal)) (i : S8x128x128.Idx) :
    Host.dotGeneral (F := Ideal) (φ₁ := .f32) (φ₂ := .f32)
        dot_S8x1x16x128x128_S1x16x128x8x128_S8x128x128_123_014_4_2_0_3 none l r i
      = ∑ k : Fin 16 × Fin 128, l (ix5 (i 0) 0 k.1 k.2 (i 1)) * r (ix5 0 k.1 (i 2) (i 0) k.2) := by
  refine (Ideal.dotGeneral_apply (φ₁ := .f32) (φ₂ := .f32) _ _ _ l r i).trans ?_
  have hs0 : ∀ q : dot_S8x1x16x128x128_S1x16x128x8x128_S8x128x128_123_014_4_2_0_3.contr.Idx, (q ⟨0, by decide⟩).val < 1 :=
    fun q => (q ⟨0, by decide⟩).isLt
  refine (Fintype.sum_bijective (fun k : Fin 16 × Fin 128 => (fun a => match a with
      | ⟨0, _⟩ => (0 : Fin 1) | ⟨1, _⟩ => k.1 | ⟨2, _⟩ => k.2 :
      dot_S8x1x16x128x128_S1x16x128x8x128_S8x128x128_123_014_4_2_0_3.contr.Idx)) ⟨fun a b h => ?_, fun q => ?_⟩ _ _
    fun k => ?_).symm
  · exact Prod.ext (congrFun h ⟨1, by decide⟩) (congrFun h ⟨2, by decide⟩)
  · refine ⟨(q ⟨1, by decide⟩, q ⟨2, by decide⟩), funext fun a => ?_⟩
    match a with
    | ⟨0, _⟩ => exact Fin.ext (Nat.lt_one_iff.mp (hs0 q)).symm
    | ⟨1, _⟩ => rfl
    | ⟨2, _⟩ => rfl
  · refine congrArg₂ (fun a b => l a * r b) (funext fun a => ?_) (funext fun a => ?_)
    · fin_cases a <;> rfl
    · fin_cases a <;> rfl

include H

theorem t86 (i : S1x128x8.Idx) :
    val_main_v86 x0 x1 x2 x6 x7 i = ((S.db 16 (i 1).val (i 2).val : ℝ) : EReal) := by
  have : val_main_v86 x0 x1 x2 x6 x7 i = Ideal.hostReduceAdd reducesTo_S1x16x128x8x128_S1x128x8_d1_4
      (val_main_v85 x0 x1 x2 x6 x7) (val_main_cst_17 (F := Ideal) (Shape.Idx.first h_S_)) i := rfl
  rw [this, sum_chunks, val_main_cst_17_apply, bits_zero]
  simp only [s85 H, sum_coe, ← EReal.coe_add, zero_add]
  unfold In.db
  rw [Finset.sum_range, Fintype.sum_prod_type]
  rfl
theorem t88 (i : S128x8.Idx) :
    val_main_v88 x0 x1 x2 x6 x7 i = ((S.db 16 (i 0).val (i 1).val : ℝ) : EReal) := by
  have h0 : (i 0).val < 128 := (i 0).isLt
  have h1 : (i 1).val < 8 := (i 1).isLt
  have : val_main_v88 x0 x1 x2 x6 x7 i = Ideal.hostReduceAdd reducesTo_S1x1x128x8x1_S128x8_d0_1_4
      (val_main_v87 x0 x1 x2 x6 x7) (val_main_cst_18 (F := Ideal) (Shape.Idx.first h_S_)) i := rfl
  rw [this, sum_unit_c, val_main_cst_18_apply, bits_zero, val_main_v87_apply, t86 H, ← EReal.coe_add, zero_add]
  have e1 : (idx_main_v87 (ix5 0 0 (i 0) (i 1) 0) 1).val = (i 0).val := by
    show ((((0 * 1 + 0) * 128 + (i 0).val) * 8 + (i 1).val) * 1 + 0) / 8 % 128 = _; omega
  have e2 : (idx_main_v87 (ix5 0 0 (i 0) (i 1) 0) 2).val = (i 1).val := by
    show ((((0 * 1 + 0) * 128 + (i 0).val) * 8 + (i 1).val) * 1 + 0) % 8 = _; omega
  rw [e1, e2]
/-- The mixing bias's gradient. -/
theorem r_db (i : S128x8.Idx) :
    val_main_v159 x0 x1 x2 x6 x7 i = ((S.db 16 (i 0).val (i 1).val : ℝ) : EReal) := by
  rw [val_main_v159_apply, val_main_v89_apply, t88 H]
/-- The mixing matrix's gradient. -/
theorem r_dws (i : S8x128x128.Idx) :
    val_main_v95 x0 x1 x2 x3 x6 x7 i = ((S.dws 16 (i 0).val (i 1).val (i 2).val : ℝ) : EReal) := by
  rw [val_main_v95_apply, val_main_v94_apply, val_main_v68_apply, s67]
  unfold val_main_v91
  rw [dot_chunks]
  simp only [val_main_v90_apply, s85 H, s65 H, ← EReal.coe_mul, sum_coe, mulf_coe]
  refine congrArg (fun a : ℝ => (a : EReal)) ?_
  show _ * (if (i 2).val ≤ (i 1).val then 1 else 0 : ℝ) = _
  unfold In.dws
  rw [Finset.sum_range, Fintype.sum_prod_type, Finset.sum_mul]
  refine Finset.sum_congr rfl fun c _ => ?_
  rw [mul_ite, mul_one, mul_zero]
  rfl

/-! ## Back through the gate's norm -/

theorem t100 (i : S1x2048x1024.Idx) : val_main_v101 x0 x1 x2 x3 x4 x6 x7 i
    = ((S.dvn (i 1).val (i 2).val * S.gv (i 2).val : ℝ) : EReal) := by
  rw [val_main_v101_apply, val_main_v100_apply, s62 H, s96 H, mulf_coe]
/-- The gate norm's weight gradient. -/
theorem r_dgv (i : S1x1024.Idx) :
    val_main_v132 x0 x1 x2 x4 x6 x7 i = ((S.dgv 2048 (i 1).val : ℝ) : EReal) := by
  have h1 : (i 1).val < 1024 := (i 1).isLt
  have : ∀ j, val_main_v102 x0 x1 x2 x4 x6 x7 j = Ideal.hostReduceAdd reducesTo_S1x1x1024_S1024_d0_1
      (val_main_v99 x0 x1 x2 x4 x6 x7) (val_main_cst_20 (F := Ideal) (Shape.Idx.first h_S_)) j := fun _ => rfl
  rw [val_main_v132_apply, this, sum_unit_a, val_main_cst_20_apply, val_main_v99_apply, val_main_v98_apply,
    val_main_cst_19_apply]
  simp only [val_main_v97_apply, s61 H, s96 H, mulf_coe, sum_coe, bits_zero, ← EReal.coe_add, zero_add]
  unfold In.dgv dgam
  rw [Finset.sum_range]
  refine congrArg (fun a : ℝ => (a : EReal)) (Finset.sum_congr rfl fun t _ => ?_)
  rw [mul_comm]
  refine congrArg (fun d => S.dvn t d * hat S.v t d) ?_
  show ((0 * 1 + 0) * 1024 + (i 1).val) % 1024 = _
  omega
theorem t110 (i : S1x2048x1.Idx) : val_main_v110 x0 x1 x2 x3 x4 x6 x7 i
    = (((∑ k : Fin 1024, S.v (i 1).val k * (S.dvn (i 1).val k * S.gv k))
        * (-(1 / 2) * (rs S.v (i 1).val / ms S.v (i 1).val)) / 1024 : ℝ) : EReal) := by
  rw [val_main_v110_apply, val_main_v109_apply, val_main_v108_apply, val_main_v105_apply, val_main_v104_apply, s59 H]
  simp only [val_main_v103_apply, t100 H, s48 H, mulf_coe, sum_coe, val_main_cst_21_apply, val_main_cst_22_apply,
    bits_zero, bits_1024, ← EReal.coe_add, zero_add, hostDivf_coe _ (by norm_num : (1024 : ℝ) ≠ 0)]
  have h0 : (i 0).val < 1 := (i 0).isLt
  have h1 : (i 1).val < 2048 := (i 1).isLt
  have h2 : (i 2).val < 1 := (i 2).isLt
  have e : (((i 0).val * 2048 + (i 1).val) * 1 + (i 2).val) % 2048 = (i 1).val := by omega
  exact congrArg (fun t : ℕ => (((∑ k : Fin 1024, S.v t k * (S.dvn t k * S.gv k))
    * (-(1 / 2) * (rs S.v (i 1).val / ms S.v (i 1).val)) / 1024 : ℝ) : EReal)) e
theorem t113 (i : S1x2048x1024.Idx) : val_main_v113 x0 x1 x2 x3 x4 x6 x7 i
    = (((∑ k : Fin 1024, S.v (i 1).val k * (S.dvn (i 1).val k * S.gv k))
        * (-(1 / 2) * (rs S.v (i 1).val / ms S.v (i 1).val)) / 1024 : ℝ) : EReal) := by
  have : ∀ j, val_main_v111 x0 x1 x2 x3 x4 x6 x7 j = Ideal.hostReduceAdd reducesTo_S1x2048x1_S2048_d0_2
      (val_main_v110 x0 x1 x2 x3 x4 x6 x7) (val_main_cst_23 (F := Ideal) (Shape.Idx.first h_S_)) j := fun _ => rfl
  rw [val_main_v113_apply, val_main_v112_apply, this, sum_unit_b, t110 H, val_main_cst_23_apply, bits_zero,
    ← EReal.coe_add, zero_add]
  rfl
theorem t117 (i : S1x2048x1024.Idx) : val_main_v117 x0 x1 x2 x3 x4 x6 x7 i
    = ((S.dv (i 1).val (i 2).val : ℝ) : EReal) := by
  rw [val_main_v117_apply, val_main_v116_apply, val_main_v115_apply, val_main_v114_apply, val_main_v107_apply,
    val_main_v106_apply, t113 H, t100 H, s48 H, s56 H]
  simp only [mulf_coe, addf_coe]
  exact congrArg (fun a : ℝ => (a : EReal)) (rmsb_vjp S.dvn S.v S.gv _ _ _ rfl)

/-! ## Back through gelu, the projection and the first norm -/

theorem t118 (i : S1x2048x2048.Idx) : val_main_v118 x0 x1 x2 x3 x4 x5 x6 x7 i
    = (((if (i 2).val < 1024 then S.du (i 1).val (i 2).val else S.dv (i 1).val ((i 2).val - 1024)) : ℝ) : EReal) := by
  have h2 : (i 2).val < 2048 := (i 2).isLt
  unfold val_main_v118
  by_cases h : (i 2).val < 1024
  · rw [if_pos h]
    refine (concatenate_pair_apply_left (s₁ := S1x2048x1024) (s₂ := S1x2048x1024) 2 _ _ _ i rfl (ix3 (i 0) (i 1) ⟨(i 2).val, h⟩) (fun b => by fin_cases b <;> rfl)).trans ?_
    rw [s84 H]; rfl
  · rw [if_neg h]
    refine (concatenate_pair_apply_right (s₁ := S1x2048x1024) (s₂ := S1x2048x1024) 2 _ _ _ i rfl rfl (ix3 (i 0) (i 1) ⟨(i 2).val - 1024, by omega⟩) ?_ ?_).trans ?_
    · intro b hb
      fin_cases b
      · rfl
      · rfl
      · exact absurd rfl hb
    · exact Nat.sub_add_cancel (Nat.le_of_not_lt h)
    rw [t117 H]; rfl
theorem t130 (i : S1x2048x2048.Idx) : val_main_v130 x0 x1 x2 x3 x4 x5 x6 x7 i
    = ((S.dz (i 1).val (i 2).val : ℝ) : EReal) := by
  simp only [val_main_v130_apply, val_main_v129_apply, val_main_v128_apply, val_main_v127_apply, val_main_v126_apply,
    val_main_v125_apply, val_main_v124_apply, val_main_v123_apply, val_main_v122_apply, val_main_v121_apply,
    val_main_v120_apply, val_main_v119_apply, val_main_cst_24_apply, val_main_cst_25_apply, t118 H, s24 H, s45 H, s41 H,
    s30 H, s25 H, bits_half, bits_gc, mulf_coe, addf_coe]
  unfold In.dz dgelu
  exact congrArg (fun a : ℝ => (a : EReal)) (by ring)
/-- The gradient of the projected values. -/
theorem r_dz (i : S2048x2048.Idx) : val_main_v158 x0 x1 x2 x3 x4 x5 x6 x7 i
    = ((S.dz (i 0).val (i 1).val : ℝ) : EReal) := by
  have h0 : (i 0).val < 2048 := (i 0).isLt
  have h1 : (i 1).val < 2048 := (i 1).isLt
  have e : val_main_v158 x0 x1 x2 x3 x4 x5 x6 x7 i = val_main_v157 x0 x1 x2 x3 x4 x5 x6 x7 i := rfl
  rw [e, val_main_v157_apply, t130 H]
  exact congrArg₂ (fun a b => ((S.dz a b : ℝ) : EReal)) (by show _ / 2048 % 2048 = _; omega) (by show _ % 2048 = _; omega)
theorem t131 (i : S1x2048x1024.Idx) : val_main_v131 x0 x1 x2 x3 x4 x5 x6 x7 i
    = ((S.dh (i 1).val (i 2).val : ℝ) : EReal) := by
  rw [val_main_v131_apply]
  simp only [t130 H, s20 H, ← EReal.coe_mul, sum_coe]
  rfl
/-- The first norm's weight gradient. -/
theorem r_dln (i : S1x1024.Idx) :
    val_main_v155 x0 x1 x2 x3 x4 x5 x6 x7 i = ((S.dln 2048 (i 1).val : ℝ) : EReal) := by
  have h1 : (i 1).val < 1024 := (i 1).isLt
  have : ∀ j, val_main_v138 x0 x1 x2 x3 x4 x5 x6 x7 j = Ideal.hostReduceAdd reducesTo_S1x1x1024_S1024_d0_1
      (val_main_v135 x0 x1 x2 x3 x4 x5 x6 x7) (val_main_cst_27 (F := Ideal) (Shape.Idx.first h_S_)) j := fun _ => rfl
  rw [val_main_v155_apply, this, sum_unit_a, val_main_cst_27_apply, val_main_v135_apply, val_main_v134_apply,
    val_main_cst_26_apply]
  simp only [val_main_v133_apply, s16 H, t131 H, mulf_coe, sum_coe, bits_zero, ← EReal.coe_add, zero_add]
  unfold In.dln dgam
  rw [Finset.sum_range]
  refine congrArg (fun a : ℝ => (a : EReal)) (Finset.sum_congr rfl fun t _ => ?_)
  rw [mul_comm]
  refine congrArg (fun d => S.dh t d * hat S.x t d) ?_
  show ((0 * 1 + 0) * 1024 + (i 1).val) % 1024 = _
  omega
theorem t137 (i : S1x2048x1024.Idx) : val_main_v137 x0 x1 x2 x3 x4 x5 x6 x7 i
    = ((S.dh (i 1).val (i 2).val * S.ln (i 2).val : ℝ) : EReal) := by
  rw [val_main_v137_apply, val_main_v136_apply, s17 H, t131 H, mulf_coe]
theorem t147 (i : S1x2048x1.Idx) : val_main_v147 x0 x1 x2 x3 x4 x5 x6 x7 i
    = (((∑ k : Fin 1024, S.x (i 1).val k * (S.dh (i 1).val k * S.ln k))
        * (-(1 / 2) * (rs S.x (i 1).val / ms S.x (i 1).val)) / 1024 : ℝ) : EReal) := by
  rw [val_main_v147_apply, val_main_v146_apply, val_main_v145_apply, val_main_v141_apply, val_main_v140_apply, s14 H]
  simp only [val_main_v139_apply, t137 H, H.h0, mulf_coe, sum_coe, val_main_cst_28_apply, val_main_cst_29_apply,
    bits_zero, bits_1024, ← EReal.coe_add, zero_add, hostDivf_coe _ (by norm_num : (1024 : ℝ) ≠ 0)]
  have h0 : (i 0).val < 1 := (i 0).isLt
  have h1 : (i 1).val < 2048 := (i 1).isLt
  have h2 : (i 2).val < 1 := (i 2).isLt
  have e : (((i 0).val * 2048 + (i 1).val) * 1 + (i 2).val) % 2048 = (i 1).val := by omega
  exact congrArg (fun t : ℕ => (((∑ k : Fin 1024, S.x t k * (S.dh t k * S.ln k))
    * (-(1 / 2) * (rs S.x (i 1).val / ms S.x (i 1).val)) / 1024 : ℝ) : EReal)) e
theorem t150 (i : S1x2048x1024.Idx) : val_main_v150 x0 x1 x2 x3 x4 x5 x6 x7 i
    = (((∑ k : Fin 1024, S.x (i 1).val k * (S.dh (i 1).val k * S.ln k))
        * (-(1 / 2) * (rs S.x (i 1).val / ms S.x (i 1).val)) / 1024 : ℝ) : EReal) := by
  have : ∀ j, val_main_v148 x0 x1 x2 x3 x4 x5 x6 x7 j = Ideal.hostReduceAdd reducesTo_S1x2048x1_S2048_d0_2
      (val_main_v147 x0 x1 x2 x3 x4 x5 x6 x7) (val_main_cst_30 (F := Ideal) (Shape.Idx.first h_S_)) j := fun _ => rfl
  rw [val_main_v150_apply, val_main_v149_apply, this, sum_unit_b, t147 H, val_main_cst_30_apply, bits_zero,
    ← EReal.coe_add, zero_add]
  rfl
theorem t154 (i : S1x2048x1024.Idx) : val_main_v154 x0 x1 x2 x3 x4 x5 x6 x7 i
    = ((S.dx (i 1).val (i 2).val : ℝ) : EReal) := by
  rw [val_main_v154_apply, val_main_v153_apply, val_main_v152_apply, val_main_v151_apply, val_main_v144_apply,
    val_main_v143_apply, val_main_v142_apply, t150 H, t137 H, s11 H, H.h0, H.h7]
  simp only [mulf_coe, addf_coe]
  refine congrArg (fun a : ℝ => (a : EReal)) ?_
  unfold In.dx
  rw [← rmsb_vjp S.dh S.x S.ln _ _ _ rfl]
  ring
/-- The gradient of the activations. -/
theorem r_dx (i : S2048x1024.Idx) : val_main_v156 x0 x1 x2 x3 x4 x5 x6 x7 i
    = ((S.dx (i 0).val (i 1).val : ℝ) : EReal) := by
  have h0 : (i 0).val < 2048 := (i 0).isLt
  have h1 : (i 1).val < 1024 := (i 1).isLt
  rw [val_main_v156_apply, t154 H]
  exact congrArg₂ (fun a b => ((S.dx a b : ℝ) : EReal)) (by show _ / 1024 % 2048 = _; omega) (by show _ % 1024 = _; omega)

end Cert.Sgu.Ref

end
-- ==== Proof.Alg.lean ====
module

public import proofs.«01_k».proof.Proof.Final
public import proofs.«01_k».proof.Proof.RefB
public import proofs.«01_k».proof.Proof.Frames
public import Idealize.ShloMosaic.Lib.ReduceAll

/-! The kernel and the reference compute the same values of finite arguments. -/

@[expose] public section

set_option maxRecDepth 16384

noncomputable section

namespace Cert.Proof

open Idealize.ShloMosaic Idealize.SL.Sem Cert.Sgu

/-! ## Finite arguments are real tensors -/

theorem inf_bits : FloatOps.ofBits (F := Ideal) .f32 0x7F800000#32 = (⊤ : EReal) := by
  rw [Ideal.ofBits_def]; simp [Ideal.ofBits, Ideal.ieee]

/-- An extended real whose absolute value is below infinity is a real. -/
theorem real_of_lt (a : EReal) (h : max a (-a) < ⊤) : ∃ r : ℝ, a = (r : EReal) := by
  induction a with
  | bot => simp at h
  | coe r => exact ⟨r, rfl⟩
  | top => simp at h

/-- An array whose entries' absolute values are all below infinity has real entries. -/
theorem real_of_all {s u : Shape} [Subsingleton u.Idx] {axes : List (Fin s.rank)} (x : FVec Ideal s .f32)
    (top : FVec Ideal s .f32) (ht : ∀ i, top i = (⊤ : EReal)) (init : u.Idx → BitVec 1) (h : s.ReducesTo axes u)
    (hu : 0 < u.numel) (j : u.Idx) (e : Host.reduce IntOp.andi (cmpf .olt (Host.absf x) top) init h hu j = 1#1) (i : s.Idx) :
    ∃ r : ℝ, x i = (r : EReal) := by
  have h1 := Host.reduce_andi_all _ init h hu j e i
  refine real_of_lt _ ?_
  have h2 : Ideal.cmp .olt (max (x i) (-(x i)) : EReal) (top i) = 1#1 := h1
  rw [ht] at h2
  simp only [Ideal.cmp] at h2
  by_contra hn
  simp [hn] at h2

/-- Real entries are a function of any coordinates that tell the entries apart. -/
theorem real_at {ι α : Type} (k : ι → α) (hk : Function.Injective k) (X : ι → EReal) (hX : ∀ i, ∃ r : ℝ, X i = (r : EReal)) :
    ∃ f : α → ℝ, ∀ i, X i = ((f (k i) : ℝ) : EReal) := by
  choose g hg using hX
  exact ⟨Function.extend k g 0, fun i => by rw [hk.extend_apply, hg]⟩

theorem idx2_inj {b : Nat} : Function.Injective fun i : (Shape.mk 2 ![1, b]).Idx => (i 1).val := by
  intro i j h
  funext a
  match a with
  | ⟨0, _⟩ => exact Subsingleton.elim (α := Fin 1) _ _
  | ⟨1, _⟩ => exact Fin.ext h
theorem idx3_inj {b d : Nat} : Function.Injective fun i : (Shape.mk 3 ![1, b, d]).Idx => ((i 1).val, (i 2).val) := by
  intro i j h
  funext a
  match a with
  | ⟨0, _⟩ => exact Subsingleton.elim (α := Fin 1) _ _
  | ⟨1, _⟩ => exact Fin.ext (congrArg Prod.fst h)
  | ⟨2, _⟩ => exact Fin.ext (congrArg Prod.snd h)
theorem idx4_inj {b d e : Nat} :
    Function.Injective fun i : (Shape.mk 4 ![1, b, d, e]).Idx => ((i 1).val, (i 2).val, (i 3).val) := by
  intro i j h
  funext a
  match a with
  | ⟨0, _⟩ => exact Subsingleton.elim (α := Fin 1) _ _
  | ⟨1, _⟩ => exact Fin.ext (congrArg Prod.fst h)
  | ⟨2, _⟩ => exact Fin.ext (congrArg (fun x => x.2.1) h)
  | ⟨3, _⟩ => exact Fin.ext (congrArg (fun x => x.2.2) h)

section
open Cert.KernelIdeal

/-- Arguments that meet the precondition hold real tensors. -/
theorem exists_args (m : (ℓ : Loc nD τ sig) → Buf (Elt Ideal) ℓ) (h : Cert.Pre_KernelIdeal_finite m) (c : Dev nD) :
    ∃ S : In, Cert.Sgu.Tile.Args S m c := by
  have h0 := congrFun (h c) (Shape.Idx.first Cert.Pre_finite.Facts.h_S_)
  simp only [Cert.Pre_finite.fn, Cert.Pre_finite.fn_part1, Cert.Pre_finite.fn_part2, andi_apply, IntOp.andi_eq_one] at h0
  obtain ⟨⟨⟨⟨⟨⟨⟨e0, e1⟩, e2⟩, e3⟩, e4⟩, e5⟩, e6⟩, e7⟩ := h0
  haveI : Subsingleton Cert.Pre_finite.S_.Idx := ⟨fun a b => funext fun i => i.elim0⟩
  obtain ⟨x, hx⟩ := real_at _ idx3_inj _ (real_of_all _ _ (fun _ => inf_bits) _ _ _ _ e0)
  obtain ⟨ln, hln⟩ := real_at _ idx2_inj _ (real_of_all _ _ (fun _ => inf_bits) _ _ _ _ e1)
  obtain ⟨w, hw⟩ := real_at _ idx3_inj _ (real_of_all _ _ (fun _ => inf_bits) _ _ _ _ e2)
  obtain ⟨gv, hgv⟩ := real_at _ idx2_inj _ (real_of_all _ _ (fun _ => inf_bits) _ _ _ _ e3)
  obtain ⟨ws, hws⟩ := real_at _ idx4_inj _ (real_of_all _ _ (fun _ => inf_bits) _ _ _ _ e4)
  obtain ⟨bs, hbs⟩ := real_at _ idx3_inj _ (real_of_all _ _ (fun _ => inf_bits) _ _ _ _ e5)
  obtain ⟨wo, hwo⟩ := real_at _ idx3_inj _ (real_of_all _ _ (fun _ => inf_bits) _ _ _ _ e6)
  obtain ⟨e, he⟩ := real_at _ idx3_inj _ (real_of_all _ _ (fun _ => inf_bits) _ _ _ _ e7)
  exact ⟨⟨fun t d => x (t, d), ln, fun k n => w (k, n), gv, fun g i j => ws (g, i, j), fun g i => bs (g, i),
    fun d k => wo (d, k), fun t d => e (t, d)⟩, hx, hln, hw, hgv, hws, hbs, hwo, he⟩

end

theorem algebraic : Cert.algebraic_KernelIdeal_ReferenceIdeal_pre_finite := by
  intro m g m' g' hpre hag
  have hS := fun c => exists_args m hpre c
  choose S H using hS
  refine ⟨fun c i => (((S c).dx (i 0).val (i 1).val : ℝ) : EReal), fun c i => (((S c).dz (i 0).val (i 1).val : ℝ) : EReal),
    fun c i => (((S c).dws 16 (i 0).val (i 1).val (i 2).val : ℝ) : EReal), fun c i => (((S c).db 16 (i 0).val (i 1).val : ℝ) : EReal),
    fun c i => (((S c).dln 2048 (i 1).val : ℝ) : EReal), fun c i => (((S c).dgv 2048 (i 1).val : ℝ) : EReal), ?_, ?_⟩
  · refine (θ_run Cert.KernelIdeal.defs _ _).mono (fun r h c => ?_) (Cert.KernelIdeal.Value.run_blocks m g)
    obtain ⟨r0, r1, r2, r3, r4, r5, hr⟩ := h c
    exact ⟨r0.trans (Tile.arr10 (H c)), r1.trans (Tile.arr11 (H c)), r2.trans (Tile.arr12 (H c)),
      r3.trans (Tile.arr13 (H c)), r4.trans (Tile.arr14 (H c)), r5.trans (Tile.arr15 (H c)), hr⟩
  · refine (θ_run Cert.ReferenceIdeal.defs _ _).mono (fun r h c => ?_) (Cert.ReferenceIdeal.Value.run (F := Ideal) m' g')
    obtain ⟨r0, r1, r2, r3, r4, r5, hr⟩ := h c
    obtain ⟨a0, a1, a2, a3, a4, a5, a6, a7⟩ := hag c
    have F : Ref.Fits (S c) (StableHlo.launchContents m' c (Proc.devRef .tc Cert.ReferenceIdeal.main_arg0))
        (StableHlo.launchContents m' c (Proc.devRef .tc Cert.ReferenceIdeal.main_arg1))
        (StableHlo.launchContents m' c (Proc.devRef .tc Cert.ReferenceIdeal.main_arg2))
        (StableHlo.launchContents m' c (Proc.devRef .tc Cert.ReferenceIdeal.main_arg3))
        (StableHlo.launchContents m' c (Proc.devRef .tc Cert.ReferenceIdeal.main_arg4))
        (StableHlo.launchContents m' c (Proc.devRef .tc Cert.ReferenceIdeal.main_arg5))
        (StableHlo.launchContents m' c (Proc.devRef .tc Cert.ReferenceIdeal.main_arg6))
        (StableHlo.launchContents m' c (Proc.devRef .tc Cert.ReferenceIdeal.main_arg7)) :=
      ⟨fun i => (congrFun a0 i).trans ((H c).h0 i), fun i => (congrFun a1 i).trans ((H c).h1 i),
        fun i => (congrFun a2 i).trans ((H c).h2 i), fun i => (congrFun a3 i).trans ((H c).h3 i),
        fun i => (congrFun a4 i).trans ((H c).h4 i), fun i => (congrFun a5 i).trans ((H c).h5 i),
        fun i => (congrFun a6 i).trans ((H c).h6 i), fun i => (congrFun a7 i).trans ((H c).h7 i)⟩
    exact ⟨(r0.trans (Cert.ReferenceIdeal.Read.val_main_v156_eq _)).trans (funext fun i => Ref.r_dx F i),
      (r1.trans (Cert.ReferenceIdeal.Read.val_main_v158_eq _)).trans (funext fun i => Ref.r_dz F i),
      (r2.trans (Cert.ReferenceIdeal.Read.val_main_v95_eq _)).trans (funext fun i => Ref.r_dws F i),
      (r3.trans (Cert.ReferenceIdeal.Read.val_main_v159_eq _)).trans (funext fun i => Ref.r_db F i),
      (r4.trans (Cert.ReferenceIdeal.Read.val_main_v155_eq _)).trans (funext fun i => Ref.r_dln F i),
      (r5.trans (Cert.ReferenceIdeal.Read.val_main_v132_eq _)).trans (funext fun i => Ref.r_dgv F i), hr⟩

end Cert.Proof

end
-- ==== Proof.MlpTile.lean ====
/-
  The backward pass of the residual squared-relu block over the reals,
    y = x + s W_down,   s = max(h W_up, 0)²,   h = rmsnorm(x) · ln,
  and one tile of 256 rows of it as the kernel computes it from the blocks it loads.
-/
module

public import proofs.«01_k».proof.Proof.Tile
public import proofs.«01_k».proof.Proof.Gen.Kernel2Ideal.Value

@[expose] public section

set_option maxRecDepth 16384

noncomputable section

namespace Cert.MlpB

/-- The arguments as real tensors: activations `x`, the norm weight `ln`, the two projections, the incoming gradient. -/
structure In where
  x : ℕ → ℕ → ℝ
  ln : ℕ → ℝ
  wu : ℕ → ℕ → ℝ
  wd : ℕ → ℕ → ℝ
  e : ℕ → ℕ → ℝ

namespace In
open Cert.Sgu (hat rmsb dgam)
variable (S : In)

def pre (t n : ℕ) : ℝ := ∑ k : Fin 1024, hat S.x t k * S.ln k * S.wu k n
def relu (t n : ℕ) : ℝ := max (S.pre t n) 0
def s (t n : ℕ) : ℝ := S.relu t n * S.relu t n
def dy (t n : ℕ) : ℝ := ∑ k : Fin 1024, S.e t k * S.wd n k
def dpre (t n : ℕ) : ℝ := S.dy t n * (2 * S.relu t n)
def dh (t d : ℕ) : ℝ := ∑ n : Fin 4096, S.dpre t n * S.wu d n
def dx (t d : ℕ) : ℝ := rmsb S.dh S.x S.ln t d + S.e t d
def dln (n d : ℕ) : ℝ := dgam S.dh S.x n d
end In

open Idealize.ShloMosaic Idealize.ShloMosaic.TcCoe Cert.Kernel2Ideal Cert.Kernel2Ideal.Gen Cert.Sgu Cert.Sgu.Tile

theorem imax {s : Shape} {φ : FTy} {X Y : FVec Ideal s φ} {f g : s.Idx → ℝ} (hX : Is X f) (hY : Is Y g) :
    Is (maximumf X Y) (fun i => max (f i) (g i)) := fun i =>
  (congrArg₂ (fun a b => FloatOps.maximumf (F := Ideal) (φ := φ) a b) (hX i) (hY i)).trans
    (EReal.coe_strictMono.monotone.map_max).symm
theorem castW512 (X : FVec Ideal S1x1024x512 .bf16) (i : S1024x512.Idx) :
    shapeCast S1024x512 X shapeCasts_S1x1024x512_S1024x512 i = X (ix3 0 (i 0) (i 1)) :=
  shapeCast_apply _ _ _ _ (by
    refine (Shape.rowMajor_val_three _).trans (Eq.trans ?_ (Shape.rowMajor_val_two _).symm)
    show (0 * 1024 + (i 0).val) * 512 + (i 1).val = (i 0).val * 512 + (i 1).val; omega)
/-- A sum over 4096 columns by eight stretches of 512. -/
theorem sum_4096 (f : ℕ → ℝ) : ∑ n : Fin 4096, f n = ∑ j : Fin 8, ∑ k : Fin 512, f (512 * j.val + k.val) := by
  rw [← Fintype.sum_prod_type', ← Equiv.sum_comp (finProdFinEquiv (m := 8) (n := 512))]
  exact Finset.sum_congr rfl fun x _ => congrArg f (by show x.2.val + 512 * x.1.val = _; omega)

variable {S : In} {o : ℕ} {E X : FVec Ideal S256x1024 .f32} {Z : FVec Ideal S256x4096 .f32} {G : FVec Ideal S1x1024 .f32}
  {D : FVec Ideal S4096x1024 .bf16}

theorem i_relu (hZ : Is Z fun i => S.pre (o + (i 0).val) (i 1).val) :
    Is (k0_pay7 Z) fun i => S.relu (o + (i 0).val) (i 1).val :=
  imax (icast hZ shapeCasts_S256x4096_S256x4096) (iconst bits_zero)
theorem i_s (hZ : Is Z fun i => S.pre (o + (i 0).val) (i 1).val) :
    Is (k0_pay8 Z) fun i => S.s (o + (i 0).val) (i 1).val :=
  itrunc (imul (i_relu hZ) (i_relu hZ))
theorem i_dpre (hE : Is E fun i => S.e (o + (i 0).val) (i 1).val) (hZ : Is Z fun i => S.pre (o + (i 0).val) (i 1).val)
    (hD : Is D fun i => S.wd (i 0).val (i 1).val) : Is (k0_pay9 E Z D) fun i => S.dpre (o + (i 0).val) (i 1).val :=
  itrunc (imul (mmT (itrunc (icast hE shapeCasts_S256x1024_S256x1024)) (icast hD shapeCasts_S4096x1024_S4096x1024))
    (imul (iconst bits_two) (i_relu hZ)))

/-- The norm's result's gradient, of eight stretches of columns of `dpre` and of the projection. -/
def dhOf (P : Fin 8 → FVec Ideal S256x512 .bf16) (W : Fin 8 → FVec Ideal S1x1024x512 .bf16) : FVec Ideal S256x1024 .f32 :=
  k0_pay12 (k0_pay10 (P 0) (W 0) (P 1) (W 1) (P 2) (W 2) (P 3) (W 3) (P 4) (W 4)) (k0_pay11 (P 5)) (W 5) (P 6) (W 6) (P 7) (W 7)

section Dh
variable {P : Fin 8 → FVec Ideal S256x512 .bf16} {W : Fin 8 → FVec Ideal S1x1024x512 .bf16}
  (hP : ∀ j, Is (P j) fun i => S.dpre (o + (i 0).val) (512 * j.val + (i 1).val))
  (hW : ∀ j, Is (W j) fun i => S.wu (i 1).val (512 * j.val + (i 2).val))
include hP hW

theorem i_dhPart (j : Fin 8) : Is (matmul dot_S256x512_S1024x512_S256x1024_1_1_0_0_n_n none
      (shapeCast S256x512 (P j) shapeCasts_S256x512_S256x512) (shapeCast S1024x512 (W j) shapeCasts_S1x1024x512_S1024x512)
      (constant S256x1024 .f32 0x00000000#32))
    fun i => ∑ k : Fin 512, S.dpre (o + (i 0).val) (512 * j.val + k) * S.wu (i 1).val (512 * j.val + k) :=
  mmT (icast (hP j) shapeCasts_S256x512_S256x512) fun i => (castW512 _ i).trans (hW j _)
theorem i_dh : Is (dhOf P W) fun i => S.dh (o + (i 0).val) (i 1).val :=
  have h := fun j => i_dhPart hP hW j
  iof (iadd (iadd (iadd (iadd (iadd (iadd (iadd (h 0) (h 1)) (h 2)) (h 3)) (h 4)) (h 5)) (h 6)) (h 7)) fun i => by
    unfold In.dh
    rw [sum_4096 (fun n => S.dpre (o + (i 0).val) n * S.wu (i 1).val n), Fin.sum_univ_eight]
theorem i_dx (hE : Is E fun i => S.e (o + (i 0).val) (i 1).val) (hX : Is X fun i => S.x (o + (i 0).val) (i 1).val)
    (hG : Is G fun i => S.ln (i 1).val) :
    Is (addf (back (k0_pay5 X) (k0_pay6 X) (dhOf P W) G) (k0_pay3 E)) fun i => S.dx (o + (i 0).val) (i 1).val :=
  iadd (i_back (i_rs' hX) (i_hat' hX) (i_dh hP hW) hG) (icast hE shapeCasts_S256x1024_S256x1024)
/-- What the tile adds to the norm weight's gradient. -/
theorem i_dln (hX : Is X fun i => S.x (o + (i 0).val) (i 1).val) {N : FVec Ideal S1x1024 .f32} {f : ℕ → ℝ}
    (hN : Is N fun i => f (i 1).val) :
    Is (addf (shapeCast S1x1024 N shapeCasts_S1x1024_S1x1024)
        (shapeCast S1x1024 (multiReduction .add [0] S1024 (mulf (dhOf P W) (k0_pay6 X)) 0x00000000#32
          reduces_S256x1024_S1024 (.inl rfl) rfl) shapeCasts_S1024_S1x1024))
      fun i => f (i 1).val + ∑ k : Fin 256, S.dh (o + k) (i 1).val * hat S.x (o + k) (i 1).val :=
  iadd (icast hN shapeCasts_S1x1024_S1x1024) (i_gam (i_hat' hX) (i_dh hP hW))
end Dh

end Cert.MlpB

end
-- ==== Proof.MlpGrid.lean ====
/-
  The arrays of the squared-relu block's backward kernel: what its windows read of real arguments, what each grid point
  leaves in its output buffers, and the four results.
-/
module

public import proofs.«01_k».proof.Proof.MlpTile
public import proofs.«01_k».proof.Proof.Host
public import Idealize.ShloMosaic.Lib.Claim
public import Idealize.ShloMosaic.Lib.Pipeline.ValueKit
public import Idealize.ShloMosaic.Lib.Pointwise

@[expose] public section

set_option maxRecDepth 16384

noncomputable section

namespace Cert.MlpB

open Idealize.ShloMosaic Idealize.ShloMosaic.TcCoe Cert.Kernel2Ideal Cert.Kernel2Ideal.Gen Idealize.SL.Sem Cert.Sgu.Tile
open Cert.Sgu (hat)

/-- The kernel's arguments hold the values `S`. -/
structure Args (S : In) (m : (ℓ : Loc nD τ sig) → Buf (Elt Ideal) ℓ) (c : Dev nD) : Prop where
  h0 : ∀ i, m (c, Proc.tc.devRef main_arg0) i = ((S.x (i 1).val (i 2).val : ℝ) : EReal)
  h1 : ∀ i, m (c, Proc.tc.devRef main_arg1) i = ((S.ln (i 1).val : ℝ) : EReal)
  h2 : ∀ i, m (c, Proc.tc.devRef main_arg2) i = ((S.wu (i 0).val (i 1).val : ℝ) : EReal)
  h3 : ∀ i, m (c, Proc.tc.devRef main_arg3) i = ((S.wd (i 0).val (i 1).val : ℝ) : EReal)
  h4 : ∀ i, m (c, Proc.tc.devRef main_arg4) i = ((S.e (i 1).val (i 2).val : ℝ) : EReal)

variable {S : In} {m : (ℓ : Loc nD τ sig) → Buf (Elt Ideal) ℓ} {c : Dev nD} (H : Args S m c)
include H

/-! ## The windows' arrays -/

theorem a16 (i : S2048x1024.Idx) : V m c main_v16 i = ((S.e (i 0).val (i 1).val : ℝ) : EReal) := by
  entry_read; pointwise; exact H.h4 _
theorem a0 (i : S2048x1024.Idx) : V m c main_v0 i = ((S.x (i 0).val (i 1).val : ℝ) : EReal) := by
  entry_read; pointwise; exact H.h0 _
theorem a15 (i : S2048x4096.Idx) : V m c main_v15 i = ((S.pre (i 0).val (i 1).val : ℝ) : EReal) := by
  entry_read; pointwise
  exact row_norm_dot _ _ _ S.x (i 0).val (fun k => S.ln k) (fun k => S.wu k (i 1).val) (fun k => H.h0 _) (fun k => H.h1 _)
    fun k => H.h2 _
theorem a1 (i : S1x1024.Idx) : V m c main_arg1 i = ((S.ln (i 1).val : ℝ) : EReal) := by
  rw [V_main_arg1]; exact H.h1 _
theorem a19 (i : S8x1024x512.Idx) : V m c main_v19 i = ((S.wu (i 1).val (512 * (i 0).val + (i 2).val) : ℝ) : EReal) := by
  entry_read; pointwise; rw [Nat.mul_comm 512]; exact H.h2 _
theorem a20 (i : S4096x1024.Idx) : V m c main_v20 i = ((S.wd (i 0).val (i 1).val : ℝ) : EReal) := by
  entry_read; pointwise; exact H.h3 _

/-! ## A grid point's blocks -/

theorem b0 (t : Fin cfg0.N) : Is (φ := .f32) (iblk m c 0 t) fun y => S.e (t.val * 256 + (y 0).val) (y 1).val := by
  have h : ∀ t : Fin cfg0.N, win0_0.index t 0 = t.val ∧ win0_0.index t 1 = 0 := by decide +kernel
  intro y; refine (a16 H ((win0_0.blk t).view.emb y)).trans ?_; blk_simp [h t]
theorem b1 (t : Fin cfg0.N) : Is (φ := .f32) (iblk m c 1 t) fun y => S.x (t.val * 256 + (y 0).val) (y 1).val := by
  have h : ∀ t : Fin cfg0.N, win0_1.index t 0 = t.val ∧ win0_1.index t 1 = 0 := by decide +kernel
  intro y; refine (a0 H ((win0_1.blk t).view.emb y)).trans ?_; blk_simp [h t]
theorem b2 (t : Fin cfg0.N) : Is (φ := .f32) (iblk m c 2 t) fun y => S.pre (t.val * 256 + (y 0).val) (y 1).val := by
  have h : ∀ t : Fin cfg0.N, win0_2.index t 0 = t.val ∧ win0_2.index t 1 = 0 := by decide +kernel
  intro y; refine (a15 H ((win0_2.blk t).view.emb y)).trans ?_; blk_simp [h t]
theorem b3 (t : Fin cfg0.N) : Is (φ := .f32) (iblk m c 3 t) fun y => S.ln (y 1).val := by
  have h : ∀ t : Fin cfg0.N, win0_3.index t 0 = 0 ∧ win0_3.index t 1 = 0 := by decide +kernel
  intro y; refine (a1 H ((win0_3.blk t).view.emb y)).trans ?_; blk_simp [h t]
theorem b4 (t : Fin cfg0.N) :
    Is (φ := .bf16) (iblk m c 4 t) fun y => S.wu (y 1).val (512 * (y 0).val + (y 2).val) := by
  have h : ∀ t : Fin cfg0.N, win0_4.index t 0 = 0 ∧ win0_4.index t 1 = 0 ∧ win0_4.index t 2 = 0 := by decide +kernel
  intro y; refine (a19 H ((win0_4.blk t).view.emb y)).trans ?_; blk_simp [h t]
theorem b5 (t : Fin cfg0.N) : Is (φ := .bf16) (iblk m c 5 t) fun y => S.wd (y 0).val (y 1).val := by
  have h : ∀ t : Fin cfg0.N, win0_5.index t 0 = 0 ∧ win0_5.index t 1 = 0 := by decide +kernel
  intro y; refine (a20 H ((win0_5.blk t).view.emb y)).trans ?_; blk_simp [h t]

/-! ## A grid point's output buffers -/

omit H in
theorem inbP (j : Fin 8) : ∀ a, (![0, 512 * j.val] : Fin 2 → ℕ) a + S256x512.size a ≤ S256x4096.size a :=
  (by decide +kernel : ∀ (j : Fin 8), ∀ a, (![0, 512 * j.val] : Fin 2 → ℕ) a + S256x512.size a ≤ S256x4096.size a) j
omit H in
theorem inbW (j : Fin 8) : ∀ a, (![j.val, 0, 0] : Fin 3 → ℕ) a + S1x1024x512.size a ≤ S8x1024x512.size a :=
  (by decide +kernel : ∀ (j : Fin 8), ∀ a, (![j.val, 0, 0] : Fin 3 → ℕ) a + S1x1024x512.size a ≤ S8x1024x512.size a) j
variable (m c) in
/-- The one store of the tile's gradient. -/
def stored (t : Fin cfg0.N) : List (View.Piece (Elt Ideal) S256x4096 .bf16) :=
  [⟨Rect.unit ![0, 0] S256x4096.size inb_S256x4096_S256x4096_0_0, k0_pay9 (iblk m c 0 t) (iblk m c 2 t) (iblk m c 5 t)⟩]
variable (m c) in
/-- A stretch of columns of the stored gradient, read back through the output's view. -/
def piece (t : Fin cfg0.N) (j : Fin 8) : FVec Ideal S256x512 .bf16 :=
  (ms0_7 t).view.readCov (stored m c t) (Rect.unit ![0, 512 * j.val] S256x512.size (inbP j) : Rect S256x4096).toLoadRect
variable (m c) in
/-- The same stretch of the projection. -/
def wpiece (t : Fin cfg0.N) (j : Fin 8) : FVec Ideal S1x1024x512 .bf16 :=
  View.ld (iblk m c 4 t) (Rect.unit ![j.val, 0, 0] S1x1024x512.size (inbW j) : Rect S8x1024x512)

theorem i_piece (t : Fin cfg0.N) (j : Fin 8) :
    Is (piece m c t j) fun i => S.dpre (t.val * 256 + (i 0).val) (512 * j.val + (i 1).val) := by
  intro i
  unfold piece
  rw [View.readCov_eq_canon']
  refine (View.canon_apply_of_pieces (Val := Elt Ideal) (e := .bf16)
    (fun y : S256x4096.Idx => ((S.dpre (t.val * 256 + (y 0).val) (y 1).val : ℝ) : EReal)) _ ?_ _ ?_).trans ?_
  · intro p hp x
    rcases List.mem_cons.mp hp with rfl | hp
    · refine (i_dpre (b0 H t) (b2 H t) (b5 H t) x).trans (congrArg₂ (fun a b => ((S.dpre (t.val * 256 + a) b : ℝ) : EReal)) ?_ ?_)
      · show (x 0).val = 0 + 1 * (x 0).val; omega
      · show (x 1).val = 0 + 1 * (x 1).val; omega
    · exact absurd hp (List.not_mem_nil)
  · have key : ∀ y : S256x4096.Idx, ∃ p ∈ stored m c t, y ∈ p.1.set := fun y => by
      have h0 : (y 0).val < 256 := (y 0).isLt
      have h1 : (y 1).val < 4096 := (y 1).isLt
      refine ⟨_, List.mem_cons_self .., ?_⟩
      refine mem_unit inb_S256x4096_S256x4096_0_0 fun a => ?_
      match a with
      | ⟨0, _⟩ => show 0 ≤ (y 0).val ∧ (y 0).val < 0 + 256; omega
      | ⟨1, _⟩ => show 0 ≤ (y 1).val ∧ (y 1).val < 0 + 4096; omega
    exact key _
  · refine congrArg₂ (fun a b => ((S.dpre (t.val * 256 + a) b : ℝ) : EReal)) ?_ ?_
    · show 0 + 1 * (i 0).val = (i 0).val; omega
    · show 512 * j.val + 1 * (i 1).val = _; omega
theorem i_wpiece (t : Fin cfg0.N) (j : Fin 8) :
    Is (wpiece m c t j) fun i => S.wu (i 1).val (512 * j.val + (i 2).val) := by
  intro i
  have h0 : (i 0).val < 1 := (i 0).isLt
  refine (b4 H t _).trans (congrArg₂ (fun a b => ((S.wu a b : ℝ) : EReal)) ?_ ?_)
  · show 0 + 1 * (i 1).val = _; omega
  · show 512 * (j.val + 1 * (i 0).val) + (0 + 1 * (i 2).val) = _; omega

theorem o6 (t : Fin cfg0.N) (y : S256x1024.Idx) :
    (outsAt0 m c t.val t.isLt).1 y = ((S.dx (t.val * 256 + (y 0).val) (y 1).val : ℝ) : EReal) := by
  have h := i_dx (i_piece H t) (i_wpiece H t) (b0 H t) (b1 H t) (b3 H t) y
  by_cases h0 : t.val % 8 = 0
  · rw [outsAt0_A m c t h0]; frame_out; exact h
  · rw [outsAt0_B m c t h0]; frame_out; exact h
theorem o7 (t : Fin cfg0.N) (y : S256x4096.Idx) :
    (outsAt0 m c t.val t.isLt).2.1 y = ((S.dpre (t.val * 256 + (y 0).val) (y 1).val : ℝ) : EReal) := by
  have h := i_dpre (b0 H t) (b2 H t) (b5 H t) y
  by_cases h0 : t.val % 8 = 0
  · rw [outsAt0_A m c t h0]; frame_out; exact h
  · rw [outsAt0_B m c t h0]; frame_out; exact h
theorem o8 (t : Fin cfg0.N) (y : S256x4096.Idx) :
    (outsAt0 m c t.val t.isLt).2.2.1 y = ((S.s (t.val * 256 + (y 0).val) (y 1).val : ℝ) : EReal) := by
  have h := i_s (b2 H t) y
  by_cases h0 : t.val % 8 = 0
  · rw [outsAt0_A m c t h0]; frame_out; exact h
  · rw [outsAt0_B m c t h0]; frame_out; exact h
theorem o9_A (t : Fin cfg0.N) (h0 : t.val % 8 = 0) (ht : t.val = 0) (y : S1x1024.Idx) :
    (outsAt0 m c t.val t.isLt).2.2.2 y = ((S.dln 256 (y 1).val : ℝ) : EReal) := by
  have h := i_dln (i_piece H t) (i_wpiece H t) (b1 H t) (N := k0_pay2) (f := fun _ => 0) (iconst Cert.Sgu.bits_zero) y
  rw [outsAt0_A m c t h0]; frame_out
  refine Eq.trans h (congrArg (fun a : ℝ => (a : EReal)) ?_)
  unfold In.dln Cert.Sgu.dgam
  simp only [Finset.sum_range, ht, zero_add, Nat.zero_mul]
theorem o9_B (t : Fin cfg0.N) (h0 : ¬t.val % 8 = 0) {n : ℕ} (hn : t.val = n + 1)
    (ih : ∀ y : S1x1024.Idx, (outsAt0 m c (t.val - 1) (Nat.lt_of_le_of_lt (Nat.sub_le _ _) t.isLt)).2.2.2 y
      = ((S.dln (256 * (n + 1)) (y 1).val : ℝ) : EReal)) (y : S1x1024.Idx) :
    (outsAt0 m c t.val t.isLt).2.2.2 y = ((S.dln (256 * (n + 2)) (y 1).val : ℝ) : EReal) := by
  have h := i_dln (i_piece H t) (i_wpiece H t) (b1 H t) (f := fun d => S.dln (256 * (n + 1)) d) ih y
  rw [outsAt0_B m c t h0]; frame_out
  refine Eq.trans h (congrArg (fun a : ℝ => (a : EReal)) ?_)
  unfold In.dln Cert.Sgu.dgam
  rw [show 256 * (n + 2) = 256 * (n + 1) + 256 by omega, Finset.sum_range_add, Finset.sum_range (n := 256), hn,
    Nat.mul_comm 256]
theorem o9 : ∀ (n : ℕ) (hn : n < cfg0.N) (y : S1x1024.Idx),
    (outsAt0 m c n hn).2.2.2 y = ((S.dln (256 * (n + 1)) (y 1).val : ℝ) : EReal)
  | 0, hn => o9_A H ⟨0, hn⟩ rfl rfl
  | n + 1, hn => by
    have h8 : cfg0.N = 8 := rfl
    exact o9_B H ⟨n + 1, hn⟩ (by show ¬(n + 1) % 8 = 0; omega) rfl (o9 n (by omega))

/-! ## The results -/

theorem arr6 : (dats m 0 c).arrAt 6 cfg0.N = (fun i : S2048x1024.Idx => ((S.dx (i 0).val (i 1).val : ℝ) : EReal)) := by
  have hi : ∀ t : Fin cfg0.N, win0_6.index t 0 = t.val ∧ win0_6.index t 1 = 0 := by decide +kernel
  refine (dats m 0 c).arrAt_eq_of_covers 6 _ (by decide +kernel) fun t hf y => ?_
  have h := o6 H t
  blk_simp [hi t]
  exact h _
theorem arr7 : (dats m 0 c).arrAt 7 cfg0.N = (fun i : S2048x4096.Idx => ((S.dpre (i 0).val (i 1).val : ℝ) : EReal)) := by
  have hi : ∀ t : Fin cfg0.N, win0_7.index t 0 = t.val ∧ win0_7.index t 1 = 0 := by decide +kernel
  refine (dats m 0 c).arrAt_eq_of_covers 7 _ (by decide +kernel) fun t hf y => ?_
  have h := o7 H t
  blk_simp [hi t]
  exact h _
theorem arr8 : (dats m 0 c).arrAt 8 cfg0.N = (fun i : S2048x4096.Idx => ((S.s (i 0).val (i 1).val : ℝ) : EReal)) := by
  have hi : ∀ t : Fin cfg0.N, win0_8.index t 0 = t.val ∧ win0_8.index t 1 = 0 := by decide +kernel
  refine (dats m 0 c).arrAt_eq_of_covers 8 _ (by decide +kernel) fun t hf y => ?_
  have h := o8 H t
  blk_simp [hi t]
  exact h _
theorem arr9 : (dats m 0 c).arrAt 9 cfg0.N = (fun i : S1x1024.Idx => ((S.dln 2048 (i 1).val : ℝ) : EReal)) := by
  have hi : ∀ t : Fin cfg0.N, win0_9.index t 0 = 0 ∧ win0_9.index t 1 = 0 := by decide +kernel
  have ht : ∀ t : Fin cfg0.N, (cfg0.win 9).flush t = true → t.val = 7 := by decide +kernel
  refine (dats m 0 c).arrAt_eq_of_covers 9 _ (by decide +kernel) fun t hf y => ?_
  have h := o9 H t.val t.isLt
  have h7 := ht t hf
  blk_simp [hi t]
  refine (h _).trans ?_
  rw [h7]

end Cert.MlpB

end
-- ==== Proof.MlpRef.lean ====
/-
  The squared-relu block's reference, stage by stage, over the reals.
-/
module

public import proofs.«01_k».proof.Proof.MlpTile
public import proofs.«01_k».proof.Proof.RefB
public import proofs.«01_k».proof.Proof.Gen.Reference2Ideal.Read

@[expose] public section

set_option maxRecDepth 16384

noncomputable section

namespace Cert.MlpB.Ref

open Idealize.ShloMosaic Cert.Reference2Ideal Cert.Reference2Ideal.Gen Cert.Reference2Ideal.Read Cert.Sgu Cert.MlpB
open Cert.Sgu.Ref (sum_unit_a sum_unit_b)

/-- The five argument arrays hold the specification's real tensors. -/
structure Fits (S : MlpB.In) (x0 : (⟨S1x2048x1024, .f32⟩ : BufTy).Contents (Elt Ideal))
    (x1 : (⟨S1x1024, .f32⟩ : BufTy).Contents (Elt Ideal)) (x2 : (⟨S1024x4096, .f32⟩ : BufTy).Contents (Elt Ideal))
    (x3 : (⟨S4096x1024, .f32⟩ : BufTy).Contents (Elt Ideal)) (x4 : (⟨S1x2048x1024, .f32⟩ : BufTy).Contents (Elt Ideal)) : Prop where
  h0 : ∀ i, x0 i = ((S.x (i 1).val (i 2).val : ℝ) : EReal)
  h1 : ∀ i, x1 i = ((S.ln (i 1).val : ℝ) : EReal)
  h2 : ∀ i, x2 i = ((S.wu (i 0).val (i 1).val : ℝ) : EReal)
  h3 : ∀ i, x3 i = ((S.wd (i 0).val (i 1).val : ℝ) : EReal)
  h4 : ∀ i, x4 i = ((S.e (i 1).val (i 2).val : ℝ) : EReal)

variable {S : MlpB.In} {x0 : (⟨S1x2048x1024, .f32⟩ : BufTy).Contents (Elt Ideal)}
  {x1 : (⟨S1x1024, .f32⟩ : BufTy).Contents (Elt Ideal)} {x2 : (⟨S1024x4096, .f32⟩ : BufTy).Contents (Elt Ideal)}
  {x3 : (⟨S4096x1024, .f32⟩ : BufTy).Contents (Elt Ideal)} {x4 : (⟨S1x2048x1024, .f32⟩ : BufTy).Contents (Elt Ideal)}
  (H : Fits S x0 x1 x2 x3 x4)
include H

/-! ## The norm and the projection -/

theorem s1 (i : S1024.Idx) : val_main_v1 x1 i = ((S.ln (i 0).val : ℝ) : EReal) := by
  have h := (i 0).isLt
  rw [val_main_v1_apply, H.h1]
  exact congrArg (fun a => ((S.ln a : ℝ) : EReal)) (by show (i 0).val % 1024 = _; exact Nat.mod_eq_of_lt h)
theorem s8 (i : S1x2048x1.Idx) : val_main_v8 x0 i = ((ms S.x (i 1).val : ℝ) : EReal) := by
  rw [val_main_v8_apply, val_main_v6_apply, val_main_v4_apply, val_main_v3_apply, val_main_v5_apply, val_main_v7_apply]
  simp only [val_main_cst_0_apply, val_main_cst_1_apply, val_main_cst_2_apply, val_main_v2_apply, H.h0, mulf_coe,
    bits_zero, bits_1024, bits_eps, sum_coe, ← EReal.coe_add, zero_add,
    hostDivf_coe _ (by norm_num : (1024 : ℝ) ≠ 0), addf_coe]
  rfl
theorem s9 (i : S1x2048x1.Idx) : val_main_v9 x0 i = ((rs S.x (i 1).val : ℝ) : EReal) := by
  rw [val_main_v9_apply, s8 H, hostRsqrt_coe (ms_pos _ _)]; rfl
theorem s12 (i : S1x2048x1.Idx) :
    val_main_v12 x0 i = ((-(1 / 2) * (rs S.x (i 1).val / ms S.x (i 1).val) : ℝ) : EReal) := by
  rw [val_main_v12_apply, val_main_v11_apply, val_main_cst_3_apply, val_main_v10_apply, s9 H, s8 H,
    hostDivf_coe _ (ms_pos _ _).ne', bits_nhalf, mulf_coe]
theorem s14 (i : S1x2048x1024.Idx) : val_main_v14 x0 i = ((hat S.x (i 1).val (i 2).val : ℝ) : EReal) := by
  rw [val_main_v14_apply, val_main_v13_apply, s9 H, H.h0, mulf_coe]; rfl
theorem s15 (i : S1x1x1024.Idx) : val_main_v15 x1 i = ((S.ln (i 2).val : ℝ) : EReal) := by
  rw [val_main_v15_apply, s1 H]
theorem s17 (i : S1x2048x1024.Idx) :
    val_main_v17 x0 x1 i = ((hat S.x (i 1).val (i 2).val * S.ln (i 2).val : ℝ) : EReal) := by
  rw [val_main_v17_apply, val_main_v16_apply, s15 H, s14 H, mulf_coe]
theorem s19 (i : S1x2048x4096.Idx) : val_main_v19 x0 x1 x2 i = ((S.pre (i 1).val (i 2).val : ℝ) : EReal) := by
  rw [val_main_v19_apply, val_main_v18_apply, val_main_v0_apply, val_main_cst_apply]
  simp only [s17 H, H.h2, ← EReal.coe_mul, sum_coe, bits_zero, addf_coe, add_zero]
  rfl
theorem s20 (i : S1x2048x4096.Idx) : val_main_v20 x0 x1 x2 i = ((S.relu (i 1).val (i 2).val : ℝ) : EReal) := by
  rw [val_main_v20_apply, val_main_call0_v0_apply, val_main_call0_cst_apply, s19 H, bits_zero]
  exact (EReal.coe_strictMono.monotone.map_max).symm

/-! ## The gradients -/

theorem s29 (i : S1x2048x4096.Idx) : val_main_v29 x3 x4 i = ((S.dy (i 1).val (i 2).val : ℝ) : EReal) := by
  rw [val_main_v29_apply]
  refine Eq.trans (Finset.sum_congr rfl fun k _ => ?_) (sum_coe _ fun k : Fin 1024 => S.e (i 1).val k * S.wd (i 2).val k)
  have h1 : (i 1).val < 2048 := (i 1).isLt
  have hk : k.val < 1024 := k.isLt
  have h0 : (i 0).val < 1 := (i 0).isLt
  rw [val_main_v28_apply, H.h4, H.h3, ← EReal.coe_mul]
  refine congrArg₂ (fun a b => ((S.e a b * S.wd (i 2).val k : ℝ) : EReal)) ?_ ?_
  · show (((i 0).val * 2048 + (i 1).val) * 1024 + k.val) / 1024 % 2048 = _; omega
  · show (((i 0).val * 2048 + (i 1).val) * 1024 + k.val) % 1024 = _; omega
omit H in
/-- A value where another is positive, zero elsewhere. -/
theorem select_pos {φ : FTy} (p : ℝ) (a : EReal) :
    Scalar.select (FloatOps.cmpf (F := Ideal) (φ := φ) .ogt ((p : ℝ) : EReal) ((0 : ℝ) : EReal)) a ((0 : ℝ) : EReal)
      = if 0 < p then a else 0 := by
  show Scalar.select (Ideal.cmp .ogt ((p : ℝ) : EReal) ((0 : ℝ) : EReal)) a ((0 : ℝ) : EReal) = _
  unfold Ideal.cmp Scalar.select
  by_cases h : 0 < p
  · simp [h, EReal.coe_pos]
  · simp [h, EReal.coe_pos]
theorem s34 (i : S1x2048x4096.Idx) : val_main_v34 x0 x1 x2 x3 x4 i = ((S.dpre (i 1).val (i 2).val : ℝ) : EReal) := by
  rw [val_main_v34_apply, val_main_v22_apply, val_main_v21_apply, val_main_cst_4_apply, val_main_v33_apply,
    val_main_cst_6_apply, val_main_v32_apply, val_main_v31_apply, val_main_v30_apply, s29 H, s20 H, s19 H, bits_zero,
    mulf_coe, mulf_coe, addf_coe, select_pos]
  unfold In.dpre In.relu
  split
  · next h => rw [max_eq_left h.le]; exact congrArg (fun a : ℝ => (a : EReal)) (by ring)
  · next h => rw [max_eq_right (not_lt.mp h), mul_zero, mul_zero, EReal.coe_zero]
theorem s26 (i : S1x2048x4096.Idx) : val_main_v26 x0 x1 x2 i = ((S.s (i 1).val (i 2).val : ℝ) : EReal) := by
  rw [val_main_v26_apply, s20 H, mulf_coe]; rfl
theorem s35 (i : S1x2048x1024.Idx) : val_main_v35 x0 x1 x2 x3 x4 i = ((S.dh (i 1).val (i 2).val : ℝ) : EReal) := by
  rw [val_main_v35_apply]
  simp only [s34 H, H.h2, ← EReal.coe_mul, sum_coe]
  rfl
theorem s40 (i : S1x2048x1024.Idx) : val_main_v40 x0 x1 x2 x3 x4 i
    = ((S.dh (i 1).val (i 2).val * S.ln (i 2).val : ℝ) : EReal) := by
  rw [val_main_v40_apply, val_main_v39_apply, s15 H, s35 H, mulf_coe]
theorem s50 (i : S1x2048x1.Idx) : val_main_v50 x0 x1 x2 x3 x4 i
    = (((∑ k : Fin 1024, S.x (i 1).val k * (S.dh (i 1).val k * S.ln k))
        * (-(1 / 2) * (rs S.x (i 1).val / ms S.x (i 1).val)) / 1024 : ℝ) : EReal) := by
  rw [val_main_v50_apply, val_main_v49_apply, val_main_v48_apply, val_main_v44_apply, val_main_v43_apply, s12 H]
  simp only [val_main_v42_apply, s40 H, H.h0, mulf_coe, sum_coe, val_main_cst_9_apply, val_main_cst_10_apply,
    bits_zero, bits_1024, ← EReal.coe_add, zero_add, hostDivf_coe _ (by norm_num : (1024 : ℝ) ≠ 0)]
  have h0 : (i 0).val < 1 := (i 0).isLt
  have h1 : (i 1).val < 2048 := (i 1).isLt
  have h2 : (i 2).val < 1 := (i 2).isLt
  have e : (((i 0).val * 2048 + (i 1).val) * 1 + (i 2).val) % 2048 = (i 1).val := by omega
  exact congrArg (fun t : ℕ => (((∑ k : Fin 1024, S.x t k * (S.dh t k * S.ln k))
    * (-(1 / 2) * (rs S.x (i 1).val / ms S.x (i 1).val)) / 1024 : ℝ) : EReal)) e
theorem s53 (i : S1x2048x1024.Idx) : val_main_v53 x0 x1 x2 x3 x4 i
    = (((∑ k : Fin 1024, S.x (i 1).val k * (S.dh (i 1).val k * S.ln k))
        * (-(1 / 2) * (rs S.x (i 1).val / ms S.x (i 1).val)) / 1024 : ℝ) : EReal) := by
  have : ∀ j, val_main_v51 x0 x1 x2 x3 x4 j = Ideal.hostReduceAdd reducesTo_S1x2048x1_S2048_d0_2
      (val_main_v50 x0 x1 x2 x3 x4) (val_main_cst_11 (F := Ideal) (Shape.Idx.first h_S_)) j := fun _ => rfl
  rw [val_main_v53_apply, val_main_v52_apply, this]
  refine (sum_unit_b _ _ _).trans ?_
  rw [s50 H, val_main_cst_11_apply, bits_zero, ← EReal.coe_add, zero_add]
  rfl
theorem s57 (i : S1x2048x1024.Idx) : val_main_v57 x0 x1 x2 x3 x4 i = ((S.dx (i 1).val (i 2).val : ℝ) : EReal) := by
  rw [val_main_v57_apply, val_main_v56_apply, val_main_v55_apply, val_main_v54_apply, val_main_v47_apply,
    val_main_v46_apply, val_main_v45_apply, s53 H, s40 H, s9 H, H.h0, H.h4]
  simp only [mulf_coe, addf_coe]
  refine congrArg (fun a : ℝ => (a : EReal)) ?_
  unfold In.dx
  rw [← rmsb_vjp S.dh S.x S.ln _ _ _ rfl]
  ring

/-! ## The results -/

theorem r_dx (i : S2048x1024.Idx) : val_main_v59 x0 x1 x2 x3 x4 i = ((S.dx (i 0).val (i 1).val : ℝ) : EReal) := by
  have h0 : (i 0).val < 2048 := (i 0).isLt
  have h1 : (i 1).val < 1024 := (i 1).isLt
  rw [val_main_v59_apply, s57 H]
  exact congrArg₂ (fun a b => ((S.dx a b : ℝ) : EReal)) (by show _ / 1024 % 2048 = _; omega) (by show _ % 1024 = _; omega)
theorem r_dpre (i : S2048x4096.Idx) : val_main_v61 x0 x1 x2 x3 x4 i = ((S.dpre (i 0).val (i 1).val : ℝ) : EReal) := by
  have h0 : (i 0).val < 2048 := (i 0).isLt
  have h1 : (i 1).val < 4096 := (i 1).isLt
  have e : val_main_v61 x0 x1 x2 x3 x4 i = val_main_v60 x0 x1 x2 x3 x4 i := rfl
  rw [e, val_main_v60_apply, s34 H]
  exact congrArg₂ (fun a b => ((S.dpre a b : ℝ) : EReal)) (by show _ / 4096 % 2048 = _; omega) (by show _ % 4096 = _; omega)
theorem r_s (i : S2048x4096.Idx) : val_main_v63 x0 x1 x2 i = ((S.s (i 0).val (i 1).val : ℝ) : EReal) := by
  have h0 : (i 0).val < 2048 := (i 0).isLt
  have h1 : (i 1).val < 4096 := (i 1).isLt
  have e : val_main_v63 x0 x1 x2 i = val_main_v62 x0 x1 x2 i := rfl
  rw [e, val_main_v62_apply, s26 H]
  exact congrArg₂ (fun a b => ((S.s a b : ℝ) : EReal)) (by show _ / 4096 % 2048 = _; omega) (by show _ % 4096 = _; omega)
theorem r_dln (i : S1x1024.Idx) : val_main_v58 x0 x1 x2 x3 x4 i = ((S.dln 2048 (i 1).val : ℝ) : EReal) := by
  have h1 : (i 1).val < 1024 := (i 1).isLt
  have : ∀ j, val_main_v41 x0 x1 x2 x3 x4 j = Ideal.hostReduceAdd reducesTo_S1x1x1024_S1024_d0_1
      (val_main_v38 x0 x1 x2 x3 x4) (val_main_cst_8 (F := Ideal) (Shape.Idx.first h_S_)) j := fun _ => rfl
  rw [val_main_v58_apply, this]
  refine (sum_unit_a _ _ _).trans ?_
  rw [val_main_cst_8_apply, val_main_v38_apply, val_main_v37_apply, val_main_cst_7_apply]
  simp only [val_main_v36_apply, s14 H, s35 H, mulf_coe, sum_coe, bits_zero, ← EReal.coe_add, zero_add]
  unfold In.dln dgam
  rw [Finset.sum_range]
  refine congrArg (fun a : ℝ => (a : EReal)) (Finset.sum_congr rfl fun t _ => ?_)
  rw [mul_comm]
  refine congrArg (fun d => S.dh t d * hat S.x t d) ?_
  show ((0 * 1 + 0) * 1024 + (i 1).val) % 1024 = _
  omega

end Cert.MlpB.Ref

end
-- ==== Proof.MlpClaim.lean ====
/-
  The squared-relu block's backward kernel and its reference compute the same values of finite arguments.
-/
module

public import proofs.«01_k».proof.Proof.MlpGrid
public import proofs.«01_k».proof.Proof.MlpRef
public import proofs.«01_k».proof.Proof.Alg

@[expose] public section

set_option maxRecDepth 16384

noncomputable section

namespace Cert.MlpB

open Idealize.ShloMosaic Idealize.SL.Sem Cert.Proof

theorem mat_inj {a b : Nat} : Function.Injective fun i : (Shape.mk 2 ![a, b]).Idx => ((i 0).val, (i 1).val) := by
  intro i j h
  funext k
  match k with
  | ⟨0, _⟩ => exact Fin.ext (congrArg Prod.fst h)
  | ⟨1, _⟩ => exact Fin.ext (congrArg Prod.snd h)

section
open Cert.Kernel2Ideal

/-- Arguments that meet the precondition hold real tensors. -/
theorem exists_args (m : (ℓ : Loc nD τ sig) → Buf (Elt Ideal) ℓ) (h : Cert.Pre_Kernel2Ideal_finite2 m) (c : Dev nD) :
    ∃ S : In, Args S m c := by
  have h0 := congrFun (h c) (Shape.Idx.first Cert.Pre_finite2.Facts.h_S_)
  simp only [Cert.Pre_finite2.fn, Cert.Pre_finite2.fn_part1, andi_apply, IntOp.andi_eq_one] at h0
  obtain ⟨⟨⟨⟨e0, e1⟩, e2⟩, e3⟩, e4⟩ := h0
  haveI : Subsingleton Cert.Pre_finite2.S_.Idx := ⟨fun a b => funext fun i => i.elim0⟩
  obtain ⟨x, hx⟩ := real_at _ idx3_inj _ (real_of_all _ _ (fun _ => inf_bits) _ _ _ _ e0)
  obtain ⟨ln, hln⟩ := real_at _ idx2_inj _ (real_of_all _ _ (fun _ => inf_bits) _ _ _ _ e1)
  obtain ⟨wu, hwu⟩ := real_at _ mat_inj _ (real_of_all _ _ (fun _ => inf_bits) _ _ _ _ e2)
  obtain ⟨wd, hwd⟩ := real_at _ mat_inj _ (real_of_all _ _ (fun _ => inf_bits) _ _ _ _ e3)
  obtain ⟨e, he⟩ := real_at _ idx3_inj _ (real_of_all _ _ (fun _ => inf_bits) _ _ _ _ e4)
  exact ⟨⟨fun t d => x (t, d), ln, fun k n => wu (k, n), fun n k => wd (n, k), fun t d => e (t, d)⟩, hx, hln, hwu, hwd, he⟩

end

theorem algebraic : Cert.algebraic_Kernel2Ideal_Reference2Ideal_pre_finite2 := by
  intro m g m' g' hpre hag
  have hS := fun c => exists_args m hpre c
  choose S H using hS
  refine ⟨fun c i => (((S c).dx (i 0).val (i 1).val : ℝ) : EReal), fun c i => (((S c).dpre (i 0).val (i 1).val : ℝ) : EReal),
    fun c i => (((S c).s (i 0).val (i 1).val : ℝ) : EReal), fun c i => (((S c).dln 2048 (i 1).val : ℝ) : EReal), ?_, ?_⟩
  · refine (θ_run Cert.Kernel2Ideal.defs _ _).mono (fun r h c => ?_) (Cert.Kernel2Ideal.Value.run_blocks m g)
    obtain ⟨r0, r1, r2, r3, hr⟩ := h c
    exact ⟨r0.trans (arr6 (H c)), r1.trans (arr7 (H c)), r2.trans (arr8 (H c)), r3.trans (arr9 (H c)), hr⟩
  · refine (θ_run Cert.Reference2Ideal.defs _ _).mono (fun r h c => ?_) (Cert.Reference2Ideal.Value.run (F := Ideal) m' g')
    obtain ⟨r0, r1, r2, r3, hr⟩ := h c
    obtain ⟨a0, a1, a2, a3, a4⟩ := hag c
    have F : Ref.Fits (S c) (StableHlo.launchContents m' c (Proc.devRef .tc Cert.Reference2Ideal.main_arg0))
        (StableHlo.launchContents m' c (Proc.devRef .tc Cert.Reference2Ideal.main_arg1))
        (StableHlo.launchContents m' c (Proc.devRef .tc Cert.Reference2Ideal.main_arg2))
        (StableHlo.launchContents m' c (Proc.devRef .tc Cert.Reference2Ideal.main_arg3))
        (StableHlo.launchContents m' c (Proc.devRef .tc Cert.Reference2Ideal.main_arg4)) :=
      ⟨fun i => (congrFun a0 i).trans ((H c).h0 i), fun i => (congrFun a1 i).trans ((H c).h1 i),
        fun i => (congrFun a2 i).trans ((H c).h2 i), fun i => (congrFun a3 i).trans ((H c).h3 i),
        fun i => (congrFun a4 i).trans ((H c).h4 i)⟩
    exact ⟨(r0.trans (Cert.Reference2Ideal.Read.val_main_v59_eq _ _)).trans (funext fun i => Ref.r_dx F i),
      (r1.trans (Cert.Reference2Ideal.Read.val_main_v61_eq _ _ _ _ _)).trans (funext fun i => Ref.r_dpre F i),
      (r2.trans (Cert.Reference2Ideal.Read.val_main_v63_eq _ _ _)).trans (funext fun i => Ref.r_s F i),
      (r3.trans (Cert.Reference2Ideal.Read.val_main_v58_eq _ _)).trans (funext fun i => Ref.r_dln F i), hr⟩

end Cert.MlpB

end
-- ==== Proof.Mlp.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Claim
public import Idealize.ShloMosaic.Lib.Pipeline.ValueKit
public import Idealize.ShloMosaic.Lib.Pointwise

/-! The squared-relu MLP's forward call: the norm, the projection up, its squared relu and the projection down. -/

@[expose] public section

set_option maxRecDepth 16384

noncomputable section

open Idealize.ShloMosaic Idealize.ShloMosaic.TcCoe Idealize.SL.Sem

namespace Cert.Mlp

/-- A row `r` over the root of its mean square, times the weight `l`. -/
def normed (r l : Fin 1024 → EReal) (d : Fin 1024) : EReal :=
  r d * Ideal.rsqrt (Ideal.div (∑ j, r j * r j) (Ideal.ofBits .f32 0x44800000#32) + Ideal.ofBits .f32 0x358637BD#32) * l d

abbrev Xs : Type := (⟨3, ![1, 2048, 1024]⟩ : Shape).Idx → EReal
abbrev Ln : Type := (⟨2, ![1, 1024]⟩ : Shape).Idx → EReal
abbrev Wu : Type := (⟨2, ![1024, 4096]⟩ : Shape).Idx → EReal
abbrev Wd : Type := (⟨2, ![4096, 1024]⟩ : Shape).Idx → EReal

/-- The normed rows, the projection up, and the call's first result. -/
def h (x : Xs) (l : Ln) (t : Fin 2048) (d : Fin 1024) : EReal := normed (fun j => x (ix3 0 t j)) (fun j => l (ix2 0 j)) d
def pre (x : Xs) (l : Ln) (wu : Wu) (t : Fin 2048) (n : Fin 4096) : EReal := ∑ d : Fin 1024, h x l t d * wu (ix2 d n)
def relu (v : EReal) : EReal := max v 0
def out (x : Xs) (l : Ln) (wu : Wu) (wd : Wd) (t : Fin 2048) (d : Fin 1024) : EReal :=
  x (ix3 0 t d) + ∑ n : Fin 4096, relu (pre x l wu t n) * relu (pre x l wu t n) * wd (ix2 n d)

section
open Cert.Reference3Ideal.Read

theorem ref_h (x : Xs) (l : Ln) (t : Fin 2048) (d : Fin 1024) :
    val_main_v13 (F := Ideal) x l (ix3 0 t d) = h x l t d := by
  unfold val_main_v13 val_main_v12 val_main_v11 val_main_v10 val_main_v9 val_main_v8 val_main_v7 val_main_v6 val_main_v5
    val_main_v4 val_main_v3 val_main_v2 val_main_v1 val_main_v0 val_main_cst_1 val_main_cst_0 val_main_cst
  pointwise
  rfl

theorem ref_pre (x : Xs) (l : Ln) (wu : Wu) (t : Fin 2048) (n : Fin 4096) :
    val_main_v14 (F := Ideal) x l wu (ix3 0 t n) = pre x l wu t n := by
  unfold val_main_v14
  pointwise
  simp only [ref_h]
  rfl

theorem ref_out (x : Xs) (l : Ln) (wu : Wu) (wd : Wd) (t : Fin 2048) (d : Fin 1024) :
    val_main_v19 (F := Ideal) x l wu wd (ix2 t d) = out x l wu wd t d := by
  unfold val_main_v19 val_main_v18 val_main_v17 val_main_v16 val_main_v15 val_main_call0_v0 val_main_call0_cst
  pointwise
  simp only [ref_pre]
  rfl
end

section
open Cert.Kernel3Ideal Cert.Kernel3Ideal.Gen

variable (m : (ℓ : Loc nD τ sig) → Buf (Elt Ideal) ℓ) (c : Dev nD)

abbrev x0 : Xs := m (c, Proc.devRef .tc main_arg0)
abbrev l0 : Ln := m (c, Proc.devRef .tc main_arg1)
abbrev wu0 : Wu := m (c, Proc.devRef .tc main_arg2)
abbrev wd0 : Wd := m (c, Proc.devRef .tc main_arg3)

theorem row_lt (t : Fin cfg0.N) (r : Fin 256) : t.val * 256 + r.val < 2048 := by
  have : t.val < 8 := t.isLt
  omega
theorem idx_in : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0) ∧ win0_3.index t 0 = 0 ∧ win0_3.index t 1 = 0 := by
  decide +kernel

theorem x_at (t : Fin cfg0.N) (y : S256x1024.Idx) :
    iblk m c 0 t y = x0 m c (ix3 0 ⟨t.val * 256 + (y 0).val, row_lt t (y 0)⟩ (y 1)) := by
  blk_simp [iblk, idx_in t]
  entry_read
  pointwise
  blk_ext [idx_in t]
theorem l_at (t : Fin cfg0.N) (y : S1x1024.Idx) : iblk m c 1 t y = l0 m c (ix2 0 (y 1)) := by
  blk_ext [iblk, V, idx_in t]
theorem wu_at (t : Fin cfg0.N) (g : Fin 8) (d : Fin 1024) (n : Fin 512) :
    iblk m c 2 t (ix3 g d n) = wu0 m c (ix2 d ⟨g.val * 512 + n.val, by omega⟩) := by
  blk_simp [iblk, idx_in t]
  entry_read
  pointwise
  blk_ext [idx_in t]
theorem wu_piece (t : Fin cfg0.N) (g : Fin 8) (inb : ∀ a, (![g.val, 0, 0] : Fin 3 → ℕ) a + ![1, 1024, 512] a ≤ S8x1024x512.size a)
    (d : Fin 1024) (n : Fin 512) (k : Fin 4096) (hk : k.val = 512 * g.val + n.val) :
    View.ld (iblk m c 2 t) (Rect.unit (s := S8x1024x512) ![g.val, 0, 0] ![1, 1024, 512] inb) (ix3 0 d n) = wu0 m c (ix2 d k) := by
  refine (congrArg (iblk m c 2 t) (a₂ := (ix3 g d n : S8x1024x512.Idx)) ?_).trans ((wu_at m c t g d n).trans
    (congrArg (fun k => wu0 m c (ix2 d k)) (Fin.ext ?_)))
  · funext a
    refine Fin.ext ((Rect.idx_unit_val _ _ _ _ a).trans ?_)
    fin_cases a
    · exact Nat.add_zero _
    · exact Nat.zero_add _
    · exact Nat.zero_add _
  · exact (congrArg (· + n.val) (Nat.mul_comm _ _)).trans hk.symm
theorem wd_at (t : Fin cfg0.N) (y : S4096x1024.Idx) : iblk m c 3 t y = wd0 m c y := by
  blk_ext [iblk, V, idx_in t]

theorem h_at (t : Fin cfg0.N) (y : S256x1024.Idx) :
    k0_pay3 (F := Ideal) (iblk m c 0 t) (iblk m c 1 t) y = h (x0 m c) (l0 m c) ⟨t.val * 256 + (y 0).val, row_lt t (y 0)⟩ (y 1) := by
  unfold k0_pay3 k0_pay2
  pointwise
  simp only [x_at, l_at]
  rfl

theorem piece (hb : FVec Ideal S256x1024 .bf16) (W : Vec Ideal S1x1024x512 .bf16) (x : S256x512.Idx) :
    k0_pay7 hb W x = ∑ d : Fin 1024, hb (ix2 (x 0) d) * W (ix3 0 d (x 1)) := by
  unfold k0_pay7
  pointwise

theorem outs6 (t : Fin cfg0.N) (y : S256x1024.Idx) :
    (outsAt0 m c t).2.2 y = h (x0 m c) (l0 m c) ⟨t.val * 256 + (y 0).val, row_lt t (y 0)⟩ (y 1) := by
  unfold outsAt0
  frame_out
  exact h_at m c t y

/-- The eight stores of the projection up. -/
def ups (hb : FVec Ideal S256x1024 .bf16) (W : Vec Ideal S8x1024x512 .bf16) : List (View.Piece (Elt Ideal) S256x4096 .f32) :=
  [⟨Rect.unit ![0, 3584] ![256, 512] inb_S256x4096_S256x512_0_3584, k0_pay7 hb
    (View.ld W (Rect.unit ![7, 0, 0] ![1, 1024, 512] inb_S8x1024x512_S1x1024x512_7_0_0))⟩,
   ⟨Rect.unit ![0, 3072] ![256, 512] inb_S256x4096_S256x512_0_3072, k0_pay7 hb
    (View.ld W (Rect.unit ![6, 0, 0] ![1, 1024, 512] inb_S8x1024x512_S1x1024x512_6_0_0))⟩,
   ⟨Rect.unit ![0, 2560] ![256, 512] inb_S256x4096_S256x512_0_2560, k0_pay7 hb
    (View.ld W (Rect.unit ![5, 0, 0] ![1, 1024, 512] inb_S8x1024x512_S1x1024x512_5_0_0))⟩,
   ⟨Rect.unit ![0, 2048] ![256, 512] inb_S256x4096_S256x512_0_2048, k0_pay7 hb
    (View.ld W (Rect.unit ![4, 0, 0] ![1, 1024, 512] inb_S8x1024x512_S1x1024x512_4_0_0))⟩,
   ⟨Rect.unit ![0, 1536] ![256, 512] inb_S256x4096_S256x512_0_1536, k0_pay7 hb
    (View.ld W (Rect.unit ![3, 0, 0] ![1, 1024, 512] inb_S8x1024x512_S1x1024x512_3_0_0))⟩,
   ⟨Rect.unit ![0, 1024] ![256, 512] inb_S256x4096_S256x512_0_1024, k0_pay7 hb
    (View.ld W (Rect.unit ![2, 0, 0] ![1, 1024, 512] inb_S8x1024x512_S1x1024x512_2_0_0))⟩,
   ⟨Rect.unit ![0, 512] ![256, 512] inb_S256x4096_S256x512_0_512, k0_pay7 hb
    (View.ld W (Rect.unit ![1, 0, 0] ![1, 1024, 512] inb_S8x1024x512_S1x1024x512_1_0_0))⟩,
   ⟨Rect.unit ![0, 0] ![256, 512] inb_S256x4096_S256x512_0_0, k0_pay7 hb
    (View.ld W (Rect.unit ![0, 0, 0] ![1, 1024, 512] inb_S8x1024x512_S1x1024x512_0_0_0))⟩]

theorem ups_at (t : Fin cfg0.N) (y : S256x4096.Idx) :
    View.canon (ups (k0_pay3 (iblk m c 0 t) (iblk m c 1 t)) (iblk m c 2 t)) y
      = pre (x0 m c) (l0 m c) (wu0 m c) ⟨t.val * 256 + (y 0).val, row_lt t (y 0)⟩ (y 1) := by
  unfold ups
  canon_tiles x h
  all_goals
    refine (piece _ _ x).trans (Finset.sum_congr rfl fun d _ => congrArg₂ (· * ·) ((h_at m c t _).trans ?_) ?_)
  all_goals first
    | exact congrArg (fun r => h (x0 m c) (l0 m c) r d) (Fin.ext (congrArg (t.val * 256 + ·) h0.symm))
    | skip
  · exact wu_piece m c t 7 _ d _ _ h1
  · exact wu_piece m c t 6 _ d _ _ h1
  · exact wu_piece m c t 5 _ d _ _ h1
  · exact wu_piece m c t 4 _ d _ _ h1
  · exact wu_piece m c t 3 _ d _ _ h1
  · exact wu_piece m c t 2 _ d _ _ h1
  · exact wu_piece m c t 1 _ d _ _ h1
  · exact wu_piece m c t 0 _ d _ _ (h1.trans (Nat.zero_add _).symm)

theorem outs5 (t : Fin cfg0.N) (y : S256x4096.Idx) :
    (outsAt0 m c t).2.1 y = pre (x0 m c) (l0 m c) (wu0 m c) ⟨t.val * 256 + (y 0).val, row_lt t (y 0)⟩ (y 1) := by
  unfold outsAt0
  frame_out
  exact ups_at m c t y

theorem outs4 (t : Fin cfg0.N) (y : S256x1024.Idx) :
    (outsAt0 m c t).1 y = out (x0 m c) (l0 m c) (wu0 m c) (wd0 m c) ⟨t.val * 256 + (y 0).val, row_lt t (y 0)⟩ (y 1) := by
  unfold outsAt0
  frame_out
  unfold k0_pay1 k0_pay2 k0_pay12
  pointwise
  have hr : ∀ z : S256x4096.Idx, (ms0_5 t).view.readCov (ups (k0_pay3 (iblk m c 0 t) (iblk m c 1 t)) (iblk m c 2 t))
      (Rect.unit (s := S256x4096) ![0, 0] S256x4096.size inb_S256x4096_S256x4096_0_0).toLoadRect z
      = pre (x0 m c) (l0 m c) (wu0 m c) ⟨t.val * 256 + (z 0).val, row_lt t (z 0)⟩ (z 1) := fun z => by
    rw [View.readCov_eq_canon']
    refine (congrArg _ ?_).trans (ups_at m c t z)
    funext a
    exact Fin.ext ((Rect.idx_unit_val _ _ _ z a).trans (by fin_cases a <;> exact Nat.zero_add _))
  refine congrArg₂ (· + ·) (x_at m c t y) (Finset.sum_congr rfl fun n _ =>
    congrArg₂ (· * ·) (congrArg₂ (· * ·) (congrArg relu (hr (ix2 (y 0) n))) (congrArg relu (hr (ix2 (y 0) n)))) (wd_at m c t _))

theorem idx_out : ∀ t : Fin cfg0.N, (win0_4.index t 0 = t.val ∧ win0_4.index t 1 = 0) ∧ (win0_5.index t 0 = t.val ∧ win0_5.index t 1 = 0)
    ∧ win0_6.index t 0 = t.val ∧ win0_6.index t 1 = 0 := by decide +kernel
theorem place4 (t : Fin cfg0.N) (y : S256x1024.Idx) :
    (win0_4.blk t).view.emb y = (ix2 ⟨t.val * 256 + (y 0).val, row_lt t (y 0)⟩ (y 1) : S2048x1024.Idx) := by
  blk_ext [idx_out t]
theorem place5 (t : Fin cfg0.N) (y : S256x4096.Idx) :
    (win0_5.blk t).view.emb y = (ix2 ⟨t.val * 256 + (y 0).val, row_lt t (y 0)⟩ (y 1) : S2048x4096.Idx) := by
  blk_ext [idx_out t]
theorem place6 (t : Fin cfg0.N) (y : S256x1024.Idx) :
    (win0_6.blk t).view.emb y = (ix2 ⟨t.val * 256 + (y 0).val, row_lt t (y 0)⟩ (y 1) : S2048x1024.Idx) := by
  blk_ext [idx_out t]
theorem arrays : (dats m 0 c).arrAt 4 cfg0.N = (fun i : S2048x1024.Idx => out (x0 m c) (l0 m c) (wu0 m c) (wd0 m c) (i 0) (i 1))
    ∧ (dats m 0 c).arrAt 5 cfg0.N = (fun i : S2048x4096.Idx => pre (x0 m c) (l0 m c) (wu0 m c) (i 0) (i 1))
    ∧ (dats m 0 c).arrAt 6 cfg0.N = (fun i : S2048x1024.Idx => h (x0 m c) (l0 m c) (i 0) (i 1)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  · blk_simp [idx_out t]
    rw [after0_4]
    refine (outs4 m c t y).trans ?_
    exact congrArg (fun i : S2048x1024.Idx => out (x0 m c) (l0 m c) (wu0 m c) (wd0 m c) (i 0) (i 1)) (place4 t y).symm
  · blk_simp [idx_out t]
    rw [after0_5]
    refine (outs5 m c t y).trans ?_
    exact congrArg (fun i : S2048x4096.Idx => pre (x0 m c) (l0 m c) (wu0 m c) (i 0) (i 1)) (place5 t y).symm
  · blk_simp [idx_out t]
    rw [after0_6]
    refine (outs6 m c t y).trans ?_
    exact congrArg (fun i : S2048x1024.Idx => h (x0 m c) (l0 m c) (i 0) (i 1)) (place6 t y).symm

end

section
open Cert.Reference3Ideal.Read

theorem ref_v20 (x : Xs) (l : Ln) (wu : Wu) (t : Fin 2048) (n : Fin 4096) :
    val_main_v20 (F := Ideal) x l wu (ix2 t n) = pre x l wu t n := by
  unfold val_main_v20
  pointwise
  exact ref_pre x l wu t n
theorem ref_v22 (x : Xs) (l : Ln) (t : Fin 2048) (d : Fin 1024) :
    val_main_v22 (F := Ideal) x l (ix2 t d) = h x l t d := by
  unfold val_main_v22 val_main_v21
  pointwise
  exact ref_h x l t d

theorem eta2 {a b : Nat} (i : (⟨2, ![a, b]⟩ : Shape).Idx) : ix2 (i 0) (i 1) = i := by
  funext k
  fin_cases k <;> rfl
end

open Cert.Kernel3Ideal in
theorem algebraic : Cert.algebraic_Kernel3Ideal_Reference3Ideal := by
  intro m g m' g' _ hag
  refine ⟨_, _, _, (θ_run Cert.Kernel3Ideal.defs _ _).mono (fun r q c => ⟨(q c).1.trans (arrays m c).1,
    (q c).2.1.trans (arrays m c).2.1, (q c).2.2.1.trans (arrays m c).2.2, (q c).2.2.2⟩) (Cert.Kernel3Ideal.Value.run_blocks m g), ?_⟩
  refine (θ_run Cert.Reference3Ideal.defs _ _).mono (fun r q c => ?_) (Cert.Reference3Ideal.Value.run (F := Ideal) m' g')
  obtain ⟨r0, r1, r2, hr⟩ := q c
  obtain ⟨a0, a1, a2, a3⟩ := hag c
  refine ⟨(r0.trans (Cert.Reference3Ideal.Read.val_main_v19_eq _ _ _ _)).trans ?_,
    (r1.trans (Cert.Reference3Ideal.Read.val_main_v20_eq _ _ _)).trans ?_,
    (r2.trans (Cert.Reference3Ideal.Read.val_main_v22_eq _ _)).trans ?_, hr⟩
  · exact (congr (congr (congr (congrArg (Cert.Reference3Ideal.Read.val_main_v19 (F := Ideal)) a0) a1) a2) a3).trans
      (funext fun i => (congrArg _ (eta2 i).symm).trans (ref_out _ _ _ _ (i 0) (i 1)))
  · exact (congr (congr (congrArg (Cert.Reference3Ideal.Read.val_main_v20 (F := Ideal)) a0) a1) a2).trans
      (funext fun i => (congrArg _ (eta2 i).symm).trans (ref_v20 _ _ _ (i 0) (i 1)))
  · exact (congr (congrArg (Cert.Reference3Ideal.Read.val_main_v22 (F := Ideal)) a0) a1).trans
      (funext fun i => (congrArg _ (eta2 i).symm).trans (ref_v22 _ _ (i 0) (i 1)))

end Cert.Mlp
end
-- ==== Proof.Weights.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Runs
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import Idealize.ShloMosaic.Lib.Claim
public import Idealize.ShloMosaic.Lib.Pipeline.ValueKit
public import Idealize.ShloMosaic.Lib.Pointwise

/-! The weight gradients `hᵀ · g`: each grid point stores one block of rows or of columns. -/

@[expose] public section

set_option maxRecDepth 16384

noncomputable section

open Idealize.ShloMosaic Idealize.ShloMosaic.TcCoe Idealize.SL.Sem

namespace Cert.Weights

/-- Entry `(i, j)` of `hᵀ · g`, the sum over the tokens. -/
def entry {K N : Nat} (h : (⟨2, ![2048, K]⟩ : Shape).Idx → EReal) (g : (⟨2, ![2048, N]⟩ : Shape).Idx → EReal)
    (i : Fin K) (j : Fin N) : EReal :=
  ∑ k : Fin 2048, h (ix2 k i) * g (ix2 k j)

/-- The gradient whole. -/
def whole {K N : Nat} (h : (⟨2, ![2048, K]⟩ : Shape).Idx → EReal) (g : (⟨2, ![2048, N]⟩ : Shape).Idx → EReal)
    (i : (⟨2, ![K, N]⟩ : Shape).Idx) : EReal :=
  entry h g (i 0) (i 1)

/-- The gradient in eight blocks of `B` columns. -/
def blocks {K B : Nat} (h : (⟨2, ![2048, K]⟩ : Shape).Idx → EReal) (g : (⟨2, ![2048, 8 * B]⟩ : Shape).Idx → EReal)
    (i : (⟨3, ![8, K, B]⟩ : Shape).Idx) : EReal :=
  entry h g (i 1) ⟨(i 0).val * B + (i 2).val, by
    have h0 : (i 0).val < 8 := (i 0).isLt
    have h2 : (i 2).val < B := (i 2).isLt
    nlinarith⟩

/-- A sum over the tokens of products that are the entries of `h` and `g`. -/
theorem entry_of {K N : Nat} (h : (⟨2, ![2048, K]⟩ : Shape).Idx → EReal) (g : (⟨2, ![2048, N]⟩ : Shape).Idx → EReal)
    (i : Fin K) (j : Fin N) {a b : Fin 2048 → EReal} (ha : ∀ k, a k = h (ix2 k i)) (hb : ∀ k, b k = g (ix2 k j)) :
    ∑ k : Fin 2048, a k * b k = entry h g i j :=
  Finset.sum_congr rfl fun k _ => by rw [ha, hb]

/-- The order of the factors does not matter. -/
theorem entry_comm {K N : Nat} (h : (⟨2, ![2048, K]⟩ : Shape).Idx → EReal) (g : (⟨2, ![2048, N]⟩ : Shape).Idx → EReal)
    (i : Fin K) (j : Fin N) : entry h g i j = ∑ k : Fin 2048, g (ix2 k j) * h (ix2 k i) :=
  Finset.sum_congr rfl fun _ _ => mul_comm _ _

end Cert.Weights

namespace Cert.Weights.W4

open Cert.Kernel4Ideal Cert.Kernel4Ideal.Gen

theorem final (m : (ℓ : Loc nD τ sig) → Buf (Elt Ideal) ℓ) (c : Dev nD) :
    (dats m 0 c).arrAt 2 cfg0.N = blocks (K := 1024) (B := 512) (m (c, Proc.devRef .tc main_arg0)) (m (c, Proc.devRef .tc main_arg1)) := by
  have hi : ∀ t : Fin cfg0.N, (win0_2.index t 0 = t.val ∧ win0_2.index t 1 = 0 ∧ win0_2.index t 2 = 0) ∧ (win0_0.index t 0 = 0 ∧ win0_0.index t 1 = 0) ∧ win0_1.index t 0 = 0 ∧ win0_1.index t 1 = t.val := by
    decide +kernel
  refine (dats m 0 c).arrAt_eq_of_covers 2 _ (by decide +kernel) fun t hf y => ?_
  blk_simp [hi t]
  rw [after0_2]
  frame_out
  unfold k0_pay1
  pointwise
  refine entry_of _ _ _ _ (fun k => ?_) fun k => ?_ <;> blk_ext [iblk, V, hi t]

theorem ref (h : (⟨2, ![2048, 1024]⟩ : Shape).Idx → EReal) (g : (⟨2, ![2048, 4096]⟩ : Shape).Idx → EReal) :
    Cert.Reference4Ideal.Read.val_main_v8 (F := Ideal) h g = blocks (K := 1024) (B := 512) h g := by
  funext i
  unfold Cert.Reference4Ideal.Read.val_main_v8 Cert.Reference4Ideal.Read.val_main_v7 Cert.Reference4Ideal.Read.val_main_v6 Cert.Reference4Ideal.Read.val_main_v5 Cert.Reference4Ideal.Read.val_main_v4 Cert.Reference4Ideal.Read.val_main_v3 Cert.Reference4Ideal.Read.val_main_v1
  pointwise
  exact (entry_comm h g _ _).symm

theorem algebraic : Cert.algebraic_Kernel4Ideal_Reference4Ideal := fun m g m' g' _ hag =>
  Runs.same _ (final m) (fun c => (Cert.Reference4Ideal.Read.val_main_v8_eq _ _).trans ((ref _ _).trans (congrArg₂ _ (hag c).1 (hag c).2)))
    (Cert.Kernel4Ideal.Value.run_blocks m g) (Cert.Reference4Ideal.Value.run (F := Ideal) m' g')

end Cert.Weights.W4

namespace Cert.Weights.W5

open Cert.Kernel5Ideal Cert.Kernel5Ideal.Gen

theorem final (m : (ℓ : Loc nD τ sig) → Buf (Elt Ideal) ℓ) (c : Dev nD) :
    (dats m 0 c).arrAt 2 cfg0.N = whole (K := 4096) (N := 1024) (m (c, Proc.devRef .tc main_arg0)) (m (c, Proc.devRef .tc main_arg1)) := by
  have hi : ∀ t : Fin cfg0.N, (win0_2.index t 0 = t.val ∧ win0_2.index t 1 = 0) ∧ (win0_0.index t 0 = 0 ∧ win0_0.index t 1 = t.val) ∧ win0_1.index t 0 = 0 ∧ win0_1.index t 1 = 0 := by
    decide +kernel
  refine (dats m 0 c).arrAt_eq_of_covers 2 _ (by decide +kernel) fun t hf y => ?_
  blk_simp [hi t]
  rw [after0_2]
  frame_out
  unfold k0_pay1
  pointwise
  refine entry_of _ _ _ _ (fun k => ?_) fun k => ?_ <;> blk_ext [iblk, V, hi t]

theorem ref (h : (⟨2, ![2048, 4096]⟩ : Shape).Idx → EReal) (g : (⟨2, ![2048, 1024]⟩ : Shape).Idx → EReal) :
    Cert.Reference5Ideal.Read.val_main_v5 (F := Ideal) h g = whole (K := 4096) (N := 1024) h g := by
  funext i
  unfold Cert.Reference5Ideal.Read.val_main_v5 Cert.Reference5Ideal.Read.val_main_v4 Cert.Reference5Ideal.Read.val_main_v3 Cert.Reference5Ideal.Read.val_main_v1
  pointwise
  exact (entry_comm h g _ _).symm

theorem algebraic : Cert.algebraic_Kernel5Ideal_Reference5Ideal := fun m g m' g' _ hag =>
  Runs.same _ (final m) (fun c => (Cert.Reference5Ideal.Read.val_main_v5_eq _ _).trans ((ref _ _).trans (congrArg₂ _ (hag c).1 (hag c).2)))
    (Cert.Kernel5Ideal.Value.run_blocks m g) (Cert.Reference5Ideal.Value.run (F := Ideal) m' g')

end Cert.Weights.W5

namespace Cert.Weights.W6

open Cert.Kernel6Ideal Cert.Kernel6Ideal.Gen

theorem final (m : (ℓ : Loc nD τ sig) → Buf (Elt Ideal) ℓ) (c : Dev nD) :
    (dats m 0 c).arrAt 2 cfg0.N = whole (K := 1024) (N := 1024) (m (c, Proc.devRef .tc main_arg0)) (m (c, Proc.devRef .tc main_arg1)) := by
  have hi : ∀ t : Fin cfg0.N, (win0_2.index t 0 = t.val ∧ win0_2.index t 1 = 0) ∧ (win0_0.index t 0 = 0 ∧ win0_0.index t 1 = t.val) ∧ win0_1.index t 0 = 0 ∧ win0_1.index t 1 = 0 := by
    decide +kernel
  refine (dats m 0 c).arrAt_eq_of_covers 2 _ (by decide +kernel) fun t hf y => ?_
  blk_simp [hi t]
  rw [after0_2]
  frame_out
  unfold k0_pay1
  pointwise
  refine entry_of _ _ _ _ (fun k => ?_) fun k => ?_ <;> blk_ext [iblk, V, hi t]

theorem ref (h : (⟨2, ![2048, 1024]⟩ : Shape).Idx → EReal) (g : (⟨2, ![2048, 1024]⟩ : Shape).Idx → EReal) :
    Cert.Reference6Ideal.Read.val_main_v6 (F := Ideal) h g = whole (K := 1024) (N := 1024) h g := by
  funext i
  unfold Cert.Reference6Ideal.Read.val_main_v6 Cert.Reference6Ideal.Read.val_main_v5 Cert.Reference6Ideal.Read.val_main_v4 Cert.Reference6Ideal.Read.val_main_v3 Cert.Reference6Ideal.Read.val_main_v1
  pointwise
  exact (entry_comm h g _ _).symm

theorem algebraic : Cert.algebraic_Kernel6Ideal_Reference6Ideal := fun m g m' g' _ hag =>
  Runs.same _ (final m) (fun c => (Cert.Reference6Ideal.Read.val_main_v6_eq _ _).trans ((ref _ _).trans (congrArg₂ _ (hag c).1 (hag c).2)))
    (Cert.Kernel6Ideal.Value.run_blocks m g) (Cert.Reference6Ideal.Value.run (F := Ideal) m' g')

end Cert.Weights.W6

namespace Cert.Weights.W7

open Cert.Kernel7Ideal Cert.Kernel7Ideal.Gen

theorem final (m : (ℓ : Loc nD τ sig) → Buf (Elt Ideal) ℓ) (c : Dev nD) :
    (dats m 0 c).arrAt 2 cfg0.N = blocks (K := 1024) (B := 256) (m (c, Proc.devRef .tc main_arg0)) (m (c, Proc.devRef .tc main_arg1)) := by
  have hi : ∀ t : Fin cfg0.N, (win0_2.index t 0 = t.val ∧ win0_2.index t 1 = 0 ∧ win0_2.index t 2 = 0) ∧ (win0_0.index t 0 = 0 ∧ win0_0.index t 1 = 0) ∧ win0_1.index t 0 = 0 ∧ win0_1.index t 1 = t.val := by
    decide +kernel
  refine (dats m 0 c).arrAt_eq_of_covers 2 _ (by decide +kernel) fun t hf y => ?_
  blk_simp [hi t]
  rw [after0_2]
  frame_out
  unfold k0_pay1
  pointwise
  refine entry_of _ _ _ _ (fun k => ?_) fun k => ?_ <;> blk_ext [iblk, V, hi t]

theorem ref (h : (⟨2, ![2048, 1024]⟩ : Shape).Idx → EReal) (g : (⟨2, ![2048, 2048]⟩ : Shape).Idx → EReal) :
    Cert.Reference7Ideal.Read.val_main_v8 (F := Ideal) h g = blocks (K := 1024) (B := 256) h g := by
  funext i
  unfold Cert.Reference7Ideal.Read.val_main_v8 Cert.Reference7Ideal.Read.val_main_v7 Cert.Reference7Ideal.Read.val_main_v6 Cert.Reference7Ideal.Read.val_main_v5 Cert.Reference7Ideal.Read.val_main_v4 Cert.Reference7Ideal.Read.val_main_v3 Cert.Reference7Ideal.Read.val_main_v1
  pointwise
  exact (entry_comm h g _ _).symm

theorem algebraic : Cert.algebraic_Kernel7Ideal_Reference7Ideal := fun m g m' g' _ hag =>
  Runs.same _ (final m) (fun c => (Cert.Reference7Ideal.Read.val_main_v8_eq _ _).trans ((ref _ _).trans (congrArg₂ _ (hag c).1 (hag c).2)))
    (Cert.Kernel7Ideal.Value.run_blocks m g) (Cert.Reference7Ideal.Value.run (F := Ideal) m' g')

end Cert.Weights.W7

namespace Cert.Weights.W12

open Cert.Kernel12Ideal Cert.Kernel12Ideal.Gen

theorem final (m : (ℓ : Loc nD τ sig) → Buf (Elt Ideal) ℓ) (c : Dev nD) :
    (dats m 0 c).arrAt 2 cfg0.N = whole (K := 1024) (N := 1024) (m (c, Proc.devRef .tc main_arg0)) (m (c, Proc.devRef .tc main_arg1)) := by
  have hi : ∀ t : Fin cfg0.N, (win0_2.index t 0 = t.val ∧ win0_2.index t 1 = 0) ∧ (win0_0.index t 0 = 0 ∧ win0_0.index t 1 = t.val) ∧ win0_1.index t 0 = 0 ∧ win0_1.index t 1 = 0 := by
    decide +kernel
  refine (dats m 0 c).arrAt_eq_of_covers 2 _ (by decide +kernel) fun t hf y => ?_
  blk_simp [hi t]
  rw [after0_2]
  frame_out
  unfold k0_pay1
  pointwise
  refine entry_of _ _ _ _ (fun k => ?_) fun k => ?_ <;> blk_ext [iblk, V, hi t]

theorem ref (h : (⟨2, ![2048, 1024]⟩ : Shape).Idx → EReal) (g : (⟨2, ![2048, 1024]⟩ : Shape).Idx → EReal) :
    Cert.Reference12Ideal.Read.val_main_v5 (F := Ideal) h g = whole (K := 1024) (N := 1024) h g := by
  funext i
  unfold Cert.Reference12Ideal.Read.val_main_v5 Cert.Reference12Ideal.Read.val_main_v4 Cert.Reference12Ideal.Read.val_main_v3 Cert.Reference12Ideal.Read.val_main_v1
  pointwise
  exact (entry_comm h g _ _).symm

theorem algebraic : Cert.algebraic_Kernel12Ideal_Reference12Ideal := fun m g m' g' _ hag =>
  Runs.same _ (final m) (fun c => (Cert.Reference12Ideal.Read.val_main_v5_eq _ _).trans ((ref _ _).trans (congrArg₂ _ (hag c).1 (hag c).2)))
    (Cert.Kernel12Ideal.Value.run_blocks m g) (Cert.Reference12Ideal.Value.run (F := Ideal) m' g')

end Cert.Weights.W12

namespace Cert.Weights.W13

open Cert.Kernel13Ideal Cert.Kernel13Ideal.Gen

theorem final (m : (ℓ : Loc nD τ sig) → Buf (Elt Ideal) ℓ) (c : Dev nD) :
    (dats m 0 c).arrAt 2 cfg0.N = whole (K := 1024) (N := 1024) (m (c, Proc.devRef .tc main_arg0)) (m (c, Proc.devRef .tc main_arg1)) := by
  have hi : ∀ t : Fin cfg0.N, (win0_2.index t 0 = t.val ∧ win0_2.index t 1 = 0) ∧ (win0_0.index t 0 = 0 ∧ win0_0.index t 1 = t.val) ∧ win0_1.index t 0 = 0 ∧ win0_1.index t 1 = 0 := by
    decide +kernel
  refine (dats m 0 c).arrAt_eq_of_covers 2 _ (by decide +kernel) fun t hf y => ?_
  blk_simp [hi t]
  rw [after0_2]
  frame_out
  unfold k0_pay1
  pointwise
  refine entry_of _ _ _ _ (fun k => ?_) fun k => ?_ <;> blk_ext [iblk, V, hi t]

theorem ref (h : (⟨2, ![2048, 1024]⟩ : Shape).Idx → EReal) (g : (⟨2, ![2048, 1024]⟩ : Shape).Idx → EReal) :
    Cert.Reference13Ideal.Read.val_main_v4 (F := Ideal) h g = whole (K := 1024) (N := 1024) h g := by
  funext i
  unfold Cert.Reference13Ideal.Read.val_main_v4 Cert.Reference13Ideal.Read.val_main_v3 Cert.Reference13Ideal.Read.val_main_v2
  pointwise
  exact (entry_comm h g _ _).symm

theorem algebraic : Cert.algebraic_Kernel13Ideal_Reference13Ideal := fun m g m' g' _ hag =>
  Runs.same _ (final m) (fun c => (Cert.Reference13Ideal.Read.val_main_v4_eq _ _).trans ((ref _ _).trans (congrArg₂ _ (hag c).1 (hag c).2)))
    (Cert.Kernel13Ideal.Value.run_blocks m g) (Cert.Reference13Ideal.Value.run (F := Ideal) m' g')

end Cert.Weights.W13

namespace Cert.Weights.W14

open Cert.Kernel14Ideal Cert.Kernel14Ideal.Gen

/-- This device's batch row. -/
def flat (p : (⟨3, ![1, 2048, 256]⟩ : Shape).Idx → EReal) (i : (⟨2, ![2048, 256]⟩ : Shape).Idx) : EReal := p (ix3 0 (i 0) (i 1))

theorem final (m : (ℓ : Loc nD τ sig) → Buf (Elt Ideal) ℓ) (c : Dev nD) :
    (dats m 0 c).arrAt 2 cfg0.N = blocks (K := 256) (B := 128) (flat (m (c, Proc.devRef .tc main_arg0))) (m (c, Proc.devRef .tc main_arg1)) := by
  have hi : ∀ t : Fin cfg0.N, (win0_2.index t 0 = t.val ∧ win0_2.index t 1 = 0 ∧ win0_2.index t 2 = 0) ∧ (win0_0.index t 0 = 0 ∧ win0_0.index t 1 = 0) ∧ win0_1.index t 0 = 0 ∧ win0_1.index t 1 = t.val := by
    decide +kernel
  refine (dats m 0 c).arrAt_eq_of_covers 2 _ (by decide +kernel) fun t hf y => ?_
  blk_simp [hi t]
  rw [after0_2]
  frame_out
  unfold k0_pay1
  pointwise
  refine entry_of _ _ _ _ (fun k => ?_) fun k => ?_
  · blk_simp [iblk, hi t]
    entry_read
    pointwise
    blk_ext [hi t]
  · blk_simp [iblk, hi t]
    rw [V_main_arg1]
    blk_ext [hi t]

theorem ref (h : (⟨3, ![1, 2048, 256]⟩ : Shape).Idx → EReal) (g : (⟨2, ![2048, 1024]⟩ : Shape).Idx → EReal) :
    Cert.Reference14Ideal.Read.val_main_v8 (F := Ideal) h g = blocks (K := 256) (B := 128) (flat h) g := by
  funext i
  unfold Cert.Reference14Ideal.Read.val_main_v8 Cert.Reference14Ideal.Read.val_main_v7 Cert.Reference14Ideal.Read.val_main_v6 Cert.Reference14Ideal.Read.val_main_v5 Cert.Reference14Ideal.Read.val_main_v4 Cert.Reference14Ideal.Read.val_main_v3 Cert.Reference14Ideal.Read.val_main_v0
  pointwise
  exact (entry_comm (flat h) g _ _).symm

theorem algebraic : Cert.algebraic_Kernel14Ideal_Reference14Ideal := fun m g m' g' _ hag =>
  Runs.same _ (final m) (fun c => (Cert.Reference14Ideal.Read.val_main_v8_eq _ _).trans ((ref _ _).trans (congrArg₂ (fun p g => blocks (flat p) g) (hag c).1 (hag c).2)))
    (Cert.Kernel14Ideal.Value.run_blocks m g) (Cert.Reference14Ideal.Value.run (F := Ideal) m' g')

end Cert.Weights.W14

end
-- ==== Proof.Proj.lean ====
/-
  The attention's output projection with its residual, and the gradient it hands back to the attention.
-/
module

public import proofs.«01_k».proof.Defs
public import proofs.«01_k».proof.Proof.Runs
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proj

abbrev Rows : Type := (⟨3, ![1, 2048, 1024]⟩ : Shape).Idx → EReal
abbrev Sq : Type := (⟨3, ![1, 1024, 1024]⟩ : Shape).Idx → EReal
abbrev Out : Type := (⟨2, ![2048, 1024]⟩ : Shape).Idx → EReal

/-- The residual and the projected row; a row against the projection's rows. -/
def project (x o : Rows) (w : Sq) : Out := fun i => x (ix3 0 (i 0) (i 1)) + ∑ k : Fin 1024, o (ix3 0 (i 0) k) * w (ix3 0 k (i 1))
def back (w : Sq) (e : Rows) : Out := fun i => ∑ k : Fin 1024, e (ix3 0 (i 0) k) * w (ix3 0 (i 1) k)

section
open Cert.Kernel10Ideal Cert.Kernel10Ideal.Gen

theorem project_final (m : (ℓ : Loc nD τ sig) → Buf (Elt Ideal) ℓ) (c : Dev nD) :
    (dats m 0 c).arrAt 3 cfg0.N = project (m (c, Proc.devRef .tc main_arg0)) (m (c, Proc.devRef .tc main_arg1)) (m (c, Proc.devRef .tc main_arg2)) := by
  have hi : ∀ t : Fin cfg0.N, (win0_3.index t 0 = t.val ∧ win0_3.index t 1 = 0) ∧ (win0_0.index t 0 = t.val ∧ win0_0.index t 1 = 0)
      ∧ (win0_1.index t 0 = t.val ∧ win0_1.index t 1 = 0) ∧ win0_2.index t 0 = 0 ∧ win0_2.index t 1 = 0 := by
    decide +kernel
  refine (dats m 0 c).arrAt_eq_of_covers 3 _ (by decide +kernel) fun t hf y => ?_
  blk_simp [hi t]
  rw [after0_3]
  frame_out
  unfold k0_pay1
  pointwise
  refine congrArg₂ (· + ·) ?_ (Finset.sum_congr rfl fun k _ => congrArg₂ (· * ·) ?_ ?_) <;>
    · blk_simp [iblk, hi t]
      entry_read
      pointwise
      blk_ext [hi t]

theorem project_ref (x o : Rows) (w : Sq) : Cert.Reference10Ideal.Read.val_main_v3 (F := Ideal) x o w = project x o w := by
  funext i
  unfold Cert.Reference10Ideal.Read.val_main_v3 Cert.Reference10Ideal.Read.val_main_v2 Cert.Reference10Ideal.Read.val_main_v1
    Cert.Reference10Ideal.Read.val_main_v0
  pointwise
  rfl

theorem project_algebraic : Cert.algebraic_Kernel10Ideal_Reference10Ideal := fun m g m' g' _ hag =>
  Runs.same _ (project_final m) (fun c => (Cert.Reference10Ideal.Read.val_main_v3_eq _ _ _).trans ((project_ref _ _ _).trans
      (congr (congrArg₂ project (hag c).1 (hag c).2.1) (hag c).2.2)))
    (Cert.Kernel10Ideal.Value.run_blocks m g) (Cert.Reference10Ideal.Value.run (F := Ideal) m' g')
end

section
open Cert.Kernel11Ideal Cert.Kernel11Ideal.Gen

theorem back_final (m : (ℓ : Loc nD τ sig) → Buf (Elt Ideal) ℓ) (c : Dev nD) :
    (dats m 0 c).arrAt 2 cfg0.N = back (m (c, Proc.devRef .tc main_arg0)) (m (c, Proc.devRef .tc main_arg1)) := by
  have hi : ∀ t : Fin cfg0.N, (win0_2.index t 0 = t.val ∧ win0_2.index t 1 = 0) ∧ (win0_0.index t 0 = t.val ∧ win0_0.index t 1 = 0)
      ∧ win0_1.index t 0 = 0 ∧ win0_1.index t 1 = 0 := by
    decide +kernel
  refine (dats m 0 c).arrAt_eq_of_covers 2 _ (by decide +kernel) fun t hf y => ?_
  blk_simp [hi t]
  rw [after0_2]
  frame_out
  unfold k0_pay1
  pointwise
  refine Finset.sum_congr (M := EReal) rfl fun k _ => congrArg₂ (· * ·) ?_ ?_ <;>
    · blk_simp [iblk, hi t]
      entry_read
      pointwise
      blk_ext [hi t]

theorem back_ref (w : Sq) (e : Rows) : Cert.Reference11Ideal.Read.val_main_v4 (F := Ideal) w e = back w e := by
  funext i
  unfold Cert.Reference11Ideal.Read.val_main_v4 Cert.Reference11Ideal.Read.val_main_v3 Cert.Reference11Ideal.Read.val_main_v1
  pointwise
  rfl

theorem back_algebraic : Cert.algebraic_Kernel11Ideal_Reference11Ideal := fun m g m' g' _ hag =>
  Runs.same _ (back_final m) (fun c => (Cert.Reference11Ideal.Read.val_main_v4_eq _ _).trans ((back_ref _ _).trans
      (congrArg₂ back (hag c).1 (hag c).2)))
    (Cert.Kernel11Ideal.Value.run_blocks m g) (Cert.Reference11Ideal.Value.run (F := Ideal) m' g')
end

end Cert.Proj

end
-- ==== Proof.Ple.lean ====
/-
  The per-layer embedding's forward call: the norm, the gate, the projected embedding and their product with the residual.
-/
module

public import proofs.«01_k».proof.Proof.Mlp
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384

noncomputable section

open Idealize.ShloMosaic Idealize.ShloMosaic.TcCoe Idealize.SL.Sem

namespace Cert.Ple

open Cert.Mlp (Xs Ln normed eta2)

abbrev Ps : Type := (⟨3, ![1, 2048, 256]⟩ : Shape).Idx → EReal
abbrev Wg : Type := (⟨2, ![1024, 1024]⟩ : Shape).Idx → EReal
abbrev Wp : Type := (⟨2, ![256, 1024]⟩ : Shape).Idx → EReal

/-- The gate, the projected embedding, and the call's first result. -/
def gate (x : Xs) (l : Ln) (wg : Wg) (t : Fin 2048) (n : Fin 1024) : EReal :=
  Ideal.logistic (∑ d : Fin 1024, Cert.Mlp.h x l t d * wg (ix2 d n))
def pp (p : Ps) (wp : Wp) (t : Fin 2048) (n : Fin 1024) : EReal := ∑ k : Fin 256, p (ix3 0 t k) * wp (ix2 k n)
def out (x : Xs) (p : Ps) (l : Ln) (wg : Wg) (wp : Wp) (t : Fin 2048) (n : Fin 1024) : EReal :=
  x (ix3 0 t n) + pp p wp t n * gate x l wg t n

section
open Cert.Reference9Ideal.Read

theorem ref_h (x : Xs) (l : Ln) (t : Fin 2048) (d : Fin 1024) :
    val_main_v13 (F := Ideal) x l (ix3 0 t d) = Cert.Mlp.h x l t d := by
  unfold val_main_v13 val_main_v12 val_main_v11 val_main_v10 val_main_v9 val_main_v8 val_main_v7 val_main_v6 val_main_v5
    val_main_v4 val_main_v3 val_main_v2 val_main_v1 val_main_v0 val_main_cst_1 val_main_cst_0 val_main_cst
  pointwise
  rfl
theorem ref_gate (x : Xs) (l : Ln) (wg : Wg) (t : Fin 2048) (n : Fin 1024) :
    val_main_v20 (F := Ideal) x l wg (ix3 0 t n) = gate x l wg t n := by
  unfold val_main_v20 val_main_v19 val_main_v18 val_main_v17 val_main_v16 val_main_v15 val_main_v14 val_main_cst_3 val_main_cst_2
  pointwise
  simp only [ref_h]
  rfl
theorem ref_pp (p : Ps) (wp : Wp) (t : Fin 2048) (n : Fin 1024) : val_main_v21 (F := Ideal) p wp (ix3 0 t n) = pp p wp t n := by
  unfold val_main_v21
  pointwise
  rfl
theorem ref_v24 (x : Xs) (p : Ps) (l : Ln) (wg : Wg) (wp : Wp) (t : Fin 2048) (n : Fin 1024) :
    val_main_v24 (F := Ideal) x p l wg wp (ix2 t n) = out x p l wg wp t n := by
  unfold val_main_v24 val_main_v23 val_main_v22
  pointwise
  simp only [ref_pp, ref_gate]
  rfl
theorem ref_v25 (x : Xs) (l : Ln) (wg : Wg) (t : Fin 2048) (n : Fin 1024) :
    val_main_v25 (F := Ideal) x l wg (ix2 t n) = gate x l wg t n := by
  unfold val_main_v25
  pointwise
  exact ref_gate x l wg t n
theorem ref_v26 (p : Ps) (wp : Wp) (t : Fin 2048) (n : Fin 1024) : val_main_v26 (F := Ideal) p wp (ix2 t n) = pp p wp t n := by
  unfold val_main_v26
  pointwise
  exact ref_pp p wp t n
theorem ref_v28 (x : Xs) (l : Ln) (t : Fin 2048) (d : Fin 1024) : val_main_v28 (F := Ideal) x l (ix2 t d) = Cert.Mlp.h x l t d := by
  unfold val_main_v28 val_main_v27
  pointwise
  exact ref_h x l t d
end

section
open Cert.Kernel9Ideal Cert.Kernel9Ideal.Gen

variable (m : (ℓ : Loc nD τ sig) → Buf (Elt Ideal) ℓ) (c : Dev nD)

abbrev x0 : Xs := m (c, Proc.devRef .tc main_arg0)
abbrev p0 : Ps := m (c, Proc.devRef .tc main_arg1)
abbrev l0 : Ln := m (c, Proc.devRef .tc main_arg2)
abbrev wg0 : Wg := m (c, Proc.devRef .tc main_arg3)
abbrev wp0 : Wp := m (c, Proc.devRef .tc main_arg4)

theorem row_lt (t : Fin cfg0.N) (r : Fin 256) : t.val * 256 + r.val < 2048 := by
  have : t.val < 8 := t.isLt
  omega
theorem idx_in : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ win0_4.index t 0 = 0 ∧ win0_4.index t 1 = 0 ∧ win0_4.index t 2 = 0 := by
  decide +kernel

theorem x_at (t : Fin cfg0.N) (y : S256x1024.Idx) :
    iblk m c 0 t y = x0 m c (ix3 0 ⟨t.val * 256 + (y 0).val, row_lt t (y 0)⟩ (y 1)) := by
  blk_simp [iblk, idx_in t]
  entry_read
  pointwise
  blk_ext [idx_in t]
theorem p_at (t : Fin cfg0.N) (y : S256x256.Idx) :
    iblk m c 1 t y = p0 m c (ix3 0 ⟨t.val * 256 + (y 0).val, row_lt t (y 0)⟩ (y 1)) := by
  blk_simp [iblk, idx_in t]
  entry_read
  pointwise
  blk_ext [idx_in t]
theorem l_at (t : Fin cfg0.N) (y : S1x1024.Idx) : iblk m c 2 t y = l0 m c (ix2 0 (y 1)) := by
  blk_ext [iblk, V, idx_in t]
theorem wg_at (t : Fin cfg0.N) (y : S1024x1024.Idx) : iblk m c 3 t y = wg0 m c y := by
  blk_simp [iblk, idx_in t]
  entry_read
  pointwise
  blk_ext [idx_in t]
theorem wp_at (t : Fin cfg0.N) (g : Fin 8) (k : Fin 256) (n : Fin 128) :
    iblk m c 4 t (ix3 g k n) = wp0 m c (ix2 k ⟨g.val * 128 + n.val, by omega⟩) := by
  blk_simp [iblk, idx_in t]
  entry_read
  pointwise
  blk_ext [idx_in t]
theorem wp_piece (t : Fin cfg0.N) (g : Fin 8) (inb : ∀ a, (![g.val, 0, 0] : Fin 3 → ℕ) a + ![1, 256, 128] a ≤ S8x256x128.size a)
    (k : Fin 256) (n : Fin 128) (j : Fin 1024) (hj : j.val = 128 * g.val + n.val) :
    View.ld (iblk m c 4 t) (Rect.unit (s := S8x256x128) ![g.val, 0, 0] ![1, 256, 128] inb) (ix3 0 k n) = wp0 m c (ix2 k j) := by
  refine (congrArg (iblk m c 4 t) (a₂ := (ix3 g k n : S8x256x128.Idx)) ?_).trans ((wp_at m c t g k n).trans
    (congrArg (fun j => wp0 m c (ix2 k j)) (Fin.ext ?_)))
  · funext a
    refine Fin.ext ((Rect.idx_unit_val _ _ _ _ a).trans ?_)
    fin_cases a
    · exact Nat.add_zero _
    · exact Nat.zero_add _
    · exact Nat.zero_add _
  · exact (congrArg (· + n.val) (Nat.mul_comm _ _)).trans hj.symm

theorem h_at (t : Fin cfg0.N) (y : S256x1024.Idx) :
    k0_pay4 (F := Ideal) (iblk m c 0 t) (iblk m c 2 t) y = Cert.Mlp.h (x0 m c) (l0 m c) ⟨t.val * 256 + (y 0).val, row_lt t (y 0)⟩ (y 1) := by
  unfold k0_pay4 k0_pay3
  pointwise
  simp only [x_at, l_at]
  rfl
theorem gate_at (t : Fin cfg0.N) (y : S256x1024.Idx) : k0_pay5 (F := Ideal) (iblk m c 0 t) (iblk m c 2 t) (iblk m c 3 t) y
    = gate (x0 m c) (l0 m c) (wg0 m c) ⟨t.val * 256 + (y 0).val, row_lt t (y 0)⟩ (y 1) := by
  unfold k0_pay5
  pointwise
  simp only [h_at, wg_at]
  rfl
theorem piece (p : Vec Ideal S256x256 .f32) (W : Vec Ideal S1x256x128 .bf16) (x : S256x128.Idx) :
    k0_pay7 p W x = ∑ k : Fin 256, p (ix2 (x 0) k) * W (ix3 0 k (x 1)) := by
  unfold k0_pay7 k0_pay6
  pointwise

theorem outs8 (t : Fin cfg0.N) (y : S256x1024.Idx) :
    (outsAt0 m c t).2.2.2 y = Cert.Mlp.h (x0 m c) (l0 m c) ⟨t.val * 256 + (y 0).val, row_lt t (y 0)⟩ (y 1) := by
  unfold outsAt0
  frame_out
  exact h_at m c t y
theorem outs6 (t : Fin cfg0.N) (y : S256x1024.Idx) :
    (outsAt0 m c t).2.1 y = gate (x0 m c) (l0 m c) (wg0 m c) ⟨t.val * 256 + (y 0).val, row_lt t (y 0)⟩ (y 1) := by
  unfold outsAt0
  frame_out
  exact gate_at m c t y
theorem inbW (j : Fin 8) : ∀ a, (![j.val, 0, 0] : Fin 3 → ℕ) a + S1x256x128.size a ≤ S8x256x128.size a :=
  (by decide +kernel : ∀ (j : Fin 8), ∀ a, (![j.val, 0, 0] : Fin 3 → ℕ) a + S1x256x128.size a ≤ S8x256x128.size a) j
theorem inbP (j : Fin 8) : ∀ a, (![0, 128 * j.val] : Fin 2 → ℕ) a + S256x128.size a ≤ S256x1024.size a :=
  (by decide +kernel : ∀ (j : Fin 8), ∀ a, (![0, 128 * j.val] : Fin 2 → ℕ) a + S256x128.size a ≤ S256x1024.size a) j

/-- The store of one block of columns of the projected embedding. -/
def store (p : Vec Ideal S256x256 .f32) (W : Vec Ideal S8x256x128 .bf16) (j : Fin 8) : View.Piece (Elt Ideal) S256x1024 .f32 :=
  ⟨Rect.unit ![0, 128 * j.val] S256x128.size (inbP j), k0_pay7 p (View.ld W (Rect.unit ![j.val, 0, 0] S1x256x128.size (inbW j)))⟩
/-- The eight stores. -/
def stores (p : Vec Ideal S256x256 .f32) (W : Vec Ideal S8x256x128 .bf16) : List (View.Piece (Elt Ideal) S256x1024 .f32) :=
  [store p W 7, store p W 6, store p W 5, store p W 4, store p W 3, store p W 2, store p W 1, store p W 0]

theorem stores_at (t : Fin cfg0.N) (y : S256x1024.Idx) : View.canon (stores (iblk m c 1 t) (iblk m c 4 t)) y
    = pp (p0 m c) (wp0 m c) ⟨t.val * 256 + (y 0).val, row_lt t (y 0)⟩ (y 1) := by
  refine View.canon_apply_of_pieces (Val := Elt Ideal) (e := .f32)
    (fun y : S256x1024.Idx => pp (p0 m c) (wp0 m c) ⟨t.val * 256 + (y 0).val, row_lt t (y 0)⟩ (y 1)) _ (fun q hq x => ?_) y ?_
  · obtain ⟨j, rfl⟩ : ∃ j, q = store (iblk m c 1 t) (iblk m c 4 t) j := by
      simp only [stores, List.mem_cons, List.not_mem_nil, or_false] at hq
      rcases hq with h | h | h | h | h | h | h | h <;> exact ⟨_, h⟩
    refine (piece _ _ x).trans (Finset.sum_congr rfl fun k _ => congrArg₂ (· * ·) ((p_at m c t _).trans ?_)
      (wp_piece m c t j _ k (x 1) _ ?_))
    · refine congrArg (fun r => p0 m c (ix3 0 r k)) (Fin.ext ?_)
      show t.val * 256 + (x 0).val = t.val * 256 + (0 + 1 * (x 0).val); omega
    · show 128 * j.val + 1 * (x 1).val = _; omega
  · have h0 : (y 0).val < 256 := (y 0).isLt
    have h1 : (y 1).val < 1024 := (y 1).isLt
    have hm : ∀ j, store (iblk m c 1 t) (iblk m c 4 t) j ∈ stores (iblk m c 1 t) (iblk m c 4 t) := fun j => by
      fin_cases j <;> simp [stores]
    refine ⟨_, hm ⟨(y 1).val / 128, by omega⟩, (Rect.mem_set_unit (inb := inbP _)).mpr fun a => ?_⟩
    match a with
    | ⟨0, _⟩ => show 0 ≤ (y 0).val ∧ (y 0).val < 0 + 256; omega
    | ⟨1, _⟩ => show 128 * ((y 1).val / 128) ≤ (y 1).val ∧ (y 1).val < 128 * ((y 1).val / 128) + 128; omega

theorem outs7 (t : Fin cfg0.N) (y : S256x1024.Idx) : (outsAt0 m c t).2.2.1 y
    = pp (p0 m c) (wp0 m c) ⟨t.val * 256 + (y 0).val, row_lt t (y 0)⟩ (y 1) := by
  unfold outsAt0
  frame_out
  exact stores_at m c t y
theorem outs5 (t : Fin cfg0.N) (y : S256x1024.Idx) : (outsAt0 m c t).1 y
    = out (x0 m c) (p0 m c) (l0 m c) (wg0 m c) (wp0 m c) ⟨t.val * 256 + (y 0).val, row_lt t (y 0)⟩ (y 1) := by
  unfold outsAt0
  frame_out
  unfold k0_pay2 k0_pay3
  pointwise
  have hr : ∀ z : S256x1024.Idx, (ms0_7 t).view.readCov (stores (iblk m c 1 t) (iblk m c 4 t))
      (Rect.unit (s := S256x1024) ![0, 0] S256x1024.size inb_S256x1024_S256x1024_0_0).toLoadRect z
      = pp (p0 m c) (wp0 m c) ⟨t.val * 256 + (z 0).val, row_lt t (z 0)⟩ (z 1) := fun z => by
    rw [View.readCov_eq_canon']
    refine (congrArg _ ?_).trans (stores_at m c t z)
    funext a
    exact Fin.ext ((Rect.idx_unit_val _ _ _ z a).trans (by fin_cases a <;> exact Nat.zero_add _))
  exact congrArg₂ (· + ·) (x_at m c t y) (congrArg₂ (· * ·) (hr y) (gate_at m c t y))

theorem idx_out : ∀ t : Fin cfg0.N, (win0_5.index t 0 = t.val ∧ win0_5.index t 1 = 0) ∧ (win0_6.index t 0 = t.val ∧ win0_6.index t 1 = 0)
    ∧ (win0_7.index t 0 = t.val ∧ win0_7.index t 1 = 0) ∧ win0_8.index t 0 = t.val ∧ win0_8.index t 1 = 0 := by decide +kernel

theorem arr5 : (dats m 0 c).arrAt 5 cfg0.N = (fun i : S2048x1024.Idx => out (x0 m c) (p0 m c) (l0 m c) (wg0 m c) (wp0 m c) (i 0) (i 1)) := by
  refine (dats m 0 c).arrAt_eq_of_covers 5 _ (by decide +kernel) fun t hf y => ?_
  have e : (win0_5.blk t).view.emb y = (ix2 ⟨t.val * 256 + (y 0).val, row_lt t (y 0)⟩ (y 1) : S2048x1024.Idx) := by blk_ext [idx_out t]
  blk_simp [idx_out t]
  rw [after0_5]
  refine (outs5 m c t y).trans ?_
  exact congrArg (fun i : S2048x1024.Idx => out (x0 m c) (p0 m c) (l0 m c) (wg0 m c) (wp0 m c) (i 0) (i 1)) e.symm
theorem arr6 : (dats m 0 c).arrAt 6 cfg0.N = (fun i : S2048x1024.Idx => gate (x0 m c) (l0 m c) (wg0 m c) (i 0) (i 1)) := by
  refine (dats m 0 c).arrAt_eq_of_covers 6 _ (by decide +kernel) fun t hf y => ?_
  have e : (win0_6.blk t).view.emb y = (ix2 ⟨t.val * 256 + (y 0).val, row_lt t (y 0)⟩ (y 1) : S2048x1024.Idx) := by blk_ext [idx_out t]
  blk_simp [idx_out t]
  rw [after0_6]
  refine (outs6 m c t y).trans ?_
  show _ = (fun i : S2048x1024.Idx => gate (x0 m c) (l0 m c) (wg0 m c) (i 0) (i 1)) ((win0_6.blk t).view.emb y)
  rw [e]
  exact rfl

theorem arr7 : (dats m 0 c).arrAt 7 cfg0.N = (fun i : S2048x1024.Idx => pp (p0 m c) (wp0 m c) (i 0) (i 1)) := by
  refine (dats m 0 c).arrAt_eq_of_covers 7 _ (by decide +kernel) fun t hf y => ?_
  have e : (win0_7.blk t).view.emb y = (ix2 ⟨t.val * 256 + (y 0).val, row_lt t (y 0)⟩ (y 1) : S2048x1024.Idx) := by blk_ext [idx_out t]
  blk_simp [idx_out t]
  rw [after0_7]
  refine (outs7 m c t y).trans ?_
  exact congrArg (fun i : S2048x1024.Idx => pp (p0 m c) (wp0 m c) (i 0) (i 1)) e.symm
theorem arr8 : (dats m 0 c).arrAt 8 cfg0.N = (fun i : S2048x1024.Idx => Cert.Mlp.h (x0 m c) (l0 m c) (i 0) (i 1)) := by
  refine (dats m 0 c).arrAt_eq_of_covers 8 _ (by decide +kernel) fun t hf y => ?_
  have e : (win0_8.blk t).view.emb y = (ix2 ⟨t.val * 256 + (y 0).val, row_lt t (y 0)⟩ (y 1) : S2048x1024.Idx) := by blk_ext [idx_out t]
  blk_simp [idx_out t]
  rw [after0_8]
  refine (outs8 m c t y).trans ?_
  exact congrArg (fun i : S2048x1024.Idx => Cert.Mlp.h (x0 m c) (l0 m c) (i 0) (i 1)) e.symm

end

open Cert.Kernel9Ideal in
theorem algebraic : Cert.algebraic_Kernel9Ideal_Reference9Ideal := by
  intro m g m' g' _ hag
  refine ⟨_, _, _, _, (θ_run Cert.Kernel9Ideal.defs _ _).mono (fun r q c => ⟨(q c).1.trans (arr5 m c),
    (q c).2.1.trans (arr6 m c), (q c).2.2.1.trans (arr7 m c), (q c).2.2.2.1.trans (arr8 m c), (q c).2.2.2.2⟩) (Cert.Kernel9Ideal.Value.run_blocks m g), ?_⟩
  refine (θ_run Cert.Reference9Ideal.defs _ _).mono (fun r q c => ?_) (Cert.Reference9Ideal.Value.run (F := Ideal) m' g')
  obtain ⟨r0, r1, r2, r3, hr⟩ := q c
  obtain ⟨a0, a1, a2, a3, a4⟩ := hag c
  refine ⟨(r0.trans (Cert.Reference9Ideal.Read.val_main_v24_eq _ _ _ _ _)).trans ?_,
    (r1.trans (Cert.Reference9Ideal.Read.val_main_v25_eq _ _ _)).trans ?_,
    (r2.trans (Cert.Reference9Ideal.Read.val_main_v26_eq _ _)).trans ?_,
    (r3.trans (Cert.Reference9Ideal.Read.val_main_v28_eq _ _)).trans ?_, hr⟩
  · exact (congr (congr (congr (congr (congrArg (Cert.Reference9Ideal.Read.val_main_v24 (F := Ideal)) a0) a1) a2) a3) a4).trans
      (funext fun i => (congrArg _ (eta2 i).symm).trans (ref_v24 _ _ _ _ _ (i 0) (i 1)))
  · exact (congr (congr (congrArg (Cert.Reference9Ideal.Read.val_main_v25 (F := Ideal)) a0) a2) a3).trans
      (funext fun i => (congrArg _ (eta2 i).symm).trans (ref_v25 _ _ _ (i 0) (i 1)))
  · exact (congr (congrArg (Cert.Reference9Ideal.Read.val_main_v26 (F := Ideal)) a1) a4).trans
      (funext fun i => (congrArg _ (eta2 i).symm).trans (ref_v26 _ _ (i 0) (i 1)))
  · exact (congr (congrArg (Cert.Reference9Ideal.Read.val_main_v28 (F := Ideal)) a0) a2).trans
      (funext fun i => (congrArg _ (eta2 i).symm).trans (ref_v28 _ _ (i 0) (i 1)))

end Cert.Ple
end
-- ==== Proof.Mixer.lean ====
/-
  The gated mixer's forward call: the norm, the projection to both halves, the gelu, the gate's norm and its lower
  triangular mix within a block of rows, the gated units and the projection added to the residual.
-/
module

public import proofs.«01_k».proof.Proof.Mlp
public import proofs.«01_k».proof.Proof.Ops
public import proofs.«01_k».proof.Proof.Spec
public import proofs.«01_k».proof.Proof.Gen.Kernel15Ideal.Value
public import proofs.«01_k».proof.Proof.Gen.Reference15Ideal.Run
public import proofs.«01_k».proof.Proof.Gen.Reference15Ideal.Read

@[expose] public section

set_option maxRecDepth 16384

noncomputable section

open Idealize.ShloMosaic Idealize.ShloMosaic.TcCoe Idealize.SL.Sem

namespace Cert.Mixer

open Cert.Mlp (Xs Ln normed eta2)
open Cert.Sgu (kap select_sge)

abbrev Wi : Type := (⟨3, ![1, 1024, 2048]⟩ : Shape).Idx → EReal
abbrev Wt : Type := (⟨4, ![1, 8, 128, 128]⟩ : Shape).Idx → EReal
abbrev Bs : Type := (⟨3, ![1, 8, 128]⟩ : Shape).Idx → EReal
abbrev Wo : Type := (⟨3, ![1, 1024, 1024]⟩ : Shape).Idx → EReal

/-- The tanh form of the gelu. -/
def gelu (a : EReal) : EReal :=
  a * (Ideal.ofBits .f32 0x3F000000#32 * (Ideal.ofBits .f32 0x3F800000#32
    + Ideal.tanh (Ideal.ofBits .f32 0x3F4C422A#32 * (a + ((kap : ℝ) : EReal) * (a * a * a)))))

/-- Column `1024 + j` of the projection, row `s` of the block of rows `t` lies in, and the group of columns of `d`. -/
def gateCol (j : Fin 1024) : Fin 2048 := ⟨1024 + j.val, by omega⟩
def unitCol (j : Fin 1024) : Fin 2048 := ⟨j.val, by omega⟩
def mate (t : Fin 2048) (s : Fin 128) : Fin 2048 := ⟨t.val / 128 * 128 + s.val, by omega⟩
def rowIn (t : Fin 2048) : Fin 128 := ⟨t.val % 128, by omega⟩
def grp (d : Fin 1024) : Fin 8 := ⟨d.val / 128, by omega⟩

/-- The projection, the gate's normed rows, their mix, the gated units, and the call's first result. -/
def z (x : Xs) (l : Ln) (w : Wi) (t : Fin 2048) (n : Fin 2048) : EReal := ∑ d : Fin 1024, Cert.Mlp.h x l t d * w (ix3 0 d n)
def vn (x : Xs) (l : Ln) (w : Wi) (gv : Ln) (t : Fin 2048) (d : Fin 1024) : EReal :=
  normed (fun j => gelu (z x l w t (gateCol j))) (fun j => gv (ix2 0 j)) d
def mix (x : Xs) (l : Ln) (w : Wi) (gv : Ln) (ws : Wt) (b : Bs) (t : Fin 2048) (d : Fin 1024) : EReal :=
  (∑ s : Fin 128, (if s.val ≤ t.val % 128 then ws (ix4 0 (grp d) (rowIn t) s) else 0) * vn x l w gv (mate t s) d)
    + b (ix3 0 (grp d) (rowIn t))
def y (x : Xs) (l : Ln) (w : Wi) (gv : Ln) (ws : Wt) (b : Bs) (t : Fin 2048) (d : Fin 1024) : EReal :=
  gelu (z x l w t (unitCol d)) * mix x l w gv ws b t d
def out (x : Xs) (l : Ln) (w : Wi) (gv : Ln) (ws : Wt) (b : Bs) (wo : Wo) (t : Fin 2048) (d : Fin 1024) : EReal :=
  x (ix3 0 t d) + ∑ k : Fin 1024, y x l w gv ws b t k * wo (ix3 0 k d)

section
open Cert.Reference15Ideal Cert.Reference15Ideal.Read

theorem ref_h (x : Xs) (l : Ln) (t : Fin 2048) (d : Fin 1024) :
    val_main_v13 (F := Ideal) x l (ix3 0 t d) = Cert.Mlp.h x l t d := by
  unfold val_main_v13 val_main_v12 val_main_v11 val_main_v10 val_main_v9 val_main_v8 val_main_v7 val_main_v6 val_main_v5
    val_main_v4 val_main_v3 val_main_v2 val_main_v1 val_main_v0 val_main_cst_1 val_main_cst_0 val_main_cst
  pointwise
  rfl
theorem ref_z (x : Xs) (l : Ln) (w : Wi) (t : Fin 2048) (n : Fin 2048) :
    val_main_v15 (F := Ideal) x l w (ix3 0 t n) = z x l w t n := by
  unfold val_main_v15 val_main_v14
  pointwise
  simp only [ref_h]
  rfl
theorem ref_kap (i : S_.Idx) : val_main_v19 (F := Ideal) i = ((kap : ℝ) : EReal) := by
  rw [val_main_v19_apply, val_main_cst_2_apply, val_main_cst_3_apply, Cert.Sgu.bits_44715, Cert.Sgu.bits_million,
    Cert.Sgu.hostDivf_coe _ (by norm_num : (1000000 : ℝ) ≠ 0)]
  exact congrArg _ (by unfold kap; norm_num)
theorem ref_gelu (x : Xs) (l : Ln) (w : Wi) (t : Fin 2048) (n : Fin 2048) :
    val_main_v32 (F := Ideal) x l w (ix3 0 t n) = gelu (z x l w t n) := by
  simp only [val_main_v32_apply, val_main_v31_apply, val_main_v30_apply, val_main_v29_apply, val_main_v28_apply,
    val_main_v27_apply, val_main_v26_apply, val_main_v25_apply, val_main_v24_apply, val_main_v23_apply, val_main_v22_apply,
    val_main_v21_apply, val_main_v20_apply, val_main_cst_4_apply, val_main_cst_5_apply, val_main_cst_6_apply, ref_kap, ref_z]
  rfl
theorem ref_vn (x : Xs) (l : Ln) (w : Wi) (gv : Ln) (t : Fin 2048) (d : Fin 1024) :
    val_main_v47 (F := Ideal) x l w gv (ix3 0 t d) = vn x l w gv t d := by
  unfold val_main_v47 val_main_v46 val_main_v45 val_main_v44 val_main_v43 val_main_v42 val_main_v41 val_main_v40 val_main_v39
    val_main_v38 val_main_v37 val_main_v36 val_main_v35 val_main_v34 val_main_v16 val_main_cst_9 val_main_cst_8 val_main_cst_7
  pointwise
  simp only [ref_gelu]
  rfl
/-- The lower triangle of the mixing weights. -/
theorem ref_tri (ws : Wt) (i : S8x128x128.Idx) :
    val_main_v53 (F := Ideal) ws i = if (i 2).val ≤ (i 1).val then ws (ix4 0 (i 0) (i 1) (i 2)) else 0 := by
  have h0 : (i 0).val < 8 := (i 0).isLt
  have h1 : (i 1).val < 128 := (i 1).isLt
  have h2 : (i 2).val < 128 := (i 2).isLt
  have e : IntOp.addi (BitVec.ofNat 32 (i 1).val) 0#32 = BitVec.ofNat 32 (i 1).val := by simp [IntOp.addi]
  have w : val_main_v17 (F := Ideal) ws i = ws (ix4 0 (i 0) (i 1) (i 2)) := by
    unfold val_main_v17
    pointwise
  rw [val_main_v53_apply, w, val_main_v52_apply, val_main_v51_apply, val_main_v50_apply, val_main_v49_apply, val_main_cst_10_apply,
    Cert.Sgu.bits_one, val_main_call0_v5_apply, val_main_call0_cst_apply, Cert.Sgu.bits_zero, val_main_call0_v4_apply,
    val_main_call0_v2_apply, val_main_call0_v3_apply, val_main_call0_v0_apply, val_main_call0_v1_apply, val_main_call0_c_apply]
  show ws _ * Scalar.select (IntOp.cmpi .sge (IntOp.addi (BitVec.ofNat 32 (i 1).val) 0#32) (BitVec.ofNat 32 (i 2).val))
    ((1 : ℝ) : EReal) ((0 : ℝ) : EReal) = _
  rw [e, select_sge (by omega) (by omega)]
  split
  · rw [EReal.coe_one, mul_one]
  · rw [EReal.coe_zero, mul_zero]
theorem ref_vn_row (x : Xs) (l : Ln) (w : Wi) (gv : Ln) (i : S1x16x128x8x128.Idx) (t : Fin 2048) (d : Fin 1024)
    (ht : t.val = (i 1).val * 128 + (i 2).val) (hd : d.val = (i 3).val * 128 + (i 4).val) :
    val_main_v48 (F := Ideal) x l w gv i = vn x l w gv t d := by
  have h0 : (i 0).val < 1 := (i 0).isLt
  have h1 : (i 1).val < 16 := (i 1).isLt
  have h2 : (i 2).val < 128 := (i 2).isLt
  have h3 : (i 3).val < 8 := (i 3).isLt
  have h4 : (i 4).val < 128 := (i 4).isLt
  rw [val_main_v48_apply]
  refine (congrArg (val_main_v47 (F := Ideal) x l w gv) (a₂ := (ix3 0 t d : S1x2048x1024.Idx)) ?_).trans (ref_vn x l w gv t d)
  funext a
  refine Fin.ext ?_
  match a with
  | ⟨0, _⟩ => rfl
  | ⟨1, _⟩ => show _ / 1024 % 2048 = t.val; omega
  | ⟨2, _⟩ => show _ % 1024 = d.val; omega
theorem ref_mix_at (x : Xs) (l : Ln) (w : Wi) (gv : Ln) (ws : Wt) (b : Bs) (i : S1x2048x1024.Idx) :
    val_main_v60 (F := Ideal) x l w gv ws b i = mix x l w gv ws b (i 1) (i 2) := by
  have h0 : (i 0).val < 1 := (i 0).isLt
  have h1 : (i 1).val < 2048 := (i 1).isLt
  have h2 : (i 2).val < 1024 := (i 2).isLt
  have e1 : (idx_main_v60 i 1).val = (i 1).val / 128 := by show _ / 131072 % 16 = _; omega
  have e2 : (idx_main_v60 i 2).val = (i 1).val % 128 := by show _ / 1024 % 128 = _; omega
  have e3 : (idx_main_v60 i 3).val = (i 2).val / 128 := by show _ / 128 % 8 = _; omega
  have e4 : (idx_main_v60 i 4).val = (i 2).val % 128 := by show _ % 128 = _; omega
  rw [val_main_v60_apply, val_main_v59_apply, val_main_v55_apply, val_main_v54_apply, val_main_v58_apply, val_main_v57_apply,
    val_main_v56_apply]
  generalize idx_main_v60 i = j at e1 e2 e3 e4 ⊢
  refine congrArg₂ (· + ·) (Finset.sum_congr rfl fun s _ => (mul_comm _ _).trans (congrArg₂ (· * ·) ?_ ?_)) ?_
  · rw [ref_tri]
    have f0 : ridx_main_v54 (idx_main_v55 j) s 0 = grp (i 2) := Fin.ext e3
    have f1 : ridx_main_v54 (idx_main_v55 j) s 1 = rowIn (i 1) := Fin.ext e2
    rw [f0, f1]
    rfl
  · refine ref_vn_row x l w gv _ (mate (i 1) s) (i 2) ?_ ?_
    · exact congrArg (· * 128 + s.val) e1.symm
    · show (i 2).val = (j 3).val * 128 + (j 4).val
      rw [e3, e4]; omega
  · have hb : ∀ j : S8x128.Idx, val_main_v18 (F := Ideal) b j = b (ix3 0 (j 0) (j 1)) := fun j => by
      unfold val_main_v18
      pointwise
    rw [hb]
    exact congrArg₂ (fun g r => b (ix3 0 g r)) (Fin.ext e3) (Fin.ext e2)
theorem ref_mix (x : Xs) (l : Ln) (w : Wi) (gv : Ln) (ws : Wt) (b : Bs) (t : Fin 2048) (d : Fin 1024) :
    val_main_v60 (F := Ideal) x l w gv ws b (ix3 0 t d) = mix x l w gv ws b t d := ref_mix_at x l w gv ws b (ix3 0 t d)
theorem ref_y (x : Xs) (l : Ln) (w : Wi) (gv : Ln) (ws : Wt) (b : Bs) (t : Fin 2048) (d : Fin 1024) :
    val_main_v61 (F := Ideal) x l w gv ws b (ix3 0 t d) = y x l w gv ws b t d := by
  rw [val_main_v61_apply, ref_mix]
  refine congrArg (· * mix x l w gv ws b t d) ?_
  unfold val_main_v33
  pointwise
  exact ref_gelu x l w t (unitCol d)
theorem ref_v65 (x : Xs) (l : Ln) (w : Wi) (gv : Ln) (ws : Wt) (b : Bs) (wo : Wo) (t : Fin 2048) (d : Fin 1024) :
    val_main_v65 (F := Ideal) x l w gv ws b wo (ix2 t d) = out x l w gv ws b wo t d := by
  unfold val_main_v65 val_main_v64 val_main_v63 val_main_v62
  pointwise
  simp only [ref_y]
  rfl
theorem ref_v66 (x : Xs) (l : Ln) (w : Wi) (t n : Fin 2048) : val_main_v66 (F := Ideal) x l w (ix2 t n) = z x l w t n := by
  unfold val_main_v66
  pointwise
  exact ref_z x l w t n
theorem ref_v68 (x : Xs) (l : Ln) (t : Fin 2048) (d : Fin 1024) : val_main_v68 (F := Ideal) x l (ix2 t d) = Cert.Mlp.h x l t d := by
  unfold val_main_v68 val_main_v67
  pointwise
  exact ref_h x l t d
theorem ref_v70 (x : Xs) (l : Ln) (w : Wi) (gv : Ln) (ws : Wt) (b : Bs) (t : Fin 2048) (d : Fin 1024) :
    val_main_v70 (F := Ideal) x l w gv ws b (ix2 t d) = y x l w gv ws b t d := by
  unfold val_main_v70 val_main_v69
  pointwise
  exact ref_y x l w gv ws b t d
end

section
open Cert.Kernel15Ideal Cert.Kernel15Ideal.Gen

variable (m : (ℓ : Loc nD τ sig) → Buf (Elt Ideal) ℓ) (c : Dev nD)

abbrev x0 : Xs := m (c, Proc.devRef .tc main_arg0)
abbrev l0 : Ln := m (c, Proc.devRef .tc main_arg1)
abbrev w0 : Wi := m (c, Proc.devRef .tc main_arg2)
abbrev gv0 : Ln := m (c, Proc.devRef .tc main_arg3)
abbrev ws0 : Wt := m (c, Proc.devRef .tc main_arg4)
abbrev b0 : Bs := m (c, Proc.devRef .tc main_arg5)
abbrev wo0 : Wo := m (c, Proc.devRef .tc main_arg6)

theorem row_lt (t : Fin cfg0.N) (r : Fin 256) : t.val * 256 + r.val < 2048 := by
  have : t.val < 8 := t.isLt
  omega
/-- Row `r` of grid point `t`'s block of rows. -/
abbrev row (t : Fin cfg0.N) (r : Fin 256) : Fin 2048 := ⟨t.val * 256 + r.val, row_lt t r⟩
theorem idx_in : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = 0 ∧ win0_3.index t 1 = 0)
    ∧ (win0_4.index t 0 = 0 ∧ win0_4.index t 1 = 0 ∧ win0_4.index t 2 = 0) ∧ (win0_5.index t 0 = 0 ∧ win0_5.index t 1 = 0)
    ∧ win0_6.index t 0 = 0 ∧ win0_6.index t 1 = 0 := by
  decide +kernel

theorem x_at (t : Fin cfg0.N) (i : S256x1024.Idx) : iblk m c 0 t i = x0 m c (ix3 0 (row t (i 0)) (i 1)) := by
  blk_simp [iblk, idx_in t]
  entry_read
  pointwise
  blk_ext [idx_in t]
theorem l_at (t : Fin cfg0.N) (i : S1x1024.Idx) : iblk m c 1 t i = l0 m c (ix2 0 (i 1)) := by
  blk_ext [iblk, V, idx_in t]
theorem w_at (t : Fin cfg0.N) (g : Fin 8) (d : Fin 1024) (n : Fin 256) :
    iblk m c 2 t (ix3 g d n) = w0 m c (ix3 0 d ⟨g.val * 256 + n.val, by omega⟩) := by
  blk_simp [iblk, idx_in t]
  entry_read
  pointwise
  blk_ext [idx_in t]
theorem gv_at (t : Fin cfg0.N) (i : S1x1024.Idx) : iblk m c 3 t i = gv0 m c (ix2 0 (i 1)) := by
  blk_ext [iblk, V, idx_in t]
theorem ws_at (t : Fin cfg0.N) (g : Fin 8) (r s : Fin 128) : iblk m c 4 t (ix3 g r s) = ws0 m c (ix4 0 g r s) := by
  blk_simp [iblk, idx_in t]
  entry_read
  pointwise
  blk_ext [idx_in t]
theorem b_at (t : Fin cfg0.N) (r : Fin 128) (g : Fin 8) : iblk m c 5 t (ix2 r g) = b0 m c (ix3 0 g r) := by
  blk_simp [iblk, idx_in t]
  entry_read
  pointwise
  blk_ext [idx_in t]
theorem wo_at (t : Fin cfg0.N) (k d : Fin 1024) : iblk m c 6 t (ix2 k d) = wo0 m c (ix3 0 k d) := by
  blk_simp [iblk, idx_in t]
  entry_read
  pointwise
  blk_ext [idx_in t]

theorem h_at (t : Fin cfg0.N) (i : S256x1024.Idx) :
    k0_pay5 (F := Ideal) (iblk m c 0 t) (iblk m c 1 t) i = Cert.Mlp.h (x0 m c) (l0 m c) (row t (i 0)) (i 1) := by
  unfold k0_pay5 k0_pay4
  pointwise
  simp only [x_at, l_at]
  rfl
theorem piece (hb : FVec Ideal S256x1024 .bf16) (W : Vec Ideal S1x1024x256 .bf16) (i : S256x256.Idx) :
    k0_pay9 hb W i = ∑ d : Fin 1024, hb (ix2 (i 0) d) * W (ix3 0 d (i 1)) := by
  unfold k0_pay9
  pointwise
theorem w_piece (t : Fin cfg0.N) (g : Fin 8) (inb : ∀ a, (![g.val, 0, 0] : Fin 3 → ℕ) a + ![1, 1024, 256] a ≤ S8x1024x256.size a)
    (d : Fin 1024) (n : Fin 256) (k : Fin 2048) (hk : k.val = 256 * g.val + n.val) :
    View.ld (iblk m c 2 t) (Rect.unit (s := S8x1024x256) ![g.val, 0, 0] ![1, 1024, 256] inb) (ix3 0 d n) = w0 m c (ix3 0 d k) := by
  refine (congrArg (iblk m c 2 t) (a₂ := (ix3 g d n : S8x1024x256.Idx)) ?_).trans ((w_at m c t g d n).trans
    (congrArg (fun k => w0 m c (ix3 0 d k)) (Fin.ext ?_)))
  · funext a
    refine Fin.ext ((Rect.idx_unit_val _ _ _ _ a).trans ?_)
    fin_cases a
    · exact Nat.add_zero _
    · exact Nat.zero_add _
    · exact Nat.zero_add _
  · exact (congrArg (· + n.val) (Nat.mul_comm _ _)).trans hk.symm

theorem outs9 (t : Fin cfg0.N) (i : S256x1024.Idx) :
    (outsAt0 m c t).2.2.1 i = Cert.Mlp.h (x0 m c) (l0 m c) (row t (i 0)) (i 1) := by
  unfold outsAt0
  frame_out
  exact h_at m c t i

theorem inbW (j : Fin 8) : ∀ a, (![j.val, 0, 0] : Fin 3 → ℕ) a + S1x1024x256.size a ≤ S8x1024x256.size a :=
  (by decide +kernel : ∀ (j : Fin 8), ∀ a, (![j.val, 0, 0] : Fin 3 → ℕ) a + S1x1024x256.size a ≤ S8x1024x256.size a) j
theorem inbZ (j : Fin 8) : ∀ a, (![0, 256 * j.val] : Fin 2 → ℕ) a + S256x256.size a ≤ S256x2048.size a :=
  (by decide +kernel : ∀ (j : Fin 8), ∀ a, (![0, 256 * j.val] : Fin 2 → ℕ) a + S256x256.size a ≤ S256x2048.size a) j

/-- The store of one block of columns of the projection. -/
def store (hb : FVec Ideal S256x1024 .bf16) (W : Vec Ideal S8x1024x256 .bf16) (j : Fin 8) : View.Piece (Elt Ideal) S256x2048 .f32 :=
  ⟨Rect.unit ![0, 256 * j.val] S256x256.size (inbZ j), k0_pay9 hb (View.ld W (Rect.unit ![j.val, 0, 0] S1x1024x256.size (inbW j)))⟩
/-- The eight stores. -/
def stores (hb : FVec Ideal S256x1024 .bf16) (W : Vec Ideal S8x1024x256 .bf16) : List (View.Piece (Elt Ideal) S256x2048 .f32) :=
  [store hb W 7, store hb W 6, store hb W 5, store hb W 4, store hb W 3, store hb W 2, store hb W 1, store hb W 0]
/-- The stores at grid point `t`. -/
abbrev zs (t : Fin cfg0.N) : List (View.Piece (Elt Ideal) S256x2048 .f32) :=
  stores (k0_pay5 (iblk m c 0 t) (iblk m c 1 t)) (iblk m c 2 t)

theorem stores_at (t : Fin cfg0.N) (i : S256x2048.Idx) :
    View.canon (zs m c t) i = z (x0 m c) (l0 m c) (w0 m c) (row t (i 0)) (i 1) := by
  refine View.canon_apply_of_pieces (Val := Elt Ideal) (e := .f32)
    (fun i : S256x2048.Idx => z (x0 m c) (l0 m c) (w0 m c) (row t (i 0)) (i 1)) _ (fun q hq x => ?_) i ?_
  · obtain ⟨j, rfl⟩ : ∃ j, q = store (k0_pay5 (iblk m c 0 t) (iblk m c 1 t)) (iblk m c 2 t) j := by
      simp only [zs, stores, List.mem_cons, List.not_mem_nil, or_false] at hq
      rcases hq with h | h | h | h | h | h | h | h <;> exact ⟨_, h⟩
    refine (piece _ _ x).trans (Finset.sum_congr rfl fun k _ => congrArg₂ (· * ·) ((h_at m c t _).trans ?_)
      (w_piece m c t j _ k (x 1) _ ?_))
    · refine congrArg (fun r => Cert.Mlp.h (x0 m c) (l0 m c) r k) (Fin.ext ?_)
      show t.val * 256 + (x 0).val = t.val * 256 + (0 + 1 * (x 0).val); omega
    · show 256 * j.val + 1 * (x 1).val = _; omega
  · have h0 : (i 0).val < 256 := (i 0).isLt
    have h1 : (i 1).val < 2048 := (i 1).isLt
    have hm : ∀ j, store (k0_pay5 (iblk m c 0 t) (iblk m c 1 t)) (iblk m c 2 t) j ∈ zs m c t := fun j => by
      fin_cases j <;> simp [stores]
    refine ⟨_, hm ⟨(i 1).val / 256, by omega⟩, (Rect.mem_set_unit (inb := inbZ _)).mpr fun a => ?_⟩
    match a with
    | ⟨0, _⟩ => show 0 ≤ (i 0).val ∧ (i 0).val < 0 + 256; omega
    | ⟨1, _⟩ => show 256 * ((i 1).val / 256) ≤ (i 1).val ∧ (i 1).val < 256 * ((i 1).val / 256) + 256; omega

theorem outs8 (t : Fin cfg0.N) (i : S256x2048.Idx) :
    (outsAt0 m c t).2.1 i = z (x0 m c) (l0 m c) (w0 m c) (row t (i 0)) (i 1) := by
  unfold outsAt0
  frame_out
  exact stores_at m c t i

/-- A half of the projection, read back from where it was stored. -/
theorem half_at (t : Fin cfg0.N) (o : ℕ) (inb : ∀ a, (![0, o] : Fin 2 → ℕ) a + S256x1024.size a ≤ S256x2048.size a)
    (i : S256x1024.Idx) (k : Fin 2048) (hk : k.val = o + (i 1).val) :
    (ms0_8 t).view.readCov (zs m c t) (Rect.unit (s := S256x2048) ![0, o] S256x1024.size inb).toLoadRect i
      = z (x0 m c) (l0 m c) (w0 m c) (row t (i 0)) k := by
  rw [View.readCov_eq_canon']
  refine (stores_at m c t _).trans (congrArg₂ (z (x0 m c) (l0 m c) (w0 m c)) (Fin.ext ?_) (Fin.ext ?_))
  · show t.val * 256 + (0 + 1 * (i 0).val) = t.val * 256 + (i 0).val; omega
  · show o + 1 * (i 1).val = k.val; omega

theorem named_kap : Named.named (F := Ideal) Cert.Kernel15Ideal.κ "gelu_cubic" (φ := .f32) 0x3D372713#32 = ((kap : ℝ) : EReal) :=
  IdealRules.named_const.ideal_named_scalar _ _ _ _ rfl
/-- The gelu with the half multiplied first. -/
theorem gelu_half (a : EReal) : Ideal.ofBits .f32 0x3F000000#32 * a * (Ideal.ofBits .f32 0x3F800000#32
    + Ideal.tanh (Ideal.ofBits .f32 0x3F4C422A#32 * (a + ((kap : ℝ) : EReal) * (a * a * a)))) = gelu a := by
  rw [mul_comm (Ideal.ofBits .f32 0x3F000000#32) a, mul_assoc]
  rfl
theorem units_at (v : Vec Ideal S256x1024 .f32) (i : S256x1024.Idx) : k0_pay15 (F := Ideal) (k0_pay14 v) i = gelu (v i) := by
  rw [← gelu_half]
  unfold k0_pay15 k0_pay14
  pointwise
  simp only [named_kap]
theorem gate_at (v : Vec Ideal S256x1024 .f32) (gv : Vec Ideal S1x1024 .f32) (r : Fin 256) (d : Fin 1024) :
    k0_pay16 (F := Ideal) v gv (ix2 r d) = normed (fun j => gelu (v (ix2 r j))) (fun j => gv (ix2 0 j)) d := by
  simp only [← gelu_half]
  unfold k0_pay16
  pointwise
  simp only [named_kap]
  rfl

theorem inbS (g : Fin 8) : ∀ a, (![g.val, 0, 0] : Fin 3 → ℕ) a + S1x128x128.size a ≤ S8x128x128.size a :=
  (by decide +kernel : ∀ (g : Fin 8), ∀ a, (![g.val, 0, 0] : Fin 3 → ℕ) a + S1x128x128.size a ≤ S8x128x128.size a) g
theorem inbB (g : Fin 8) : ∀ a, (![0, g.val] : Fin 2 → ℕ) a + S128x1.size a ≤ S128x8.size a :=
  (by decide +kernel : ∀ (g : Fin 8), ∀ a, (![0, g.val] : Fin 2 → ℕ) a + S128x1.size a ≤ S128x8.size a) g
theorem inbMix (g : Fin 8) (k : Fin 2) : ∀ a, (![128 * k.val, 128 * g.val] : Fin 2 → ℕ) a + S128x128.size a ≤ S256x1024.size a :=
  (by decide +kernel : ∀ (g : Fin 8) (k : Fin 2), ∀ a, (![128 * k.val, 128 * g.val] : Fin 2 → ℕ) a + S128x128.size a ≤ S256x1024.size a) g k
theorem slices (g : Fin 8) (k : Fin 2) : S256x1024.Slices ![128 * k.val, 128 * g.val] S128x128 :=
  (by decide +kernel : ∀ (g : Fin 8) (k : Fin 2), S256x1024.Slices ![128 * k.val, 128 * g.val] S128x128) g k

/-- The lower triangle of group `g`'s mixing weights, and the mix of one square of the tile. -/
def low (W : Vec Ideal S8x128x128 .f32) (g : Fin 8) : FVec Ideal S128x128 .bf16 :=
  k0_pay18 k0_pay17 (View.ld W (Rect.unit ![g.val, 0, 0] S1x128x128.size (inbS g)))
def mixed (V : FVec Ideal S256x1024 .bf16) (W : Vec Ideal S8x128x128 .f32) (B : Vec Ideal S128x8 .f32) (g : Fin 8) (k : Fin 2) :
    FVec Ideal S128x128 .f32 :=
  k0_pay1 (matmul dot_S128x128_S128x128_S128x128_1_0_0_1_n_n none (low W g)
    (extractStridedSlice S128x128 ![128 * k.val, 128 * g.val] V (slices g k)) (constant S128x128 .f32 0x00000000#32))
    (View.ld B (Rect.unit ![0, g.val] S128x1.size (inbB g)))
theorem tri_at (v : Vec Ideal S1x128x128 .f32) (r s : Fin 128) :
    k0_pay18 k0_pay17 v (ix2 r s) = if s.val ≤ r.val then v (ix3 0 r s) else 0 := by
  have hr := r.isLt
  have hs := s.isLt
  unfold k0_pay18 k0_pay17
  pointwise
  exact select_sge (by omega) (by omega) _ _
theorem low_at (W : Vec Ideal S8x128x128 .f32) (g : Fin 8) (r s : Fin 128) :
    low W g (ix2 r s) = if s.val ≤ r.val then W (ix3 g r s) else 0 := by
  refine (tri_at _ r s).trans (congrArg (fun a : EReal => if s.val ≤ r.val then a else 0)
    (congrArg W (funext fun a => Fin.ext ((Rect.idx_unit_val _ _ _ _ a).trans ?_))))
  fin_cases a
  · exact Nat.add_zero _
  · exact Nat.zero_add _
  · exact Nat.zero_add _
theorem square_at (V : FVec Ideal S256x1024 .bf16) (L : FVec Ideal S128x128 .bf16) (B : Vec Ideal S128x1 .f32) (g : Fin 8) (k : Fin 2)
    (r q : Fin 128) : k0_pay1 (matmul dot_S128x128_S128x128_S128x128_1_0_0_1_n_n none L
        (extractStridedSlice S128x128 ![128 * k.val, 128 * g.val] V (slices g k)) (constant S128x128 .f32 0x00000000#32)) B (ix2 r q)
      = (∑ s : Fin 128, L (ix2 r s) * V (ix2 ⟨128 * k.val + s.val, by omega⟩ ⟨128 * g.val + q.val, by omega⟩)) + B (ix2 r 0) := by
  have e : ∀ s, extractStridedSlice S128x128 ![128 * k.val, 128 * g.val] V (slices g k) (ix2 s q)
      = V (ix2 ⟨128 * k.val + s.val, by omega⟩ ⟨128 * g.val + q.val, by omega⟩) := fun s => by
    refine congrArg V (funext fun a => Fin.ext ?_)
    match a with
    | ⟨0, _⟩ => rfl
    | ⟨1, _⟩ => rfl
  simp only [← e]
  generalize extractStridedSlice S128x128 ![128 * k.val, 128 * g.val] V (slices g k) = X
  unfold k0_pay1
  pointwise
theorem mixed_at (V : FVec Ideal S256x1024 .bf16) (W : Vec Ideal S8x128x128 .f32) (B : Vec Ideal S128x8 .f32) (g : Fin 8) (k : Fin 2)
    (r q : Fin 128) : mixed V W B g k (ix2 r q)
      = (∑ s : Fin 128, (if s.val ≤ r.val then W (ix3 g r s) else 0)
          * V (ix2 ⟨128 * k.val + s.val, by omega⟩ ⟨128 * g.val + q.val, by omega⟩)) + B (ix2 r g) := by
  refine (square_at V (low W g) _ g k r q).trans (congrArg₂ (· + ·) (Finset.sum_congr rfl fun s _ =>
    congrArg (· * _) (low_at W g r s)) (congrArg B (funext fun a => Fin.ext ((Rect.idx_unit_val _ _ _ _ a).trans ?_))))
  fin_cases a
  · exact Nat.zero_add _
  · exact Nat.add_zero _

/-- The sixteen stores of the mix, the last first. -/
def squares (w : Fin 8 → Fin 2 → FVec Ideal S128x128 .f32) : List (View.Piece (Elt Ideal) S256x1024 .f32) :=
  (List.finRange 8).reverse.flatMap fun g =>
    [⟨Rect.unit ![128 * (1 : Fin 2).val, 128 * g.val] S128x128.size (inbMix g 1), w g 1⟩,
     ⟨Rect.unit ![128 * (0 : Fin 2).val, 128 * g.val] S128x128.size (inbMix g 0), w g 0⟩]
theorem squares_at (w : Fin 8 → Fin 2 → FVec Ideal S128x128 .f32) (f : S256x1024.Idx → EReal)
    (hw : ∀ g k (r q : Fin 128), w g k (ix2 r q) = f (ix2 ⟨128 * k.val + r.val, by omega⟩ ⟨128 * g.val + q.val, by omega⟩))
    (i : S256x1024.Idx) : View.canon (squares w) i = f i := by
  refine View.canon_apply_of_pieces f (squares w) (fun p hp j => ?_) i ?_
  · obtain ⟨g, -, hp⟩ := List.mem_flatMap.mp hp
    obtain ⟨k, rfl⟩ : ∃ k : Fin 2, p = ⟨Rect.unit ![128 * k.val, 128 * g.val] S128x128.size (inbMix g k), w g k⟩ := by
      simp only [List.mem_cons, List.not_mem_nil, or_false] at hp
      rcases hp with h | h <;> exact ⟨_, h⟩
    refine (congrArg (w g k) (eta2 j).symm).trans ((hw g k (j 0) (j 1)).trans (congrArg f (funext fun a => Fin.ext ?_)))
    match a with
    | ⟨0, _⟩ => show 128 * k.val + (j 0).val = 128 * k.val + 1 * (j 0).val; omega
    | ⟨1, _⟩ => show 128 * g.val + (j 1).val = 128 * g.val + 1 * (j 1).val; omega
  · have h0 : (i 0).val < 256 := (i 0).isLt
    have h1 : (i 1).val < 1024 := (i 1).isLt
    have hm : ∀ g k, (⟨Rect.unit ![128 * k.val, 128 * g.val] S128x128.size (inbMix g k), w g k⟩ : View.Piece (Elt Ideal) S256x1024 .f32)
        ∈ squares w := fun g k => List.mem_flatMap.mpr ⟨g, List.mem_reverse.mpr (List.mem_finRange _), by fin_cases k <;> simp⟩
    refine ⟨_, hm ⟨(i 1).val / 128, by omega⟩ ⟨(i 0).val / 128, by omega⟩, (Rect.mem_set_unit (inb := inbMix _ _)).mpr fun a => ?_⟩
    match a with
    | ⟨0, _⟩ => show 128 * ((i 0).val / 128) ≤ (i 0).val ∧ (i 0).val < 128 * ((i 0).val / 128) + 128; omega
    | ⟨1, _⟩ => show 128 * ((i 1).val / 128) ≤ (i 1).val ∧ (i 1).val < 128 * ((i 1).val / 128) + 128; omega

/-- The two halves of the projection, read back, and the gate's normed rows at grid point `t`. -/
abbrev half0 (t : Fin cfg0.N) : Vec Ideal S256x1024 .f32 :=
  (ms0_8 t).view.readCov (zs m c t) (Rect.unit (s := S256x2048) ![0, 0] S256x1024.size inb_S256x2048_S256x1024_0_0).toLoadRect
abbrev half1 (t : Fin cfg0.N) : Vec Ideal S256x1024 .f32 :=
  (ms0_8 t).view.readCov (zs m c t) (Rect.unit (s := S256x2048) ![0, 1024] S256x1024.size inb_S256x2048_S256x1024_0_1024).toLoadRect
abbrev gates (t : Fin cfg0.N) : FVec Ideal S256x1024 .bf16 := k0_pay16 (half1 m c t) (iblk m c 3 t)
theorem gates_at (t : Fin cfg0.N) (i : S256x1024.Idx) :
    gates m c t i = vn (x0 m c) (l0 m c) (w0 m c) (gv0 m c) (row t (i 0)) (i 1) := by
  refine ((congrArg _ (eta2 i).symm).trans (gate_at _ _ (i 0) (i 1))).trans (congrArg₂ (fun r l => normed r l (i 1)) (funext fun j => congrArg gelu ?_) (funext fun j => gv_at m c t _))
  exact half_at m c t 1024 _ (ix2 (i 0) j) (gateCol j) rfl
abbrev mixL (t : Fin cfg0.N) : List (View.Piece (Elt Ideal) S256x1024 .f32) :=
  squares (mixed (gates m c t) (iblk m c 4 t) (iblk m c 5 t))
theorem mixL_at (t : Fin cfg0.N) (i : S256x1024.Idx) : View.canon (mixL m c t) i
    = mix (x0 m c) (l0 m c) (w0 m c) (gv0 m c) (ws0 m c) (b0 m c) (row t (i 0)) (i 1) := by
  refine squares_at _ (fun i => mix (x0 m c) (l0 m c) (w0 m c) (gv0 m c) (ws0 m c) (b0 m c) (row t (i 0)) (i 1)) (fun g k r q => ?_) i
  have hk := k.isLt
  have hr := r.isLt
  have hq := q.isLt
  have eg : grp ⟨128 * g.val + q.val, by omega⟩ = g := Fin.ext (by show (128 * g.val + q.val) / 128 = g.val; omega)
  have er : rowIn (row t ⟨128 * k.val + r.val, by omega⟩) = r :=
    Fin.ext (by show (t.val * 256 + (128 * k.val + r.val)) % 128 = r.val; omega)
  refine (mixed_at _ _ _ g k r q).trans (congrArg₂ (· + ·) (Finset.sum_congr rfl fun s _ => congrArg₂ (· * ·) ?_ ?_) ?_)
  · show _ = if s.val ≤ (rowIn (row t ⟨128 * k.val + r.val, by omega⟩)).val then
      ws0 m c (ix4 0 (grp ⟨128 * g.val + q.val, by omega⟩) (rowIn (row t ⟨128 * k.val + r.val, by omega⟩)) s) else 0
    rw [eg, er, ws_at]
  · refine (gates_at m c t _).trans (congrArg (fun r => vn (x0 m c) (l0 m c) (w0 m c) (gv0 m c) r _) (Fin.ext ?_))
    show t.val * 256 + (128 * k.val + s.val) = (t.val * 256 + (128 * k.val + r.val)) / 128 * 128 + s.val
    omega
  · show _ = b0 m c (ix3 0 (grp ⟨128 * g.val + q.val, by omega⟩) (rowIn (row t ⟨128 * k.val + r.val, by omega⟩)))
    rw [eg, er, b_at]
/-- The mix, read back from where it was stored. -/
abbrev mixB (t : Fin cfg0.N) : Vec Ideal S256x1024 .f32 :=
  scM0_0.view.readCov (mixL m c t) (Rect.unit (s := S256x1024) ![0, 0] S256x1024.size inb_S256x1024_S256x1024_0_0).toLoadRect
theorem mixB_at (t : Fin cfg0.N) (i : S256x1024.Idx) : mixB m c t i
    = mix (x0 m c) (l0 m c) (w0 m c) (gv0 m c) (ws0 m c) (b0 m c) (row t (i 0)) (i 1) := by
  unfold mixB
  rw [View.readCov_eq_canon']
  refine (congrArg _ ?_).trans (mixL_at m c t i)
  funext a
  exact Fin.ext ((Rect.idx_unit_val _ _ _ i a).trans (by fin_cases a <;> exact Nat.zero_add _))
theorem y_at (t : Fin cfg0.N) (i : S256x1024.Idx) : k0_pay2 (k0_pay15 (k0_pay14 (half0 m c t))) (mixB m c t) i
    = y (x0 m c) (l0 m c) (w0 m c) (gv0 m c) (ws0 m c) (b0 m c) (row t (i 0)) (i 1) := by
  refine congrArg₂ (· * ·) ((units_at _ i).trans (congrArg gelu ?_)) (mixB_at m c t i)
  exact half_at m c t 0 _ i (unitCol (i 1)) (Nat.zero_add _).symm

theorem outs10 (t : Fin cfg0.N) (i : S256x1024.Idx) : (outsAt0 m c t).2.2.2 i
    = y (x0 m c) (l0 m c) (w0 m c) (gv0 m c) (ws0 m c) (b0 m c) (row t (i 0)) (i 1) := by
  unfold outsAt0
  frame_out
  exact y_at m c t i
theorem outs7 (t : Fin cfg0.N) (i : S256x1024.Idx) : (outsAt0 m c t).1 i
    = out (x0 m c) (l0 m c) (w0 m c) (gv0 m c) (ws0 m c) (b0 m c) (wo0 m c) (row t (i 0)) (i 1) := by
  have e : k0_pay3 (k0_pay4 (iblk m c 0 t)) (k0_pay15 (k0_pay14 (half0 m c t))) (mixB m c t) (iblk m c 6 t) i
      = out (x0 m c) (l0 m c) (w0 m c) (gv0 m c) (ws0 m c) (b0 m c) (wo0 m c) (row t (i 0)) (i 1) := by
    unfold k0_pay3 k0_pay4
    pointwise
    exact congrArg₂ (· + ·) (x_at m c t i) (Finset.sum_congr rfl fun k _ =>
      congrArg₂ (· * ·) (y_at m c t (ix2 (i 0) k)) (wo_at m c t k (i 1)))
  unfold outsAt0
  frame_out
  exact e

theorem idx_out : ∀ t : Fin cfg0.N, (win0_7.index t 0 = t.val ∧ win0_7.index t 1 = 0) ∧ (win0_8.index t 0 = t.val ∧ win0_8.index t 1 = 0)
    ∧ (win0_9.index t 0 = t.val ∧ win0_9.index t 1 = 0) ∧ win0_10.index t 0 = t.val ∧ win0_10.index t 1 = 0 := by decide +kernel

theorem arr7 : (dats m 0 c).arrAt 7 cfg0.N = (fun i : S2048x1024.Idx => out (x0 m c) (l0 m c) (w0 m c) (gv0 m c) (ws0 m c) (b0 m c) (wo0 m c) (i 0) (i 1)) := by
  refine (dats m 0 c).arrAt_eq_of_covers 7 _ (by decide +kernel) fun t hf i => ?_
  have e : (win0_7.blk t).view.emb i = (ix2 (row t (i 0)) (i 1) : S2048x1024.Idx) := by blk_ext [idx_out t]
  blk_simp [idx_out t]
  rw [after0_7]
  refine (outs7 m c t i).trans ?_
  exact congrArg (fun i : S2048x1024.Idx => out (x0 m c) (l0 m c) (w0 m c) (gv0 m c) (ws0 m c) (b0 m c) (wo0 m c) (i 0) (i 1)) e.symm
theorem arr8 : (dats m 0 c).arrAt 8 cfg0.N = (fun i : S2048x2048.Idx => z (x0 m c) (l0 m c) (w0 m c) (i 0) (i 1)) := by
  refine (dats m 0 c).arrAt_eq_of_covers 8 _ (by decide +kernel) fun t hf i => ?_
  have e : (win0_8.blk t).view.emb i = (ix2 (row t (i 0)) (i 1) : S2048x2048.Idx) := by blk_ext [idx_out t]
  blk_simp [idx_out t]
  rw [after0_8]
  refine (outs8 m c t i).trans ?_
  show _ = (fun i : S2048x2048.Idx => z (x0 m c) (l0 m c) (w0 m c) (i 0) (i 1)) ((win0_8.blk t).view.emb i)
  rw [e]
  exact rfl
theorem arr9 : (dats m 0 c).arrAt 9 cfg0.N = (fun i : S2048x1024.Idx => Cert.Mlp.h (x0 m c) (l0 m c) (i 0) (i 1)) := by
  refine (dats m 0 c).arrAt_eq_of_covers 9 _ (by decide +kernel) fun t hf i => ?_
  have e : (win0_9.blk t).view.emb i = (ix2 (row t (i 0)) (i 1) : S2048x1024.Idx) := by blk_ext [idx_out t]
  blk_simp [idx_out t]
  rw [after0_9]
  refine (outs9 m c t i).trans ?_
  exact congrArg (fun i : S2048x1024.Idx => Cert.Mlp.h (x0 m c) (l0 m c) (i 0) (i 1)) e.symm
theorem arr10 : (dats m 0 c).arrAt 10 cfg0.N = (fun i : S2048x1024.Idx => y (x0 m c) (l0 m c) (w0 m c) (gv0 m c) (ws0 m c) (b0 m c) (i 0) (i 1)) := by
  refine (dats m 0 c).arrAt_eq_of_covers 10 _ (by decide +kernel) fun t hf i => ?_
  have e : (win0_10.blk t).view.emb i = (ix2 (row t (i 0)) (i 1) : S2048x1024.Idx) := by blk_ext [idx_out t]
  blk_simp [idx_out t]
  rw [after0_10]
  refine (outs10 m c t i).trans ?_
  show _ = (fun i : S2048x1024.Idx => y (x0 m c) (l0 m c) (w0 m c) (gv0 m c) (ws0 m c) (b0 m c) (i 0) (i 1)) ((win0_10.blk t).view.emb i)
  rw [e]
  exact rfl
end

open Cert.Kernel15Ideal in
theorem algebraic : Cert.algebraic_Kernel15Ideal_Reference15Ideal := by
  intro m g m' g' _ hag
  refine ⟨_, _, _, _, (θ_run Cert.Kernel15Ideal.defs _ _).mono (fun r q c => ⟨(q c).1.trans (arr7 m c),
    (q c).2.1.trans (arr8 m c), (q c).2.2.1.trans (arr9 m c), (q c).2.2.2.1.trans (arr10 m c), (q c).2.2.2.2⟩) (Cert.Kernel15Ideal.Value.run_blocks m g), ?_⟩
  refine (θ_run Cert.Reference15Ideal.defs _ _).mono (fun r q c => ?_) (Cert.Reference15Ideal.Value.run (F := Ideal) m' g')
  obtain ⟨r0, r1, r2, r3, hr⟩ := q c
  obtain ⟨a0, a1, a2, a3, a4, a5, a6⟩ := hag c
  refine ⟨(r0.trans (Cert.Reference15Ideal.Read.val_main_v65_eq _ _)).trans ?_,
    (r1.trans (Cert.Reference15Ideal.Read.val_main_v66_eq _ _ _)).trans ?_,
    (r2.trans (Cert.Reference15Ideal.Read.val_main_v68_eq _ _)).trans ?_,
    (r3.trans (Cert.Reference15Ideal.Read.val_main_v70_eq _ _)).trans ?_, hr⟩
  · exact (congr (congr (congr (congr (congr (congr (congrArg (Cert.Reference15Ideal.Read.val_main_v65 (F := Ideal)) a0) a1) a2) a3) a4) a5) a6).trans
      (funext fun i => (congrArg _ (eta2 i).symm).trans (ref_v65 _ _ _ _ _ _ _ (i 0) (i 1)))
  · exact (congr (congr (congrArg (Cert.Reference15Ideal.Read.val_main_v66 (F := Ideal)) a0) a1) a2).trans
      (funext fun i => (congrArg _ (eta2 i).symm).trans (ref_v66 _ _ _ (i 0) (i 1)))
  · exact (congr (congrArg (Cert.Reference15Ideal.Read.val_main_v68 (F := Ideal)) a0) a1).trans
      (funext fun i => (congrArg _ (eta2 i).symm).trans (ref_v68 _ _ (i 0) (i 1)))
  · exact (congr (congr (congr (congr (congr (congrArg (Cert.Reference15Ideal.Read.val_main_v70 (F := Ideal)) a0) a1) a2) a3) a4) a5).trans
      (funext fun i => (congrArg _ (eta2 i).symm).trans (ref_v70 _ _ _ _ _ _ (i 0) (i 1)))

end Cert.Mixer
end
-- ==== Proof.HeadsRef.lean ====
/-
  The attention's projections: what their forward call returns, as functions of its arguments, and the reference's results as
  these functions. The normed rows have real entries for every row, since a row with an infinite entry becomes zero.
-/
module

public import proofs.«01_k».proof.Proof.Mlp
public import proofs.«01_k».proof.Proof.Ops
public import proofs.«01_k».proof.Proof.Gen.Reference16Ideal.Run
public import proofs.«01_k».proof.Proof.Gen.Reference16Ideal.Read

@[expose] public section

set_option maxRecDepth 16384

noncomputable section

open Idealize.ShloMosaic Idealize.ShloMosaic.TcCoe Idealize.SL.Sem

namespace Cert.Heads

open Cert.Mlp (Xs Ln normed eta2)

abbrev Lk : Type := (⟨1, ![1024]⟩ : Shape).Idx → EReal
abbrev Gq : Type := (⟨2, ![1, 64]⟩ : Shape).Idx → EReal
abbrev Gk : Type := (⟨1, ![64]⟩ : Shape).Idx → EReal
abbrev Wq : Type := (⟨3, ![1, 1024, 1024]⟩ : Shape).Idx → EReal
abbrev Wkv : Type := (⟨2, ![1024, 2048]⟩ : Shape).Idx → EReal

/-- The head of column `d`, the place of `d` in it, and column `e` of head `h`. -/
def hd (d : Fin 1024) : Fin 16 := ⟨d.val / 64, by omega⟩
def inHead (d : Fin 1024) : Fin 64 := ⟨d.val % 64, by omega⟩
def col (h : Fin 16) (e : Fin 64) : Fin 1024 := ⟨h.val * 64 + e.val, by omega⟩
/-- The columns of the keys and of the values in their product. -/
def keyCol (n : Fin 1024) : Fin 2048 := ⟨n.val, by omega⟩
def valCol (n : Fin 1024) : Fin 2048 := ⟨1024 + n.val, by omega⟩

/-- The normed rows with the weight `l`, and their product with `w`. -/
def hn (x : Xs) (l : Fin 1024 → EReal) (t : Fin 2048) (d : Fin 1024) : EReal := normed (fun j => x (ix3 0 t j)) l d
def prj {N : ℕ} (x : Xs) (l : Fin 1024 → EReal) (w : Fin 1024 → Fin N → EReal) (t : Fin 2048) (n : Fin N) : EReal :=
  ∑ d : Fin 1024, hn x l t d * w d n
/-- Head `h` of the row `p` over the root of the head's mean square. -/
def headed (p : Fin 1024 → EReal) (h : Fin 16) (e : Fin 64) : EReal :=
  p (col h e) * Ideal.rsqrt (Ideal.div (∑ j : Fin 64, p (col h j) * p (col h j)) (Ideal.ofBits .f32 0x42800000#32)
    + Ideal.ofBits .f32 0x358637BD#32)

/-- The products before the heads' norm, the values, the scaled queries and the keys. -/
def qPre (x : Xs) (l : Ln) (w : Wq) (t : Fin 2048) (n : Fin 1024) : EReal :=
  prj x (fun j => l (ix2 0 j)) (fun d n => w (ix3 0 d n)) t n
def kvPre (x : Xs) (l : Lk) (w : Wkv) (t : Fin 2048) (n : Fin 2048) : EReal :=
  prj x (fun j => l (ix1 j)) (fun d n => w (ix2 d n)) t n
def qs (x : Xs) (l : Ln) (g : Gq) (w : Wq) (t : Fin 2048) (d : Fin 1024) : EReal :=
  headed (qPre x l w t) (hd d) (inHead d) * g (ix2 0 (inHead d)) * Ideal.ofBits .f32 0x3E000000#32
def ks (x : Xs) (l : Lk) (g : Gk) (w : Wkv) (t : Fin 2048) (d : Fin 1024) : EReal :=
  headed (fun n => kvPre x l w t (keyCol n)) (hd d) (inHead d) * g (ix1 (inHead d))

theorem col_hd (d : Fin 1024) : col (hd d) (inHead d) = d :=
  Fin.ext (by show d.val / 64 * 64 + d.val % 64 = d.val; omega)

section
open Cert.Reference16Ideal Cert.Reference16Ideal.Read

theorem ref_hq (x : Xs) (l : Ln) (t : Fin 2048) (d : Fin 1024) :
    val_main_v13 (F := Ideal) x l (ix3 0 t d) = hn x (fun j => l (ix2 0 j)) t d := by
  unfold val_main_v13 val_main_v12 val_main_v11 val_main_v10 val_main_v9 val_main_v8 val_main_v7 val_main_v6 val_main_v5
    val_main_v4 val_main_v3 val_main_v2 val_main_v1 val_main_v0 val_main_cst_1 val_main_cst_0 val_main_cst
  pointwise
  rfl
theorem ref_qPre (x : Xs) (l : Ln) (w : Wq) (t : Fin 2048) (n : Fin 1024) :
    val_main_v15 (F := Ideal) x l w (ix3 0 t n) = qPre x l w t n := by
  unfold val_main_v15 val_main_v14
  pointwise
  simp only [ref_hq]
  rfl
theorem ref_hkv (x : Xs) (l : Lk) (t : Fin 2048) (d : Fin 1024) :
    val_main_v45 (F := Ideal) x l (ix3 0 t d) = hn x (fun j => l (ix1 j)) t d := by
  unfold val_main_v45 val_main_v44 val_main_v43 val_main_v42 val_main_v41 val_main_v40 val_main_v39 val_main_v38 val_main_v37
    val_main_v36 val_main_v35 val_main_v34 val_main_v33 val_main_cst_8 val_main_cst_7 val_main_cst_6
  pointwise
  rfl
theorem ref_kvPre (x : Xs) (l : Lk) (w : Wkv) (t n : Fin 2048) :
    val_main_v46 (F := Ideal) x l w (ix3 0 t n) = kvPre x l w t n := by
  unfold val_main_v46
  pointwise
  simp only [ref_hkv]
  rfl
theorem ref_k (x : Xs) (l : Lk) (w : Wkv) (t : Fin 2048) (n : Fin 1024) :
    val_main_v47 (F := Ideal) x l w (ix3 0 t n) = kvPre x l w t (keyCol n) := by
  unfold val_main_v47
  pointwise
  exact ref_kvPre x l w t (keyCol n)
theorem ref_v (x : Xs) (l : Lk) (w : Wkv) (t : Fin 2048) (n : Fin 1024) :
    val_main_v48 (F := Ideal) x l w (ix3 0 t n) = kvPre x l w t (valCol n) := by
  unfold val_main_v48
  pointwise
  exact ref_kvPre x l w t (valCol n)
theorem head_idx (t : Fin 2048) (h : Fin 16) (e : Fin 64) :
    idx_main_v16 (ix4 0 t h e : S1x2048x16x64.Idx) = (ix3 0 t (col h e) : S1x2048x1024.Idx) := by
  have ht := t.isLt
  have hh := h.isLt
  have he := e.isLt
  funext a
  refine Fin.ext ?_
  match a with
  | ⟨0, _⟩ => rfl
  | ⟨1, _⟩ => show (((0 * 2048 + t.val) * 16 + h.val) * 64 + e.val) / 1024 % 2048 = t.val; omega
  | ⟨2, _⟩ => show (((0 * 2048 + t.val) * 16 + h.val) * 64 + e.val) % 1024 = h.val * 64 + e.val; omega
theorem flat_idx (t : Fin 2048) (d : Fin 1024) :
    idx_main_v63 (ix2 t d : S2048x1024.Idx) = (ix4 0 t (hd d) (inHead d) : S1x2048x16x64.Idx) := by
  have ht := t.isLt
  have hh := d.isLt
  funext a
  refine Fin.ext ?_
  match a with
  | ⟨0, _⟩ => rfl
  | ⟨1, _⟩ => show (t.val * 1024 + d.val) / 1024 % 2048 = t.val; omega
  | ⟨2, _⟩ => show (t.val * 1024 + d.val) / 64 % 16 = d.val / 64; omega
  | ⟨3, _⟩ => show (t.val * 1024 + d.val) % 64 = d.val % 64; omega
theorem ref_v16 (x : Xs) (l : Ln) (w : Wq) (t : Fin 2048) (h : Fin 16) (e : Fin 64) :
    val_main_v16 (F := Ideal) x l w (ix4 0 t h e) = qPre x l w t (col h e) :=
  (val_main_v16_apply _ _ _ _).trans ((congrArg _ (head_idx t h e)).trans (ref_qPre x l w t _))
theorem ref_v49 (x : Xs) (l : Lk) (w : Wkv) (t : Fin 2048) (h : Fin 16) (e : Fin 64) :
    val_main_v49 (F := Ideal) x l w (ix4 0 t h e) = kvPre x l w t (keyCol (col h e)) :=
  (val_main_v49_apply _ _ _ _).trans ((congrArg _ (head_idx t h e)).trans (ref_k x l w t _))
theorem ref_v32 (x : Xs) (l : Ln) (g : Gq) (w : Wq) (t : Fin 2048) (h : Fin 16) (e : Fin 64) :
    val_main_v32 (F := Ideal) x l g w (ix4 0 t h e)
      = headed (qPre x l w t) h e * g (ix2 0 e) * Ideal.ofBits .f32 0x3E000000#32 := by
  unfold val_main_v32 val_main_v31 val_main_v30 val_main_v29 val_main_v28 val_main_v27 val_main_v26 val_main_v25 val_main_v24
    val_main_v23 val_main_v22 val_main_v21 val_main_v20 val_main_v19 val_main_v18 val_main_v17 val_main_cst_5 val_main_cst_4
    val_main_cst_3 val_main_cst_2
  pointwise
  simp only [ref_v16]
  rfl
theorem ref_v62 (x : Xs) (l : Lk) (g : Gk) (w : Wkv) (t : Fin 2048) (h : Fin 16) (e : Fin 64) :
    val_main_v62 (F := Ideal) x l g w (ix4 0 t h e)
      = headed (fun n => kvPre x l w t (keyCol n)) h e * g (ix1 e) := by
  unfold val_main_v62 val_main_v61 val_main_v60 val_main_v59 val_main_v58 val_main_v57 val_main_v56 val_main_v55 val_main_v54
    val_main_v53 val_main_v52 val_main_v51 val_main_v50 val_main_cst_11 val_main_cst_10 val_main_cst_9
  pointwise
  simp only [ref_v49]
  rfl
theorem ref_v64 (x : Xs) (l : Ln) (g : Gq) (w : Wq) (t : Fin 2048) (d : Fin 1024) :
    val_main_v64 (F := Ideal) x l g w (ix2 t d) = qs x l g w t d :=
  (val_main_v63_apply _ _ _ _ _).trans ((congrArg _ (flat_idx t d)).trans (ref_v32 x l g w t _ _))
theorem ref_v66 (x : Xs) (l : Lk) (g : Gk) (w : Wkv) (t : Fin 2048) (d : Fin 1024) :
    val_main_v66 (F := Ideal) x l g w (ix2 t d) = ks x l g w t d :=
  (val_main_v65_apply _ _ _ _ _).trans ((congrArg _ (flat_idx t d)).trans (ref_v62 x l g w t _ _))
theorem ref_v68 (x : Xs) (l : Lk) (w : Wkv) (t : Fin 2048) (n : Fin 1024) :
    val_main_v68 (F := Ideal) x l w (ix2 t n) = kvPre x l w t (valCol n) := by
  unfold val_main_v68 val_main_v67
  pointwise
  exact ref_v x l w t n
theorem ref_v69 (x : Xs) (l : Ln) (w : Wq) (t : Fin 2048) (n : Fin 1024) :
    val_main_v69 (F := Ideal) x l w (ix2 t n) = qPre x l w t n := by
  unfold val_main_v69
  pointwise
  exact ref_qPre x l w t n
theorem ref_v70 (x : Xs) (l : Lk) (w : Wkv) (t : Fin 2048) (n : Fin 1024) :
    val_main_v70 (F := Ideal) x l w (ix2 t n) = kvPre x l w t (keyCol n) := by
  unfold val_main_v70
  pointwise
  exact ref_k x l w t n
theorem ref_v72 (x : Xs) (l : Ln) (t : Fin 2048) (d : Fin 1024) :
    val_main_v72 (F := Ideal) x l (ix2 t d) = hn x (fun j => l (ix2 0 j)) t d := by
  unfold val_main_v72 val_main_v71
  pointwise
  exact ref_hq x l t d
theorem ref_v74 (x : Xs) (l : Lk) (t : Fin 2048) (d : Fin 1024) :
    val_main_v74 (F := Ideal) x l (ix2 t d) = hn x (fun j => l (ix1 j)) t d := by
  unfold val_main_v74 val_main_v73
  pointwise
  exact ref_hkv x l t d
end

/-! ### Real entries -/

theorem mul_self_nonneg' (a : EReal) : 0 ≤ a * a := by
  induction a with
  | bot => simp
  | coe r => rw [← EReal.coe_mul]; exact_mod_cast mul_self_nonneg r
  | top => simp

/-- A normed row is real where its weight is, whatever the row. -/
theorem normed_real (r l : Fin 1024 → EReal) (d : Fin 1024) (hl : ∃ b : ℝ, l d = b) : ∃ b : ℝ, normed r l d = b := by
  obtain ⟨b, hb⟩ := hl
  unfold normed
  rw [hb, show Ideal.ofBits .f32 0x44800000#32 = ((1024 : ℝ) : EReal) from Cert.Sgu.bits_1024,
    show Ideal.ofBits .f32 0x358637BD#32 = ((Cert.Sgu.eps : ℝ) : EReal) from Cert.Sgu.bits_eps]
  by_cases h : ∀ j, ∃ a : ℝ, r j = a
  · choose a ha using h
    have hs : (0 : ℝ) < (∑ j, a j * a j) / 1024 + Cert.Sgu.eps :=
      add_pos_of_nonneg_of_pos (div_nonneg (Finset.sum_nonneg fun j _ => mul_self_nonneg _) (by norm_num)) Cert.Sgu.eps_pos
    refine ⟨a d * (Real.sqrt ((∑ j, a j * a j) / 1024 + Cert.Sgu.eps))⁻¹ * b, ?_⟩
    simp only [ha, ← EReal.coe_mul, Cert.Sgu.sum_coe]
    rw [Cert.Sgu.div_coe' _ (by norm_num), ← EReal.coe_add, Cert.Sgu.rsqrt_coe' hs, ← EReal.coe_mul, ← EReal.coe_mul]
  · obtain ⟨j, hj⟩ := not_forall.mp h
    have ht : r j * r j = ⊤ := by
      generalize r j = a at hj
      induction a with
      | bot => simp
      | coe a => exact absurd ⟨a, rfl⟩ hj
      | top => simp
    have hs : ∑ j, r j * r j = ⊤ :=
      top_le_iff.mp (ht ▸ Finset.single_le_sum (f := fun j => r j * r j) (fun j _ => mul_self_nonneg' _) (Finset.mem_univ j))
    refine ⟨0, ?_⟩
    rw [hs, Ideal.div_coe (by norm_num : (1024 : ℝ) ≠ 0), EReal.top_mul_coe_of_pos (by norm_num), EReal.top_add_coe]
    show r d * 0 * _ = _
    rw [mul_zero, zero_mul]
    rfl
theorem prj_real {N : ℕ} (x : Xs) (l : Fin 1024 → EReal) (w : Fin 1024 → Fin N → EReal) (hl : ∀ d, ∃ b : ℝ, l d = b)
    (hw : ∀ d n, ∃ b : ℝ, w d n = b) (t : Fin 2048) (n : Fin N) : ∃ b : ℝ, prj x l w t n = b := by
  choose a ha using fun d => normed_real (fun j => x (ix3 0 t j)) l d (hl d)
  choose b hb using fun d => hw d n
  refine ⟨∑ d, a d * b d, ?_⟩
  rw [← Cert.Sgu.sum_coe]
  exact Finset.sum_congr rfl fun d _ => (congrArg₂ (· * ·) (ha d) (hb d)).trans (EReal.coe_mul _ _).symm

/-- A real sum's rest after it was rounded is zero, and so is the rest's rest. -/
theorem rests {n : ℕ} (a e : Fin n → EReal) (ha : ∀ j, ∃ b : ℝ, a j = b) :
    (∑ j, a j * e j) + (∑ j, (a j - a j) * e j) + (∑ j, (a j - a j - (a j - a j)) * e j) = ∑ j, a j * e j := by
  have hz : ∀ j, a j - a j = 0 := fun j => by
    obtain ⟨b, hb⟩ := ha j
    rw [hb, ← EReal.coe_sub, sub_self]
    rfl
  simp [hz]
/-- A sum over two heads' columns that only takes those of one head. -/
theorem lanes (a : Fin 128 → EReal) (q : Fin 128) :
    ∑ j : Fin 128, a j * (if j.val / 64 = q.val / 64 then 1 else 0)
      = ∑ j : Fin 64, a ⟨q.val / 64 * 64 + j.val, by omega⟩ := by
  have hq := q.isLt
  refine (Fin.sum_univ_add (a := 64) (b := 64) fun j : Fin 128 => a j * (if j.val / 64 = q.val / 64 then 1 else 0)).trans ?_
  rcases (by omega : q.val / 64 = 0 ∨ q.val / 64 = 1) with h | h
  · rw [Finset.sum_eq_zero (s := Finset.univ) (f := fun j : Fin 64 => a (Fin.natAdd 64 j) * _) fun j _ => ?_, add_zero]
    · refine Finset.sum_congr rfl fun j _ => ?_
      have hj := j.isLt
      rw [if_pos (by show j.val / 64 = q.val / 64; omega), mul_one]
      exact congrArg a (Fin.ext (by show j.val = q.val / 64 * 64 + j.val; omega))
    · rw [if_neg (by show ¬(64 + j.val) / 64 = q.val / 64; omega), mul_zero]
  · rw [Finset.sum_eq_zero (s := Finset.univ) (f := fun j : Fin 64 => a (Fin.castAdd 64 j) * _) fun j _ => ?_, zero_add]
    · refine Finset.sum_congr rfl fun j _ => ?_
      have hj := j.isLt
      rw [if_pos (by show (64 + j.val) / 64 = q.val / 64; omega), mul_one]
      exact congrArg a (Fin.ext (by show 64 + j.val = q.val / 64 * 64 + j.val; omega))
    · rw [if_neg (by show ¬j.val / 64 = q.val / 64; omega), mul_zero]
/-- A sixty-fourth as a factor and as a quotient. -/
theorem mean64 (s : EReal) : s * Ideal.ofBits .f32 0x3C800000#32 = Ideal.div s (Ideal.ofBits .f32 0x42800000#32) := by
  have h64 : Ideal.ofBits .f32 0x42800000#32 = ((64 : ℝ) : EReal) := by
    simp [Ideal.ofBits, Ideal.ieee, -EReal.coe_mul]; norm_num
  have h1 : Ideal.ofBits .f32 0x3C800000#32 = ((1 / 64 : ℝ) : EReal) := by
    simp [Ideal.ofBits, Ideal.ieee, -EReal.coe_mul]; norm_num
  rw [h64, h1, Ideal.div_coe (by norm_num : (64 : ℝ) ≠ 0)]

end Cert.Heads
end
-- ==== Proof.Heads.lean ====
/-
  The forward call of the attention's projections: one tile of rows, the stores of the tile's columns, the output arrays and
  the equation with the reference.
-/
module

public import proofs.«01_k».proof.Proof.Alg
public import proofs.«01_k».proof.Proof.HeadsRef
public import proofs.«01_k».proof.Proof.Gen.Kernel16Ideal.Value

@[expose] public section

set_option maxRecDepth 16384

noncomputable section

open Idealize.ShloMosaic Idealize.ShloMosaic.TcCoe Idealize.SL.Sem

namespace Cert.Heads

open Cert.Mlp (Xs Ln normed eta2)
open Cert.Kernel16Ideal Cert.Kernel16Ideal.Gen

/-! ### One block of two heads -/

theorem shift6 : ∀ j : Fin 128, IntOp.shrsi .vector (BitVec.ofNat 32 j.val) 6#32 = BitVec.ofNat 32 (j.val / 64) := by decide +kernel
/-- One where the row and the column lie in the same head, zero elsewhere. -/
theorem ones_at (j q : Fin 128) : k0_pay14 (F := Ideal) (ix2 j q) = if j.val / 64 = q.val / 64 then 1 else 0 := by
  have hj := j.isLt
  have hq := q.isLt
  unfold k0_pay14
  pointwise
  rw [shift6, shift6, WordCmp.cmpi_eq_ofNat (by omega) (by omega)]
  by_cases h : j.val / 64 = q.val / 64
  · simp only [h, decide_true, if_true]
    show (((1#32 : BitVec 32).toInt : ℝ) : EReal) = 1
    simp
  · simp only [h, decide_false, if_false]
    show (((0#32 : BitVec 32).toInt : ℝ) : EReal) = 0
    simp
theorem mean_at (v : Vec Ideal S256x128 .f32) (r : Fin 256) (q : Fin 128) (hv : ∀ j, ∃ a : ℝ, v (ix2 r j) = a) :
    k0_pay16 (F := Ideal) v (ix2 r q) = Ideal.div (∑ j : Fin 64, v (ix2 r ⟨q.val / 64 * 64 + j.val, by omega⟩)
      * v (ix2 r ⟨q.val / 64 * 64 + j.val, by omega⟩)) (Ideal.ofBits .f32 0x42800000#32) := by
  unfold k0_pay16 k0_pay15
  pointwise
  simp only [ones_at]
  rw [rests (fun j => v (ix2 r j) * v (ix2 r j)) _ fun j => ?_, lanes (fun j => v (ix2 r j) * v (ix2 r j)), mean64]
  obtain ⟨a, ha⟩ := hv j
  exact ⟨a * a, by rw [ha, EReal.coe_mul]⟩

/-- Two heads' keys, and two heads' queries. -/
def headK (v : Vec Ideal S256x128 .f32) (g : Vec Ideal S1x128 .f32) : FVec Ideal S256x128 .bf16 :=
  k0_pay1 (k0_pay15 v) (k0_pay22 g) (k0_pay23 k0_pay14 v) k0_pay24
def headQ (v : Vec Ideal S256x128 .f32) (g : Vec Ideal S1x128 .f32) : FVec Ideal S256x128 .bf16 :=
  k0_pay17 (k0_pay15 v) g (k0_pay16 v) (Scalar.ofBits .f32 0x358637BD#32)
theorem headQ_at (v : Vec Ideal S256x128 .f32) (g : Vec Ideal S1x128 .f32) (r : Fin 256) (q : Fin 128) :
    headQ v g (ix2 r q) = v (ix2 r q) * Ideal.rsqrt (k0_pay16 v (ix2 r q) + Ideal.ofBits .f32 0x358637BD#32) * g (ix2 0 q)
      * Ideal.ofBits .f32 0x3E000000#32 := by
  unfold headQ
  generalize k0_pay16 v = w
  unfold k0_pay17 k0_pay15
  pointwise
theorem headK_at (v : Vec Ideal S256x128 .f32) (g : Vec Ideal S1x128 .f32) (r : Fin 256) (q : Fin 128) :
    headK v g (ix2 r q) = v (ix2 r q) * Ideal.rsqrt (k0_pay16 v (ix2 r q) + Ideal.ofBits .f32 0x358637BD#32) * g (ix2 0 q) := by
  have e : mulf (k0_pay23 k0_pay14 v) k0_pay24 = k0_pay16 (F := Ideal) v := rfl
  rw [← e]
  unfold headK
  generalize k0_pay23 k0_pay14 v = w
  unfold k0_pay1 k0_pay15 k0_pay22
  pointwise

/-- Stores of `n` strips of `w` columns of a tile, the last first. -/
def strips {e : EltTy} (w n : ℕ) (inb : ∀ b : Fin n, ∀ a, (![0, w * b.val] : Fin 2 → ℕ) a + (![256, w] : Fin 2 → ℕ) a ≤ S256x1024.size a)
    (f : Fin n → (⟨2, ![256, w]⟩ : Shape).Idx → Elt Ideal e) : List (View.Piece (Elt Ideal) S256x1024 e) :=
  (List.finRange n).reverse.map fun b => ⟨Rect.unit ![0, w * b.val] ![256, w] (inb b), f b⟩
theorem strips_at {e : EltTy} (w n : ℕ) (hw : 0 < w) (hn : w * n = 1024)
    (inb : ∀ b : Fin n, ∀ a, (![0, w * b.val] : Fin 2 → ℕ) a + (![256, w] : Fin 2 → ℕ) a ≤ S256x1024.size a)
    (f : Fin n → (⟨2, ![256, w]⟩ : Shape).Idx → Elt Ideal e) (G : S256x1024.Idx → Elt Ideal e)
    (hf : ∀ (b : Fin n) (r : Fin 256) (q : Fin w) (k : Fin 1024), k.val = w * b.val + q.val → f b (ix2 r q) = G (ix2 r k))
    (i : S256x1024.Idx) : View.canon (strips w n inb f) i = G i := by
  refine View.canon_apply_of_pieces G (strips w n inb f) (fun p hp j => ?_) i ?_
  · obtain ⟨b, -, rfl⟩ := List.mem_map.mp hp
    have hj : (j 1).val < w := (j 1).isLt
    have hb : w * b.val + (j 1).val < 1024 := by
      have := Nat.mul_le_mul_left w (Nat.succ_le_of_lt b.isLt)
      rw [Nat.mul_succ] at this
      omega
    refine (congrArg (f b) (eta2 j).symm).trans ((hf b (j 0) (j 1) ⟨_, hb⟩ rfl).trans (congrArg G (funext fun a => Fin.ext ?_)))
    match a with
    | ⟨0, _⟩ => show (j 0).val = 0 + 1 * (j 0).val; omega
    | ⟨1, _⟩ => show w * b.val + (j 1).val = w * b.val + 1 * (j 1).val; omega
  · have h0 : (i 0).val < 256 := (i 0).isLt
    have h1 : (i 1).val < 1024 := (i 1).isLt
    refine ⟨_, List.mem_map.mpr ⟨⟨(i 1).val / w, Nat.div_lt_of_lt_mul (hn ▸ h1)⟩, List.mem_reverse.mpr (List.mem_finRange _), rfl⟩,
      (Rect.mem_set_unit (inb := inb _)).mpr fun a => ?_⟩
    match a with
    | ⟨0, _⟩ => show 0 ≤ (i 0).val ∧ (i 0).val < 0 + 256; omega
    | ⟨1, _⟩ => exact ⟨Nat.mul_div_le _ _, (Nat.lt_mul_div_succ _ hw).trans_eq (Nat.mul_succ _ _)⟩

/-- The normed heads of two heads' columns `128 * b …` of a row `p` of real entries. -/
theorem head_of (v : Vec Ideal S256x128 .f32) (p : Fin 1024 → EReal) (b : Fin 8) (r : Fin 256) (hp : ∀ k, ∃ a : ℝ, p k = a)
    (hv : ∀ (q : Fin 128) (k : Fin 1024), k.val = 128 * b.val + q.val → v (ix2 r q) = p k)
    (q : Fin 128) (k : Fin 1024) (hk : k.val = 128 * b.val + q.val) :
    v (ix2 r q) * Ideal.rsqrt (k0_pay16 v (ix2 r q) + Ideal.ofBits .f32 0x358637BD#32) = headed p (hd k) (inHead k) := by
  have hb := b.isLt
  have hq := q.isLt
  rw [mean_at v r q fun j => (hv j ⟨128 * b.val + j.val, by omega⟩ rfl).symm ▸ hp _, hv q k hk]
  unfold headed
  rw [col_hd]
  have e : ∀ j : Fin 64, v (ix2 r ⟨q.val / 64 * 64 + j.val, by omega⟩) = p (col (hd k) j) := fun j => by
    have hj := j.isLt
    refine hv _ _ ?_
    show k.val / 64 * 64 + j.val = 128 * b.val + (q.val / 64 * 64 + j.val)
    omega
  simp only [e]

section
variable (m : (ℓ : Loc nD τ sig) → Buf (Elt Ideal) ℓ) (c : Dev nD)

abbrev x0 : Xs := m (c, Proc.devRef .tc main_arg0)
abbrev l0 : Ln := m (c, Proc.devRef .tc main_arg1)
abbrev lk0 : Lk := m (c, Proc.devRef .tc main_arg2)
abbrev gq0 : Gq := m (c, Proc.devRef .tc main_arg3)
abbrev gk0 : Gk := m (c, Proc.devRef .tc main_arg4)
abbrev wq0 : Wq := m (c, Proc.devRef .tc main_arg5)
abbrev wkv0 : Wkv := m (c, Proc.devRef .tc main_arg6)

theorem row_lt (t : Fin cfg0.N) (r : Fin 256) : t.val * 256 + r.val < 2048 := by
  have : t.val < 8 := t.isLt
  omega
/-- Row `r` of grid point `t`'s block of rows. -/
abbrev row (t : Fin cfg0.N) (r : Fin 256) : Fin 2048 := ⟨t.val * 256 + r.val, row_lt t r⟩
theorem idx_in : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ win0_6.index t 0 = 0 ∧ win0_6.index t 1 = 0 ∧ win0_6.index t 2 = 0 := by
  decide +kernel

theorem x_at (t : Fin cfg0.N) (i : S256x1024.Idx) : iblk m c 0 t i = x0 m c (ix3 0 (row t (i 0)) (i 1)) := by
  blk_simp [iblk, idx_in t]
  entry_read
  pointwise
  blk_ext [idx_in t]
theorem l_at (t : Fin cfg0.N) (i : S1x1024.Idx) : iblk m c 1 t i = l0 m c (ix2 0 (i 1)) := by
  blk_ext [iblk, V, idx_in t]
theorem lk_at (t : Fin cfg0.N) (i : S1x1024.Idx) : iblk m c 2 t i = lk0 m c (ix1 (i 1)) := by
  blk_simp [iblk, idx_in t]
  entry_read
  pointwise
  blk_ext [idx_in t]
theorem gq_at (t : Fin cfg0.N) (d : Fin 1024) : iblk m c 3 t (ix2 0 d) = gq0 m c (ix2 0 (inHead d)) := by
  blk_simp [iblk, idx_in t]
  entry_read
  pointwise
  blk_ext [idx_in t]
  rfl
theorem gk_at (t : Fin cfg0.N) (d : Fin 1024) : iblk m c 4 t (ix2 0 d) = gk0 m c (ix1 (inHead d)) := by
  blk_simp [iblk, idx_in t]
  entry_read
  pointwise
  blk_ext [idx_in t]
  rfl
theorem wq_at (t : Fin cfg0.N) (k d : Fin 1024) : iblk m c 5 t (ix2 k d) = wq0 m c (ix3 0 k d) := by
  blk_simp [iblk, idx_in t]
  entry_read
  pointwise
  blk_ext [idx_in t]
theorem wkv_at (t : Fin cfg0.N) (g : Fin 8) (d : Fin 1024) (n : Fin 256) :
    iblk m c 6 t (ix3 g d n) = wkv0 m c (ix2 d ⟨g.val * 256 + n.val, by omega⟩) := by
  blk_simp [iblk, idx_in t]
  entry_read
  pointwise
  blk_ext [idx_in t]

theorem hq_at (t : Fin cfg0.N) (i : S256x1024.Idx) :
    k0_pay3 (F := Ideal) (iblk m c 0 t) (iblk m c 1 t) i = hn (x0 m c) (fun j => l0 m c (ix2 0 j)) (row t (i 0)) (i 1) := by
  unfold k0_pay3 k0_pay2
  pointwise
  simp only [x_at, l_at]
  rfl
theorem hkv_at (t : Fin cfg0.N) (i : S256x1024.Idx) :
    k0_pay4 (F := Ideal) (iblk m c 0 t) (iblk m c 2 t) i = hn (x0 m c) (fun j => lk0 m c (ix1 j)) (row t (i 0)) (i 1) := by
  unfold k0_pay4 k0_pay2
  pointwise
  simp only [x_at, lk_at]
  rfl
theorem qp_at (t : Fin cfg0.N) (i : S256x1024.Idx) :
    k0_pay5 (F := Ideal) (iblk m c 0 t) (iblk m c 1 t) (iblk m c 5 t) i = qPre (x0 m c) (l0 m c) (wq0 m c) (row t (i 0)) (i 1) := by
  have e := hq_at m c t
  unfold k0_pay5
  generalize k0_pay3 (F := Ideal) (iblk m c 0 t) (iblk m c 1 t) = w at e ⊢
  pointwise
  exact Finset.sum_congr rfl fun k _ => congrArg₂ (· * ·) (e _) (wq_at m c t k (i 1))

theorem outs12 (t : Fin cfg0.N) (i : S256x1024.Idx) :
    (outsAt0 m c t).2.2.2.2.2.1 i = hn (x0 m c) (fun j => l0 m c (ix2 0 j)) (row t (i 0)) (i 1) := by
  unfold outsAt0
  frame_out
  exact hq_at m c t i
theorem outs13 (t : Fin cfg0.N) (i : S256x1024.Idx) :
    (outsAt0 m c t).2.2.2.2.2.2 i = hn (x0 m c) (fun j => lk0 m c (ix1 j)) (row t (i 0)) (i 1) := by
  unfold outsAt0
  frame_out
  exact hkv_at m c t i
theorem outs10 (t : Fin cfg0.N) (i : S256x1024.Idx) :
    (outsAt0 m c t).2.2.2.1 i = qPre (x0 m c) (l0 m c) (wq0 m c) (row t (i 0)) (i 1) := by
  unfold outsAt0
  frame_out
  exact qp_at m c t i

theorem inbW (j : Fin 8) : ∀ a, (![j.val, 0, 0] : Fin 3 → ℕ) a + S1x1024x256.size a ≤ S8x1024x256.size a :=
  (by decide +kernel : ∀ (j : Fin 8), ∀ a, (![j.val, 0, 0] : Fin 3 → ℕ) a + S1x1024x256.size a ≤ S8x1024x256.size a) j
theorem inbC (j : Fin 4) : ∀ a, (![0, 256 * j.val] : Fin 2 → ℕ) a + S256x256.size a ≤ S256x1024.size a :=
  (by decide +kernel : ∀ (j : Fin 4), ∀ a, (![0, 256 * j.val] : Fin 2 → ℕ) a + S256x256.size a ≤ S256x1024.size a) j
theorem inbH (j : Fin 8) : ∀ a, (![0, 128 * j.val] : Fin 2 → ℕ) a + S256x128.size a ≤ S256x1024.size a :=
  (by decide +kernel : ∀ (j : Fin 8), ∀ a, (![0, 128 * j.val] : Fin 2 → ℕ) a + S256x128.size a ≤ S256x1024.size a) j
theorem inbG (j : Fin 8) : ∀ a, (![0, 128 * j.val] : Fin 2 → ℕ) a + S1x128.size a ≤ S1x1024.size a :=
  (by decide +kernel : ∀ (j : Fin 8), ∀ a, (![0, 128 * j.val] : Fin 2 → ℕ) a + S1x128.size a ≤ S1x1024.size a) j

theorem inbA (j : Fin 1) : ∀ a, (![0, 1024 * j.val] : Fin 2 → ℕ) a + S256x1024.size a ≤ S256x1024.size a :=
  (by decide +kernel : ∀ (j : Fin 1), ∀ a, (![0, 1024 * j.val] : Fin 2 → ℕ) a + S256x1024.size a ≤ S256x1024.size a) j

/-- Block `g` of the keys' and values' weight. -/
abbrev wBlk (W : Vec Ideal S8x1024x256 .bf16) (g : Fin 8) : Vec Ideal S1x1024x256 .bf16 :=
  View.ld W (Rect.unit ![g.val, 0, 0] S1x1024x256.size (inbW g))
theorem w_piece (t : Fin cfg0.N) (g : Fin 8) (d : Fin 1024) (n : Fin 256) (k : Fin 2048) (hk : k.val = 256 * g.val + n.val) :
    wBlk (iblk m c 6 t) g (ix3 0 d n) = wkv0 m c (ix2 d k) := by
  refine (congrArg (iblk m c 6 t) (a₂ := (ix3 g d n : S8x1024x256.Idx)) ?_).trans ((wkv_at m c t g d n).trans
    (congrArg (fun k => wkv0 m c (ix2 d k)) (Fin.ext ?_)))
  · funext a
    refine Fin.ext ((Rect.idx_unit_val _ _ _ _ a).trans ?_)
    fin_cases a
    · exact Nat.add_zero _
    · exact Nat.zero_add _
    · exact Nat.zero_add _
  · exact (congrArg (· + n.val) (Nat.mul_comm _ _)).trans hk.symm
theorem prod_at (hb : FVec Ideal S256x1024 .bf16) (W : Vec Ideal S1x1024x256 .bf16) (i : S256x256.Idx) :
    k0_pay8 hb W i = ∑ d : Fin 1024, hb (ix2 (i 0) d) * W (ix3 0 d (i 1)) := by
  unfold k0_pay8
  pointwise
/-- The block of columns `256 * g …` of the product at grid point `t`. -/
theorem blk_at (t : Fin cfg0.N) (g : Fin 8) (r : Fin 256) (q : Fin 256) (k : Fin 2048) (hk : k.val = 256 * g.val + q.val) :
    k0_pay8 (k0_pay4 (iblk m c 0 t) (iblk m c 2 t)) (wBlk (iblk m c 6 t) g) (ix2 r q)
      = kvPre (x0 m c) (lk0 m c) (wkv0 m c) (row t r) k :=
  (prod_at _ _ _).trans (Finset.sum_congr rfl fun d _ => congrArg₂ (· * ·) (hkv_at m c t (ix2 r d)) (w_piece m c t g d q k hk))

/-- The stores of the keys' product and of the values at grid point `t`. -/
abbrev kst (t : Fin cfg0.N) : List (View.Piece (Elt Ideal) S256x1024 .f32) :=
  strips 256 4 inbC fun b => k0_pay8 (k0_pay4 (iblk m c 0 t) (iblk m c 2 t)) (wBlk (iblk m c 6 t) ⟨b.val, by omega⟩)
abbrev vst (t : Fin cfg0.N) : List (View.Piece (Elt Ideal) S256x1024 .bf16) :=
  strips 256 4 inbC fun b => k0_pay7 (k0_pay4 (iblk m c 0 t) (iblk m c 2 t)) (wBlk (iblk m c 6 t) ⟨4 + b.val, by omega⟩)
theorem kst_at (t : Fin cfg0.N) (i : S256x1024.Idx) :
    View.canon (kst m c t) i = kvPre (x0 m c) (lk0 m c) (wkv0 m c) (row t (i 0)) (keyCol (i 1)) :=
  strips_at (e := .f32) 256 4 (by norm_num) (by norm_num) _ _
    (fun i : S256x1024.Idx => kvPre (x0 m c) (lk0 m c) (wkv0 m c) (row t (i 0)) (keyCol (i 1)))
    (fun b r q k hk => blk_at m c t ⟨b.val, by omega⟩ r q (keyCol k) hk) i
theorem vst_at (t : Fin cfg0.N) (i : S256x1024.Idx) :
    View.canon (vst m c t) i = kvPre (x0 m c) (lk0 m c) (wkv0 m c) (row t (i 0)) (valCol (i 1)) :=
  strips_at (e := .bf16) 256 4 (by norm_num) (by norm_num) _ _
    (fun i : S256x1024.Idx => kvPre (x0 m c) (lk0 m c) (wkv0 m c) (row t (i 0)) (valCol (i 1)))
    (fun b r q k hk => blk_at m c t ⟨4 + b.val, by omega⟩ r q (valCol k) (by show 1024 + k.val = 256 * (4 + b.val) + q.val; omega)) i

/-- The store of the queries' product at grid point `t`. -/
abbrev qst (t : Fin cfg0.N) : List (View.Piece (Elt Ideal) S256x1024 .f32) :=
  strips 1024 1 inbA fun _ => k0_pay5 (iblk m c 0 t) (iblk m c 1 t) (iblk m c 5 t)
theorem qst_at (t : Fin cfg0.N) (i : S256x1024.Idx) :
    View.canon (qst m c t) i = qPre (x0 m c) (l0 m c) (wq0 m c) (row t (i 0)) (i 1) :=
  strips_at (e := .f32) 1024 1 (by norm_num) (by norm_num) _ _
    (fun i : S256x1024.Idx => qPre (x0 m c) (l0 m c) (wq0 m c) (row t (i 0)) (i 1))
    (fun b r q k hk => (qp_at m c t (ix2 r q)).trans (congrArg (qPre (x0 m c) (l0 m c) (wq0 m c) (row t r))
      (Fin.ext (by show q.val = k.val; omega)))) i

/-- Two heads' columns of the two products, read back, and of the gains. -/
abbrev qSl (t : Fin cfg0.N) (b : Fin 8) : Vec Ideal S256x128 .f32 :=
  (ms0_10 t).view.readCov (qst m c t) (Rect.unit (s := S256x1024) ![0, 128 * b.val] S256x128.size (inbH b)).toLoadRect
abbrev kSl (t : Fin cfg0.N) (b : Fin 8) : Vec Ideal S256x128 .f32 :=
  (ms0_11 t).view.readCov (kst m c t) (Rect.unit (s := S256x1024) ![0, 128 * b.val] S256x128.size (inbH b)).toLoadRect
abbrev gSl (G : Vec Ideal S1x1024 .f32) (b : Fin 8) : Vec Ideal S1x128 .f32 :=
  View.ld G (Rect.unit ![0, 128 * b.val] S1x128.size (inbG b))
theorem place_at (b : Fin 8) (r : Fin 256) (q : Fin 128) (k : Fin 1024) (hk : k.val = 128 * b.val + q.val) :
    (Rect.unit (s := S256x1024) ![0, 128 * b.val] S256x128.size (inbH b)).toLoadRect.idx (ix2 r q) = (ix2 r k : S256x1024.Idx) := by
  funext a
  refine Fin.ext ?_
  match a with
  | ⟨0, _⟩ => show 0 + 1 * r.val = r.val; omega
  | ⟨1, _⟩ => show 128 * b.val + 1 * q.val = k.val; omega
theorem qSl_at (t : Fin cfg0.N) (b : Fin 8) (r : Fin 256) (q : Fin 128) (k : Fin 1024) (hk : k.val = 128 * b.val + q.val) :
    qSl m c t b (ix2 r q) = qPre (x0 m c) (l0 m c) (wq0 m c) (row t r) k := by
  unfold qSl
  rw [View.readCov_eq_canon']
  exact (congrArg _ (place_at b r q k hk)).trans (qst_at m c t (ix2 r k))
theorem kSl_at (t : Fin cfg0.N) (b : Fin 8) (r : Fin 256) (q : Fin 128) (k : Fin 1024) (hk : k.val = 128 * b.val + q.val) :
    kSl m c t b (ix2 r q) = kvPre (x0 m c) (lk0 m c) (wkv0 m c) (row t r) (keyCol k) := by
  unfold kSl
  rw [View.readCov_eq_canon']
  exact (congrArg _ (place_at b r q k hk)).trans (kst_at m c t (ix2 r k))
theorem gSl_at (G : Vec Ideal S1x1024 .f32) (b : Fin 8) (q : Fin 128) (k : Fin 1024) (hk : k.val = 128 * b.val + q.val) :
    gSl G b (ix2 0 q) = G (ix2 0 k) := by
  refine congrArg G (funext fun a => Fin.ext ((Rect.idx_unit_val _ _ _ _ a).trans ?_))
  fin_cases a
  · exact Nat.zero_add _
  · exact hk.symm

theorem outs11 (t : Fin cfg0.N) (i : S256x1024.Idx) :
    (outsAt0 m c t).2.2.2.2.1 i = kvPre (x0 m c) (lk0 m c) (wkv0 m c) (row t (i 0)) (keyCol (i 1)) := by
  unfold outsAt0
  frame_out
  exact kst_at m c t i
theorem outs9 (t : Fin cfg0.N) (i : S256x1024.Idx) :
    (outsAt0 m c t).2.2.1 i = kvPre (x0 m c) (lk0 m c) (wkv0 m c) (row t (i 0)) (valCol (i 1)) := by
  unfold outsAt0
  frame_out
  exact vst_at m c t i
theorem outs8 (hl : ∀ i, ∃ a : ℝ, lk0 m c i = a) (hw : ∀ i, ∃ a : ℝ, wkv0 m c i = a) (t : Fin cfg0.N) (i : S256x1024.Idx) :
    (outsAt0 m c t).2.1 i = ks (x0 m c) (lk0 m c) (gk0 m c) (wkv0 m c) (row t (i 0)) (i 1) := by
  have e := strips_at (e := .bf16) 128 8 (by norm_num) (by norm_num) inbH (fun b => headK (kSl m c t b) (gSl (iblk m c 4 t) b))
    (fun i : S256x1024.Idx => ks (x0 m c) (lk0 m c) (gk0 m c) (wkv0 m c) (row t (i 0)) (i 1)) (fun b r q k hk =>
      (headK_at _ _ r q).trans (congrArg₂ (· * ·)
        (head_of _ (fun n => kvPre (x0 m c) (lk0 m c) (wkv0 m c) (row t r) (keyCol n)) b r
          (fun n => prj_real _ _ _ (fun _ => hl _) (fun _ _ => hw _) _ _) (fun q k hk => kSl_at m c t b r q k hk) q k hk)
        ((gSl_at _ b q k hk).trans (gk_at m c t k)))) i
  unfold outsAt0
  frame_out
  exact e
theorem outs7 (hl : ∀ i, ∃ a : ℝ, l0 m c i = a) (hw : ∀ i, ∃ a : ℝ, wq0 m c i = a) (t : Fin cfg0.N) (i : S256x1024.Idx) :
    (outsAt0 m c t).1 i = qs (x0 m c) (l0 m c) (gq0 m c) (wq0 m c) (row t (i 0)) (i 1) := by
  have e := strips_at (e := .bf16) 128 8 (by norm_num) (by norm_num) inbH (fun b => headQ (qSl m c t b) (gSl (iblk m c 3 t) b))
    (fun i : S256x1024.Idx => qs (x0 m c) (l0 m c) (gq0 m c) (wq0 m c) (row t (i 0)) (i 1)) (fun b r q k hk =>
      (headQ_at _ _ r q).trans (congrArg (· * Ideal.ofBits .f32 0x3E000000#32) (congrArg₂ (· * ·)
        (head_of _ (fun n => qPre (x0 m c) (l0 m c) (wq0 m c) (row t r) n) b r
          (fun n => prj_real _ _ _ (fun _ => hl _) (fun _ _ => hw _) _ _) (fun q k hk => qSl_at m c t b r q k hk) q k hk)
        ((gSl_at _ b q k hk).trans (gq_at m c t k))))) i
  unfold outsAt0
  frame_out
  exact e

theorem idx_out : ∀ t : Fin cfg0.N, (win0_7.index t 0 = t.val ∧ win0_7.index t 1 = 0) ∧ (win0_8.index t 0 = t.val ∧ win0_8.index t 1 = 0)
    ∧ (win0_9.index t 0 = t.val ∧ win0_9.index t 1 = 0) ∧ (win0_10.index t 0 = t.val ∧ win0_10.index t 1 = 0)
    ∧ (win0_11.index t 0 = t.val ∧ win0_11.index t 1 = 0) ∧ (win0_12.index t 0 = t.val ∧ win0_12.index t 1 = 0)
    ∧ win0_13.index t 0 = t.val ∧ win0_13.index t 1 = 0 := by decide +kernel

theorem arr7 (hl : ∀ i, ∃ a : ℝ, l0 m c i = a) (hw : ∀ i, ∃ a : ℝ, wq0 m c i = a) :
    (dats m 0 c).arrAt 7 cfg0.N = (fun i : S2048x1024.Idx => qs (x0 m c) (l0 m c) (gq0 m c) (wq0 m c) (i 0) (i 1)) := by
  refine (dats m 0 c).arrAt_eq_of_covers 7 _ (by decide +kernel) fun t hf i => ?_
  have e : (win0_7.blk t).view.emb i = (ix2 (row t (i 0)) (i 1) : S2048x1024.Idx) := by blk_ext [idx_out t]
  blk_simp [idx_out t]
  rw [after0_7]
  refine (outs7 m c hl hw t i).trans ?_
  show _ = (fun i : S2048x1024.Idx => qs (x0 m c) (l0 m c) (gq0 m c) (wq0 m c) (i 0) (i 1)) ((win0_7.blk t).view.emb i)
  rw [e]
  exact rfl
theorem arr8 (hl : ∀ i, ∃ a : ℝ, lk0 m c i = a) (hw : ∀ i, ∃ a : ℝ, wkv0 m c i = a) :
    (dats m 0 c).arrAt 8 cfg0.N = (fun i : S2048x1024.Idx => ks (x0 m c) (lk0 m c) (gk0 m c) (wkv0 m c) (i 0) (i 1)) := by
  refine (dats m 0 c).arrAt_eq_of_covers 8 _ (by decide +kernel) fun t hf i => ?_
  have e : (win0_8.blk t).view.emb i = (ix2 (row t (i 0)) (i 1) : S2048x1024.Idx) := by blk_ext [idx_out t]
  blk_simp [idx_out t]
  rw [after0_8]
  refine (outs8 m c hl hw t i).trans ?_
  show _ = (fun i : S2048x1024.Idx => ks (x0 m c) (lk0 m c) (gk0 m c) (wkv0 m c) (i 0) (i 1)) ((win0_8.blk t).view.emb i)
  rw [e]
  exact rfl
theorem arr9 :
    (dats m 0 c).arrAt 9 cfg0.N = (fun i : S2048x1024.Idx => kvPre (x0 m c) (lk0 m c) (wkv0 m c) (i 0) (valCol (i 1))) := by
  refine (dats m 0 c).arrAt_eq_of_covers 9 _ (by decide +kernel) fun t hf i => ?_
  have e : (win0_9.blk t).view.emb i = (ix2 (row t (i 0)) (i 1) : S2048x1024.Idx) := by blk_ext [idx_out t]
  blk_simp [idx_out t]
  rw [after0_9]
  refine (outs9 m c t i).trans ?_
  show _ = (fun i : S2048x1024.Idx => kvPre (x0 m c) (lk0 m c) (wkv0 m c) (i 0) (valCol (i 1))) ((win0_9.blk t).view.emb i)
  rw [e]
  exact rfl
theorem arr10 :
    (dats m 0 c).arrAt 10 cfg0.N = (fun i : S2048x1024.Idx => qPre (x0 m c) (l0 m c) (wq0 m c) (i 0) (i 1)) := by
  refine (dats m 0 c).arrAt_eq_of_covers 10 _ (by decide +kernel) fun t hf i => ?_
  have e : (win0_10.blk t).view.emb i = (ix2 (row t (i 0)) (i 1) : S2048x1024.Idx) := by blk_ext [idx_out t]
  blk_simp [idx_out t]
  rw [after0_10]
  refine (outs10 m c t i).trans ?_
  show _ = (fun i : S2048x1024.Idx => qPre (x0 m c) (l0 m c) (wq0 m c) (i 0) (i 1)) ((win0_10.blk t).view.emb i)
  rw [e]
  exact rfl
theorem arr11 :
    (dats m 0 c).arrAt 11 cfg0.N = (fun i : S2048x1024.Idx => kvPre (x0 m c) (lk0 m c) (wkv0 m c) (i 0) (keyCol (i 1))) := by
  refine (dats m 0 c).arrAt_eq_of_covers 11 _ (by decide +kernel) fun t hf i => ?_
  have e : (win0_11.blk t).view.emb i = (ix2 (row t (i 0)) (i 1) : S2048x1024.Idx) := by blk_ext [idx_out t]
  blk_simp [idx_out t]
  rw [after0_11]
  refine (outs11 m c t i).trans ?_
  show _ = (fun i : S2048x1024.Idx => kvPre (x0 m c) (lk0 m c) (wkv0 m c) (i 0) (keyCol (i 1))) ((win0_11.blk t).view.emb i)
  rw [e]
  exact rfl
theorem arr12 :
    (dats m 0 c).arrAt 12 cfg0.N = (fun i : S2048x1024.Idx => hn (x0 m c) (fun j => l0 m c (ix2 0 j)) (i 0) (i 1)) := by
  refine (dats m 0 c).arrAt_eq_of_covers 12 _ (by decide +kernel) fun t hf i => ?_
  have e : (win0_12.blk t).view.emb i = (ix2 (row t (i 0)) (i 1) : S2048x1024.Idx) := by blk_ext [idx_out t]
  blk_simp [idx_out t]
  rw [after0_12]
  refine (outs12 m c t i).trans ?_
  show _ = (fun i : S2048x1024.Idx => hn (x0 m c) (fun j => l0 m c (ix2 0 j)) (i 0) (i 1)) ((win0_12.blk t).view.emb i)
  rw [e]
  exact rfl
theorem arr13 :
    (dats m 0 c).arrAt 13 cfg0.N = (fun i : S2048x1024.Idx => hn (x0 m c) (fun j => lk0 m c (ix1 j)) (i 0) (i 1)) := by
  refine (dats m 0 c).arrAt_eq_of_covers 13 _ (by decide +kernel) fun t hf i => ?_
  have e : (win0_13.blk t).view.emb i = (ix2 (row t (i 0)) (i 1) : S2048x1024.Idx) := by blk_ext [idx_out t]
  blk_simp [idx_out t]
  rw [after0_13]
  refine (outs13 m c t i).trans ?_
  show _ = (fun i : S2048x1024.Idx => hn (x0 m c) (fun j => lk0 m c (ix1 j)) (i 0) (i 1)) ((win0_13.blk t).view.emb i)
  rw [e]
  exact rfl
end

/-- What the precondition says of the norms' weights and of the projections' weights. -/
theorem real_args (m : (ℓ : Loc nD τ sig) → Buf (Elt Ideal) ℓ) (h : Cert.Pre_Kernel16Ideal_finite16 m) (c : Dev nD) :
    (∀ i, ∃ a : ℝ, l0 m c i = a) ∧ (∀ i, ∃ a : ℝ, lk0 m c i = a) ∧ (∀ i, ∃ a : ℝ, wq0 m c i = a)
      ∧ ∀ i, ∃ a : ℝ, wkv0 m c i = a := by
  have h0 := congrFun (h c) (Shape.Idx.first Cert.Pre_finite16.Facts.h_S_)
  simp only [Cert.Pre_finite16.fn, Cert.Pre_finite16.fn_part1, andi_apply, IntOp.andi_eq_one] at h0
  obtain ⟨⟨⟨e1, e2⟩, e5⟩, e6⟩ := h0
  haveI : Subsingleton Cert.Pre_finite16.S_.Idx := ⟨fun a b => funext fun i => i.elim0⟩
  exact ⟨Cert.Proof.real_of_all _ _ (fun _ => Cert.Proof.inf_bits) _ _ _ _ e1,
    Cert.Proof.real_of_all _ _ (fun _ => Cert.Proof.inf_bits) _ _ _ _ e2,
    Cert.Proof.real_of_all _ _ (fun _ => Cert.Proof.inf_bits) _ _ _ _ e5,
    Cert.Proof.real_of_all _ _ (fun _ => Cert.Proof.inf_bits) _ _ _ _ e6⟩

theorem algebraic : Cert.algebraic_Kernel16Ideal_Reference16Ideal_pre_finite16 := by
  intro m g m' g' hpre hag
  refine ⟨fun c i => qs (x0 m c) (l0 m c) (gq0 m c) (wq0 m c) (i 0) (i 1), fun c i => ks (x0 m c) (lk0 m c) (gk0 m c) (wkv0 m c) (i 0) (i 1),
    fun c i => kvPre (x0 m c) (lk0 m c) (wkv0 m c) (i 0) (valCol (i 1)), fun c i => qPre (x0 m c) (l0 m c) (wq0 m c) (i 0) (i 1),
    fun c i => kvPre (x0 m c) (lk0 m c) (wkv0 m c) (i 0) (keyCol (i 1)), fun c i => hn (x0 m c) (fun j => l0 m c (ix2 0 j)) (i 0) (i 1),
    fun c i => hn (x0 m c) (fun j => lk0 m c (ix1 j)) (i 0) (i 1), ?_, ?_⟩
  · refine (θ_run Cert.Kernel16Ideal.defs _ _).mono (fun r q c => ?_) (Cert.Kernel16Ideal.Value.run_blocks m g)
    obtain ⟨r0, r1, r2, r3, r4, r5, r6, hr⟩ := q c
    obtain ⟨fl, fk, fq, fw⟩ := real_args m hpre c
    exact ⟨r0.trans (arr7 m c fl fq), r1.trans (arr8 m c fk fw), r2.trans (arr9 m c), r3.trans (arr10 m c), r4.trans (arr11 m c),
      r5.trans (arr12 m c), r6.trans (arr13 m c), hr⟩
  refine (θ_run Cert.Reference16Ideal.defs _ _).mono (fun r q c => ?_) (Cert.Reference16Ideal.Value.run (F := Ideal) m' g')
  obtain ⟨r0, r1, r2, r3, r4, r5, r6, hr⟩ := q c
  obtain ⟨a0, a1, a2, a3, a4, a5, a6⟩ := hag c
  refine ⟨(r0.trans (Cert.Reference16Ideal.Read.val_main_v64_eq _ _ _ _)).trans ?_,
    (r1.trans (Cert.Reference16Ideal.Read.val_main_v66_eq _ _ _ _)).trans ?_,
    (r2.trans (Cert.Reference16Ideal.Read.val_main_v68_eq _ _ _)).trans ?_,
    (r3.trans (Cert.Reference16Ideal.Read.val_main_v69_eq _ _ _)).trans ?_,
    (r4.trans (Cert.Reference16Ideal.Read.val_main_v70_eq _ _ _)).trans ?_,
    (r5.trans (Cert.Reference16Ideal.Read.val_main_v72_eq _ _)).trans ?_,
    (r6.trans (Cert.Reference16Ideal.Read.val_main_v74_eq _ _)).trans ?_, hr⟩
  · exact (congr (congr (congr (congrArg (Cert.Reference16Ideal.Read.val_main_v64 (F := Ideal)) a0) a1) a3) a5).trans
      (funext fun i => (congrArg _ (eta2 i).symm).trans (ref_v64 _ _ _ _ (i 0) (i 1)))
  · exact (congr (congr (congr (congrArg (Cert.Reference16Ideal.Read.val_main_v66 (F := Ideal)) a0) a2) a4) a6).trans
      (funext fun i => (congrArg _ (eta2 i).symm).trans (ref_v66 _ _ _ _ (i 0) (i 1)))
  · exact (congr (congr (congrArg (Cert.Reference16Ideal.Read.val_main_v68 (F := Ideal)) a0) a2) a6).trans
      (funext fun i => (congrArg _ (eta2 i).symm).trans (ref_v68 _ _ _ (i 0) (i 1)))
  · exact (congr (congr (congrArg (Cert.Reference16Ideal.Read.val_main_v69 (F := Ideal)) a0) a1) a5).trans
      (funext fun i => (congrArg _ (eta2 i).symm).trans (ref_v69 _ _ _ (i 0) (i 1)))
  · exact (congr (congr (congrArg (Cert.Reference16Ideal.Read.val_main_v70 (F := Ideal)) a0) a2) a6).trans
      (funext fun i => (congrArg _ (eta2 i).symm).trans (ref_v70 _ _ _ (i 0) (i 1)))
  · exact (congr (congrArg (Cert.Reference16Ideal.Read.val_main_v72 (F := Ideal)) a0) a1).trans
      (funext fun i => (congrArg _ (eta2 i).symm).trans (ref_v72 _ _ (i 0) (i 1)))
  · exact (congr (congrArg (Cert.Reference16Ideal.Read.val_main_v74 (F := Ideal)) a0) a2).trans
      (funext fun i => (congrArg _ (eta2 i).symm).trans (ref_v74 _ _ (i 0) (i 1)))

end Cert.Heads
end
-- ==== Proof.Adam.lean ====
/-
  The optimiser's step: the sum of a gradient's eight slots and the update, entry by entry.
-/
module

public import proofs.«01_k».proof.Defs
public import proofs.«01_k».proof.Proof.Runs
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Adam

abbrev Mat (R C : Nat) : Type := (⟨2, ![R, C]⟩ : Shape).Idx → EReal
abbrev Slots (n R C : Nat) : Type := (⟨3, ![n, R, C]⟩ : Shape).Idx → EReal

/-- The two moments after the step, and the weight's change. -/
def mom (m g : EReal) : EReal := Ideal.ofBits .f32 0x3F666666#32 * m + Ideal.ofBits .f32 0x3DCCCCCD#32 * g
def vel (v g : EReal) : EReal := Ideal.ofBits .f32 0x3F7FBE77#32 * v + Ideal.ofBits .f32 0x3A83126F#32 * (g * g)
def delta (w m v g : EReal) : EReal :=
  Ideal.ofBits .f32 0xBA83126F#32 * (Ideal.div (Ideal.div (mom m g) (Ideal.ofBits .f32 0x3F26BD02#32))
    (Ideal.sqrt (Ideal.div (vel v g) (Ideal.ofBits .f32 0x3C231ACC#32)) + Ideal.ofBits .f32 0x322BCC77#32)
      + Ideal.ofBits .f32 0x3C23D70A#32 * w)

theorem delta_congr {w w' m m' v v' g g' : EReal} (hw : w = w') (hm : m = m') (hv : v = v') (hg : g = g') :
    delta w m v g = delta w' m' v' g' := by
  rw [hw, hm, hv, hg]

/-- The sum of the slots. -/
def total {n R C : Nat} (s : Slots n R C) : Mat R C := fun i => ∑ k : Fin n, s (ix3 k (i 0) (i 1))

/-- Two programs with four results each, whose runs leave the same four values there, compute the same. -/
theorem four {nD : Nat} {τ τ' : Topo} {sig sig' : RefSig} {Val : EltTy → Type} {Λ Λ' : Labels} {X0 X1 X2 X3 : Dev nD → Type}
    {defs : Defs nD τ sig Val Λ} {defs' : Defs nD τ' sig' Val Λ'}
    {p : (c : Thread nD τ) → Prog (TpuEff nD τ sig Val Λ c.2) PUnit} {p' : (c : Thread nD τ') → Prog (TpuEff nD τ' sig' Val Λ' c.2) PUnit}
    {s : MemSt nD τ sig Val} {s' : MemSt nD τ' sig' Val}
    {f0 : PUnit × MemSt nD τ sig Val → (c : Dev nD) → X0 c} {f1 : PUnit × MemSt nD τ sig Val → (c : Dev nD) → X1 c}
    {f2 : PUnit × MemSt nD τ sig Val → (c : Dev nD) → X2 c} {f3 : PUnit × MemSt nD τ sig Val → (c : Dev nD) → X3 c}
    {f0' : PUnit × MemSt nD τ' sig' Val → (c : Dev nD) → X0 c} {f1' : PUnit × MemSt nD τ' sig' Val → (c : Dev nD) → X1 c}
    {f2' : PUnit × MemSt nD τ' sig' Val → (c : Dev nD) → X2 c} {f3' : PUnit × MemSt nD τ' sig' Val → (c : Dev nD) → X3 c}
    {K : PUnit × MemSt nD τ sig Val → Dev nD → Prop} {K' : PUnit × MemSt nD τ' sig' Val → Dev nD → Prop}
    {a0 b0 : (c : Dev nD) → X0 c} {a1 b1 : (c : Dev nD) → X1 c} {a2 b2 : (c : Dev nD) → X2 c} {a3 b3 : (c : Dev nD) → X3 c}
    (run : θ_run defs p s fun r => ∀ c, f0 r c = a0 c ∧ f1 r c = a1 c ∧ f2 r c = a2 c ∧ f3 r c = a3 c ∧ K r c)
    (run' : θ_run defs' p' s' fun r => ∀ c, f0' r c = b0 c ∧ f1' r c = b1 c ∧ f2' r c = b2 c ∧ f3' r c = b3 c ∧ K' r c)
    (h : ∀ c, a0 c = b0 c ∧ a1 c = b1 c ∧ a2 c = b2 c ∧ a3 c = b3 c) :
    ∃ (v0 : (c : Dev nD) → X0 c) (v1 : (c : Dev nD) → X1 c) (v2 : (c : Dev nD) → X2 c) (v3 : (c : Dev nD) → X3 c),
      θ_run defs p s (fun r => ∀ c, f0 r c = v0 c ∧ f1 r c = v1 c ∧ f2 r c = v2 c ∧ f3 r c = v3 c ∧ K r c)
        ∧ θ_run defs' p' s' fun r => ∀ c, f0' r c = v0 c ∧ f1' r c = v1 c ∧ f2' r c = v2 c ∧ f3' r c = v3 c ∧ K' r c :=
  ⟨b0, b1, b2, b3, θ_run_mono run fun _ q c => ⟨(q c).1.trans (h c).1, (q c).2.1.trans (h c).2.1, (q c).2.2.1.trans (h c).2.2.1,
    (q c).2.2.2.1.trans (h c).2.2.2, (q c).2.2.2.2⟩, run'⟩

end Cert.Adam

namespace Cert.Adam.A18

open Cert.Kernel18Ideal Cert.Kernel18Ideal.Gen

theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = t.val ∧ win0_3.index t 2 = 0)
    ∧ (win0_4.index t 0 = t.val ∧ win0_4.index t 1 = 0) ∧ (win0_5.index t 0 = t.val ∧ win0_5.index t 1 = 0)
    ∧ (win0_6.index t 0 = t.val ∧ win0_6.index t 1 = 0) ∧ win0_7.index t 0 = t.val ∧ win0_7.index t 1 = 0 := by
  decide +kernel

theorem g_at (x y z : Mat 512 256) (s : Slots 8 512 256) (i : S512x256.Idx) : k0_pay5 (F := Ideal) x y z s i = total s i := by
  unfold k0_pay5 k0_pay4
  pointwise
  unfold total
  rw [Fin.sum_univ_eight]

set_option maxHeartbeats 1600000 in
theorem final (m : (ℓ : Loc nD τ sig) → Buf (Elt Ideal) ℓ) (c : Dev nD) (w a b : Mat 1024 256) (s : Slots 8 1024 256)
    (hw : m (c, Proc.devRef .tc main_arg0) = w) (ha : m (c, Proc.devRef .tc main_arg1) = a)
    (hb : m (c, Proc.devRef .tc main_arg2) = b) (hs : m (c, Proc.devRef .tc main_arg3) = s) :
    (dats m 0 c).arrAt 4 cfg0.N = total s
      ∧ (dats m 0 c).arrAt 5 cfg0.N = (fun i => delta (w i) (a i) (b i) (total s i))
      ∧ (dats m 0 c).arrAt 6 cfg0.N = (fun i => mom (a i) (total s i))
      ∧ (dats m 0 c).arrAt 7 cfg0.N = fun i => vel (b i) (total s i) := by
  subst hw ha hb hs
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩ <;> blk_simp [idx t]
  · rw [after0_4]
    frame_out
    refine (g_at _ _ _ _ _).trans (Finset.sum_congr rfl fun k _ => ?_)
    blk_ext [iblk, V, idx t]
  · rw [after0_5]
    frame_out
    unfold k0_pay3 k0_pay1 k0_pay2
    pointwise
    refine delta_congr ?_ ?_ ?_ ((g_at _ _ _ _ _).trans (Finset.sum_congr rfl fun k _ => ?_)) <;> blk_ext [iblk, V, idx t]
  · rw [after0_6]
    frame_out
    unfold k0_pay1
    pointwise
    refine congrArg₂ mom ?_ ((g_at _ _ _ _ _).trans (Finset.sum_congr rfl fun k _ => ?_)) <;> blk_ext [iblk, V, idx t]
  · rw [after0_7]
    frame_out
    unfold k0_pay2
    pointwise
    refine congrArg₂ vel ?_ ((g_at _ _ _ _ _).trans (Finset.sum_congr rfl fun k _ => ?_)) <;> blk_ext [iblk, V, idx t]

open Cert.Reference18Ideal.Read in
theorem ref (w a b : Mat 1024 256) (s : Slots 8 1024 256) : val_main_v1 (F := Ideal) s = total s
    ∧ val_main_v25 (F := Ideal) w a b s = (fun i => delta (w i) (a i) (b i) (total s i))
    ∧ val_main_v6 (F := Ideal) a s = (fun i => mom (a i) (total s i))
    ∧ val_main_v12 (F := Ideal) b s = fun i => vel (b i) (total s i) := by
  have h : val_main_v1 (F := Ideal) s = total s := by
    funext i
    unfold val_main_v1 val_main_v0
    pointwise
    exact (congrArg (· + _) Ideal.ofBits_zero_f32).trans (zero_add _)
  rw [← h]
  exact ⟨rfl, rfl, rfl, rfl⟩

open Cert.Reference18Ideal.Read in
theorem algebraic : Cert.algebraic_Kernel18Ideal_Reference18Ideal := by
  intro m g m' g' _ hag
  refine four (Cert.Kernel18Ideal.Value.run_blocks m g) (Cert.Reference18Ideal.Value.run (F := Ideal) m' g') fun c => ?_
  obtain ⟨h0, h1, h2, h3⟩ := hag c
  obtain ⟨k4, k5, k6, k7⟩ := final m c _ _ _ _ h0.symm h1.symm h2.symm h3.symm
  obtain ⟨r4, r5, r6, r7⟩ := ref _ _ _ _
  exact ⟨k4.trans ((val_main_v1_eq _).trans r4).symm, k5.trans ((val_main_v25_eq _ _ _ _).trans r5).symm,
    k6.trans ((val_main_v6_eq _ _).trans r6).symm, k7.trans ((val_main_v12_eq _ _).trans r7).symm⟩

end Cert.Adam.A18

namespace Cert.Adam.A17

open Cert.Kernel17Ideal Cert.Kernel17Ideal.Gen Cert.Kernel17Ideal.Value

theorem ker (w a b : Mat 128 1024) (s : Slots 8 128 1024) : G4 (F := Ideal) w a b s = total s
    ∧ G5 (F := Ideal) w a b s = (fun i => delta (w i) (a i) (b i) (total s i))
    ∧ G6 (F := Ideal) w a b s = (fun i => mom (a i) (total s i))
    ∧ G7 (F := Ideal) w a b s = fun i => vel (b i) (total s i) := by
  have h : G4 (F := Ideal) w a b s = total s := by
    funext i
    unfold G4 k0_pay5 k0_pay4
    pointwise
    unfold total
    rw [Fin.sum_univ_eight]
  rw [← h]
  exact ⟨rfl, rfl, rfl, rfl⟩

open Cert.Reference17Ideal.Read in
theorem ref (w a b : Mat 128 1024) (s : Slots 8 128 1024) : val_main_v1 (F := Ideal) s = total s
    ∧ val_main_v25 (F := Ideal) w a b s = (fun i => delta (w i) (a i) (b i) (total s i))
    ∧ val_main_v6 (F := Ideal) a s = (fun i => mom (a i) (total s i))
    ∧ val_main_v12 (F := Ideal) b s = fun i => vel (b i) (total s i) := by
  have h : val_main_v1 (F := Ideal) s = total s := by
    funext i
    unfold val_main_v1 val_main_v0
    pointwise
    exact (congrArg (· + _) Ideal.ofBits_zero_f32).trans (zero_add _)
  rw [← h]
  exact ⟨rfl, rfl, rfl, rfl⟩

open Cert.Reference17Ideal.Read in
theorem algebraic : Cert.algebraic_Kernel17Ideal_Reference17Ideal := by
  intro m g m' g' _ hag
  refine four (Cert.Kernel17Ideal.Value.run m g) (Cert.Reference17Ideal.Value.run (F := Ideal) m' g') fun c => ?_
  obtain ⟨h0, h1, h2, h3⟩ := hag c
  rw [← h0, ← h1, ← h2, ← h3]
  obtain ⟨k4, k5, k6, k7⟩ := ker _ _ _ _
  obtain ⟨r4, r5, r6, r7⟩ := ref _ _ _ _
  exact ⟨k4.trans ((val_main_v1_eq _).trans r4).symm, k5.trans ((val_main_v25_eq _ _ _ _).trans r5).symm,
    k6.trans ((val_main_v6_eq _ _).trans r6).symm, k7.trans ((val_main_v12_eq _ _).trans r7).symm⟩

end Cert.Adam.A17

namespace Cert.Adam.A19

open Cert.Kernel19Ideal Cert.Kernel19Ideal.Gen Cert.Kernel19Ideal.Value

theorem ker (w a b : Mat 1024 128) (s : Slots 8 1024 128) : G4 (F := Ideal) w a b s = total s
    ∧ G5 (F := Ideal) w a b s = (fun i => delta (w i) (a i) (b i) (total s i))
    ∧ G6 (F := Ideal) w a b s = (fun i => mom (a i) (total s i))
    ∧ G7 (F := Ideal) w a b s = fun i => vel (b i) (total s i) := by
  have h : G4 (F := Ideal) w a b s = total s := by
    funext i
    unfold G4 k0_pay5 k0_pay4
    pointwise
    unfold total
    rw [Fin.sum_univ_eight]
  rw [← h]
  exact ⟨rfl, rfl, rfl, rfl⟩

open Cert.Reference19Ideal.Read in
theorem ref (w a b : Mat 1024 128) (s : Slots 8 1024 128) : val_main_v1 (F := Ideal) s = total s
    ∧ val_main_v25 (F := Ideal) w a b s = (fun i => delta (w i) (a i) (b i) (total s i))
    ∧ val_main_v6 (F := Ideal) a s = (fun i => mom (a i) (total s i))
    ∧ val_main_v12 (F := Ideal) b s = fun i => vel (b i) (total s i) := by
  have h : val_main_v1 (F := Ideal) s = total s := by
    funext i
    unfold val_main_v1 val_main_v0
    pointwise
    exact (congrArg (· + _) Ideal.ofBits_zero_f32).trans (zero_add _)
  rw [← h]
  exact ⟨rfl, rfl, rfl, rfl⟩

open Cert.Reference19Ideal.Read in
theorem algebraic : Cert.algebraic_Kernel19Ideal_Reference19Ideal := by
  intro m g m' g' _ hag
  refine four (Cert.Kernel19Ideal.Value.run m g) (Cert.Reference19Ideal.Value.run (F := Ideal) m' g') fun c => ?_
  obtain ⟨h0, h1, h2, h3⟩ := hag c
  rw [← h0, ← h1, ← h2, ← h3]
  obtain ⟨k4, k5, k6, k7⟩ := ker _ _ _ _
  obtain ⟨r4, r5, r6, r7⟩ := ref _ _ _ _
  exact ⟨k4.trans ((val_main_v1_eq _).trans r4).symm, k5.trans ((val_main_v25_eq _ _ _ _).trans r5).symm,
    k6.trans ((val_main_v6_eq _ _).trans r6).symm, k7.trans ((val_main_v12_eq _ _).trans r7).symm⟩

end Cert.Adam.A19

namespace Cert.Adam.A20

open Cert.Kernel20Ideal Cert.Kernel20Ideal.Gen Cert.Kernel20Ideal.Value

theorem ker (w a b : Mat 96 128) (s : Slots 8 96 128) : G4 (F := Ideal) w a b s = total s
    ∧ G5 (F := Ideal) w a b s = (fun i => delta (w i) (a i) (b i) (total s i))
    ∧ G6 (F := Ideal) w a b s = (fun i => mom (a i) (total s i))
    ∧ G7 (F := Ideal) w a b s = fun i => vel (b i) (total s i) := by
  have h : G4 (F := Ideal) w a b s = total s := by
    funext i
    unfold G4 k0_pay5 k0_pay3
    pointwise
    unfold total
    rw [Fin.sum_univ_eight]
  have e (z : Vec Ideal S96x128 .f32) : View.ld z r0_8 = z := View.ld_unit_zero hz1 _ z
  have h6 : G6 (F := Ideal) w a b s = fun i => mom (a i) (G4 (F := Ideal) w a b s i) := by
    unfold G6 k0_pay6 k0_pay4
    rw [e]
    rfl
  have h5 : G5 (F := Ideal) w a b s = fun i => delta (w i) (a i) (b i) (G4 (F := Ideal) w a b s i) := by
    unfold G5
    rw [show k0_pay6 (F := Ideal) w a b s = _ from h6]
    rfl
  rw [← h]
  exact ⟨rfl, h5, h6, rfl⟩

open Cert.Reference20Ideal.Read in
theorem ref (w a b : Mat 96 128) (s : Slots 8 96 128) : val_main_v0 (F := Ideal) s = total s
    ∧ val_main_v24 (F := Ideal) w a b s = (fun i => delta (w i) (a i) (b i) (total s i))
    ∧ val_main_v5 (F := Ideal) a s = (fun i => mom (a i) (total s i))
    ∧ val_main_v11 (F := Ideal) b s = fun i => vel (b i) (total s i) := by
  have h : val_main_v0 (F := Ideal) s = total s := by
    funext i
    unfold val_main_v0
    pointwise
    exact (congrArg (· + _) Ideal.ofBits_zero_f32).trans (zero_add _)
  rw [← h]
  exact ⟨rfl, rfl, rfl, rfl⟩

open Cert.Reference20Ideal.Read in
theorem algebraic : Cert.algebraic_Kernel20Ideal_Reference20Ideal := by
  intro m g m' g' _ hag
  refine four (Cert.Kernel20Ideal.Value.run m g) (Cert.Reference20Ideal.Value.run (F := Ideal) m' g') fun c => ?_
  obtain ⟨h0, h1, h2, h3⟩ := hag c
  rw [← h0, ← h1, ← h2, ← h3]
  obtain ⟨k4, k5, k6, k7⟩ := ker _ _ _ _
  obtain ⟨r4, r5, r6, r7⟩ := ref _ _ _ _
  exact ⟨k4.trans ((val_main_v0_eq _).trans r4).symm, k5.trans ((val_main_v24_eq _ _ _ _).trans r5).symm,
    k6.trans ((val_main_v5_eq _ _).trans r6).symm, k7.trans ((val_main_v11_eq _ _).trans r7).symm⟩

end Cert.Adam.A20

end
-- ==== Proof.AdamLayers.lean ====
/- The two-layer weights' optimiser step, calls 21 to 24: a layer a half of the grid, from its own slots. -/
module

public import proofs.«01_k».proof.Proof.Frames
public import proofs.«01_k».proof.Proof.Adam
public import proofs.«01_k».proof.Proof.Gen.Kernel21Ideal.Value
public import proofs.«01_k».proof.Proof.Gen.Reference21Ideal.Read
public import proofs.«01_k».proof.Proof.Gen.Reference21Ideal.Run
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Adam

abbrev Lay (R C : Nat) : Type := (⟨3, ![2, R, C]⟩ : Shape).Idx → EReal

/-- The sum of the slots of each layer. -/
def total2 {n n' R C : Nat} (s : Slots n R C) (s' : Slots n' R C) : Lay R C :=
  fun i => if (i 0).val = 0 then total s (ix2 (i 1) (i 2)) else total s' (ix2 (i 1) (i 2))

end Cert.Adam

namespace Cert.Adam.A21

open Cert.Kernel21Ideal Cert.Kernel21Ideal.Gen

theorem idxA : ∀ t : Fin cfg0.N, t.val < 4 → (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = 0 ∧ win0_7.index t 1 = t.val ∧ win0_7.index t 2 = 0)
    ∧ win0_8.index t 0 = 0 ∧ win0_8.index t 1 = t.val ∧ win0_8.index t 2 = 0 := by
  decide +kernel
theorem idxB : ∀ t : Fin cfg0.N, 4 ≤ t.val → (win0_0.index t 0 = 1 ∧ win0_0.index t 1 = t.val - 4 ∧ win0_0.index t 2 = 0)
    ∧ (win0_1.index t 0 = 1 ∧ win0_1.index t 1 = t.val - 4 ∧ win0_1.index t 2 = 0)
    ∧ (win0_2.index t 0 = 1 ∧ win0_2.index t 1 = t.val - 4 ∧ win0_2.index t 2 = 0)
    ∧ (win0_4.index t 0 = 0 ∧ win0_4.index t 1 = t.val - 4 ∧ win0_4.index t 2 = 0)
    ∧ (win0_5.index t 0 = 1 ∧ win0_5.index t 1 = t.val - 4 ∧ win0_5.index t 2 = 0)
    ∧ (win0_6.index t 0 = 1 ∧ win0_6.index t 1 = t.val - 4 ∧ win0_6.index t 2 = 0)
    ∧ (win0_7.index t 0 = 1 ∧ win0_7.index t 1 = t.val - 4 ∧ win0_7.index t 2 = 0)
    ∧ win0_8.index t 0 = 1 ∧ win0_8.index t 1 = t.val - 4 ∧ win0_8.index t 2 = 0 := by
  decide +kernel

theorem g_atA (u : Vec Ideal S4x256x512 .bf16) (i : S256x512.Idx) :
    k0_pay5 (F := Ideal) (View.ld u (Rect.unit ![0, 0, 0] ![1, 256, 512] inb_S4x256x512_S1x256x512_0_0_0))
      (View.ld u (Rect.unit ![1, 0, 0] ![1, 256, 512] inb_S4x256x512_S1x256x512_1_0_0))
      (View.ld u (Rect.unit ![2, 0, 0] ![1, 256, 512] inb_S4x256x512_S1x256x512_2_0_0))
      (View.ld u (Rect.unit ![3, 0, 0] ![1, 256, 512] inb_S4x256x512_S1x256x512_3_0_0)) i = total (n := 4) (R := 256) (C := 512) u i := by
  unfold k0_pay5 total
  pointwise
  exact (Fin.sum_univ_four (M := EReal) fun k : Fin 4 => u (ix3 k (i 0) (i 1))).symm
theorem g_atB (u : Vec Ideal S8x256x512 .bf16) (i : S256x512.Idx) :
    k0_pay9 (F := Ideal) (View.ld u (Rect.unit ![0, 0, 0] ![1, 256, 512] inb_S8x256x512_S1x256x512_0_0_0))
      (View.ld u (Rect.unit ![1, 0, 0] ![1, 256, 512] inb_S8x256x512_S1x256x512_1_0_0))
      (View.ld u (Rect.unit ![2, 0, 0] ![1, 256, 512] inb_S8x256x512_S1x256x512_2_0_0))
      (View.ld u (Rect.unit ![3, 0, 0] ![1, 256, 512] inb_S8x256x512_S1x256x512_3_0_0))
      (View.ld u (Rect.unit ![4, 0, 0] ![1, 256, 512] inb_S8x256x512_S1x256x512_4_0_0))
      (View.ld u (Rect.unit ![5, 0, 0] ![1, 256, 512] inb_S8x256x512_S1x256x512_5_0_0))
      (View.ld u (Rect.unit ![6, 0, 0] ![1, 256, 512] inb_S8x256x512_S1x256x512_6_0_0))
      (View.ld u (Rect.unit ![7, 0, 0] ![1, 256, 512] inb_S8x256x512_S1x256x512_7_0_0)) i = total (n := 8) (R := 256) (C := 512) u i := by
  unfold k0_pay9 total
  pointwise
  exact (Fin.sum_univ_eight (M := EReal) fun k : Fin 8 => u (ix3 k (i 0) (i 1))).symm

section
variable (m : (ℓ : Loc nD τ sig) → Buf (Elt Ideal) ℓ) (c : Dev nD)

theorem sumA (t : Fin cfg0.N) (h0 : t.val < 4) (y : S256x512.Idx) (e : S2x1024x512.Idx) (e0 : (e 0).val = 0)
    (e1 : (e 1).val = t.val * 256 + (y 0).val) (e2 : (e 2).val = (y 1).val) : total (n := 4) (R := 256) (C := 512) (iblk m c 3 t) y
      = total2 (n := 4) (n' := 8) (R := 1024) (C := 512) (m (c, Proc.devRef .tc main_arg3)) (m (c, Proc.devRef .tc main_arg4)) e := by
  refine Eq.trans (Finset.sum_congr rfl fun k _ => ?_) (if_pos e0).symm
  blk_ext [iblk, V, idxA t h0, e1, e2]
theorem sumB (t : Fin cfg0.N) (h0 : 4 ≤ t.val) (y : S256x512.Idx) (e : S2x1024x512.Idx) (e0 : (e 0).val = 1)
    (e1 : (e 1).val = (t.val - 4) * 256 + (y 0).val) (e2 : (e 2).val = (y 1).val) : total (n := 8) (R := 256) (C := 512) (iblk m c 4 t) y
      = total2 (n := 4) (n' := 8) (R := 1024) (C := 512) (m (c, Proc.devRef .tc main_arg3)) (m (c, Proc.devRef .tc main_arg4)) e := by
  refine Eq.trans (Finset.sum_congr rfl fun k _ => ?_) (if_neg (by rw [e0]; decide)).symm
  blk_ext [iblk, V, idxB t h0, e1, e2]
end

set_option maxHeartbeats 3200000 in
theorem final (m : (ℓ : Loc nD τ sig) → Buf (Elt Ideal) ℓ) (c : Dev nD) (w a b : Lay 1024 512) (s : Slots 4 1024 512) (s' : Slots 8 1024 512)
    (hw : m (c, Proc.devRef .tc main_arg0) = w) (ha : m (c, Proc.devRef .tc main_arg1) = a) (hb : m (c, Proc.devRef .tc main_arg2) = b)
    (hs : m (c, Proc.devRef .tc main_arg3) = s) (hs' : m (c, Proc.devRef .tc main_arg4) = s') :
    (dats m 0 c).arrAt 5 cfg0.N = total2 s s'
      ∧ (dats m 0 c).arrAt 6 cfg0.N = (fun i => delta (w i) (a i) (b i) (total2 s s' i))
      ∧ (dats m 0 c).arrAt 7 cfg0.N = (fun i => mom (a i) (total2 s s' i))
      ∧ (dats m 0 c).arrAt 8 cfg0.N = fun i => vel (b i) (total2 s s' i) := by
  subst hw ha hb hs hs'
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;> by_cases h0 : t.val < 4
  · have h := idxA t h0
    blk_simp [h]
    have hN : t.val < 8 := t.isLt
    rw [after0_5, outsAt0_A m c t (by omega) (by omega)]
    frame_out
    unfold k0_pay8
    pointwise
    refine (g_atA _ _).trans (sumA m c t h0 _ _ ?_ ?_ ?_) <;> blk_simp [h]
  · have h := idxB t (by omega)
    blk_simp [h]
    have hN : t.val < 8 := t.isLt
    rw [after0_5, outsAt0_B m c t (by omega) (by omega)]
    frame_out
    unfold k0_pay13
    pointwise
    refine (g_atB _ _).trans (sumB m c t (by omega) _ _ ?_ ?_ ?_) <;> blk_simp [h]
  · have h := idxA t h0
    blk_simp [h]
    have hN : t.val < 8 := t.isLt
    rw [after0_6, outsAt0_A m c t (by omega) (by omega)]
    frame_out
    unfold k0_pay3 k0_pay6 k0_pay7
    pointwise
    refine delta_congr ?_ ?_ ?_ ((g_atA _ _).trans (sumA m c t h0 _ _ ?_ ?_ ?_)) <;> blk_ext [iblk, V, h]
  · have h := idxB t (by omega)
    blk_simp [h]
    have hN : t.val < 8 := t.isLt
    rw [after0_6, outsAt0_B m c t (by omega) (by omega)]
    frame_out
    unfold k0_pay4 k0_pay16 k0_pay17 k0_pay11 k0_pay12 k0_pay10
    pointwise
    refine delta_congr ?_ ?_ ?_ ((g_atB _ _).trans (sumB m c t (by omega) _ _ ?_ ?_ ?_)) <;> blk_ext [iblk, V, h]
  · have h := idxA t h0
    blk_simp [h]
    have hN : t.val < 8 := t.isLt
    rw [after0_7, outsAt0_A m c t (by omega) (by omega)]
    frame_out
    unfold k0_pay1 k0_pay6
    pointwise
    refine congrArg₂ mom ?_ ((g_atA _ _).trans (sumA m c t h0 _ _ ?_ ?_ ?_)) <;> blk_ext [iblk, V, h]
  · have h := idxB t (by omega)
    blk_simp [h]
    have hN : t.val < 8 := t.isLt
    rw [after0_7, outsAt0_B m c t (by omega) (by omega)]
    frame_out
    unfold k0_pay14 k0_pay11 k0_pay10
    pointwise
    refine congrArg₂ mom ?_ ((g_atB _ _).trans (sumB m c t (by omega) _ _ ?_ ?_ ?_)) <;> blk_ext [iblk, V, h]
  · have h := idxA t h0
    blk_simp [h]
    have hN : t.val < 8 := t.isLt
    rw [after0_8, outsAt0_A m c t (by omega) (by omega)]
    frame_out
    unfold k0_pay2 k0_pay7
    pointwise
    refine congrArg₂ vel ?_ ((g_atA _ _).trans (sumA m c t h0 _ _ ?_ ?_ ?_)) <;> blk_ext [iblk, V, h]
  · have h := idxB t (by omega)
    blk_simp [h]
    have hN : t.val < 8 := t.isLt
    rw [after0_8, outsAt0_B m c t (by omega) (by omega)]
    frame_out
    unfold k0_pay15 k0_pay12
    pointwise
    refine congrArg₂ vel ?_ ((g_atB _ _).trans (sumB m c t (by omega) _ _ ?_ ?_ ?_)) <;> blk_ext [iblk, V, h]

open Cert.Reference21Ideal.Read in
theorem ref (w a b : Lay 1024 512) (s : Slots 4 1024 512) (s' : Slots 8 1024 512) : val_main_v6 (F := Ideal) s s' = total2 s s'
    ∧ val_main_v30 (F := Ideal) w a b s s' = (fun i => delta (w i) (a i) (b i) (total2 s s' i))
    ∧ val_main_v11 (F := Ideal) a s s' = (fun i => mom (a i) (total2 s s' i))
    ∧ val_main_v17 (F := Ideal) b s s' = fun i => vel (b i) (total2 s s' i) := by
  have h : val_main_v6 (F := Ideal) s s' = total2 s s' := by
    funext i
    unfold val_main_v6 val_main_v5 val_main_v4 val_main_v3 val_main_v2 val_main_v1 val_main_v0 total2
    pointwise
    by_cases h : (i 0).val < 1
    · simp only [dif_pos h, if_pos (Nat.lt_one_iff.mp h)]
      exact (congrArg (· + _) Ideal.ofBits_zero_f32).trans (zero_add _)
    · simp only [dif_neg h, if_neg fun e => h (Nat.lt_one_iff.mpr e)]
      exact (congrArg (· + _) Ideal.ofBits_zero_f32).trans (zero_add _)
  rw [← h]
  exact ⟨rfl, rfl, rfl, rfl⟩

open Cert.Reference21Ideal.Read in
theorem algebraic : Cert.algebraic_Kernel21Ideal_Reference21Ideal := by
  intro m g m' g' _ hag
  refine four (Cert.Kernel21Ideal.Value.run_blocks m g) (Cert.Reference21Ideal.Value.run (F := Ideal) m' g') fun c => ?_
  obtain ⟨h0, h1, h2, h3, h4⟩ := hag c
  obtain ⟨k4, k5, k6, k7⟩ := final m c _ _ _ _ _ h0.symm h1.symm h2.symm h3.symm h4.symm
  obtain ⟨r4, r5, r6, r7⟩ := ref _ _ _ _ _
  exact ⟨k4.trans ((val_main_v6_eq _ _).trans r4).symm, k5.trans ((val_main_v30_eq _ _ _ _ _).trans r5).symm,
    k6.trans ((val_main_v11_eq _ _ _).trans r6).symm, k7.trans ((val_main_v17_eq _ _ _).trans r7).symm⟩

end Cert.Adam.A21

namespace Cert.Adam.A22

open Cert.Kernel22Ideal Cert.Kernel22Ideal.Gen

theorem idxA : ∀ t : Fin cfg0.N, t.val < 4 → (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = 0 ∧ win0_7.index t 1 = t.val ∧ win0_7.index t 2 = 0)
    ∧ win0_8.index t 0 = 0 ∧ win0_8.index t 1 = t.val ∧ win0_8.index t 2 = 0 := by
  decide +kernel
theorem idxB : ∀ t : Fin cfg0.N, 4 ≤ t.val → (win0_0.index t 0 = 1 ∧ win0_0.index t 1 = t.val - 4 ∧ win0_0.index t 2 = 0)
    ∧ (win0_1.index t 0 = 1 ∧ win0_1.index t 1 = t.val - 4 ∧ win0_1.index t 2 = 0)
    ∧ (win0_2.index t 0 = 1 ∧ win0_2.index t 1 = t.val - 4 ∧ win0_2.index t 2 = 0)
    ∧ (win0_4.index t 0 = 0 ∧ win0_4.index t 1 = t.val - 4 ∧ win0_4.index t 2 = 0)
    ∧ (win0_5.index t 0 = 1 ∧ win0_5.index t 1 = t.val - 4 ∧ win0_5.index t 2 = 0)
    ∧ (win0_6.index t 0 = 1 ∧ win0_6.index t 1 = t.val - 4 ∧ win0_6.index t 2 = 0)
    ∧ (win0_7.index t 0 = 1 ∧ win0_7.index t 1 = t.val - 4 ∧ win0_7.index t 2 = 0)
    ∧ win0_8.index t 0 = 1 ∧ win0_8.index t 1 = t.val - 4 ∧ win0_8.index t 2 = 0 := by
  decide +kernel

theorem g_atA (u : Vec Ideal S4x128x1024 .bf16) (i : S128x1024.Idx) :
    k0_pay5 (F := Ideal) (View.ld u (Rect.unit ![0, 0, 0] ![1, 128, 1024] inb_S4x128x1024_S1x128x1024_0_0_0))
      (View.ld u (Rect.unit ![1, 0, 0] ![1, 128, 1024] inb_S4x128x1024_S1x128x1024_1_0_0))
      (View.ld u (Rect.unit ![2, 0, 0] ![1, 128, 1024] inb_S4x128x1024_S1x128x1024_2_0_0))
      (View.ld u (Rect.unit ![3, 0, 0] ![1, 128, 1024] inb_S4x128x1024_S1x128x1024_3_0_0)) i = total (n := 4) (R := 128) (C := 1024) u i := by
  unfold k0_pay5 total
  pointwise
  exact (Fin.sum_univ_four (M := EReal) fun k : Fin 4 => u (ix3 k (i 0) (i 1))).symm
theorem g_atB (u : Vec Ideal S8x128x1024 .bf16) (i : S128x1024.Idx) :
    k0_pay9 (F := Ideal) (View.ld u (Rect.unit ![0, 0, 0] ![1, 128, 1024] inb_S8x128x1024_S1x128x1024_0_0_0))
      (View.ld u (Rect.unit ![1, 0, 0] ![1, 128, 1024] inb_S8x128x1024_S1x128x1024_1_0_0))
      (View.ld u (Rect.unit ![2, 0, 0] ![1, 128, 1024] inb_S8x128x1024_S1x128x1024_2_0_0))
      (View.ld u (Rect.unit ![3, 0, 0] ![1, 128, 1024] inb_S8x128x1024_S1x128x1024_3_0_0))
      (View.ld u (Rect.unit ![4, 0, 0] ![1, 128, 1024] inb_S8x128x1024_S1x128x1024_4_0_0))
      (View.ld u (Rect.unit ![5, 0, 0] ![1, 128, 1024] inb_S8x128x1024_S1x128x1024_5_0_0))
      (View.ld u (Rect.unit ![6, 0, 0] ![1, 128, 1024] inb_S8x128x1024_S1x128x1024_6_0_0))
      (View.ld u (Rect.unit ![7, 0, 0] ![1, 128, 1024] inb_S8x128x1024_S1x128x1024_7_0_0)) i = total (n := 8) (R := 128) (C := 1024) u i := by
  unfold k0_pay9 total
  pointwise
  exact (Fin.sum_univ_eight (M := EReal) fun k : Fin 8 => u (ix3 k (i 0) (i 1))).symm

section
variable (m : (ℓ : Loc nD τ sig) → Buf (Elt Ideal) ℓ) (c : Dev nD)

theorem sumA (t : Fin cfg0.N) (h0 : t.val < 4) (y : S128x1024.Idx) (e : S2x512x1024.Idx) (e0 : (e 0).val = 0)
    (e1 : (e 1).val = t.val * 128 + (y 0).val) (e2 : (e 2).val = (y 1).val) : total (n := 4) (R := 128) (C := 1024) (iblk m c 3 t) y
      = total2 (n := 4) (n' := 8) (R := 512) (C := 1024) (m (c, Proc.devRef .tc main_arg3)) (m (c, Proc.devRef .tc main_arg4)) e := by
  refine Eq.trans (Finset.sum_congr rfl fun k _ => ?_) (if_pos e0).symm
  blk_ext [iblk, V, idxA t h0, e1, e2]
theorem sumB (t : Fin cfg0.N) (h0 : 4 ≤ t.val) (y : S128x1024.Idx) (e : S2x512x1024.Idx) (e0 : (e 0).val = 1)
    (e1 : (e 1).val = (t.val - 4) * 128 + (y 0).val) (e2 : (e 2).val = (y 1).val) : total (n := 8) (R := 128) (C := 1024) (iblk m c 4 t) y
      = total2 (n := 4) (n' := 8) (R := 512) (C := 1024) (m (c, Proc.devRef .tc main_arg3)) (m (c, Proc.devRef .tc main_arg4)) e := by
  refine Eq.trans (Finset.sum_congr rfl fun k _ => ?_) (if_neg (by rw [e0]; decide)).symm
  blk_ext [iblk, V, idxB t h0, e1, e2]
end

set_option maxHeartbeats 3200000 in
theorem final (m : (ℓ : Loc nD τ sig) → Buf (Elt Ideal) ℓ) (c : Dev nD) (w a b : Lay 512 1024) (s : Slots 4 512 1024) (s' : Slots 8 512 1024)
    (hw : m (c, Proc.devRef .tc main_arg0) = w) (ha : m (c, Proc.devRef .tc main_arg1) = a) (hb : m (c, Proc.devRef .tc main_arg2) = b)
    (hs : m (c, Proc.devRef .tc main_arg3) = s) (hs' : m (c, Proc.devRef .tc main_arg4) = s') :
    (dats m 0 c).arrAt 5 cfg0.N = total2 s s'
      ∧ (dats m 0 c).arrAt 6 cfg0.N = (fun i => delta (w i) (a i) (b i) (total2 s s' i))
      ∧ (dats m 0 c).arrAt 7 cfg0.N = (fun i => mom (a i) (total2 s s' i))
      ∧ (dats m 0 c).arrAt 8 cfg0.N = fun i => vel (b i) (total2 s s' i) := by
  subst hw ha hb hs hs'
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;> by_cases h0 : t.val < 4
  · have h := idxA t h0
    blk_simp [h]
    have hN : t.val < 8 := t.isLt
    rw [after0_5, outsAt0_A m c t (by omega) (by omega)]
    frame_out
    unfold k0_pay8
    pointwise
    refine (g_atA _ _).trans (sumA m c t h0 _ _ ?_ ?_ ?_) <;> blk_simp [h]
  · have h := idxB t (by omega)
    blk_simp [h]
    have hN : t.val < 8 := t.isLt
    rw [after0_5, outsAt0_B m c t (by omega) (by omega)]
    frame_out
    unfold k0_pay13
    pointwise
    refine (g_atB _ _).trans (sumB m c t (by omega) _ _ ?_ ?_ ?_) <;> blk_simp [h]
  · have h := idxA t h0
    blk_simp [h]
    have hN : t.val < 8 := t.isLt
    rw [after0_6, outsAt0_A m c t (by omega) (by omega)]
    frame_out
    unfold k0_pay3 k0_pay6 k0_pay7
    pointwise
    refine delta_congr ?_ ?_ ?_ ((g_atA _ _).trans (sumA m c t h0 _ _ ?_ ?_ ?_)) <;> blk_ext [iblk, V, h]
  · have h := idxB t (by omega)
    blk_simp [h]
    have hN : t.val < 8 := t.isLt
    rw [after0_6, outsAt0_B m c t (by omega) (by omega)]
    frame_out
    unfold k0_pay4 k0_pay16 k0_pay17 k0_pay11 k0_pay12 k0_pay10
    pointwise
    refine delta_congr ?_ ?_ ?_ ((g_atB _ _).trans (sumB m c t (by omega) _ _ ?_ ?_ ?_)) <;> blk_ext [iblk, V, h]
  · have h := idxA t h0
    blk_simp [h]
    have hN : t.val < 8 := t.isLt
    rw [after0_7, outsAt0_A m c t (by omega) (by omega)]
    frame_out
    unfold k0_pay1 k0_pay6
    pointwise
    refine congrArg₂ mom ?_ ((g_atA _ _).trans (sumA m c t h0 _ _ ?_ ?_ ?_)) <;> blk_ext [iblk, V, h]
  · have h := idxB t (by omega)
    blk_simp [h]
    have hN : t.val < 8 := t.isLt
    rw [after0_7, outsAt0_B m c t (by omega) (by omega)]
    frame_out
    unfold k0_pay14 k0_pay11 k0_pay10
    pointwise
    refine congrArg₂ mom ?_ ((g_atB _ _).trans (sumB m c t (by omega) _ _ ?_ ?_ ?_)) <;> blk_ext [iblk, V, h]
  · have h := idxA t h0
    blk_simp [h]
    have hN : t.val < 8 := t.isLt
    rw [after0_8, outsAt0_A m c t (by omega) (by omega)]
    frame_out
    unfold k0_pay2 k0_pay7
    pointwise
    refine congrArg₂ vel ?_ ((g_atA _ _).trans (sumA m c t h0 _ _ ?_ ?_ ?_)) <;> blk_ext [iblk, V, h]
  · have h := idxB t (by omega)
    blk_simp [h]
    have hN : t.val < 8 := t.isLt
    rw [after0_8, outsAt0_B m c t (by omega) (by omega)]
    frame_out
    unfold k0_pay15 k0_pay12
    pointwise
    refine congrArg₂ vel ?_ ((g_atB _ _).trans (sumB m c t (by omega) _ _ ?_ ?_ ?_)) <;> blk_ext [iblk, V, h]

open Cert.Reference22Ideal.Read in
theorem ref (w a b : Lay 512 1024) (s : Slots 4 512 1024) (s' : Slots 8 512 1024) : val_main_v6 (F := Ideal) s s' = total2 s s'
    ∧ val_main_v30 (F := Ideal) w a b s s' = (fun i => delta (w i) (a i) (b i) (total2 s s' i))
    ∧ val_main_v11 (F := Ideal) a s s' = (fun i => mom (a i) (total2 s s' i))
    ∧ val_main_v17 (F := Ideal) b s s' = fun i => vel (b i) (total2 s s' i) := by
  have h : val_main_v6 (F := Ideal) s s' = total2 s s' := by
    funext i
    unfold val_main_v6 val_main_v5 val_main_v4 val_main_v3 val_main_v2 val_main_v1 val_main_v0 total2
    pointwise
    by_cases h : (i 0).val < 1
    · simp only [dif_pos h, if_pos (Nat.lt_one_iff.mp h)]
      exact (congrArg (· + _) Ideal.ofBits_zero_f32).trans (zero_add _)
    · simp only [dif_neg h, if_neg fun e => h (Nat.lt_one_iff.mpr e)]
      exact (congrArg (· + _) Ideal.ofBits_zero_f32).trans (zero_add _)
  rw [← h]
  exact ⟨rfl, rfl, rfl, rfl⟩

open Cert.Reference22Ideal.Read in
theorem algebraic : Cert.algebraic_Kernel22Ideal_Reference22Ideal := by
  intro m g m' g' _ hag
  refine four (Cert.Kernel22Ideal.Value.run_blocks m g) (Cert.Reference22Ideal.Value.run (F := Ideal) m' g') fun c => ?_
  obtain ⟨h0, h1, h2, h3, h4⟩ := hag c
  obtain ⟨k4, k5, k6, k7⟩ := final m c _ _ _ _ _ h0.symm h1.symm h2.symm h3.symm h4.symm
  obtain ⟨r4, r5, r6, r7⟩ := ref _ _ _ _ _
  exact ⟨k4.trans ((val_main_v6_eq _ _).trans r4).symm, k5.trans ((val_main_v30_eq _ _ _ _ _).trans r5).symm,
    k6.trans ((val_main_v11_eq _ _ _).trans r6).symm, k7.trans ((val_main_v17_eq _ _ _).trans r7).symm⟩

end Cert.Adam.A22

namespace Cert.Adam.A23

open Cert.Kernel23Ideal Cert.Kernel23Ideal.Gen

theorem idxA : ∀ t : Fin cfg0.N, t.val < 1 → (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = 0 ∧ win0_7.index t 1 = t.val ∧ win0_7.index t 2 = 0)
    ∧ win0_8.index t 0 = 0 ∧ win0_8.index t 1 = t.val ∧ win0_8.index t 2 = 0 := by
  decide +kernel
theorem idxB : ∀ t : Fin cfg0.N, 1 ≤ t.val → (win0_0.index t 0 = 1 ∧ win0_0.index t 1 = t.val - 1 ∧ win0_0.index t 2 = 0)
    ∧ (win0_1.index t 0 = 1 ∧ win0_1.index t 1 = t.val - 1 ∧ win0_1.index t 2 = 0)
    ∧ (win0_2.index t 0 = 1 ∧ win0_2.index t 1 = t.val - 1 ∧ win0_2.index t 2 = 0)
    ∧ (win0_4.index t 0 = 0 ∧ win0_4.index t 1 = t.val - 1 ∧ win0_4.index t 2 = 0)
    ∧ (win0_5.index t 0 = 1 ∧ win0_5.index t 1 = t.val - 1 ∧ win0_5.index t 2 = 0)
    ∧ (win0_6.index t 0 = 1 ∧ win0_6.index t 1 = t.val - 1 ∧ win0_6.index t 2 = 0)
    ∧ (win0_7.index t 0 = 1 ∧ win0_7.index t 1 = t.val - 1 ∧ win0_7.index t 2 = 0)
    ∧ win0_8.index t 0 = 1 ∧ win0_8.index t 1 = t.val - 1 ∧ win0_8.index t 2 = 0 := by
  decide +kernel

theorem g_at (u : Vec Ideal S8x128x1024 .bf16) (i : S128x1024.Idx) :
    k0_pay3 (F := Ideal) (View.ld u (Rect.unit ![0, 0, 0] ![1, 128, 1024] inb_S8x128x1024_S1x128x1024_0_0_0))
      (View.ld u (Rect.unit ![1, 0, 0] ![1, 128, 1024] inb_S8x128x1024_S1x128x1024_1_0_0))
      (View.ld u (Rect.unit ![2, 0, 0] ![1, 128, 1024] inb_S8x128x1024_S1x128x1024_2_0_0))
      (View.ld u (Rect.unit ![3, 0, 0] ![1, 128, 1024] inb_S8x128x1024_S1x128x1024_3_0_0))
      (View.ld u (Rect.unit ![4, 0, 0] ![1, 128, 1024] inb_S8x128x1024_S1x128x1024_4_0_0))
      (View.ld u (Rect.unit ![5, 0, 0] ![1, 128, 1024] inb_S8x128x1024_S1x128x1024_5_0_0))
      (View.ld u (Rect.unit ![6, 0, 0] ![1, 128, 1024] inb_S8x128x1024_S1x128x1024_6_0_0))
      (View.ld u (Rect.unit ![7, 0, 0] ![1, 128, 1024] inb_S8x128x1024_S1x128x1024_7_0_0)) i = total (n := 8) (R := 128) (C := 1024) u i := by
  unfold k0_pay3 total
  pointwise
  exact (Fin.sum_univ_eight (M := EReal) fun k : Fin 8 => u (ix3 k (i 0) (i 1))).symm

section
variable (m : (ℓ : Loc nD τ sig) → Buf (Elt Ideal) ℓ) (c : Dev nD)

theorem sumA (t : Fin cfg0.N) (h0 : t.val < 1) (y : S128x1024.Idx) (e : S2x128x1024.Idx) (e0 : (e 0).val = 0)
    (e1 : (e 1).val = t.val * 128 + (y 0).val) (e2 : (e 2).val = (y 1).val) : total (n := 8) (R := 128) (C := 1024) (iblk m c 3 t) y
      = total2 (n := 8) (n' := 8) (R := 128) (C := 1024) (m (c, Proc.devRef .tc main_arg3)) (m (c, Proc.devRef .tc main_arg4)) e := by
  refine Eq.trans (Finset.sum_congr rfl fun k _ => ?_) (if_pos e0).symm
  blk_ext [iblk, V, idxA t h0, e1, e2]
theorem sumB (t : Fin cfg0.N) (h0 : 1 ≤ t.val) (y : S128x1024.Idx) (e : S2x128x1024.Idx) (e0 : (e 0).val = 1)
    (e1 : (e 1).val = (t.val - 1) * 128 + (y 0).val) (e2 : (e 2).val = (y 1).val) : total (n := 8) (R := 128) (C := 1024) (iblk m c 4 t) y
      = total2 (n := 8) (n' := 8) (R := 128) (C := 1024) (m (c, Proc.devRef .tc main_arg3)) (m (c, Proc.devRef .tc main_arg4)) e := by
  refine Eq.trans (Finset.sum_congr rfl fun k _ => ?_) (if_neg (by rw [e0]; decide)).symm
  blk_ext [iblk, V, idxB t h0, e1, e2]
end

set_option maxHeartbeats 3200000 in
theorem final (m : (ℓ : Loc nD τ sig) → Buf (Elt Ideal) ℓ) (c : Dev nD) (w a b : Lay 128 1024) (s s' : Slots 8 128 1024)
    (hw : m (c, Proc.devRef .tc main_arg0) = w) (ha : m (c, Proc.devRef .tc main_arg1) = a) (hb : m (c, Proc.devRef .tc main_arg2) = b)
    (hs : m (c, Proc.devRef .tc main_arg3) = s) (hs' : m (c, Proc.devRef .tc main_arg4) = s') :
    (dats m 0 c).arrAt 5 cfg0.N = total2 s s'
      ∧ (dats m 0 c).arrAt 6 cfg0.N = (fun i => delta (w i) (a i) (b i) (total2 s s' i))
      ∧ (dats m 0 c).arrAt 7 cfg0.N = (fun i => mom (a i) (total2 s s' i))
      ∧ (dats m 0 c).arrAt 8 cfg0.N = fun i => vel (b i) (total2 s s' i) := by
  subst hw ha hb hs hs'
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;> by_cases h0 : t.val < 1
  · have h := idxA t h0
    blk_simp [h]
    have hN : t.val < 2 := t.isLt
    rw [after0_5, outsAt0_A m c t (by omega) (by omega)]
    frame_out
    unfold k0_pay7
    pointwise
    refine (g_at _ _).trans (sumA m c t h0 _ _ ?_ ?_ ?_) <;> blk_simp [h]
  · have h := idxB t (by omega)
    blk_simp [h]
    have hN : t.val < 2 := t.isLt
    rw [after0_5, outsAt0_B m c t (by omega) (by omega)]
    frame_out
    unfold k0_pay16
    pointwise
    refine (g_at _ _).trans (sumB m c t (by omega) _ _ ?_ ?_ ?_) <;> blk_simp [h]
  · have h := idxA t h0
    blk_simp [h]
    have hN : t.val < 2 := t.isLt
    rw [after0_6, outsAt0_A m c t (by omega) (by omega)]
    frame_out
    unfold k0_pay1 k0_pay10 k0_pay11 k0_pay5 k0_pay6 k0_pay4
    pointwise
    refine delta_congr ?_ ?_ ?_ ((g_at _ _).trans (sumA m c t h0 _ _ ?_ ?_ ?_)) <;> blk_ext [iblk, V, h]
  · have h := idxB t (by omega)
    blk_simp [h]
    have hN : t.val < 2 := t.isLt
    rw [after0_6, outsAt0_B m c t (by omega) (by omega)]
    frame_out
    unfold k0_pay2 k0_pay19 k0_pay20 k0_pay14 k0_pay15 k0_pay13
    pointwise
    refine delta_congr ?_ ?_ ?_ ((g_at _ _).trans (sumB m c t (by omega) _ _ ?_ ?_ ?_)) <;> blk_ext [iblk, V, h]
  · have h := idxA t h0
    blk_simp [h]
    have hN : t.val < 2 := t.isLt
    rw [after0_7, outsAt0_A m c t (by omega) (by omega)]
    frame_out
    unfold k0_pay8 k0_pay5 k0_pay4
    pointwise
    refine congrArg₂ mom ?_ ((g_at _ _).trans (sumA m c t h0 _ _ ?_ ?_ ?_)) <;> blk_ext [iblk, V, h]
  · have h := idxB t (by omega)
    blk_simp [h]
    have hN : t.val < 2 := t.isLt
    rw [after0_7, outsAt0_B m c t (by omega) (by omega)]
    frame_out
    unfold k0_pay17 k0_pay14 k0_pay13
    pointwise
    refine congrArg₂ mom ?_ ((g_at _ _).trans (sumB m c t (by omega) _ _ ?_ ?_ ?_)) <;> blk_ext [iblk, V, h]
  · have h := idxA t h0
    blk_simp [h]
    have hN : t.val < 2 := t.isLt
    rw [after0_8, outsAt0_A m c t (by omega) (by omega)]
    frame_out
    unfold k0_pay9 k0_pay6
    pointwise
    refine congrArg₂ vel ?_ ((g_at _ _).trans (sumA m c t h0 _ _ ?_ ?_ ?_)) <;> blk_ext [iblk, V, h]
  · have h := idxB t (by omega)
    blk_simp [h]
    have hN : t.val < 2 := t.isLt
    rw [after0_8, outsAt0_B m c t (by omega) (by omega)]
    frame_out
    unfold k0_pay18 k0_pay15
    pointwise
    refine congrArg₂ vel ?_ ((g_at _ _).trans (sumB m c t (by omega) _ _ ?_ ?_ ?_)) <;> blk_ext [iblk, V, h]

open Cert.Reference23Ideal.Read in
theorem ref (w a b : Lay 128 1024) (s s' : Slots 8 128 1024) : val_main_v6 (F := Ideal) s s' = total2 s s'
    ∧ val_main_v30 (F := Ideal) w a b s s' = (fun i => delta (w i) (a i) (b i) (total2 s s' i))
    ∧ val_main_v11 (F := Ideal) a s s' = (fun i => mom (a i) (total2 s s' i))
    ∧ val_main_v17 (F := Ideal) b s s' = fun i => vel (b i) (total2 s s' i) := by
  have h : val_main_v6 (F := Ideal) s s' = total2 s s' := by
    funext i
    unfold val_main_v6 val_main_v5 val_main_v4 val_main_v3 val_main_v2 val_main_v1 val_main_v0 total2
    pointwise
    by_cases h : (i 0).val < 1
    · simp only [dif_pos h, if_pos (Nat.lt_one_iff.mp h)]
      exact (congrArg (· + _) Ideal.ofBits_zero_f32).trans (zero_add _)
    · simp only [dif_neg h, if_neg fun e => h (Nat.lt_one_iff.mpr e)]
      exact (congrArg (· + _) Ideal.ofBits_zero_f32).trans (zero_add _)
  rw [← h]
  exact ⟨rfl, rfl, rfl, rfl⟩

open Cert.Reference23Ideal.Read in
theorem algebraic : Cert.algebraic_Kernel23Ideal_Reference23Ideal := by
  intro m g m' g' _ hag
  refine four (Cert.Kernel23Ideal.Value.run_blocks m g) (Cert.Reference23Ideal.Value.run (F := Ideal) m' g') fun c => ?_
  obtain ⟨h0, h1, h2, h3, h4⟩ := hag c
  obtain ⟨k4, k5, k6, k7⟩ := final m c _ _ _ _ _ h0.symm h1.symm h2.symm h3.symm h4.symm
  obtain ⟨r4, r5, r6, r7⟩ := ref _ _ _ _ _
  exact ⟨k4.trans ((val_main_v6_eq _ _).trans r4).symm, k5.trans ((val_main_v30_eq _ _ _ _ _).trans r5).symm,
    k6.trans ((val_main_v11_eq _ _ _).trans r6).symm, k7.trans ((val_main_v17_eq _ _ _).trans r7).symm⟩

end Cert.Adam.A23

namespace Cert.Adam.A24

open Cert.Kernel24Ideal Cert.Kernel24Ideal.Gen

theorem idxA : ∀ t : Fin cfg0.N, t.val < 1 → (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = 0 ∧ win0_7.index t 1 = t.val ∧ win0_7.index t 2 = 0)
    ∧ win0_8.index t 0 = 0 ∧ win0_8.index t 1 = t.val ∧ win0_8.index t 2 = 0 := by
  decide +kernel
theorem idxB : ∀ t : Fin cfg0.N, 1 ≤ t.val → (win0_0.index t 0 = 1 ∧ win0_0.index t 1 = t.val - 1 ∧ win0_0.index t 2 = 0)
    ∧ (win0_1.index t 0 = 1 ∧ win0_1.index t 1 = t.val - 1 ∧ win0_1.index t 2 = 0)
    ∧ (win0_2.index t 0 = 1 ∧ win0_2.index t 1 = t.val - 1 ∧ win0_2.index t 2 = 0)
    ∧ (win0_4.index t 0 = 0 ∧ win0_4.index t 1 = t.val - 1 ∧ win0_4.index t 2 = 0)
    ∧ (win0_5.index t 0 = 1 ∧ win0_5.index t 1 = t.val - 1 ∧ win0_5.index t 2 = 0)
    ∧ (win0_6.index t 0 = 1 ∧ win0_6.index t 1 = t.val - 1 ∧ win0_6.index t 2 = 0)
    ∧ (win0_7.index t 0 = 1 ∧ win0_7.index t 1 = t.val - 1 ∧ win0_7.index t 2 = 0)
    ∧ win0_8.index t 0 = 1 ∧ win0_8.index t 1 = t.val - 1 ∧ win0_8.index t 2 = 0 := by
  decide +kernel

theorem g_at (u : Vec Ideal S8x256x128 .bf16) (i : S256x128.Idx) :
    k0_pay3 (F := Ideal) (View.ld u (Rect.unit ![0, 0, 0] ![1, 256, 128] inb_S8x256x128_S1x256x128_0_0_0))
      (View.ld u (Rect.unit ![1, 0, 0] ![1, 256, 128] inb_S8x256x128_S1x256x128_1_0_0))
      (View.ld u (Rect.unit ![2, 0, 0] ![1, 256, 128] inb_S8x256x128_S1x256x128_2_0_0))
      (View.ld u (Rect.unit ![3, 0, 0] ![1, 256, 128] inb_S8x256x128_S1x256x128_3_0_0))
      (View.ld u (Rect.unit ![4, 0, 0] ![1, 256, 128] inb_S8x256x128_S1x256x128_4_0_0))
      (View.ld u (Rect.unit ![5, 0, 0] ![1, 256, 128] inb_S8x256x128_S1x256x128_5_0_0))
      (View.ld u (Rect.unit ![6, 0, 0] ![1, 256, 128] inb_S8x256x128_S1x256x128_6_0_0))
      (View.ld u (Rect.unit ![7, 0, 0] ![1, 256, 128] inb_S8x256x128_S1x256x128_7_0_0)) i = total (n := 8) (R := 256) (C := 128) u i := by
  unfold k0_pay3 total
  pointwise
  exact (Fin.sum_univ_eight (M := EReal) fun k : Fin 8 => u (ix3 k (i 0) (i 1))).symm

section
variable (m : (ℓ : Loc nD τ sig) → Buf (Elt Ideal) ℓ) (c : Dev nD)

theorem sumA (t : Fin cfg0.N) (h0 : t.val < 1) (y : S256x128.Idx) (e : S2x256x128.Idx) (e0 : (e 0).val = 0)
    (e1 : (e 1).val = t.val * 256 + (y 0).val) (e2 : (e 2).val = (y 1).val) : total (n := 8) (R := 256) (C := 128) (iblk m c 3 t) y
      = total2 (n := 8) (n' := 8) (R := 256) (C := 128) (m (c, Proc.devRef .tc main_arg3)) (m (c, Proc.devRef .tc main_arg4)) e := by
  refine Eq.trans (Finset.sum_congr rfl fun k _ => ?_) (if_pos e0).symm
  blk_ext [iblk, V, idxA t h0, e1, e2]
theorem sumB (t : Fin cfg0.N) (h0 : 1 ≤ t.val) (y : S256x128.Idx) (e : S2x256x128.Idx) (e0 : (e 0).val = 1)
    (e1 : (e 1).val = (t.val - 1) * 256 + (y 0).val) (e2 : (e 2).val = (y 1).val) : total (n := 8) (R := 256) (C := 128) (iblk m c 4 t) y
      = total2 (n := 8) (n' := 8) (R := 256) (C := 128) (m (c, Proc.devRef .tc main_arg3)) (m (c, Proc.devRef .tc main_arg4)) e := by
  refine Eq.trans (Finset.sum_congr rfl fun k _ => ?_) (if_neg (by rw [e0]; decide)).symm
  blk_ext [iblk, V, idxB t h0, e1, e2]
end

set_option maxHeartbeats 3200000 in
theorem final (m : (ℓ : Loc nD τ sig) → Buf (Elt Ideal) ℓ) (c : Dev nD) (w a b : Lay 256 128) (s s' : Slots 8 256 128)
    (hw : m (c, Proc.devRef .tc main_arg0) = w) (ha : m (c, Proc.devRef .tc main_arg1) = a) (hb : m (c, Proc.devRef .tc main_arg2) = b)
    (hs : m (c, Proc.devRef .tc main_arg3) = s) (hs' : m (c, Proc.devRef .tc main_arg4) = s') :
    (dats m 0 c).arrAt 5 cfg0.N = total2 s s'
      ∧ (dats m 0 c).arrAt 6 cfg0.N = (fun i => delta (w i) (a i) (b i) (total2 s s' i))
      ∧ (dats m 0 c).arrAt 7 cfg0.N = (fun i => mom (a i) (total2 s s' i))
      ∧ (dats m 0 c).arrAt 8 cfg0.N = fun i => vel (b i) (total2 s s' i) := by
  subst hw ha hb hs hs'
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_,
    (dats m 0 c).arrAt_eq_of_covers 8 _ (by decide +kernel) fun t hf y => ?_⟩ <;> by_cases h0 : t.val < 1
  · have h := idxA t h0
    blk_simp [h]
    have hN : t.val < 2 := t.isLt
    rw [after0_5, outsAt0_A m c t (by omega) (by omega)]
    frame_out
    unfold k0_pay7
    pointwise
    refine (g_at _ _).trans (sumA m c t h0 _ _ ?_ ?_ ?_) <;> blk_simp [h]
  · have h := idxB t (by omega)
    blk_simp [h]
    have hN : t.val < 2 := t.isLt
    rw [after0_5, outsAt0_B m c t (by omega) (by omega)]
    frame_out
    unfold k0_pay16
    pointwise
    refine (g_at _ _).trans (sumB m c t (by omega) _ _ ?_ ?_ ?_) <;> blk_simp [h]
  · have h := idxA t h0
    blk_simp [h]
    have hN : t.val < 2 := t.isLt
    rw [after0_6, outsAt0_A m c t (by omega) (by omega)]
    frame_out
    unfold k0_pay1 k0_pay10 k0_pay11 k0_pay5 k0_pay6 k0_pay4
    pointwise
    refine delta_congr ?_ ?_ ?_ ((g_at _ _).trans (sumA m c t h0 _ _ ?_ ?_ ?_)) <;> blk_ext [iblk, V, h]
  · have h := idxB t (by omega)
    blk_simp [h]
    have hN : t.val < 2 := t.isLt
    rw [after0_6, outsAt0_B m c t (by omega) (by omega)]
    frame_out
    unfold k0_pay2 k0_pay19 k0_pay20 k0_pay14 k0_pay15 k0_pay13
    pointwise
    refine delta_congr ?_ ?_ ?_ ((g_at _ _).trans (sumB m c t (by omega) _ _ ?_ ?_ ?_)) <;> blk_ext [iblk, V, h]
  · have h := idxA t h0
    blk_simp [h]
    have hN : t.val < 2 := t.isLt
    rw [after0_7, outsAt0_A m c t (by omega) (by omega)]
    frame_out
    unfold k0_pay8 k0_pay5 k0_pay4
    pointwise
    refine congrArg₂ mom ?_ ((g_at _ _).trans (sumA m c t h0 _ _ ?_ ?_ ?_)) <;> blk_ext [iblk, V, h]
  · have h := idxB t (by omega)
    blk_simp [h]
    have hN : t.val < 2 := t.isLt
    rw [after0_7, outsAt0_B m c t (by omega) (by omega)]
    frame_out
    unfold k0_pay17 k0_pay14 k0_pay13
    pointwise
    refine congrArg₂ mom ?_ ((g_at _ _).trans (sumB m c t (by omega) _ _ ?_ ?_ ?_)) <;> blk_ext [iblk, V, h]
  · have h := idxA t h0
    blk_simp [h]
    have hN : t.val < 2 := t.isLt
    rw [after0_8, outsAt0_A m c t (by omega) (by omega)]
    frame_out
    unfold k0_pay9 k0_pay6
    pointwise
    refine congrArg₂ vel ?_ ((g_at _ _).trans (sumA m c t h0 _ _ ?_ ?_ ?_)) <;> blk_ext [iblk, V, h]
  · have h := idxB t (by omega)
    blk_simp [h]
    have hN : t.val < 2 := t.isLt
    rw [after0_8, outsAt0_B m c t (by omega) (by omega)]
    frame_out
    unfold k0_pay18 k0_pay15
    pointwise
    refine congrArg₂ vel ?_ ((g_at _ _).trans (sumB m c t (by omega) _ _ ?_ ?_ ?_)) <;> blk_ext [iblk, V, h]

open Cert.Reference24Ideal.Read in
theorem ref (w a b : Lay 256 128) (s s' : Slots 8 256 128) : val_main_v6 (F := Ideal) s s' = total2 s s'
    ∧ val_main_v30 (F := Ideal) w a b s s' = (fun i => delta (w i) (a i) (b i) (total2 s s' i))
    ∧ val_main_v11 (F := Ideal) a s s' = (fun i => mom (a i) (total2 s s' i))
    ∧ val_main_v17 (F := Ideal) b s s' = fun i => vel (b i) (total2 s s' i) := by
  have h : val_main_v6 (F := Ideal) s s' = total2 s s' := by
    funext i
    unfold val_main_v6 val_main_v5 val_main_v4 val_main_v3 val_main_v2 val_main_v1 val_main_v0 total2
    pointwise
    by_cases h : (i 0).val < 1
    · simp only [dif_pos h, if_pos (Nat.lt_one_iff.mp h)]
      exact (congrArg (· + _) Ideal.ofBits_zero_f32).trans (zero_add _)
    · simp only [dif_neg h, if_neg fun e => h (Nat.lt_one_iff.mpr e)]
      exact (congrArg (· + _) Ideal.ofBits_zero_f32).trans (zero_add _)
  rw [← h]
  exact ⟨rfl, rfl, rfl, rfl⟩

open Cert.Reference24Ideal.Read in
theorem algebraic : Cert.algebraic_Kernel24Ideal_Reference24Ideal := by
  intro m g m' g' _ hag
  refine four (Cert.Kernel24Ideal.Value.run_blocks m g) (Cert.Reference24Ideal.Value.run (F := Ideal) m' g') fun c => ?_
  obtain ⟨h0, h1, h2, h3, h4⟩ := hag c
  obtain ⟨k4, k5, k6, k7⟩ := final m c _ _ _ _ _ h0.symm h1.symm h2.symm h3.symm h4.symm
  obtain ⟨r4, r5, r6, r7⟩ := ref _ _ _ _ _
  exact ⟨k4.trans ((val_main_v6_eq _ _).trans r4).symm, k5.trans ((val_main_v30_eq _ _ _ _ _).trans r5).symm,
    k6.trans ((val_main_v11_eq _ _ _).trans r6).symm, k7.trans ((val_main_v17_eq _ _ _).trans r7).symm⟩

end Cert.Adam.A24

end
-- ==== Proof.AdamFour.lean ====
/- The optimiser's step from four slots, calls 26 and 27. -/
module

public import proofs.«01_k».proof.Proof.Adam
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27Ideal.Value
public import proofs.«01_k».proof.Proof.Gen.Reference27Ideal.Run
public import proofs.«01_k».proof.Proof.Gen.Reference27Ideal.Read
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Adam.A26

open Cert.Kernel26Ideal Cert.Kernel26Ideal.Gen Cert.Kernel26Ideal.Value

theorem ker (w a b : Mat 128 1024) (s : Slots 4 128 1024) : G4 (F := Ideal) w a b s = total s
    ∧ G5 (F := Ideal) w a b s = (fun i => delta (w i) (a i) (b i) (total s i))
    ∧ G6 (F := Ideal) w a b s = (fun i => mom (a i) (total s i))
    ∧ G7 (F := Ideal) w a b s = fun i => vel (b i) (total s i) := by
  have h : G4 (F := Ideal) w a b s = total s := by
    funext i
    unfold G4 k0_pay2
    pointwise
    unfold total
    rw [Fin.sum_univ_four]
  have e (z : Vec Ideal S128x1024 .f32) : View.ld z r0_4 = z := View.ld_unit_zero hz2 _ z
  have h7 : G7 (F := Ideal) w a b s = fun i => vel (b i) (G4 (F := Ideal) w a b s i) := by
    unfold G7 k0_pay5
    rw [e]
    rfl
  have h5 : G5 (F := Ideal) w a b s = fun i => delta (w i) (a i) (b i) (G4 (F := Ideal) w a b s i) := by
    unfold G5
    rw [show k0_pay5 (F := Ideal) w a b s = _ from h7]
    rfl
  rw [← h]
  exact ⟨rfl, h5, rfl, h7⟩

open Cert.Reference26Ideal.Read in
theorem ref (w a b : Mat 128 1024) (s : Slots 4 128 1024) : val_main_v1 (F := Ideal) s = total s
    ∧ val_main_v25 (F := Ideal) w a b s = (fun i => delta (w i) (a i) (b i) (total s i))
    ∧ val_main_v6 (F := Ideal) a s = (fun i => mom (a i) (total s i))
    ∧ val_main_v12 (F := Ideal) b s = fun i => vel (b i) (total s i) := by
  have h : val_main_v1 (F := Ideal) s = total s := by
    funext i
    unfold val_main_v1 val_main_v0
    pointwise
    exact (congrArg (· + _) Ideal.ofBits_zero_f32).trans (zero_add _)
  rw [← h]
  exact ⟨rfl, rfl, rfl, rfl⟩

open Cert.Reference26Ideal.Read in
theorem algebraic : Cert.algebraic_Kernel26Ideal_Reference26Ideal := by
  intro m g m' g' _ hag
  refine four (Cert.Kernel26Ideal.Value.run m g) (Cert.Reference26Ideal.Value.run (F := Ideal) m' g') fun c => ?_
  obtain ⟨h0, h1, h2, h3⟩ := hag c
  rw [← h0, ← h1, ← h2, ← h3]
  obtain ⟨k4, k5, k6, k7⟩ := ker _ _ _ _
  obtain ⟨r4, r5, r6, r7⟩ := ref _ _ _ _
  exact ⟨k4.trans ((val_main_v1_eq _).trans r4).symm, k5.trans ((val_main_v25_eq _ _ _ _).trans r5).symm,
    k6.trans ((val_main_v6_eq _ _).trans r6).symm, k7.trans ((val_main_v12_eq _ _).trans r7).symm⟩

end Cert.Adam.A26

namespace Cert.Adam.A27

open Cert.Kernel27Ideal Cert.Kernel27Ideal.Gen

theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = t.val ∧ win0_3.index t 2 = 0)
    ∧ (win0_4.index t 0 = t.val ∧ win0_4.index t 1 = 0) ∧ (win0_5.index t 0 = t.val ∧ win0_5.index t 1 = 0)
    ∧ (win0_6.index t 0 = t.val ∧ win0_6.index t 1 = 0) ∧ win0_7.index t 0 = t.val ∧ win0_7.index t 1 = 0 := by
  decide +kernel

theorem g_at (s : Slots 4 512 256) (i : S512x256.Idx) :
    k0_pay2 (F := Ideal) (View.ld (s : Vec Ideal S4x512x256 .bf16) r0_0) (View.ld (s : Vec Ideal S4x512x256 .bf16) r0_1)
      (View.ld (s : Vec Ideal S4x512x256 .bf16) r0_2) (View.ld (s : Vec Ideal S4x512x256 .bf16) r0_3) i = total s i := by
  unfold k0_pay2
  pointwise
  unfold total
  rw [Fin.sum_univ_four]

set_option maxHeartbeats 1600000 in
theorem final (m : (ℓ : Loc nD τ sig) → Buf (Elt Ideal) ℓ) (c : Dev nD) (w a b : Mat 1024 256) (s : Slots 4 1024 256)
    (hw : m (c, Proc.devRef .tc main_arg0) = w) (ha : m (c, Proc.devRef .tc main_arg1) = a)
    (hb : m (c, Proc.devRef .tc main_arg2) = b) (hs : m (c, Proc.devRef .tc main_arg3) = s) :
    (dats m 0 c).arrAt 4 cfg0.N = total s
      ∧ (dats m 0 c).arrAt 5 cfg0.N = (fun i => delta (w i) (a i) (b i) (total s i))
      ∧ (dats m 0 c).arrAt 6 cfg0.N = (fun i => mom (a i) (total s i))
      ∧ (dats m 0 c).arrAt 7 cfg0.N = fun i => vel (b i) (total s i) := by
  subst hw ha hb hs
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩ <;> blk_simp [idx t]
  · rw [after0_4]
    frame_out
    refine (g_at _ _).trans (Finset.sum_congr rfl fun k _ => ?_)
    blk_ext [iblk, V, idx t]
  · rw [after0_5]
    frame_out
    unfold k0_pay1 k0_pay3 k0_pay5 k0_pay4
    pointwise
    refine delta_congr ?_ ?_ ?_ ((g_at _ _).trans (Finset.sum_congr rfl fun k _ => ?_)) <;> blk_ext [iblk, V, idx t]
  · rw [after0_6]
    frame_out
    unfold k0_pay3
    pointwise
    refine congrArg₂ mom ?_ ((g_at _ _).trans (Finset.sum_congr rfl fun k _ => ?_)) <;> blk_ext [iblk, V, idx t]
  · rw [after0_7]
    frame_out
    unfold k0_pay5 k0_pay4
    pointwise
    refine congrArg₂ vel ?_ ((g_at _ _).trans (Finset.sum_congr rfl fun k _ => ?_)) <;> blk_ext [iblk, V, idx t]

open Cert.Reference27Ideal.Read in
theorem ref (w a b : Mat 1024 256) (s : Slots 4 1024 256) : val_main_v1 (F := Ideal) s = total s
    ∧ val_main_v25 (F := Ideal) w a b s = (fun i => delta (w i) (a i) (b i) (total s i))
    ∧ val_main_v6 (F := Ideal) a s = (fun i => mom (a i) (total s i))
    ∧ val_main_v12 (F := Ideal) b s = fun i => vel (b i) (total s i) := by
  have h : val_main_v1 (F := Ideal) s = total s := by
    funext i
    unfold val_main_v1 val_main_v0
    pointwise
    exact (congrArg (· + _) Ideal.ofBits_zero_f32).trans (zero_add _)
  rw [← h]
  exact ⟨rfl, rfl, rfl, rfl⟩

open Cert.Reference27Ideal.Read in
theorem algebraic : Cert.algebraic_Kernel27Ideal_Reference27Ideal := by
  intro m g m' g' _ hag
  refine four (Cert.Kernel27Ideal.Value.run_blocks m g) (Cert.Reference27Ideal.Value.run (F := Ideal) m' g') fun c => ?_
  obtain ⟨h0, h1, h2, h3⟩ := hag c
  obtain ⟨k4, k5, k6, k7⟩ := final m c _ _ _ _ h0.symm h1.symm h2.symm h3.symm
  obtain ⟨r4, r5, r6, r7⟩ := ref _ _ _ _
  exact ⟨k4.trans ((val_main_v1_eq _).trans r4).symm, k5.trans ((val_main_v25_eq _ _ _ _).trans r5).symm,
    k6.trans ((val_main_v6_eq _ _).trans r6).symm, k7.trans ((val_main_v12_eq _ _).trans r7).symm⟩

end Cert.Adam.A27

end
-- ==== Proof.Loss.lean ====
/- The loss and its gradient, call 25. -/
module

public import proofs.«01_k».proof.Defs
public import proofs.«01_k».proof.Proof.Ops
public import proofs.«01_k».proof.Proof.Gen.Kernel25Ideal.Value
public import proofs.«01_k».proof.Proof.Gen.Reference25Ideal.Run
public import proofs.«01_k».proof.Proof.Gen.Reference25Ideal.Read
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Loss

open Cert.Kernel25Ideal Cert.Kernel25Ideal.Gen

abbrev half : EReal := Ideal.ofBits .f32 0x3F000000#32
abbrev part : EReal := Ideal.ofBits .f32 0x3A800000#32

variable (x : (⟨2, ![2048, 1024]⟩ : Shape).Idx → EReal) (z : (⟨3, ![1, 2048, 1024]⟩ : Shape).Idx → EReal)

/-- An entry's error, and a row's mean square (zero past the last row). -/
def err (r : Fin 2048) (k : Fin 1024) : EReal := x (ix2 r k) - z (ix3 0 r k)
def row (r : ℕ) : EReal := if h : r < 2048 then (∑ k, err x z ⟨r, h⟩ k * err x z ⟨r, h⟩ k) * part else 0

theorem half_eq : half = ((1 / 2 : ℝ) : EReal) := Cert.Sgu.bits_half
theorem part_eq : part = ((1 / 1024 : ℝ) : EReal) := by
  show Ideal.ofBits .f32 0x3A800000#32 = _
  simp [Ideal.ofBits, Ideal.ieee, -EReal.coe_mul]; norm_num
theorem mean (s : EReal) : Ideal.div s (Ideal.ofBits .f32 0x44800000#32) = s * part := by
  rw [show Ideal.ofBits .f32 0x44800000#32 = ((1024 : ℝ) : EReal) from Cert.Sgu.bits_1024,
    Ideal.div_coe (by norm_num : (1024 : ℝ) ≠ 0), part_eq]
/-- Half of the sum of two parts is the sum of the halves, also where a part is infinite. -/
theorem half_add (a b : EReal) : half * a + half * b = half * (a + b) := by
  rw [half_eq, EReal.left_distrib_of_nonneg_of_ne_top (by exact_mod_cast (by norm_num : (0 : ℝ) ≤ 1 / 2)) (EReal.coe_ne_top _)]

theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ win0_3.index t 0 = 0 ∧ win0_3.index t 1 = 0 := by
  decide +kernel

/-- One tile's addition to the loss. -/
theorem tile (u v : FVec Ideal S256x1024 .f32) (a : FVec Ideal S1x1 .f32) (y : S1x1.Idx) : k0_pay4 (F := Ideal) u v a y
    = a y + half * ∑ r : Fin 256, (∑ k : Fin 1024, (u (ix2 r k) - v (ix2 r k)) * (u (ix2 r k) - v (ix2 r k))) * part := by
  unfold k0_pay4 k0_pay2
  pointwise

section
variable (m : (ℓ : Loc nD τ sig) → Buf (Elt Ideal) ℓ) (c : Dev nD)

theorem v0 (i : S2048x1024.Idx) : V m c main_v0 i = m (c, Proc.devRef .tc main_arg1) (ix3 0 (i 0) (i 1)) := by
  entry_read; pointwise

theorem o2 (t : Fin cfg0.N) (y : S256x1024.Idx) :
    (outsAt0 m c t.val t.isLt).1 y = k0_pay3 (F := Ideal) (iblk m c 0 t) (iblk m c 1 t) y := by
  by_cases h0 : t.val % 8 = 0
  · rw [outsAt0_A m c t h0]; frame_out
  · rw [outsAt0_B m c t h0]; frame_out
theorem o3A (t : Fin cfg0.N) (h0 : t.val % 8 = 0) (y : S1x1.Idx) :
    (outsAt0 m c t.val t.isLt).2 y = k0_pay4 (F := Ideal) (iblk m c 0 t) (iblk m c 1 t) (k0_pay1 (F := Ideal)) y := by
  rw [outsAt0_A m c t h0]; frame_out
theorem o3B (t : Fin cfg0.N) (h0 : ¬t.val % 8 = 0) (y : S1x1.Idx) :
    (outsAt0 m c t.val t.isLt).2 y = k0_pay4 (F := Ideal) (iblk m c 0 t) (iblk m c 1 t)
      (outsAt0 m c (t.val - 1) (Nat.lt_of_le_of_lt (Nat.sub_le _ _) t.isLt)).2 y := by
  rw [outsAt0_B m c t h0]; frame_out
end

/-! ## The grid -/

section
variable (m : (ℓ : Loc nD τ sig) → Buf (Elt Ideal) ℓ) (c : Dev nD)
variable (hx : m (c, Proc.devRef .tc main_arg0) = x) (hz : m (c, Proc.devRef .tc main_arg1) = z)
include hx hz

theorem i0 (t : Fin cfg0.N) (r : Fin 256) (k : Fin 1024) (h : 256 * t.val + r.val < 2048) :
    iblk m c 0 t (ix2 r k) = x (ix2 ⟨256 * t.val + r.val, h⟩ k) := by
  subst hx hz
  blk_ext [iblk, V, idx t]
theorem i1 (t : Fin cfg0.N) (r : Fin 256) (k : Fin 1024) (h : 256 * t.val + r.val < 2048) :
    iblk m c 1 t (ix2 r k) = z (ix3 0 ⟨256 * t.val + r.val, h⟩ k) := by
  subst hx hz
  have e : ∀ i : S2048x1024.Idx, V m c main_v0 i = m (c, Proc.devRef .tc main_arg1) (ix3 0 (i 0) (i 1)) := v0 m c
  refine (e _).trans (congrArg (m (c, Proc.devRef .tc main_arg1)) ?_)
  blk_ext [idx t]

theorem tile_row (t : Fin cfg0.N) (a : FVec Ideal S1x1 .f32) (y : S1x1.Idx) :
    k0_pay4 (F := Ideal) (iblk m c 0 t) (iblk m c 1 t) a y
      = a y + half * ∑ r ∈ Finset.range 256, row x z (256 * t.val + r) := by
  have h8 : cfg0.N = 8 := rfl
  rw [tile, Finset.sum_range]
  refine congrArg (fun s => a y + half * s) (Finset.sum_congr rfl fun r _ => ?_)
  have h : 256 * t.val + r.val < 2048 := by omega
  rw [row, dif_pos h]
  refine congrArg (· * part) (Finset.sum_congr rfl fun k _ => ?_)
  rw [i0 x z m c hx hz t r k h, i1 x z m c hx hz t r k h]; rfl

/-- The accumulator after the tile n: the loss of the rows up to there. -/
theorem acc : ∀ (n : ℕ) (hn : n < cfg0.N) (y : S1x1.Idx),
    (outsAt0 m c n hn).2 y = half * ∑ r ∈ Finset.range (256 * (n + 1)), row x z r
  | 0, hn, y => by
    refine (o3A m c ⟨0, hn⟩ rfl y).trans ((tile_row x z m c hx hz _ _ _).trans ?_)
    rw [show k0_pay1 (F := Ideal) y = 0 from Ideal.ofBits_zero_f32, zero_add]
    simp only [Nat.mul_zero, Nat.zero_add, Nat.mul_one]
  | n + 1, hn, y => by
    have h8 : cfg0.N = 8 := rfl
    refine (o3B m c ⟨n + 1, hn⟩ (by show ¬(n + 1) % 8 = 0; omega) y).trans ((tile_row x z m c hx hz _ _ _).trans ?_)
    have ih := acc n (by omega) y
    rw [show 256 * (n + 1 + 1) = 256 * (n + 1) + 256 by omega, Finset.sum_range_add, ← half_add, ← ih]; rfl

theorem arr2 : (dats m 0 c).arrAt 2 cfg0.N = fun i : S2048x1024.Idx => err x z (i 0) (i 1) * part := by
  refine (dats m 0 c).arrAt_eq_of_covers 2 _ (by decide +kernel) fun t hf y => ?_
  have h8 : cfg0.N = 8 := rfl
  have h := o2 m c t
  have e (r : Fin 256) (k : Fin 1024) (hr : 256 * t.val + r.val < 2048) :
      k0_pay3 (F := Ideal) (iblk m c 0 t) (iblk m c 1 t) (ix2 r k) = err x z ⟨256 * t.val + r.val, hr⟩ k * part := by
    unfold k0_pay3 k0_pay2
    pointwise
    rw [i0 x z m c hx hz t r k hr, i1 x z m c hx hz t r k hr]; rfl
  blk_simp [idx t]
  rw [after0_2]
  refine (h y).trans ?_
  have hy : 256 * t.val + (y 0).val < 2048 := by have h0 : (y 0).val < 256 := (y 0).isLt; have h1 : t.val < 8 := t.isLt; omega
  have e0 : (win0_2.blk t).view.emb y 0 = ⟨256 * t.val + (y 0).val, hy⟩ := Fin.ext (by blk_simp [idx t]; exact congrArg (· + _) (Nat.mul_comm _ _))
  have e1 : (win0_2.blk t).view.emb y 1 = y 1 := Fin.ext (by blk_simp [idx t])
  rw [e0, e1]
  refine Eq.trans (congrArg _ (eq_ix2 y)) (e (y 0) (y 1) hy)
theorem arr3 : (dats m 0 c).arrAt 3 cfg0.N = fun _ : S1x1.Idx => half * ∑ r ∈ Finset.range 2048, row x z r := by
  have ht : ∀ t : Fin cfg0.N, (cfg0.win 3).flush t = true → t.val = 7 := by decide +kernel
  refine (dats m 0 c).arrAt_eq_of_covers 3 _ (by decide +kernel) fun t hf y => ?_
  have h := acc x z m c hx hz t.val t.isLt
  have h7 := ht t hf
  blk_simp [idx t]
  refine (h _).trans ?_
  rw [h7]
end

/-! ## The reference -/

section
open Cert.Reference25Ideal.Read

theorem ref_dy : val_main_v15 (F := Ideal) x z = fun i => err x z (i 0) (i 1) * part := by
  funext i
  have e : Ideal.div half (Ideal.ofBits .f32 0x44800000#32) * Ideal.ofBits .f32 0x40000000#32 = part := by
    rw [mean, half_eq, part_eq,
      show Ideal.ofBits .f32 0x40000000#32 = ((2 : ℝ) : EReal) from Cert.Sgu.bits_two, ← EReal.coe_mul, ← EReal.coe_mul]
    norm_num
  unfold val_main_v15 val_main_v14 val_main_v13 val_main_v12 val_main_v11 val_main_v10 val_main_v4 val_main_v3 val_main_v1 val_main_v0 err
  unfold val_main_cst val_main_cst_4 val_main_cst_5 val_main_cst_6
  pointwise
  rw [← mul_assoc, mul_comm _ part]
  refine congrArg₂ _ e ?_
  rfl
theorem ref_loss : val_main_v16 (F := Ideal) x z = fun _ => half * ∑ r ∈ Finset.range 2048, row x z r := by
  funext i
  unfold val_main_v16 val_main_v9 val_main_v8 val_main_v7 val_main_v6 val_main_v5 val_main_v2 val_main_v1 val_main_v0
  unfold val_main_cst_0 val_main_cst_1 val_main_cst_2 val_main_cst_3
  pointwise
  rw [Finset.sum_range]
  refine congrArg (half * ·) ?_
  refine Finset.sum_congr rfl fun r _ => ?_
  rw [row, dif_pos r.isLt]
  exact mean _

/-- Claim 25. -/
theorem algebraic : Cert.algebraic_Kernel25Ideal_Reference25Ideal := by
  intro m g m' g' _ hag
  let d (c : Dev nD) : S2048x1024.Idx → EReal := fun i =>
    err (m (c, Proc.devRef .tc main_arg0)) (m (c, Proc.devRef .tc main_arg1)) (i 0) (i 1) * part
  let l (c : Dev nD) : S1x1.Idx → EReal := fun _ => half * ∑ r ∈ Finset.range 2048,
    row (m (c, Proc.devRef .tc main_arg0)) (m (c, Proc.devRef .tc main_arg1)) r
  refine ⟨d, l, θ_run_mono (Cert.Kernel25Ideal.Value.run_blocks m g) fun _ q c => ?_,
    θ_run_mono (Cert.Reference25Ideal.Value.run (F := Ideal) m' g') fun _ q c => ?_⟩
  · exact ⟨(q c).1.trans (arr2 _ _ m c rfl rfl), (q c).2.1.trans (arr3 _ _ m c rfl rfl), (q c).2.2⟩
  · obtain ⟨h0, h1⟩ := hag c
    refine ⟨(q c).1.trans ?_, (q c).2.1.trans ?_, (q c).2.2⟩
    · exact (val_main_v15_eq _ _).trans ((ref_dy _ _).trans (by rw [h0, h1]))
    · exact (val_main_v16_eq _ _).trans ((ref_loss _ _).trans (by rw [h0, h1]))
end
end Cert.Loss

end
-- ==== Proof.PleBack.lean ====
/-
  The backward pass of the per-layer embedding over the reals,
    y = x + gate · (p W_proj),   gate = sigmoid(h W_gate),   h = rmsnorm(x) · ln,
  one tile of 256 rows of it as the kernel computes it, the arrays the kernel's windows read of real arguments, what each
  grid point leaves in its output buffers, and the four results.
-/
module

public import proofs.«01_k».proof.Proof.Tile
public import proofs.«01_k».proof.Proof.Host
public import proofs.«01_k».proof.Proof.Gen.Kernel8Ideal.Value
public import Idealize.ShloMosaic.Lib.Claim
public import Idealize.ShloMosaic.Lib.Pipeline.ValueKit
public import Idealize.ShloMosaic.Lib.Pointwise

@[expose] public section

set_option maxRecDepth 16384

noncomputable section

namespace Cert.PleB

/-- The arguments as real tensors: activations `x`, the embeddings `p`, the norm weight `ln`, the two weights, the incoming
    gradient. -/
structure In where
  x : ℕ → ℕ → ℝ
  p : ℕ → ℕ → ℝ
  ln : ℕ → ℝ
  wg : ℕ → ℕ → ℝ
  wp : ℕ → ℕ → ℝ
  e : ℕ → ℕ → ℝ

namespace In
open Cert.Sgu (hat rmsb dgam)
variable (S : In)

def pre (t n : ℕ) : ℝ := ∑ k : Fin 1024, hat S.x t k * S.ln k * S.wg k n
def gate (t n : ℕ) : ℝ := (1 + Real.exp (-S.pre t n))⁻¹
def pp (t n : ℕ) : ℝ := ∑ k : Fin 256, S.p t k * S.wp k n
def dpp (t n : ℕ) : ℝ := S.e t n * S.gate t n
/-- The gradient before the sigmoid. -/
def dgp (t n : ℕ) : ℝ := S.e t n * S.pp t n * S.gate t n * (1 - S.gate t n)
def dh (t d : ℕ) : ℝ := ∑ n : Fin 1024, S.dgp t n * S.wg d n
def dx (t d : ℕ) : ℝ := rmsb S.dh S.x S.ln t d + S.e t d
def dln (n d : ℕ) : ℝ := dgam S.dh S.x n d
end In

open Idealize.ShloMosaic Idealize.ShloMosaic.TcCoe Cert.Kernel8Ideal Cert.Kernel8Ideal.Gen Idealize.SL.Sem Cert.Sgu Cert.Sgu.Tile

/-- The host's expansion of the sigmoid at a real. -/
theorem sigmoid_coe (r : ℝ) : Ideal.div (Ideal.ofBits .f32 0x3F800000#32)
    (Ideal.ofBits .f32 0x3F800000#32 + Ideal.exp (-(r : EReal))) = (((1 + Real.exp (-r))⁻¹ : ℝ) : EReal) := by
  have h1 : Ideal.ofBits .f32 0x3F800000#32 = (1 : EReal) := bits_one.trans EReal.coe_one
  rw [h1]; exact Ideal.logistic_coe r

/-! ## One tile -/

section Tile
variable {S : In} {o : ℕ} {E X A P : FVec Ideal S256x1024 .f32} {G : FVec Ideal S1x1024 .f32}
  {W : FVec Ideal S1024x1024 .bf16}
  (hE : Is E fun i => S.e (o + (i 0).val) (i 1).val) (hX : Is X fun i => S.x (o + (i 0).val) (i 1).val)
  (hA : Is A fun i => S.gate (o + (i 0).val) (i 1).val) (hP : Is P fun i => S.pp (o + (i 0).val) (i 1).val)
  (hG : Is G fun i => S.ln (i 1).val) (hW : Is W fun i => S.wg (i 0).val (i 1).val)

include hE hA in
theorem i_dpp : Is (k0_pay9 E A) fun i => S.dpp (o + (i 0).val) (i 1).val :=
  itrunc (imul (icast hE shapeCasts_S256x1024_S256x1024) (icast hA shapeCasts_S256x1024_S256x1024))
include hE hA hP in
theorem i_dgp : Is (k0_pay10 E A P) fun i => S.dgp (o + (i 0).val) (i 1).val :=
  have a := icast hA shapeCasts_S256x1024_S256x1024
  itrunc (imul (imul (imul (icast hE shapeCasts_S256x1024_S256x1024) (icast hP shapeCasts_S256x1024_S256x1024)) a)
    (isub (iconst bits_one) a))
include hE hA hP hW in
theorem i_dh : Is (k0_pay11 E A P W) fun i => S.dh (o + (i 0).val) (i 1).val :=
  mmT (i_dgp hE hA hP) (icast hW shapeCasts_S1024x1024_S1024x1024)
include hE hX hA hP hG hW in
theorem i_dx : Is (addf (back (k0_pay7 X) (k0_pay8 X) (k0_pay11 E A P W) G) (k0_pay4 E))
    fun i => S.dx (o + (i 0).val) (i 1).val :=
  iadd (i_back (i_rs' hX) (i_hat' hX) (i_dh hE hA hP hW) hG) (icast hE shapeCasts_S256x1024_S256x1024)
include hE hX hA hP hW in
/-- What the tile adds to the norm weight's gradient. -/
theorem i_dln {N : FVec Ideal S1x1024 .f32} {f : ℕ → ℝ} (hN : Is N fun i => f (i 1).val) :
    Is (k0_pay1 (k0_pay8 X) (k0_pay11 E A P W) N)
      fun i => f (i 1).val + ∑ k : Fin 256, S.dh (o + k) (i 1).val * hat S.x (o + k) (i 1).val :=
  iadd (icast hN shapeCasts_S1x1024_S1x1024) (i_gam (i_hat' hX) (i_dh hE hA hP hW))
end Tile

/-- The kernel's arguments hold the values `S`. -/
structure Args (S : In) (m : (ℓ : Loc nD τ sig) → Buf (Elt Ideal) ℓ) (c : Dev nD) : Prop where
  h0 : ∀ i, m (c, Proc.tc.devRef main_arg0) i = ((S.x (i 1).val (i 2).val : ℝ) : EReal)
  h1 : ∀ i, m (c, Proc.tc.devRef main_arg1) i = ((S.p (i 1).val (i 2).val : ℝ) : EReal)
  h2 : ∀ i, m (c, Proc.tc.devRef main_arg2) i = ((S.ln (i 1).val : ℝ) : EReal)
  h3 : ∀ i, m (c, Proc.tc.devRef main_arg3) i = ((S.wg (i 0).val (i 1).val : ℝ) : EReal)
  h4 : ∀ i, m (c, Proc.tc.devRef main_arg4) i = ((S.wp (i 0).val (i 1).val : ℝ) : EReal)
  h5 : ∀ i, m (c, Proc.tc.devRef main_arg5) i = ((S.e (i 1).val (i 2).val : ℝ) : EReal)

variable {S : In} {m : (ℓ : Loc nD τ sig) → Buf (Elt Ideal) ℓ} {c : Dev nD} (H : Args S m c)
include H

/-! ## The windows' arrays -/

theorem a24 (i : S2048x1024.Idx) : V m c main_v24 i = ((S.e (i 0).val (i 1).val : ℝ) : EReal) := by
  entry_read; pointwise; exact H.h5 _
theorem a0 (i : S2048x1024.Idx) : V m c main_v0 i = ((S.x (i 0).val (i 1).val : ℝ) : EReal) := by
  entry_read; pointwise; exact H.h0 _
theorem a21 (i : S2048x1024.Idx) : V m c main_v21 i = ((S.gate (i 0).val (i 1).val : ℝ) : EReal) := by
  entry_read; pointwise
  refine Eq.trans (congrArg Ideal.logistic ?_) (Ideal.logistic_coe _)
  exact row_norm_dot _ _ _ S.x (i 0).val (fun k => S.ln k) (fun k => S.wg k (i 1).val) (fun k => H.h0 _) (fun k => H.h2 _)
    fun k => H.h3 _
theorem a23 (i : S2048x1024.Idx) : V m c main_v23 i = ((S.pp (i 0).val (i 1).val : ℝ) : EReal) := by
  entry_read; pointwise
  refine Eq.trans (Finset.sum_congr (M := EReal) rfl fun k _ => ?_)
    (sum_coe _ fun k : Fin 256 => S.p (i 0).val k * S.wp k (i 1).val)
  exact (congrArg₂ (fun a b : EReal => a * b) (H.h1 _) (H.h4 _)).trans (EReal.coe_mul _ _).symm
theorem a2 (i : S1x1024.Idx) : V m c main_arg2 i = ((S.ln (i 1).val : ℝ) : EReal) := by
  rw [V_main_arg2]; exact H.h2 _
theorem a25 (i : S1024x1024.Idx) : V m c main_v25 i = ((S.wg (i 0).val (i 1).val : ℝ) : EReal) := by
  entry_read; pointwise; exact H.h3 _

/-! ## A grid point's blocks -/

theorem b0 (t : Fin cfg0.N) : Is (φ := .f32) (iblk m c 0 t) fun y => S.e (t.val * 256 + (y 0).val) (y 1).val := by
  have h : ∀ t : Fin cfg0.N, win0_0.index t 0 = t.val ∧ win0_0.index t 1 = 0 := by decide +kernel
  intro y; refine (a24 H ((win0_0.blk t).view.emb y)).trans ?_; blk_simp [h t]
theorem b1 (t : Fin cfg0.N) : Is (φ := .f32) (iblk m c 1 t) fun y => S.x (t.val * 256 + (y 0).val) (y 1).val := by
  have h : ∀ t : Fin cfg0.N, win0_1.index t 0 = t.val ∧ win0_1.index t 1 = 0 := by decide +kernel
  intro y; refine (a0 H ((win0_1.blk t).view.emb y)).trans ?_; blk_simp [h t]
theorem b2 (t : Fin cfg0.N) : Is (φ := .f32) (iblk m c 2 t) fun y => S.gate (t.val * 256 + (y 0).val) (y 1).val := by
  have h : ∀ t : Fin cfg0.N, win0_2.index t 0 = t.val ∧ win0_2.index t 1 = 0 := by decide +kernel
  intro y; refine (a21 H ((win0_2.blk t).view.emb y)).trans ?_; blk_simp [h t]
theorem b3 (t : Fin cfg0.N) : Is (φ := .f32) (iblk m c 3 t) fun y => S.pp (t.val * 256 + (y 0).val) (y 1).val := by
  have h : ∀ t : Fin cfg0.N, win0_3.index t 0 = t.val ∧ win0_3.index t 1 = 0 := by decide +kernel
  intro y; refine (a23 H ((win0_3.blk t).view.emb y)).trans ?_; blk_simp [h t]
theorem b4 (t : Fin cfg0.N) : Is (φ := .f32) (iblk m c 4 t) fun y => S.ln (y 1).val := by
  have h : ∀ t : Fin cfg0.N, win0_4.index t 0 = 0 ∧ win0_4.index t 1 = 0 := by decide +kernel
  intro y; refine (a2 H ((win0_4.blk t).view.emb y)).trans ?_; blk_simp [h t]
theorem b5 (t : Fin cfg0.N) : Is (φ := .bf16) (iblk m c 5 t) fun y => S.wg (y 0).val (y 1).val := by
  have h : ∀ t : Fin cfg0.N, win0_5.index t 0 = 0 ∧ win0_5.index t 1 = 0 := by decide +kernel
  intro y; refine (a25 H ((win0_5.blk t).view.emb y)).trans ?_; blk_simp [h t]

/-! ## A grid point's output buffers -/

theorem o6 (t : Fin cfg0.N) (y : S256x1024.Idx) :
    (outsAt0 m c t.val t.isLt).1 y = ((S.dx (t.val * 256 + (y 0).val) (y 1).val : ℝ) : EReal) := by
  have h := i_dx (b0 H t) (b1 H t) (b2 H t) (b3 H t) (b4 H t) (b5 H t) y
  by_cases h0 : t.val % 8 = 0
  · rw [outsAt0_A m c t h0]; frame_out; exact h
  · rw [outsAt0_B m c t h0]; frame_out; exact h
theorem o7 (t : Fin cfg0.N) (y : S256x1024.Idx) :
    (outsAt0 m c t.val t.isLt).2.1 y = ((S.dpp (t.val * 256 + (y 0).val) (y 1).val : ℝ) : EReal) := by
  have h := i_dpp (b0 H t) (b2 H t) y
  by_cases h0 : t.val % 8 = 0
  · rw [outsAt0_A m c t h0]; frame_out; exact h
  · rw [outsAt0_B m c t h0]; frame_out; exact h
theorem o8 (t : Fin cfg0.N) (y : S256x1024.Idx) :
    (outsAt0 m c t.val t.isLt).2.2.1 y = ((S.dgp (t.val * 256 + (y 0).val) (y 1).val : ℝ) : EReal) := by
  have h := i_dgp (b0 H t) (b2 H t) (b3 H t) y
  by_cases h0 : t.val % 8 = 0
  · rw [outsAt0_A m c t h0]; frame_out; exact h
  · rw [outsAt0_B m c t h0]; frame_out; exact h
theorem o9_A (t : Fin cfg0.N) (h0 : t.val % 8 = 0) (ht : t.val = 0) (y : S1x1024.Idx) :
    (outsAt0 m c t.val t.isLt).2.2.2 y = ((S.dln 256 (y 1).val : ℝ) : EReal) := by
  have h := i_dln (b0 H t) (b1 H t) (b2 H t) (b3 H t) (b5 H t) (N := k0_pay3) (f := fun _ => 0) (iconst bits_zero) y
  rw [outsAt0_A m c t h0]; frame_out
  refine Eq.trans h (congrArg (fun a : ℝ => (a : EReal)) ?_)
  unfold In.dln dgam
  simp only [Finset.sum_range, ht, zero_add, Nat.zero_mul]
theorem o9_B (t : Fin cfg0.N) (h0 : ¬t.val % 8 = 0) {n : ℕ} (hn : t.val = n + 1)
    (ih : ∀ y : S1x1024.Idx, (outsAt0 m c (t.val - 1) (Nat.lt_of_le_of_lt (Nat.sub_le _ _) t.isLt)).2.2.2 y
      = ((S.dln (256 * (n + 1)) (y 1).val : ℝ) : EReal)) (y : S1x1024.Idx) :
    (outsAt0 m c t.val t.isLt).2.2.2 y = ((S.dln (256 * (n + 2)) (y 1).val : ℝ) : EReal) := by
  have h := i_dln (b0 H t) (b1 H t) (b2 H t) (b3 H t) (b5 H t) (f := fun d => S.dln (256 * (n + 1)) d) ih y
  rw [outsAt0_B m c t h0]; frame_out
  refine Eq.trans h (congrArg (fun a : ℝ => (a : EReal)) ?_)
  unfold In.dln dgam
  rw [show 256 * (n + 2) = 256 * (n + 1) + 256 by omega, Finset.sum_range_add, Finset.sum_range (n := 256), hn,
    Nat.mul_comm 256]
theorem o9 : ∀ (n : ℕ) (hn : n < cfg0.N) (y : S1x1024.Idx),
    (outsAt0 m c n hn).2.2.2 y = ((S.dln (256 * (n + 1)) (y 1).val : ℝ) : EReal)
  | 0, hn => o9_A H ⟨0, hn⟩ rfl rfl
  | n + 1, hn => by
    have h8 : cfg0.N = 8 := rfl
    exact o9_B H ⟨n + 1, hn⟩ (by show ¬(n + 1) % 8 = 0; omega) rfl (o9 n (by omega))

/-! ## The results -/

theorem arr6 : (dats m 0 c).arrAt 6 cfg0.N = (fun i : S2048x1024.Idx => ((S.dx (i 0).val (i 1).val : ℝ) : EReal)) := by
  have hi : ∀ t : Fin cfg0.N, win0_6.index t 0 = t.val ∧ win0_6.index t 1 = 0 := by decide +kernel
  refine (dats m 0 c).arrAt_eq_of_covers 6 _ (by decide +kernel) fun t hf y => ?_
  have h := o6 H t
  blk_simp [hi t]
  exact h _
theorem arr7 : (dats m 0 c).arrAt 7 cfg0.N = (fun i : S2048x1024.Idx => ((S.dpp (i 0).val (i 1).val : ℝ) : EReal)) := by
  have hi : ∀ t : Fin cfg0.N, win0_7.index t 0 = t.val ∧ win0_7.index t 1 = 0 := by decide +kernel
  refine (dats m 0 c).arrAt_eq_of_covers 7 _ (by decide +kernel) fun t hf y => ?_
  have h := o7 H t
  blk_simp [hi t]
  exact h _
theorem arr8 : (dats m 0 c).arrAt 8 cfg0.N = (fun i : S2048x1024.Idx => ((S.dgp (i 0).val (i 1).val : ℝ) : EReal)) := by
  have hi : ∀ t : Fin cfg0.N, win0_8.index t 0 = t.val ∧ win0_8.index t 1 = 0 := by decide +kernel
  refine (dats m 0 c).arrAt_eq_of_covers 8 _ (by decide +kernel) fun t hf y => ?_
  have h := o8 H t
  blk_simp [hi t]
  exact h _
theorem arr9 : (dats m 0 c).arrAt 9 cfg0.N = (fun i : S1x1024.Idx => ((S.dln 2048 (i 1).val : ℝ) : EReal)) := by
  have hi : ∀ t : Fin cfg0.N, win0_9.index t 0 = 0 ∧ win0_9.index t 1 = 0 := by decide +kernel
  have ht : ∀ t : Fin cfg0.N, (cfg0.win 9).flush t = true → t.val = 7 := by decide +kernel
  refine (dats m 0 c).arrAt_eq_of_covers 9 _ (by decide +kernel) fun t hf y => ?_
  have h := o9 H t.val t.isLt
  have h7 := ht t hf
  blk_simp [hi t]
  refine (h _).trans ?_
  rw [h7]

end Cert.PleB

end
-- ==== Proof.PleRef.lean ====
/-
  The per-layer embedding's backward reference, stage by stage, over the reals.
-/
module

public import proofs.«01_k».proof.Proof.PleBack
public import proofs.«01_k».proof.Proof.MlpRef
public import proofs.«01_k».proof.Proof.Gen.Reference8Ideal.Read

@[expose] public section

set_option maxRecDepth 16384

noncomputable section

namespace Cert.PleB.Ref

open Idealize.ShloMosaic Cert.Reference8Ideal Cert.Reference8Ideal.Gen Cert.Reference8Ideal.Read Cert.Sgu Cert.PleB
open Cert.Sgu.Ref (sum_unit_a sum_unit_b)

/-- The six argument arrays hold the specification's real tensors. -/
structure Fits (S : PleB.In) (x0 : (⟨S1x2048x1024, .f32⟩ : BufTy).Contents (Elt Ideal))
    (x1 : (⟨S1x2048x256, .f32⟩ : BufTy).Contents (Elt Ideal)) (x2 : (⟨S1x1024, .f32⟩ : BufTy).Contents (Elt Ideal))
    (x3 : (⟨S1024x1024, .f32⟩ : BufTy).Contents (Elt Ideal)) (x4 : (⟨S256x1024, .f32⟩ : BufTy).Contents (Elt Ideal))
    (x5 : (⟨S1x2048x1024, .f32⟩ : BufTy).Contents (Elt Ideal)) : Prop where
  h0 : ∀ i, x0 i = ((S.x (i 1).val (i 2).val : ℝ) : EReal)
  h1 : ∀ i, x1 i = ((S.p (i 1).val (i 2).val : ℝ) : EReal)
  h2 : ∀ i, x2 i = ((S.ln (i 1).val : ℝ) : EReal)
  h3 : ∀ i, x3 i = ((S.wg (i 0).val (i 1).val : ℝ) : EReal)
  h4 : ∀ i, x4 i = ((S.wp (i 0).val (i 1).val : ℝ) : EReal)
  h5 : ∀ i, x5 i = ((S.e (i 1).val (i 2).val : ℝ) : EReal)

variable {S : PleB.In} {x0 : (⟨S1x2048x1024, .f32⟩ : BufTy).Contents (Elt Ideal)}
  {x1 : (⟨S1x2048x256, .f32⟩ : BufTy).Contents (Elt Ideal)} {x2 : (⟨S1x1024, .f32⟩ : BufTy).Contents (Elt Ideal)}
  {x3 : (⟨S1024x1024, .f32⟩ : BufTy).Contents (Elt Ideal)} {x4 : (⟨S256x1024, .f32⟩ : BufTy).Contents (Elt Ideal)}
  {x5 : (⟨S1x2048x1024, .f32⟩ : BufTy).Contents (Elt Ideal)} (H : Fits S x0 x1 x2 x3 x4 x5)
include H

/-! ## The norm, as in the squared-relu block's reference -/

theorem norm : Cert.MlpB.Ref.Fits ⟨S.x, S.ln, fun _ _ => 0, fun _ _ => 0, S.e⟩ x0 x2 (fun _ => ((0 : ℝ) : EReal))
    (fun _ => ((0 : ℝ) : EReal)) x5 := ⟨H.h0, H.h2, fun _ => rfl, fun _ => rfl, H.h5⟩
theorem s9 (i : S1x2048x1.Idx) : val_main_v9 x0 i = ((rs S.x (i 1).val : ℝ) : EReal) := Cert.MlpB.Ref.s9 (norm H) i
theorem s12 (i : S1x2048x1.Idx) :
    val_main_v12 x0 i = ((-(1 / 2) * (rs S.x (i 1).val / ms S.x (i 1).val) : ℝ) : EReal) := Cert.MlpB.Ref.s12 (norm H) i
theorem s14 (i : S1x2048x1024.Idx) : val_main_v14 x0 i = ((hat S.x (i 1).val (i 2).val : ℝ) : EReal) :=
  Cert.MlpB.Ref.s14 (norm H) i
theorem s15 (i : S1x1x1024.Idx) : val_main_v15 x2 i = ((S.ln (i 2).val : ℝ) : EReal) := Cert.MlpB.Ref.s15 (norm H) i
theorem s17 (i : S1x2048x1024.Idx) :
    val_main_v17 x0 x2 i = ((hat S.x (i 1).val (i 2).val * S.ln (i 2).val : ℝ) : EReal) := Cert.MlpB.Ref.s17 (norm H) i

/-! ## The gate and the projection -/

theorem s19 (i : S1x2048x1024.Idx) : val_main_v19 x0 x2 x3 i = ((S.pre (i 1).val (i 2).val : ℝ) : EReal) := by
  rw [val_main_v19_apply, val_main_v18_apply, val_main_v0_apply, val_main_cst_apply]
  simp only [s17 H, H.h3, ← EReal.coe_mul, sum_coe, bits_zero, addf_coe, add_zero]
  rfl
theorem s25 (i : S1x2048x1024.Idx) : val_main_v25 x0 x2 x3 i = ((S.gate (i 1).val (i 2).val : ℝ) : EReal) := by
  rw [val_main_v25_apply, val_main_v24_apply, val_main_v23_apply, val_main_v22_apply, val_main_v21_apply,
    val_main_v20_apply, val_main_cst_4_apply, val_main_cst_5_apply, s19 H]
  exact sigmoid_coe _
theorem s28 (i : S1x2048x1024.Idx) :
    val_main_v28 x0 x2 x3 i = ((S.gate (i 1).val (i 2).val * (1 - S.gate (i 1).val (i 2).val) : ℝ) : EReal) := by
  rw [val_main_v28_apply, val_main_v27_apply, val_main_v26_apply, val_main_cst_6_apply, s25 H, bits_one, subf_coe, mulf_coe]
theorem s30 (i : S1x2048x1024.Idx) : val_main_v30 x1 x4 i = ((S.pp (i 1).val (i 2).val : ℝ) : EReal) := by
  rw [val_main_v30_apply, val_main_v29_apply, val_main_v0_apply, val_main_cst_apply]
  simp only [H.h1, H.h4, ← EReal.coe_mul, sum_coe, bits_zero, addf_coe, add_zero]
  rfl

/-! ## The gradients -/

theorem s33 (i : S1x2048x1024.Idx) : val_main_v33 x5 i = ((S.e (i 1).val (i 2).val : ℝ) : EReal) := by
  have h0 : (i 0).val < 1 := (i 0).isLt
  have h1 : (i 1).val < 2048 := (i 1).isLt
  have h2 : (i 2).val < 1024 := (i 2).isLt
  rw [val_main_v33_apply, H.h5]
  refine congrArg₂ (fun a b => ((S.e a b : ℝ) : EReal)) ?_ ?_
  · show (((i 0).val * 2048 + (i 1).val) * 1024 + (i 2).val) / 1024 % 2048 = _; omega
  · show (((i 0).val * 2048 + (i 1).val) * 1024 + (i 2).val) % 1024 = _; omega
theorem s35 (i : S1x2048x1024.Idx) : val_main_v35 x0 x2 x3 x5 i = ((S.dpp (i 1).val (i 2).val : ℝ) : EReal) := by
  rw [val_main_v35_apply, s33 H, s25 H, mulf_coe]; rfl
theorem s36 (i : S1x2048x1024.Idx) : val_main_v36 x0 x1 x2 x3 x4 x5 i = ((S.dgp (i 1).val (i 2).val : ℝ) : EReal) := by
  rw [val_main_v36_apply, val_main_v34_apply, s33 H, s30 H, s28 H, mulf_coe, mulf_coe]
  refine congrArg (fun a : ℝ => (a : EReal)) ?_
  unfold In.dgp
  ring
theorem s37 (i : S1x2048x1024.Idx) : val_main_v37 x0 x1 x2 x3 x4 x5 i = ((S.dh (i 1).val (i 2).val : ℝ) : EReal) := by
  rw [val_main_v37_apply]
  simp only [s36 H, H.h3, ← EReal.coe_mul, sum_coe]
  rfl
theorem s42 (i : S1x2048x1024.Idx) : val_main_v42 x0 x1 x2 x3 x4 x5 i
    = ((S.dh (i 1).val (i 2).val * S.ln (i 2).val : ℝ) : EReal) := by
  rw [val_main_v42_apply, val_main_v41_apply, s15 H, s37 H, mulf_coe]
theorem s52 (i : S1x2048x1.Idx) : val_main_v52 x0 x1 x2 x3 x4 x5 i
    = (((∑ k : Fin 1024, S.x (i 1).val k * (S.dh (i 1).val k * S.ln k))
        * (-(1 / 2) * (rs S.x (i 1).val / ms S.x (i 1).val)) / 1024 : ℝ) : EReal) := by
  rw [val_main_v52_apply, val_main_v51_apply, val_main_v50_apply, val_main_v46_apply, val_main_v45_apply, s12 H]
  simp only [val_main_v44_apply, s42 H, H.h0, mulf_coe, sum_coe, val_main_cst_9_apply, val_main_cst_10_apply,
    bits_zero, bits_1024, ← EReal.coe_add, zero_add, hostDivf_coe _ (by norm_num : (1024 : ℝ) ≠ 0)]
  have h0 : (i 0).val < 1 := (i 0).isLt
  have h1 : (i 1).val < 2048 := (i 1).isLt
  have h2 : (i 2).val < 1 := (i 2).isLt
  have e : (((i 0).val * 2048 + (i 1).val) * 1 + (i 2).val) % 2048 = (i 1).val := by omega
  exact congrArg (fun t : ℕ => (((∑ k : Fin 1024, S.x t k * (S.dh t k * S.ln k))
    * (-(1 / 2) * (rs S.x (i 1).val / ms S.x (i 1).val)) / 1024 : ℝ) : EReal)) e
theorem s55 (i : S1x2048x1024.Idx) : val_main_v55 x0 x1 x2 x3 x4 x5 i
    = (((∑ k : Fin 1024, S.x (i 1).val k * (S.dh (i 1).val k * S.ln k))
        * (-(1 / 2) * (rs S.x (i 1).val / ms S.x (i 1).val)) / 1024 : ℝ) : EReal) := by
  have : ∀ j, val_main_v53 x0 x1 x2 x3 x4 x5 j = Ideal.hostReduceAdd reducesTo_S1x2048x1_S2048_d0_2
      (val_main_v52 x0 x1 x2 x3 x4 x5) (val_main_cst_11 (F := Ideal) (Shape.Idx.first h_S_)) j := fun _ => rfl
  rw [val_main_v55_apply, val_main_v54_apply, this]
  refine (sum_unit_b _ _ _).trans ?_
  rw [s52 H, val_main_cst_11_apply, bits_zero, ← EReal.coe_add, zero_add]
  rfl
theorem s59 (i : S1x2048x1024.Idx) : val_main_v59 x0 x1 x2 x3 x4 x5 i = ((S.dx (i 1).val (i 2).val : ℝ) : EReal) := by
  rw [val_main_v59_apply, val_main_v58_apply, val_main_v57_apply, val_main_v56_apply, val_main_v49_apply,
    val_main_v48_apply, val_main_v47_apply, s55 H, s42 H, s9 H, H.h0, H.h5]
  simp only [mulf_coe, addf_coe]
  refine congrArg (fun a : ℝ => (a : EReal)) ?_
  unfold In.dx
  rw [← rmsb_vjp S.dh S.x S.ln _ _ _ rfl]
  ring

/-! ## The results -/

theorem r_dx (i : S2048x1024.Idx) : val_main_v61 x0 x1 x2 x3 x4 x5 i = ((S.dx (i 0).val (i 1).val : ℝ) : EReal) := by
  have h0 : (i 0).val < 2048 := (i 0).isLt
  have h1 : (i 1).val < 1024 := (i 1).isLt
  rw [val_main_v61_apply, s59 H]
  exact congrArg₂ (fun a b => ((S.dx a b : ℝ) : EReal)) (by show _ / 1024 % 2048 = _; omega) (by show _ % 1024 = _; omega)
theorem r_dpp (i : S2048x1024.Idx) : val_main_v63 x0 x2 x3 x5 i = ((S.dpp (i 0).val (i 1).val : ℝ) : EReal) := by
  have h0 : (i 0).val < 2048 := (i 0).isLt
  have h1 : (i 1).val < 1024 := (i 1).isLt
  have e : val_main_v63 x0 x2 x3 x5 i = val_main_v62 x0 x2 x3 x5 i := rfl
  rw [e, val_main_v62_apply, s35 H]
  exact congrArg₂ (fun a b => ((S.dpp a b : ℝ) : EReal)) (by show _ / 1024 % 2048 = _; omega) (by show _ % 1024 = _; omega)
theorem r_dgp (i : S2048x1024.Idx) : val_main_v65 x0 x1 x2 x3 x4 x5 i = ((S.dgp (i 0).val (i 1).val : ℝ) : EReal) := by
  have h0 : (i 0).val < 2048 := (i 0).isLt
  have h1 : (i 1).val < 1024 := (i 1).isLt
  have e : val_main_v65 x0 x1 x2 x3 x4 x5 i = val_main_v64 x0 x1 x2 x3 x4 x5 i := rfl
  rw [e, val_main_v64_apply, s36 H]
  exact congrArg₂ (fun a b => ((S.dgp a b : ℝ) : EReal)) (by show _ / 1024 % 2048 = _; omega) (by show _ % 1024 = _; omega)
theorem r_dln (i : S1x1024.Idx) : val_main_v60 x0 x1 x2 x3 x4 x5 i = ((S.dln 2048 (i 1).val : ℝ) : EReal) := by
  have h1 : (i 1).val < 1024 := (i 1).isLt
  have : ∀ j, val_main_v43 x0 x1 x2 x3 x4 x5 j = Ideal.hostReduceAdd reducesTo_S1x1x1024_S1024_d0_1
      (val_main_v40 x0 x1 x2 x3 x4 x5) (val_main_cst_8 (F := Ideal) (Shape.Idx.first h_S_)) j := fun _ => rfl
  rw [val_main_v60_apply, this]
  refine (sum_unit_a _ _ _).trans ?_
  rw [val_main_cst_8_apply, val_main_v40_apply, val_main_v39_apply, val_main_cst_7_apply]
  simp only [val_main_v38_apply, s14 H, s37 H, mulf_coe, sum_coe, bits_zero, ← EReal.coe_add, zero_add]
  unfold In.dln dgam
  rw [Finset.sum_range]
  refine congrArg (fun a : ℝ => (a : EReal)) (Finset.sum_congr rfl fun t _ => ?_)
  rw [mul_comm]
  refine congrArg (fun d => S.dh t d * hat S.x t d) ?_
  show ((0 * 1 + 0) * 1024 + (i 1).val) % 1024 = _
  omega

end Cert.PleB.Ref

end
-- ==== Proof.PleClaim.lean ====
/-
  The per-layer embedding's backward kernel and its reference compute the same values of finite arguments.
-/
module

public import proofs.«01_k».proof.Proof.PleRef
public import proofs.«01_k».proof.Proof.MlpClaim

@[expose] public section

set_option maxRecDepth 16384

noncomputable section

namespace Cert.PleB

open Idealize.ShloMosaic Idealize.SL.Sem Cert.Proof
open Cert.MlpB (mat_inj)

section
open Cert.Kernel8Ideal

/-- Arguments that meet the precondition hold real tensors. -/
theorem exists_args (m : (ℓ : Loc nD τ sig) → Buf (Elt Ideal) ℓ) (h : Cert.Pre_Kernel8Ideal_finite8 m) (c : Dev nD) :
    ∃ S : In, Args S m c := by
  have h0 := congrFun (h c) (Shape.Idx.first Cert.Pre_finite8.Facts.h_S_)
  simp only [Cert.Pre_finite8.fn, Cert.Pre_finite8.fn_part1, andi_apply, IntOp.andi_eq_one] at h0
  obtain ⟨⟨⟨⟨⟨e0, e1⟩, e2⟩, e3⟩, e4⟩, e5⟩ := h0
  haveI : Subsingleton Cert.Pre_finite8.S_.Idx := ⟨fun a b => funext fun i => i.elim0⟩
  obtain ⟨x, hx⟩ := real_at _ idx3_inj _ (real_of_all _ _ (fun _ => inf_bits) _ _ _ _ e0)
  obtain ⟨p, hp⟩ := real_at _ idx3_inj _ (real_of_all _ _ (fun _ => inf_bits) _ _ _ _ e1)
  obtain ⟨ln, hln⟩ := real_at _ idx2_inj _ (real_of_all _ _ (fun _ => inf_bits) _ _ _ _ e2)
  obtain ⟨wg, hwg⟩ := real_at _ mat_inj _ (real_of_all _ _ (fun _ => inf_bits) _ _ _ _ e3)
  obtain ⟨wp, hwp⟩ := real_at _ mat_inj _ (real_of_all _ _ (fun _ => inf_bits) _ _ _ _ e4)
  obtain ⟨e, he⟩ := real_at _ idx3_inj _ (real_of_all _ _ (fun _ => inf_bits) _ _ _ _ e5)
  exact ⟨⟨fun t d => x (t, d), fun t d => p (t, d), ln, fun k n => wg (k, n), fun n k => wp (n, k), fun t d => e (t, d)⟩,
    hx, hp, hln, hwg, hwp, he⟩

end

theorem algebraic : Cert.algebraic_Kernel8Ideal_Reference8Ideal_pre_finite8 := by
  intro m g m' g' hpre hag
  have hS := fun c => exists_args m hpre c
  choose S H using hS
  refine ⟨fun c i => (((S c).dx (i 0).val (i 1).val : ℝ) : EReal), fun c i => (((S c).dpp (i 0).val (i 1).val : ℝ) : EReal),
    fun c i => (((S c).dgp (i 0).val (i 1).val : ℝ) : EReal), fun c i => (((S c).dln 2048 (i 1).val : ℝ) : EReal), ?_, ?_⟩
  · refine (θ_run Cert.Kernel8Ideal.defs _ _).mono (fun r h c => ?_) (Cert.Kernel8Ideal.Value.run_blocks m g)
    obtain ⟨r0, r1, r2, r3, hr⟩ := h c
    exact ⟨r0.trans (arr6 (H c)), r1.trans (arr7 (H c)), r2.trans (arr8 (H c)), r3.trans (arr9 (H c)), hr⟩
  · refine (θ_run Cert.Reference8Ideal.defs _ _).mono (fun r h c => ?_) (Cert.Reference8Ideal.Value.run (F := Ideal) m' g')
    obtain ⟨r0, r1, r2, r3, hr⟩ := h c
    obtain ⟨a0, a1, a2, a3, a4, a5⟩ := hag c
    have F : Ref.Fits (S c) (StableHlo.launchContents m' c (Proc.devRef .tc Cert.Reference8Ideal.main_arg0))
        (StableHlo.launchContents m' c (Proc.devRef .tc Cert.Reference8Ideal.main_arg1))
        (StableHlo.launchContents m' c (Proc.devRef .tc Cert.Reference8Ideal.main_arg2))
        (StableHlo.launchContents m' c (Proc.devRef .tc Cert.Reference8Ideal.main_arg3))
        (StableHlo.launchContents m' c (Proc.devRef .tc Cert.Reference8Ideal.main_arg4))
        (StableHlo.launchContents m' c (Proc.devRef .tc Cert.Reference8Ideal.main_arg5)) :=
      ⟨fun i => (congrFun a0 i).trans ((H c).h0 i), fun i => (congrFun a1 i).trans ((H c).h1 i),
        fun i => (congrFun a2 i).trans ((H c).h2 i), fun i => (congrFun a3 i).trans ((H c).h3 i),
        fun i => (congrFun a4 i).trans ((H c).h4 i), fun i => (congrFun a5 i).trans ((H c).h5 i)⟩
    exact ⟨(r0.trans (Cert.Reference8Ideal.Read.val_main_v61_eq _ _)).trans (funext fun i => Ref.r_dx F i),
      (r1.trans (Cert.Reference8Ideal.Read.val_main_v63_eq _ _ _ _)).trans (funext fun i => Ref.r_dpp F i),
      (r2.trans (Cert.Reference8Ideal.Read.val_main_v65_eq _ _ _ _ _ _)).trans (funext fun i => Ref.r_dgp F i),
      (r3.trans (Cert.Reference8Ideal.Read.val_main_v60_eq _ _ _ _ _ _)).trans (funext fun i => Ref.r_dln F i), hr⟩

end Cert.PleB

end
-- ==== Proof.lean ====
module

public import proofs.«01_k».proof.Defs
public import proofs.«01_k».proof.Proof.Frames
public import proofs.«01_k».proof.Proof.Alg
public import proofs.«01_k».proof.Proof.MlpClaim
public import proofs.«01_k».proof.Proof.Mlp
public import proofs.«01_k».proof.Proof.Weights
public import proofs.«01_k».proof.Proof.Proj
public import proofs.«01_k».proof.Proof.Ple
public import proofs.«01_k».proof.Proof.Mixer
public import proofs.«01_k».proof.Proof.Heads
public import proofs.«01_k».proof.Proof.Adam
public import proofs.«01_k».proof.Proof.AdamLayers
public import proofs.«01_k».proof.Proof.AdamFour
public import proofs.«01_k».proof.Proof.Loss
public import proofs.«01_k».proof.Proof.PleClaim

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Pre_finite.facts,
    Cert.Pre_finite2.facts,
    Cert.Pre_finite8.facts,
    Cert.Pre_finite16.facts,
    frame_p, frame_pi, frame_pi_pre, frame_ri, frame_ri_pre,
    fun m ρ _ => Cert.Kernel2.Gen.frame m ρ, fun m ρ _ => Cert.Kernel2Ideal.Gen.frame m ρ,
    fun m ρ _ => Cert.Kernel2Ideal.Gen.frame m ρ, frame_r2, fun m ρ _ => frame_r2 m ρ trivial,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ, frame_r4,
    fun m ρ _ => Cert.Kernel5.Gen.frame m ρ, fun m ρ _ => Cert.Kernel5Ideal.Gen.frame m ρ, frame_r5,
    fun m ρ _ => Cert.Kernel6.Gen.frame m ρ, fun m ρ _ => Cert.Kernel6Ideal.Gen.frame m ρ, frame_r6,
    fun m ρ _ => Cert.Kernel7.Gen.frame m ρ, fun m ρ _ => Cert.Kernel7Ideal.Gen.frame m ρ, frame_r7,
    fun m ρ _ => Cert.Kernel8.Gen.frame m ρ, fun m ρ _ => Cert.Kernel8Ideal.Gen.frame m ρ,
    fun m ρ _ => Cert.Kernel8Ideal.Gen.frame m ρ, frame_r8, fun m ρ _ => frame_r8 m ρ trivial,
    fun m ρ _ => Cert.Kernel9.Gen.frame m ρ, fun m ρ _ => Cert.Kernel9Ideal.Gen.frame m ρ, frame_r9,
    fun m ρ _ => Cert.Kernel10.Gen.frame m ρ, fun m ρ _ => Cert.Kernel10Ideal.Gen.frame m ρ, frame_r10,
    fun m ρ _ => Cert.Kernel11.Gen.frame m ρ, fun m ρ _ => Cert.Kernel11Ideal.Gen.frame m ρ, frame_r11,
    fun m ρ _ => Cert.Kernel12.Gen.frame m ρ, fun m ρ _ => Cert.Kernel12Ideal.Gen.frame m ρ, frame_r12,
    fun m ρ _ => Cert.Kernel13.Gen.frame m ρ, fun m ρ _ => Cert.Kernel13Ideal.Gen.frame m ρ, frame_r13,
    fun m ρ _ => Cert.Kernel14.Gen.frame m ρ, fun m ρ _ => Cert.Kernel14Ideal.Gen.frame m ρ, frame_r14,
    fun m ρ _ => Cert.Kernel15.Gen.frame m ρ, fun m ρ _ => Cert.Kernel15Ideal.Gen.frame m ρ, frame_r15,
    fun m ρ _ => Cert.Kernel16.Gen.frame m ρ, fun m ρ _ => Cert.Kernel16Ideal.Gen.frame m ρ,
    fun m ρ _ => Cert.Kernel16Ideal.Gen.frame m ρ, frame_r16, fun m ρ _ => frame_r16 m ρ trivial,
    fun m ρ _ => Cert.Kernel17.Gen.frame m ρ, fun m ρ _ => Cert.Kernel17Ideal.Gen.frame m ρ, frame_r17,
    fun m ρ _ => Cert.Kernel18.Gen.frame m ρ, fun m ρ _ => Cert.Kernel18Ideal.Gen.frame m ρ, frame_r18,
    fun m ρ _ => Cert.Kernel19.Gen.frame m ρ, fun m ρ _ => Cert.Kernel19Ideal.Gen.frame m ρ, frame_r19,
    fun m ρ _ => Cert.Kernel20.Gen.frame m ρ, fun m ρ _ => Cert.Kernel20Ideal.Gen.frame m ρ, frame_r20,
    fun m ρ _ => Cert.Kernel21.Gen.frame m ρ, fun m ρ _ => Cert.Kernel21Ideal.Gen.frame m ρ, frame_r21,
    fun m ρ _ => Cert.Kernel22.Gen.frame m ρ, fun m ρ _ => Cert.Kernel22Ideal.Gen.frame m ρ, frame_r22,
    fun m ρ _ => Cert.Kernel23.Gen.frame m ρ, fun m ρ _ => Cert.Kernel23Ideal.Gen.frame m ρ, frame_r23,
    fun m ρ _ => Cert.Kernel24.Gen.frame m ρ, fun m ρ _ => Cert.Kernel24Ideal.Gen.frame m ρ, frame_r24,
    fun m ρ _ => Cert.Kernel25.Gen.frame m ρ, fun m ρ _ => Cert.Kernel25Ideal.Gen.frame m ρ, frame_r25,
    fun m ρ _ => Cert.Kernel26.Gen.frame m ρ, fun m ρ _ => Cert.Kernel26Ideal.Gen.frame m ρ, frame_r26,
    fun m ρ _ => Cert.Kernel27.Gen.frame m ρ, fun m ρ _ => Cert.Kernel27Ideal.Gen.frame m ρ, frame_r27,
    preserves, algebraic, trivial, Cert.MlpB.algebraic, trivial, Cert.Mlp.algebraic, trivial, Cert.Weights.W4.algebraic, trivial,
    Cert.Weights.W5.algebraic, trivial, Cert.Weights.W6.algebraic, trivial, Cert.Weights.W7.algebraic,
    trivial, Cert.PleB.algebraic, trivial, Cert.Ple.algebraic, trivial, Cert.Proj.project_algebraic, trivial, Cert.Proj.back_algebraic, trivial, Cert.Weights.W12.algebraic,
    trivial, Cert.Weights.W13.algebraic, trivial, Cert.Weights.W14.algebraic, preserves15, Cert.Mixer.algebraic,
    trivial, Cert.Heads.algebraic, trivial, Cert.Adam.A17.algebraic, trivial, Cert.Adam.A18.algebraic,
    trivial, Cert.Adam.A19.algebraic, trivial, Cert.Adam.A20.algebraic, trivial, Cert.Adam.A21.algebraic,
    trivial, Cert.Adam.A22.algebraic, trivial, Cert.Adam.A23.algebraic, trivial, Cert.Adam.A24.algebraic, trivial, Cert.Loss.algebraic,
    trivial, Cert.Adam.A26.algebraic, trivial, Cert.Adam.A27.algebraic⟩

end Cert.Proof

end
